-- ==== Defs.lean ====
def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))).2.2.2.2.2 = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))).2.2.2.2.2 = (fun _ => 1#1)

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1))).1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1))).2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1))).1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1))).2 = (fun _ => 1#1)

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_KernelPleIdeal_finite_ple [hPre_finite_ple : Cert.Pre_finite_ple.Facts] (m : (ℓ : Loc Cert.KernelPleIdeal.nD Cert.KernelPleIdeal.τ Cert.KernelPleIdeal.sig) → Buf (Elt Ideal) ℓ) : Prop :=
  ∀ c : Dev Cert.KernelPleIdeal.nD,
    (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6)) (m ((c.tc : Thread Cert.KernelPleIdeal.nD Cert.KernelPleIdeal.τ).loc Cert.KernelPleIdeal.main_arg7))).1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6)) (m ((c.tc : Thread Cert.KernelPleIdeal.nD Cert.KernelPleIdeal.τ).loc Cert.KernelPleIdeal.main_arg7))).2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6)) (m ((c.tc : Thread Cert.KernelPleIdeal.nD Cert.KernelPleIdeal.τ).loc Cert.KernelPleIdeal.main_arg7))).2.2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6)) (m ((c.tc : Thread Cert.KernelPleIdeal.nD Cert.KernelPleIdeal.τ).loc Cert.KernelPleIdeal.main_arg7))).2.2.2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6)) (m ((c.tc : Thread Cert.KernelPleIdeal.nD Cert.KernelPleIdeal.τ).loc Cert.KernelPleIdeal.main_arg7))).2.2.2.2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6)) (m ((c.tc : Thread Cert.KernelPleIdeal.nD Cert.KernelPleIdeal.τ).loc Cert.KernelPleIdeal.main_arg7))).2.2.2.2.2 = (fun _ => 1#1)

def Pre_ReferencePleIdeal (m : (ℓ : Loc Cert.ReferencePleIdeal.nD Cert.ReferencePleIdeal.τ Cert.ReferencePleIdeal.sig) → Buf (Elt Ideal) ℓ) : Prop :=
  True

def Pre_ReferencePleIdeal_finite_ple [hPre_finite_ple : Cert.Pre_finite_ple.Facts] (m : (ℓ : Loc Cert.ReferencePleIdeal.nD Cert.ReferencePleIdeal.τ Cert.ReferencePleIdeal.sig) → Buf (Elt Ideal) ℓ) : Prop :=
  ∀ c : Dev Cert.ReferencePleIdeal.nD,
    (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6)) (m ((c.tc : Thread Cert.ReferencePleIdeal.nD Cert.ReferencePleIdeal.τ).loc Cert.ReferencePleIdeal.main_arg7))).1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6)) (m ((c.tc : Thread Cert.ReferencePleIdeal.nD Cert.ReferencePleIdeal.τ).loc Cert.ReferencePleIdeal.main_arg7))).2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6)) (m ((c.tc : Thread Cert.ReferencePleIdeal.nD Cert.ReferencePleIdeal.τ).loc Cert.ReferencePleIdeal.main_arg7))).2.2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6)) (m ((c.tc : Thread Cert.ReferencePleIdeal.nD Cert.ReferencePleIdeal.τ).loc Cert.ReferencePleIdeal.main_arg7))).2.2.2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6)) (m ((c.tc : Thread Cert.ReferencePleIdeal.nD Cert.ReferencePleIdeal.τ).loc Cert.ReferencePleIdeal.main_arg7))).2.2.2.2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6)) (m ((c.tc : Thread Cert.ReferencePleIdeal.nD Cert.ReferencePleIdeal.τ).loc Cert.ReferencePleIdeal.main_arg7))).2.2.2.2.2 = (fun _ => 1#1)

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_KernelGatesIdeal_finite_gates [hPre_finite_gates : Cert.Pre_finite_gates.Facts] (m : (ℓ : Loc Cert.KernelGatesIdeal.nD Cert.KernelGatesIdeal.τ Cert.KernelGatesIdeal.sig) → Buf (Elt Ideal) ℓ) : Prop :=
  ∀ c : Dev Cert.KernelGatesIdeal.nD,
    (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).2.2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).2.2.2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).2.2.2.2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).2.2.2.2.2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).2.2.2.2.2.2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).2.2.2.2.2.2.2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6)) (m ((c.tc : Thread Cert.KernelGatesIdeal.nD Cert.KernelGatesIdeal.τ).loc Cert.KernelGatesIdeal.main_arg7)) (m ((c.tc : Thread Cert.KernelGatesIdeal.nD Cert.KernelGatesIdeal.τ).loc Cert.KernelGatesIdeal.main_arg8))).2.2.2.2.2.2.2.2 = (fun _ => 1#1)

def Pre_ReferenceGatesIdeal (m : (ℓ : Loc Cert.ReferenceGatesIdeal.nD Cert.ReferenceGatesIdeal.τ Cert.ReferenceGatesIdeal.sig) → Buf (Elt Ideal) ℓ) : Prop :=
  True

def Pre_ReferenceGatesIdeal_finite_gates [hPre_finite_gates : Cert.Pre_finite_gates.Facts] (m : (ℓ : Loc Cert.ReferenceGatesIdeal.nD Cert.ReferenceGatesIdeal.τ Cert.ReferenceGatesIdeal.sig) → Buf (Elt Ideal) ℓ) : Prop :=
  ∀ c : Dev Cert.ReferenceGatesIdeal.nD,
    (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).2.2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).2.2.2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).2.2.2.2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).2.2.2.2.2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).2.2.2.2.2.2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).2.2.2.2.2.2.2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6)) (m ((c.tc : Thread Cert.ReferenceGatesIdeal.nD Cert.ReferenceGatesIdeal.τ).loc Cert.ReferenceGatesIdeal.main_arg7)) (m ((c.tc : Thread Cert.ReferenceGatesIdeal.nD Cert.ReferenceGatesIdeal.τ).loc Cert.ReferenceGatesIdeal.main_arg8))).2.2.2.2.2.2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.2 = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_ReferencePoolIdeal (m : (ℓ : Loc Cert.ReferencePoolIdeal.nD Cert.ReferencePoolIdeal.τ Cert.ReferencePoolIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4)
      ∧ r.2.mem ((c.tc : Thread Cert.KernelPle.nD Cert.KernelPle.τ).loc Cert.KernelPle.main_arg5) = m ((c.tc : Thread Cert.KernelPle.nD Cert.KernelPle.τ).loc Cert.KernelPle.main_arg5)
      ∧ r.2.mem ((c.tc : Thread Cert.KernelPle.nD Cert.KernelPle.τ).loc Cert.KernelPle.main_arg6) = m ((c.tc : Thread Cert.KernelPle.nD Cert.KernelPle.τ).loc Cert.KernelPle.main_arg6)
      ∧ r.2.mem ((c.tc : Thread Cert.KernelPle.nD Cert.KernelPle.τ).loc Cert.KernelPle.main_arg7) = m ((c.tc : Thread Cert.KernelPle.nD Cert.KernelPle.τ).loc Cert.KernelPle.main_arg7))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
      ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6)
      ∧ r.2.mem ((c.tc : Thread Cert.KernelPleIdeal.nD Cert.KernelPleIdeal.τ).loc Cert.KernelPleIdeal.main_arg7) = m ((c.tc : Thread Cert.KernelPleIdeal.nD Cert.KernelPleIdeal.τ).loc Cert.KernelPleIdeal.main_arg7))
      ∧ r.2.sem = fun _ => 0)

def quiescent_KernelPleIdeal_pre_finite_ple [hKernelPleIdeal : Cert.KernelPleIdeal.Facts] [hPre_finite_ple : Cert.Pre_finite_ple.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal_finite_ple m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
      ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6)
      ∧ r.2.mem ((c.tc : Thread Cert.KernelPleIdeal.nD Cert.KernelPleIdeal.τ).loc Cert.KernelPleIdeal.main_arg7) = m ((c.tc : Thread Cert.KernelPleIdeal.nD Cert.KernelPleIdeal.τ).loc Cert.KernelPleIdeal.main_arg7))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5)
      ∧ r.2.mem ((c.tc : Thread Cert.ReferencePleIdeal.nD Cert.ReferencePleIdeal.τ).loc Cert.ReferencePleIdeal.main_arg6) = m ((c.tc : Thread Cert.ReferencePleIdeal.nD Cert.ReferencePleIdeal.τ).loc Cert.ReferencePleIdeal.main_arg6)
      ∧ r.2.mem ((c.tc : Thread Cert.ReferencePleIdeal.nD Cert.ReferencePleIdeal.τ).loc Cert.ReferencePleIdeal.main_arg7) = m ((c.tc : Thread Cert.ReferencePleIdeal.nD Cert.ReferencePleIdeal.τ).loc Cert.ReferencePleIdeal.main_arg7))
      ∧ r.2.sem = fun _ => 0)

def quiescent_ReferencePleIdeal_pre_finite_ple [hReferencePleIdeal : Cert.ReferencePleIdeal.Facts] [hPre_finite_ple : Cert.Pre_finite_ple.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal_finite_ple m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5)
      ∧ r.2.mem ((c.tc : Thread Cert.ReferencePleIdeal.nD Cert.ReferencePleIdeal.τ).loc Cert.ReferencePleIdeal.main_arg6) = m ((c.tc : Thread Cert.ReferencePleIdeal.nD Cert.ReferencePleIdeal.τ).loc Cert.ReferencePleIdeal.main_arg6)
      ∧ r.2.mem ((c.tc : Thread Cert.ReferencePleIdeal.nD Cert.ReferencePleIdeal.τ).loc Cert.ReferencePleIdeal.main_arg7) = m ((c.tc : Thread Cert.ReferencePleIdeal.nD Cert.ReferencePleIdeal.τ).loc Cert.ReferencePleIdeal.main_arg7))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2)
      ∧ r.2.mem ((c.tc : Thread Cert.KernelGates.nD Cert.KernelGates.τ).loc Cert.KernelGates.main_arg3) = m ((c.tc : Thread Cert.KernelGates.nD Cert.KernelGates.τ).loc Cert.KernelGates.main_arg3)
      ∧ r.2.mem ((c.tc : Thread Cert.KernelGates.nD Cert.KernelGates.τ).loc Cert.KernelGates.main_arg4) = m ((c.tc : Thread Cert.KernelGates.nD Cert.KernelGates.τ).loc Cert.KernelGates.main_arg4)
      ∧ r.2.mem ((c.tc : Thread Cert.KernelGates.nD Cert.KernelGates.τ).loc Cert.KernelGates.main_arg5) = m ((c.tc : Thread Cert.KernelGates.nD Cert.KernelGates.τ).loc Cert.KernelGates.main_arg5)
      ∧ r.2.mem ((c.tc : Thread Cert.KernelGates.nD Cert.KernelGates.τ).loc Cert.KernelGates.main_arg6) = m ((c.tc : Thread Cert.KernelGates.nD Cert.KernelGates.τ).loc Cert.KernelGates.main_arg6)
      ∧ r.2.mem ((c.tc : Thread Cert.KernelGates.nD Cert.KernelGates.τ).loc Cert.KernelGates.main_arg7) = m ((c.tc : Thread Cert.KernelGates.nD Cert.KernelGates.τ).loc Cert.KernelGates.main_arg7)
      ∧ r.2.mem ((c.tc : Thread Cert.KernelGates.nD Cert.KernelGates.τ).loc Cert.KernelGates.main_arg8) = m ((c.tc : Thread Cert.KernelGates.nD Cert.KernelGates.τ).loc Cert.KernelGates.main_arg8))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
      ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5)
      ∧ r.2.mem ((c.tc : Thread Cert.KernelGatesIdeal.nD Cert.KernelGatesIdeal.τ).loc Cert.KernelGatesIdeal.main_arg6) = m ((c.tc : Thread Cert.KernelGatesIdeal.nD Cert.KernelGatesIdeal.τ).loc Cert.KernelGatesIdeal.main_arg6)
      ∧ r.2.mem ((c.tc : Thread Cert.KernelGatesIdeal.nD Cert.KernelGatesIdeal.τ).loc Cert.KernelGatesIdeal.main_arg7) = m ((c.tc : Thread Cert.KernelGatesIdeal.nD Cert.KernelGatesIdeal.τ).loc Cert.KernelGatesIdeal.main_arg7)
      ∧ r.2.mem ((c.tc : Thread Cert.KernelGatesIdeal.nD Cert.KernelGatesIdeal.τ).loc Cert.KernelGatesIdeal.main_arg8) = m ((c.tc : Thread Cert.KernelGatesIdeal.nD Cert.KernelGatesIdeal.τ).loc Cert.KernelGatesIdeal.main_arg8))
      ∧ r.2.sem = fun _ => 0)

def quiescent_KernelGatesIdeal_pre_finite_gates [hKernelGatesIdeal : Cert.KernelGatesIdeal.Facts] [hPre_finite_gates : Cert.Pre_finite_gates.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal_finite_gates m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
      ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5)
      ∧ r.2.mem ((c.tc : Thread Cert.KernelGatesIdeal.nD Cert.KernelGatesIdeal.τ).loc Cert.KernelGatesIdeal.main_arg6) = m ((c.tc : Thread Cert.KernelGatesIdeal.nD Cert.KernelGatesIdeal.τ).loc Cert.KernelGatesIdeal.main_arg6)
      ∧ r.2.mem ((c.tc : Thread Cert.KernelGatesIdeal.nD Cert.KernelGatesIdeal.τ).loc Cert.KernelGatesIdeal.main_arg7) = m ((c.tc : Thread Cert.KernelGatesIdeal.nD Cert.KernelGatesIdeal.τ).loc Cert.KernelGatesIdeal.main_arg7)
      ∧ r.2.mem ((c.tc : Thread Cert.KernelGatesIdeal.nD Cert.KernelGatesIdeal.τ).loc Cert.KernelGatesIdeal.main_arg8) = m ((c.tc : Thread Cert.KernelGatesIdeal.nD Cert.KernelGatesIdeal.τ).loc Cert.KernelGatesIdeal.main_arg8))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4)
      ∧ r.2.mem ((c.tc : Thread Cert.ReferenceGatesIdeal.nD Cert.ReferenceGatesIdeal.τ).loc Cert.ReferenceGatesIdeal.main_arg5) = m ((c.tc : Thread Cert.ReferenceGatesIdeal.nD Cert.ReferenceGatesIdeal.τ).loc Cert.ReferenceGatesIdeal.main_arg5)
      ∧ r.2.mem ((c.tc : Thread Cert.ReferenceGatesIdeal.nD Cert.ReferenceGatesIdeal.τ).loc Cert.ReferenceGatesIdeal.main_arg6) = m ((c.tc : Thread Cert.ReferenceGatesIdeal.nD Cert.ReferenceGatesIdeal.τ).loc Cert.ReferenceGatesIdeal.main_arg6)
      ∧ r.2.mem ((c.tc : Thread Cert.ReferenceGatesIdeal.nD Cert.ReferenceGatesIdeal.τ).loc Cert.ReferenceGatesIdeal.main_arg7) = m ((c.tc : Thread Cert.ReferenceGatesIdeal.nD Cert.ReferenceGatesIdeal.τ).loc Cert.ReferenceGatesIdeal.main_arg7)
      ∧ r.2.mem ((c.tc : Thread Cert.ReferenceGatesIdeal.nD Cert.ReferenceGatesIdeal.τ).loc Cert.ReferenceGatesIdeal.main_arg8) = m ((c.tc : Thread Cert.ReferenceGatesIdeal.nD Cert.ReferenceGatesIdeal.τ).loc Cert.ReferenceGatesIdeal.main_arg8))
      ∧ r.2.sem = fun _ => 0)

def quiescent_ReferenceGatesIdeal_pre_finite_gates [hReferenceGatesIdeal : Cert.ReferenceGatesIdeal.Facts] [hPre_finite_gates : Cert.Pre_finite_gates.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal_finite_gates m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4)
      ∧ r.2.mem ((c.tc : Thread Cert.ReferenceGatesIdeal.nD Cert.ReferenceGatesIdeal.τ).loc Cert.ReferenceGatesIdeal.main_arg5) = m ((c.tc : Thread Cert.ReferenceGatesIdeal.nD Cert.ReferenceGatesIdeal.τ).loc Cert.ReferenceGatesIdeal.main_arg5)
      ∧ r.2.mem ((c.tc : Thread Cert.ReferenceGatesIdeal.nD Cert.ReferenceGatesIdeal.τ).loc Cert.ReferenceGatesIdeal.main_arg6) = m ((c.tc : Thread Cert.ReferenceGatesIdeal.nD Cert.ReferenceGatesIdeal.τ).loc Cert.ReferenceGatesIdeal.main_arg6)
      ∧ r.2.mem ((c.tc : Thread Cert.ReferenceGatesIdeal.nD Cert.ReferenceGatesIdeal.τ).loc Cert.ReferenceGatesIdeal.main_arg7) = m ((c.tc : Thread Cert.ReferenceGatesIdeal.nD Cert.ReferenceGatesIdeal.τ).loc Cert.ReferenceGatesIdeal.main_arg7)
      ∧ r.2.mem ((c.tc : Thread Cert.ReferenceGatesIdeal.nD Cert.ReferenceGatesIdeal.τ).loc Cert.ReferenceGatesIdeal.main_arg8) = m ((c.tc : Thread Cert.ReferenceGatesIdeal.nD Cert.ReferenceGatesIdeal.τ).loc Cert.ReferenceGatesIdeal.main_arg8))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v26_0)) (v1 : (c : Dev Cert.KernelMixIdeal.nD) → Buf (Elt Ideal) ((c.tc : Thread Cert.KernelMixIdeal.nD Cert.KernelMixIdeal.τ).loc Cert.KernelMixIdeal.main_v26_1)) (v2 : (c : Dev Cert.KernelMixIdeal.nD) → Buf (Elt Ideal) ((c.tc : Thread Cert.KernelMixIdeal.nD Cert.KernelMixIdeal.τ).loc Cert.KernelMixIdeal.main_v26_2)) (v3 : (c : Dev Cert.KernelMixIdeal.nD) → Buf (Elt Ideal) ((c.tc : Thread Cert.KernelMixIdeal.nD Cert.KernelMixIdeal.τ).loc Cert.KernelMixIdeal.main_v26_3)) (v4 : (c : Dev Cert.KernelMixIdeal.nD) → Buf (Elt Ideal) ((c.tc : Thread Cert.KernelMixIdeal.nD Cert.KernelMixIdeal.τ).loc Cert.KernelMixIdeal.main_v26_4)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v26_0) = v0 c
          ∧ r.2.mem ((c.tc : Thread Cert.KernelMixIdeal.nD Cert.KernelMixIdeal.τ).loc Cert.KernelMixIdeal.main_v26_1) = v1 c
          ∧ r.2.mem ((c.tc : Thread Cert.KernelMixIdeal.nD Cert.KernelMixIdeal.τ).loc Cert.KernelMixIdeal.main_v26_2) = v2 c
          ∧ r.2.mem ((c.tc : Thread Cert.KernelMixIdeal.nD Cert.KernelMixIdeal.τ).loc Cert.KernelMixIdeal.main_v26_3) = v3 c
          ∧ r.2.mem ((c.tc : Thread Cert.KernelMixIdeal.nD Cert.KernelMixIdeal.τ).loc Cert.KernelMixIdeal.main_v26_4) = v4 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v64) = v0 c
          ∧ r.2.mem ((c.tc : Thread Cert.ReferenceMixIdeal.nD Cert.ReferenceMixIdeal.τ).loc Cert.ReferenceMixIdeal.main_v67) = v1 c
          ∧ r.2.mem ((c.tc : Thread Cert.ReferenceMixIdeal.nD Cert.ReferenceMixIdeal.τ).loc Cert.ReferenceMixIdeal.main_v38) = v2 c
          ∧ r.2.mem ((c.tc : Thread Cert.ReferenceMixIdeal.nD Cert.ReferenceMixIdeal.τ).loc Cert.ReferenceMixIdeal.main_v35) = v3 c
          ∧ r.2.mem ((c.tc : Thread Cert.ReferenceMixIdeal.nD Cert.ReferenceMixIdeal.τ).loc Cert.ReferenceMixIdeal.main_v68) = v4 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelAttn_KernelAttnIdeal : Prop :=
  True

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)) →
    ∃ (v0 : (c : Dev Cert.KernelAttnIdeal.nD) → Buf (Elt Ideal) ((c.tc : Thread Cert.KernelAttnIdeal.nD Cert.KernelAttnIdeal.τ).loc Cert.KernelAttnIdeal.main_v21_0)) (v1 : (c : Dev Cert.KernelAttnIdeal.nD) → Buf (Elt Ideal) ((c.tc : Thread Cert.KernelAttnIdeal.nD Cert.KernelAttnIdeal.τ).loc Cert.KernelAttnIdeal.main_v21_1)) (v2 : (c : Dev Cert.KernelAttnIdeal.nD) → Buf (Elt Ideal) ((c.tc : Thread Cert.KernelAttnIdeal.nD Cert.KernelAttnIdeal.τ).loc Cert.KernelAttnIdeal.main_v21_2)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v21_0) = v0 c
          ∧ r.2.mem ((c.tc : Thread Cert.KernelAttnIdeal.nD Cert.KernelAttnIdeal.τ).loc Cert.KernelAttnIdeal.main_v21_1) = v1 c
          ∧ r.2.mem ((c.tc : Thread Cert.KernelAttnIdeal.nD Cert.KernelAttnIdeal.τ).loc Cert.KernelAttnIdeal.main_v21_2) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v49) = v0 c
          ∧ r.2.mem ((c.tc : Thread Cert.ReferenceAttnIdeal.nD Cert.ReferenceAttnIdeal.τ).loc Cert.ReferenceAttnIdeal.main_v51) = v1 c
          ∧ r.2.mem ((c.tc : Thread Cert.ReferenceAttnIdeal.nD Cert.ReferenceAttnIdeal.τ).loc Cert.ReferenceAttnIdeal.main_v53) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1))

def preserves_KernelPle_KernelPleIdeal : Prop :=
  True

def algebraic_KernelPleIdeal_ReferencePleIdeal_pre_finite_ple [hKernelPleIdeal : Cert.KernelPleIdeal.Facts] [hReferencePleIdeal : Cert.ReferencePleIdeal.Facts] [hPre_finite_ple : Cert.Pre_finite_ple.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal_finite_ple m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)
      ∧ m' ((c.tc : Thread Cert.ReferencePleIdeal.nD Cert.ReferencePleIdeal.τ).loc Cert.ReferencePleIdeal.main_arg5) = m ((c.tc : Thread Cert.KernelPleIdeal.nD Cert.KernelPleIdeal.τ).loc Cert.KernelPleIdeal.main_arg5)
      ∧ m' ((c.tc : Thread Cert.ReferencePleIdeal.nD Cert.ReferencePleIdeal.τ).loc Cert.ReferencePleIdeal.main_arg6) = m ((c.tc : Thread Cert.KernelPleIdeal.nD Cert.KernelPleIdeal.τ).loc Cert.KernelPleIdeal.main_arg6)
      ∧ m' ((c.tc : Thread Cert.ReferencePleIdeal.nD Cert.ReferencePleIdeal.τ).loc Cert.ReferencePleIdeal.main_arg7) = m ((c.tc : Thread Cert.KernelPleIdeal.nD Cert.KernelPleIdeal.τ).loc Cert.KernelPleIdeal.main_arg7)) →
    ∃ (v0 : (c : Dev Cert.KernelPleIdeal.nD) → Buf (Elt Ideal) ((c.tc : Thread Cert.KernelPleIdeal.nD Cert.KernelPleIdeal.τ).loc Cert.KernelPleIdeal.main_v55_0)) (v1 : (c : Dev Cert.KernelPleIdeal.nD) → Buf (Elt Ideal) ((c.tc : Thread Cert.KernelPleIdeal.nD Cert.KernelPleIdeal.τ).loc Cert.KernelPleIdeal.main_v55_1)) (v2 : (c : Dev Cert.KernelPleIdeal.nD) → Buf (Elt Ideal) ((c.tc : Thread Cert.KernelPleIdeal.nD Cert.KernelPleIdeal.τ).loc Cert.KernelPleIdeal.main_v55_2)) (v3 : (c : Dev Cert.KernelPleIdeal.nD) → Buf (Elt Ideal) ((c.tc : Thread Cert.KernelPleIdeal.nD Cert.KernelPleIdeal.τ).loc Cert.KernelPleIdeal.main_v55_3)) (v4 : (c : Dev Cert.KernelPleIdeal.nD) → Buf (Elt Ideal) ((c.tc : Thread Cert.KernelPleIdeal.nD Cert.KernelPleIdeal.τ).loc Cert.KernelPleIdeal.main_v55_4)) (v5 : (c : Dev Cert.KernelPleIdeal.nD) → Buf (Elt Ideal) ((c.tc : Thread Cert.KernelPleIdeal.nD Cert.KernelPleIdeal.τ).loc Cert.KernelPleIdeal.main_v55_5)) (v6 : (c : Dev Cert.KernelPleIdeal.nD) → Buf (Elt Ideal) ((c.tc : Thread Cert.KernelPleIdeal.nD Cert.KernelPleIdeal.τ).loc Cert.KernelPleIdeal.main_v55_6)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v55_0) = v0 c
          ∧ r.2.mem ((c.tc : Thread Cert.KernelPleIdeal.nD Cert.KernelPleIdeal.τ).loc Cert.KernelPleIdeal.main_v55_1) = v1 c
          ∧ r.2.mem ((c.tc : Thread Cert.KernelPleIdeal.nD Cert.KernelPleIdeal.τ).loc Cert.KernelPleIdeal.main_v55_2) = v2 c
          ∧ r.2.mem ((c.tc : Thread Cert.KernelPleIdeal.nD Cert.KernelPleIdeal.τ).loc Cert.KernelPleIdeal.main_v55_3) = v3 c
          ∧ r.2.mem ((c.tc : Thread Cert.KernelPleIdeal.nD Cert.KernelPleIdeal.τ).loc Cert.KernelPleIdeal.main_v55_4) = v4 c
          ∧ r.2.mem ((c.tc : Thread Cert.KernelPleIdeal.nD Cert.KernelPleIdeal.τ).loc Cert.KernelPleIdeal.main_v55_5) = v5 c
          ∧ r.2.mem ((c.tc : Thread Cert.KernelPleIdeal.nD Cert.KernelPleIdeal.τ).loc Cert.KernelPleIdeal.main_v55_6) = v6 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
          ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
          ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6)
          ∧ r.2.mem ((c.tc : Thread Cert.KernelPleIdeal.nD Cert.KernelPleIdeal.τ).loc Cert.KernelPleIdeal.main_arg7) = m ((c.tc : Thread Cert.KernelPleIdeal.nD Cert.KernelPleIdeal.τ).loc Cert.KernelPleIdeal.main_arg7))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v86) = v0 c
          ∧ r.2.mem ((c.tc : Thread Cert.ReferencePleIdeal.nD Cert.ReferencePleIdeal.τ).loc Cert.ReferencePleIdeal.main_v87) = v1 c
          ∧ r.2.mem ((c.tc : Thread Cert.ReferencePleIdeal.nD Cert.ReferencePleIdeal.τ).loc Cert.ReferencePleIdeal.main_v51) = v2 c
          ∧ r.2.mem ((c.tc : Thread Cert.ReferencePleIdeal.nD Cert.ReferencePleIdeal.τ).loc Cert.ReferencePleIdeal.main_v60) = v3 c
          ∧ r.2.mem ((c.tc : Thread Cert.ReferencePleIdeal.nD Cert.ReferencePleIdeal.τ).loc Cert.ReferencePleIdeal.main_v57) = v4 c
          ∧ r.2.mem ((c.tc : Thread Cert.ReferencePleIdeal.nD Cert.ReferencePleIdeal.τ).loc Cert.ReferencePleIdeal.main_v88) = v5 c
          ∧ r.2.mem ((c.tc : Thread Cert.ReferencePleIdeal.nD Cert.ReferencePleIdeal.τ).loc Cert.ReferencePleIdeal.main_v89) = v6 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4)
          ∧ r.2.mem ((c.tc : Thread Cert.ReferencePleIdeal.nD Cert.ReferencePleIdeal.τ).loc Cert.ReferencePleIdeal.main_arg5) = m' ((c.tc : Thread Cert.ReferencePleIdeal.nD Cert.ReferencePleIdeal.τ).loc Cert.ReferencePleIdeal.main_arg5)
          ∧ r.2.mem ((c.tc : Thread Cert.ReferencePleIdeal.nD Cert.ReferencePleIdeal.τ).loc Cert.ReferencePleIdeal.main_arg6) = m' ((c.tc : Thread Cert.ReferencePleIdeal.nD Cert.ReferencePleIdeal.τ).loc Cert.ReferencePleIdeal.main_arg6)
          ∧ r.2.mem ((c.tc : Thread Cert.ReferencePleIdeal.nD Cert.ReferencePleIdeal.τ).loc Cert.ReferencePleIdeal.main_arg7) = m' ((c.tc : Thread Cert.ReferencePleIdeal.nD Cert.ReferencePleIdeal.τ).loc Cert.ReferencePleIdeal.main_arg7))

def preserves_KernelGates_KernelGatesIdeal : Prop :=
  True

def algebraic_KernelGatesIdeal_ReferenceGatesIdeal_pre_finite_gates [hKernelGatesIdeal : Cert.KernelGatesIdeal.Facts] [hReferenceGatesIdeal : Cert.ReferenceGatesIdeal.Facts] [hPre_finite_gates : Cert.Pre_finite_gates.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal_finite_gates m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)
      ∧ m' ((c.tc : Thread Cert.ReferenceGatesIdeal.nD Cert.ReferenceGatesIdeal.τ).loc Cert.ReferenceGatesIdeal.main_arg3) = m ((c.tc : Thread Cert.KernelGatesIdeal.nD Cert.KernelGatesIdeal.τ).loc Cert.KernelGatesIdeal.main_arg3)
      ∧ m' ((c.tc : Thread Cert.ReferenceGatesIdeal.nD Cert.ReferenceGatesIdeal.τ).loc Cert.ReferenceGatesIdeal.main_arg4) = m ((c.tc : Thread Cert.KernelGatesIdeal.nD Cert.KernelGatesIdeal.τ).loc Cert.KernelGatesIdeal.main_arg4)
      ∧ m' ((c.tc : Thread Cert.ReferenceGatesIdeal.nD Cert.ReferenceGatesIdeal.τ).loc Cert.ReferenceGatesIdeal.main_arg5) = m ((c.tc : Thread Cert.KernelGatesIdeal.nD Cert.KernelGatesIdeal.τ).loc Cert.KernelGatesIdeal.main_arg5)
      ∧ m' ((c.tc : Thread Cert.ReferenceGatesIdeal.nD Cert.ReferenceGatesIdeal.τ).loc Cert.ReferenceGatesIdeal.main_arg6) = m ((c.tc : Thread Cert.KernelGatesIdeal.nD Cert.KernelGatesIdeal.τ).loc Cert.KernelGatesIdeal.main_arg6)
      ∧ m' ((c.tc : Thread Cert.ReferenceGatesIdeal.nD Cert.ReferenceGatesIdeal.τ).loc Cert.ReferenceGatesIdeal.main_arg7) = m ((c.tc : Thread Cert.KernelGatesIdeal.nD Cert.KernelGatesIdeal.τ).loc Cert.KernelGatesIdeal.main_arg7)
      ∧ m' ((c.tc : Thread Cert.ReferenceGatesIdeal.nD Cert.ReferenceGatesIdeal.τ).loc Cert.ReferenceGatesIdeal.main_arg8) = m ((c.tc : Thread Cert.KernelGatesIdeal.nD Cert.KernelGatesIdeal.τ).loc Cert.KernelGatesIdeal.main_arg8)) →
    ∃ (v0 : (c : Dev Cert.KernelGatesIdeal.nD) → Buf (Elt Ideal) ((c.tc : Thread Cert.KernelGatesIdeal.nD Cert.KernelGatesIdeal.τ).loc Cert.KernelGatesIdeal.main_v89_0)) (v1 : (c : Dev Cert.KernelGatesIdeal.nD) → Buf (Elt Ideal) ((c.tc : Thread Cert.KernelGatesIdeal.nD Cert.KernelGatesIdeal.τ).loc Cert.KernelGatesIdeal.main_v89_1)) (v2 : (c : Dev Cert.KernelGatesIdeal.nD) → Buf (Elt Ideal) ((c.tc : Thread Cert.KernelGatesIdeal.nD Cert.KernelGatesIdeal.τ).loc Cert.KernelGatesIdeal.main_v89_2)) (v3 : (c : Dev Cert.KernelGatesIdeal.nD) → Buf (Elt Ideal) ((c.tc : Thread Cert.KernelGatesIdeal.nD Cert.KernelGatesIdeal.τ).loc Cert.KernelGatesIdeal.main_v89_3)) (v4 : (c : Dev Cert.KernelGatesIdeal.nD) → Buf (Elt Ideal) ((c.tc : Thread Cert.KernelGatesIdeal.nD Cert.KernelGatesIdeal.τ).loc Cert.KernelGatesIdeal.main_v89_4)) (v5 : (c : Dev Cert.KernelGatesIdeal.nD) → Buf (Elt Ideal) ((c.tc : Thread Cert.KernelGatesIdeal.nD Cert.KernelGatesIdeal.τ).loc Cert.KernelGatesIdeal.main_v89_5)) (v6 : (c : Dev Cert.KernelGatesIdeal.nD) → Buf (Elt Ideal) ((c.tc : Thread Cert.KernelGatesIdeal.nD Cert.KernelGatesIdeal.τ).loc Cert.KernelGatesIdeal.main_v89_6)) (v7 : (c : Dev Cert.KernelGatesIdeal.nD) → Buf (Elt Ideal) ((c.tc : Thread Cert.KernelGatesIdeal.nD Cert.KernelGatesIdeal.τ).loc Cert.KernelGatesIdeal.main_v89_7)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v89_0) = v0 c
          ∧ r.2.mem ((c.tc : Thread Cert.KernelGatesIdeal.nD Cert.KernelGatesIdeal.τ).loc Cert.KernelGatesIdeal.main_v89_1) = v1 c
          ∧ r.2.mem ((c.tc : Thread Cert.KernelGatesIdeal.nD Cert.KernelGatesIdeal.τ).loc Cert.KernelGatesIdeal.main_v89_2) = v2 c
          ∧ r.2.mem ((c.tc : Thread Cert.KernelGatesIdeal.nD Cert.KernelGatesIdeal.τ).loc Cert.KernelGatesIdeal.main_v89_3) = v3 c
          ∧ r.2.mem ((c.tc : Thread Cert.KernelGatesIdeal.nD Cert.KernelGatesIdeal.τ).loc Cert.KernelGatesIdeal.main_v89_4) = v4 c
          ∧ r.2.mem ((c.tc : Thread Cert.KernelGatesIdeal.nD Cert.KernelGatesIdeal.τ).loc Cert.KernelGatesIdeal.main_v89_5) = v5 c
          ∧ r.2.mem ((c.tc : Thread Cert.KernelGatesIdeal.nD Cert.KernelGatesIdeal.τ).loc Cert.KernelGatesIdeal.main_v89_6) = v6 c
          ∧ r.2.mem ((c.tc : Thread Cert.KernelGatesIdeal.nD Cert.KernelGatesIdeal.τ).loc Cert.KernelGatesIdeal.main_v89_7) = v7 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
          ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
          ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
          ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5)
          ∧ r.2.mem ((c.tc : Thread Cert.KernelGatesIdeal.nD Cert.KernelGatesIdeal.τ).loc Cert.KernelGatesIdeal.main_arg6) = m ((c.tc : Thread Cert.KernelGatesIdeal.nD Cert.KernelGatesIdeal.τ).loc Cert.KernelGatesIdeal.main_arg6)
          ∧ r.2.mem ((c.tc : Thread Cert.KernelGatesIdeal.nD Cert.KernelGatesIdeal.τ).loc Cert.KernelGatesIdeal.main_arg7) = m ((c.tc : Thread Cert.KernelGatesIdeal.nD Cert.KernelGatesIdeal.τ).loc Cert.KernelGatesIdeal.main_arg7)
          ∧ r.2.mem ((c.tc : Thread Cert.KernelGatesIdeal.nD Cert.KernelGatesIdeal.τ).loc Cert.KernelGatesIdeal.main_arg8) = m ((c.tc : Thread Cert.KernelGatesIdeal.nD Cert.KernelGatesIdeal.τ).loc Cert.KernelGatesIdeal.main_arg8))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v131) = v0 c
          ∧ r.2.mem ((c.tc : Thread Cert.ReferenceGatesIdeal.nD Cert.ReferenceGatesIdeal.τ).loc Cert.ReferenceGatesIdeal.main_v189) = v1 c
          ∧ r.2.mem ((c.tc : Thread Cert.ReferenceGatesIdeal.nD Cert.ReferenceGatesIdeal.τ).loc Cert.ReferenceGatesIdeal.main_v105) = v2 c
          ∧ r.2.mem ((c.tc : Thread Cert.ReferenceGatesIdeal.nD Cert.ReferenceGatesIdeal.τ).loc Cert.ReferenceGatesIdeal.main_v102) = v3 c
          ∧ r.2.mem ((c.tc : Thread Cert.ReferenceGatesIdeal.nD Cert.ReferenceGatesIdeal.τ).loc Cert.ReferenceGatesIdeal.main_v147) = v4 c
          ∧ r.2.mem ((c.tc : Thread Cert.ReferenceGatesIdeal.nD Cert.ReferenceGatesIdeal.τ).loc Cert.ReferenceGatesIdeal.main_v144) = v5 c
          ∧ r.2.mem ((c.tc : Thread Cert.ReferenceGatesIdeal.nD Cert.ReferenceGatesIdeal.τ).loc Cert.ReferenceGatesIdeal.main_v141) = v6 c
          ∧ r.2.mem ((c.tc : Thread Cert.ReferenceGatesIdeal.nD Cert.ReferenceGatesIdeal.τ).loc Cert.ReferenceGatesIdeal.main_v191) = v7 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2)
          ∧ r.2.mem ((c.tc : Thread Cert.ReferenceGatesIdeal.nD Cert.ReferenceGatesIdeal.τ).loc Cert.ReferenceGatesIdeal.main_arg3) = m' ((c.tc : Thread Cert.ReferenceGatesIdeal.nD Cert.ReferenceGatesIdeal.τ).loc Cert.ReferenceGatesIdeal.main_arg3)
          ∧ r.2.mem ((c.tc : Thread Cert.ReferenceGatesIdeal.nD Cert.ReferenceGatesIdeal.τ).loc Cert.ReferenceGatesIdeal.main_arg4) = m' ((c.tc : Thread Cert.ReferenceGatesIdeal.nD Cert.ReferenceGatesIdeal.τ).loc Cert.ReferenceGatesIdeal.main_arg4)
          ∧ r.2.mem ((c.tc : Thread Cert.ReferenceGatesIdeal.nD Cert.ReferenceGatesIdeal.τ).loc Cert.ReferenceGatesIdeal.main_arg5) = m' ((c.tc : Thread Cert.ReferenceGatesIdeal.nD Cert.ReferenceGatesIdeal.τ).loc Cert.ReferenceGatesIdeal.main_arg5)
          ∧ r.2.mem ((c.tc : Thread Cert.ReferenceGatesIdeal.nD Cert.ReferenceGatesIdeal.τ).loc Cert.ReferenceGatesIdeal.main_arg6) = m' ((c.tc : Thread Cert.ReferenceGatesIdeal.nD Cert.ReferenceGatesIdeal.τ).loc Cert.ReferenceGatesIdeal.main_arg6)
          ∧ r.2.mem ((c.tc : Thread Cert.ReferenceGatesIdeal.nD Cert.ReferenceGatesIdeal.τ).loc Cert.ReferenceGatesIdeal.main_arg7) = m' ((c.tc : Thread Cert.ReferenceGatesIdeal.nD Cert.ReferenceGatesIdeal.τ).loc Cert.ReferenceGatesIdeal.main_arg7)
          ∧ r.2.mem ((c.tc : Thread Cert.ReferenceGatesIdeal.nD Cert.ReferenceGatesIdeal.τ).loc Cert.ReferenceGatesIdeal.main_arg8) = m' ((c.tc : Thread Cert.ReferenceGatesIdeal.nD Cert.ReferenceGatesIdeal.τ).loc Cert.ReferenceGatesIdeal.main_arg8))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v21_0)) (v1 : (c : Dev Cert.KernelFfnIdeal.nD) → Buf (Elt Ideal) ((c.tc : Thread Cert.KernelFfnIdeal.nD Cert.KernelFfnIdeal.τ).loc Cert.KernelFfnIdeal.main_v21_1)) (v2 : (c : Dev Cert.KernelFfnIdeal.nD) → Buf (Elt Ideal) ((c.tc : Thread Cert.KernelFfnIdeal.nD Cert.KernelFfnIdeal.τ).loc Cert.KernelFfnIdeal.main_v21_2)) (v3 : (c : Dev Cert.KernelFfnIdeal.nD) → Buf (Elt Ideal) ((c.tc : Thread Cert.KernelFfnIdeal.nD Cert.KernelFfnIdeal.τ).loc Cert.KernelFfnIdeal.main_v21_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v21_0) = v0 c
          ∧ r.2.mem ((c.tc : Thread Cert.KernelFfnIdeal.nD Cert.KernelFfnIdeal.τ).loc Cert.KernelFfnIdeal.main_v21_1) = v1 c
          ∧ r.2.mem ((c.tc : Thread Cert.KernelFfnIdeal.nD Cert.KernelFfnIdeal.τ).loc Cert.KernelFfnIdeal.main_v21_2) = v2 c
          ∧ r.2.mem ((c.tc : Thread Cert.KernelFfnIdeal.nD Cert.KernelFfnIdeal.τ).loc Cert.KernelFfnIdeal.main_v21_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v17) = v0 c
          ∧ r.2.mem ((c.tc : Thread Cert.ReferenceFfnIdeal.nD Cert.ReferenceFfnIdeal.τ).loc Cert.ReferenceFfnIdeal.main_v21) = v1 c
          ∧ r.2.mem ((c.tc : Thread Cert.ReferenceFfnIdeal.nD Cert.ReferenceFfnIdeal.τ).loc Cert.ReferenceFfnIdeal.main_v25) = v2 c
          ∧ r.2.mem ((c.tc : Thread Cert.ReferenceFfnIdeal.nD Cert.ReferenceFfnIdeal.τ).loc Cert.ReferenceFfnIdeal.main_v29) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelPool_KernelPoolIdeal : Prop :=
  True

def preserves_KernelConv_KernelConvIdeal : Prop :=
  True

def Claim : Prop :=
  ∃ (hKernelMix : Cert.KernelMix.Facts) (hKernelMixIdeal : Cert.KernelMixIdeal.Facts) (hReferenceMixIdeal : Cert.ReferenceMixIdeal.Facts) (hKernelAttn : Cert.KernelAttn.Facts) (hKernelAttnIdeal : Cert.KernelAttnIdeal.Facts) (hReferenceAttnIdeal : Cert.ReferenceAttnIdeal.Facts) (hKernelPle : Cert.KernelPle.Facts) (hKernelPleIdeal : Cert.KernelPleIdeal.Facts) (hReferencePleIdeal : Cert.ReferencePleIdeal.Facts) (hKernelGates : Cert.KernelGates.Facts) (hKernelGatesIdeal : Cert.KernelGatesIdeal.Facts) (hReferenceGatesIdeal : Cert.ReferenceGatesIdeal.Facts) (hKernelFfn : Cert.KernelFfn.Facts) (hKernelFfnIdeal : Cert.KernelFfnIdeal.Facts) (hReferenceFfnIdeal : Cert.ReferenceFfnIdeal.Facts) (hKernelPool : Cert.KernelPool.Facts) (hKernelPoolIdeal : Cert.KernelPoolIdeal.Facts) (hReferencePoolIdeal : Cert.ReferencePoolIdeal.Facts) (hKernelConv : Cert.KernelConv.Facts) (hKernelConvIdeal : Cert.KernelConvIdeal.Facts) (hReferenceConvIdeal : Cert.ReferenceConvIdeal.Facts) (hPre_finite_mix : Cert.Pre_finite_mix.Facts) (hPre_finite_attn : Cert.Pre_finite_attn.Facts) (hPre_finite_ple : Cert.Pre_finite_ple.Facts) (hPre_finite_gates : Cert.Pre_finite_gates.Facts) (hPre_finite_ffn : Cert.Pre_finite_ffn.Facts),
    quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelPle (hKernelPle := hKernelPle)
    ∧ quiescent_KernelPleIdeal (hKernelPleIdeal := hKernelPleIdeal)
    ∧ quiescent_KernelPleIdeal_pre_finite_ple (hKernelPleIdeal := hKernelPleIdeal) (hPre_finite_ple := hPre_finite_ple)
    ∧ quiescent_ReferencePleIdeal (hReferencePleIdeal := hReferencePleIdeal)
    ∧ quiescent_ReferencePleIdeal_pre_finite_ple (hReferencePleIdeal := hReferencePleIdeal) (hPre_finite_ple := hPre_finite_ple)
    ∧ quiescent_KernelGates (hKernelGates := hKernelGates)
    ∧ quiescent_KernelGatesIdeal (hKernelGatesIdeal := hKernelGatesIdeal)
    ∧ quiescent_KernelGatesIdeal_pre_finite_gates (hKernelGatesIdeal := hKernelGatesIdeal) (hPre_finite_gates := hPre_finite_gates)
    ∧ quiescent_ReferenceGatesIdeal (hReferenceGatesIdeal := hReferenceGatesIdeal)
    ∧ quiescent_ReferenceGatesIdeal_pre_finite_gates (hReferenceGatesIdeal := hReferenceGatesIdeal) (hPre_finite_gates := hPre_finite_gates)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelPool (hKernelPool := hKernelPool)
    ∧ quiescent_KernelPoolIdeal (hKernelPoolIdeal := hKernelPoolIdeal)
    ∧ quiescent_ReferencePoolIdeal (hReferencePoolIdeal := hReferencePoolIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelPle_KernelPleIdeal
    ∧ algebraic_KernelPleIdeal_ReferencePleIdeal_pre_finite_ple (hKernelPleIdeal := hKernelPleIdeal) (hReferencePleIdeal := hReferencePleIdeal) (hPre_finite_ple := hPre_finite_ple)
    ∧ preserves_KernelGates_KernelGatesIdeal
    ∧ algebraic_KernelGatesIdeal_ReferenceGatesIdeal_pre_finite_gates (hKernelGatesIdeal := hKernelGatesIdeal) (hReferenceGatesIdeal := hReferenceGatesIdeal) (hPre_finite_gates := hPre_finite_gates)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelPool_KernelPoolIdeal
    ∧ preserves_KernelConv_KernelConvIdeal
-- ==== Pre_finite_attn.lean ====
abbrev S2048x1536 : Shape := ⟨2, ![2048, 1536]⟩
abbrev S2048x1024 : Shape := ⟨2, ![2048, 1024]⟩
abbrev S_ : Shape := ⟨0, ![]⟩

class Facts : Prop where
  bcast_S_S2048x1536 : S_.BroadcastsInDim S2048x1536 (![] : Fin 0 → Fin S2048x1536.rank)
  bcast_S_S2048x1024 : S_.BroadcastsInDim S2048x1024 (![] : Fin 0 → Fin S2048x1024.rank)

variable [Facts]

def fn {F : FTy → Type} [FloatOps F] (main_arg0 : FVec F S2048x1536 .f32) (main_arg1 : FVec F S2048x1024 .f32) : IVec S2048x1536 1 × IVec S2048x1024 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  (main_v2, main_v5)
-- ==== Pre_finite_ffn.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S1024x2816 .f32) (main_arg3 : FVec F S1024x2816 .f32) (main_arg4 : FVec F S2816x1024 .f32) : IVec S2048x1024 1 × IVec S2048x1024 1 × IVec S1024x2816 1 × IVec S1024x2816 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite_gates.lean ====
abbrev S2048x1024 : Shape := ⟨2, ![2048, 1024]⟩
abbrev S2048x512 : Shape := ⟨2, ![2048, 512]⟩
abbrev S2048x2048 : Shape := ⟨2, ![2048, 2048]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩

class Facts : Prop where
  bcast_S_S2048x1024 : S_.BroadcastsInDim S2048x1024 (![] : Fin 0 → Fin S2048x1024.rank)
  bcast_S_S2048x512 : S_.BroadcastsInDim S2048x512 (![] : Fin 0 → Fin S2048x512.rank)
  bcast_S_S2048x2048 : S_.BroadcastsInDim S2048x2048 (![] : Fin 0 → Fin S2048x2048.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn_part1 {F : FTy → Type} [FloatOps F] (main_arg6 : FVec F S1x512 .f32) (main_arg7 : FVec F S4x128x128 .f32) (main_arg8 : FVec F S4x128 .f32) (main_v2 : IVec S2048x1024 1) (main_v5 : IVec S2048x512 1) (main_v8 : IVec S2048x2048 1) (main_v11 : IVec S1x512 1) (main_v14 : IVec S1x512 1) (main_v17 : IVec S1x512 1) : IVec S2048x1024 1 × IVec S2048x512 1 × IVec S2048x2048 1 × IVec S1x512 1 × IVec S1x512 1 × IVec S1x512 1 × IVec S1x512 1 × IVec S4x128x128 1 × IVec S4x128 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S4x128x128 .f32 := Host.absf main_arg7
  let main_cst_6 : FVec F S_ .f32 := constant S_ .f32 0x7F800000#32
  let main_v22 : FVec F S4x128x128 .f32 := broadcastInDim S4x128x128 ![] bcast_S_S4x128x128 main_cst_6
  let main_v23 : IVec S4x128x128 1 := cmpf .olt main_v21 main_v22
  let main_v24 : FVec F S4x128 .f32 := Host.absf main_arg8
  let main_cst_7 : FVec F S_ .f32 := constant S_ .f32 0x7F800000#32
  let main_v25 : FVec F S4x128 .f32 := broadcastInDim S4x128 ![] bcast_S_S4x128 main_cst_7
  let main_v26 : IVec S4x128 1 := cmpf .olt main_v24 main_v25
  (main_v2, main_v5, main_v8, main_v11, main_v14, main_v17, main_v20, main_v23, main_v26)

def fn {F : FTy → Type} [FloatOps F] (main_arg0 : FVec F S2048x1024 .f32) (main_arg1 : FVec F S2048x512 .f32) (main_arg2 : FVec F S2048x2048 .f32) (main_arg3 : FVec F S1x512 .f32) (main_arg4 : FVec F S1x512 .f32) (main_arg5 : FVec F S1x512 .f32) (main_arg6 : FVec F S1x512 .f32) (main_arg7 : FVec F S4x128x128 .f32) (main_arg8 : FVec F S4x128 .f32) : IVec S2048x1024 1 × IVec S2048x512 1 × IVec S2048x2048 1 × IVec S1x512 1 × IVec S1x512 1 × IVec S1x512 1 × IVec S1x512 1 × IVec S4x128x128 1 × IVec S4x128 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_v2 main_v5 main_v8 main_v11 main_v14 main_v17
-- ==== Pre_finite_mix.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S1024x1024 .f32) (main_arg5 : FVec F S1x1024 .f32) (main_arg6 : FVec F S1x1024 .f32) : IVec S2048x1024 1 × IVec S2048x1024 1 × IVec S2048x1024 1 × IVec S2048x1024 1 × IVec S1024x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_ple.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S1024x1024 : S_.BroadcastsInDim S1024x1024 (![] : Fin 0 → Fin S1024x1024.rank)
  bcast_S_S256x1024 : S_.BroadcastsInDim S256x1024 (![] : Fin 0 → Fin S256x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S2048x256 .f32) (main_arg3 : FVec F S1024x1024 .f32) (main_arg4 : FVec F S256x1024 .f32) (main_arg5 : FVec F S1x1024 .f32) (main_arg6 : FVec F S1x1024 .f32) (main_arg7 : FVec F S1x1024 .f32) : IVec S2048x1024 1 × IVec S2048x1024 1 × IVec S2048x256 1 × IVec S1024x1024 1 × IVec S256x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x256 .f32 := Host.absf main_arg2
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== KernelMix.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩
abbrev S1024 : Shape := ⟨1, ![1024]⟩

abbrev nBuf : Space → Nat
  | .hbm => 44
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | .hbm, ⟨36, _⟩ => ⟨S2048x512, .bf16⟩
  | .hbm, ⟨37, _⟩ => ⟨S2048x512, .bf16⟩
  | .hbm, ⟨38, _⟩ => ⟨S1024x1024, .bf16⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S1x1024, .f32⟩
  | .hbm, ⟨43, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_22 : BitVec 32 := 0#32
  let v40 : BitVec 1 := Scalar.cmpi .eq arg0 c0_i32_22
  let v41 : BitVec 32 := Scalar.extui v40
  let c0_i32_23 : BitVec 32 := 0#32
  let v42 : BitVec 1 := Scalar.cmpi .ne v41 c0_i32_23
  v42

def k0_cond3 (i : grid0.Coords) : BitVec 1 :=
  let arg0 : BitVec 32 := BitVec.ofNat 32 (i 0).val
  let c0_i32_24 : BitVec 32 := 0#32
  let v43 : BitVec 1 := Scalar.cmpi .ne arg0 c0_i32_24
  let v44 : BitVec 32 := Scalar.extui v43
  let c0_i32_25 : BitVec 32 := 0#32
  let v45 : BitVec 1 := Scalar.cmpi .ne v44 c0_i32_25
  v45

def k0_cond4 (i : grid0.Coords) : BitVec 1 :=
  let arg0 : BitVec 32 := BitVec.ofNat 32 (i 0).val
  let c0_i32_27 : BitVec 32 := 0#32
  let v48 : BitVec 1 := Scalar.cmpi .eq arg0 c0_i32_27
  let v49 : BitVec 32 := Scalar.extui v48
  let c0_i32_28 : BitVec 32 := 0#32
  let v50 : BitVec 1 := Scalar.cmpi .ne v49 c0_i32_28
  v50

def k0_cond5 (i : grid0.Coords) : BitVec 1 :=
  let arg0 : BitVec 32 := BitVec.ofNat 32 (i 0).val
  let c0_i32_29 : BitVec 32 := 0#32
  let v51 : BitVec 1 := Scalar.cmpi .ne arg0 c0_i32_29
  let v52 : BitVec 32 := Scalar.extui v51
  let c0_i32_30 : BitVec 32 := 0#32
  let v53 : BitVec 1 := Scalar.cmpi .ne v52 c0_i32_30
  v53

def k0_cond6 (i : grid0.Coords) : BitVec 1 :=
  let arg0 : BitVec 32 := BitVec.ofNat 32 (i 0).val
  let c3_i32 : BitVec 32 := 3#32
  let v70 : BitVec 1 := Scalar.cmpi .eq arg0 c3_i32
  let v71 : BitVec 32 := Scalar.extui v70
  let c0_i32_44 : BitVec 32 := 0#32
  let v72 : BitVec 1 := Scalar.cmpi .ne v71 c0_i32_44
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceMixIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S2048x1024, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x1024, .f32⟩
  | .hbm, ⟨89, _⟩ => ⟨S2048x1024, .f32⟩
  | .hbm, ⟨90, _⟩ => ⟨S1024x1024, .f32⟩
  | .hbm, ⟨91, _⟩ => ⟨S1024x1024, .f32⟩
  | .hbm, ⟨92, _⟩ => ⟨S2048x1024, .f32⟩
  | .hbm, ⟨93, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== KernelAttn.lean ====
abbrev S2048x1536 : Shape := ⟨2, ![2048, 1536]⟩
abbrev S2048x1024 : Shape := ⟨2, ![2048, 1024]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x2048x128 : Shape := ⟨3, ![8, 2048, 128]⟩
abbrev S256x512 : Shape := ⟨2, ![256, 512]⟩
abbrev S8x256x128 : Shape := ⟨3, ![8, 256, 128]⟩
abbrev S4x512x256 : Shape := ⟨3, ![4, 512, 256]⟩
abbrev S4x512x128 : Shape := ⟨3, ![4, 512, 128]⟩
abbrev S1x128 : Shape := ⟨2, ![1, 128]⟩
abbrev S512x256 : Shape := ⟨2, ![512, 256]⟩
abbrev S256x256 : Shape := ⟨2, ![256, 256]⟩
abbrev S256x128 : Shape := ⟨2, ![256, 128]⟩
abbrev S512x128 : Shape := ⟨2, ![512, 128]⟩
abbrev S1x512x128 : Shape := ⟨3, ![1, 512, 128]⟩
abbrev S1x256x128 : Shape := ⟨3, ![1, 256, 128]⟩
abbrev S1024x256 : Shape := ⟨2, ![1024, 256]⟩
abbrev S1x512x256 : Shape := ⟨3, ![1, 512, 256]⟩
abbrev S512x1 : Shape := ⟨2, ![512, 1]⟩

abbrev nBuf : Space → Nat
  | .hbm => 47
  | .vmem => 19
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S2048x512, .f32⟩
  | .hbm, ⟨3, _⟩ => ⟨S2048x8x64, .f32⟩
  | .hbm, ⟨4, _⟩ => ⟨S2048x512, .f32⟩
  | .hbm, ⟨5, _⟩ => ⟨S2048x8x64, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x1, .f32⟩
  | .hbm, ⟨42, _⟩ => ⟨S8x2048x128, .f32⟩
  | .hbm, ⟨43, _⟩ => ⟨S2048x1536, .bf16⟩
  | .hbm, ⟨44, _⟩ => ⟨S2048x512, .bf16⟩
  | .hbm, ⟨45, _⟩ => ⟨S2048x512, .bf16⟩
  | .hbm, ⟨46, _⟩ => ⟨S2048x512, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S8x256x128, .f32⟩
  | .local _ .vmem, ⟨7, _⟩ => ⟨S8x256x128, .f32⟩
  | .local _ .vmem, ⟨8, _⟩ => ⟨S256x512, .bf16⟩
  | .local _ .vmem, ⟨9, _⟩ => ⟨S256x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .f32⟩
  | .local _ .vmem, ⟨13, _⟩ => ⟨S2048x512, .f32⟩
  | .local _ .vmem, ⟨14, _⟩ => ⟨S256x512, .f32⟩
  | .local _ .vmem, ⟨15, _⟩ => ⟨S4x512x256, .f32⟩
  | .local _ .vmem, ⟨16, _⟩ => ⟨S4x512x256, .f32⟩
  | .local _ .vmem, ⟨17, _⟩ => ⟨S4x512x128, .bf16⟩
  | .local _ .vmem, ⟨18, _⟩ => ⟨S4x512x128, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

@[reducible] def k0_t1_loop (i : grid0.Coords) : Scf.Loop 32 :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_155 : BitVec 32 := 1#32
  ⟨c0_i32_154, v252, c1_i32_155⟩
def k0_mult1 (i : grid0.Coords) (k0_t1 : Fin (k0_t1_loop i).trips) : BitVec 32 :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  v715
def k0_off1 (i : grid0.Coords) (k0_t1 : Fin (k0_t1_loop i).trips) : Fin 2 → Nat :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  let v716 : BitVec 32 := v715
  let v719 : Index := Scalar.indexCast v716
  let c0_368 : Index := 0#32
  ![v719.toNat, 0]
def k0_off2 (i : grid0.Coords) (k0_t1 : Fin (k0_t1_loop i).trips) : Fin 2 → Nat :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  let v716 : BitVec 32 := v715
  let v725 : Index := Scalar.indexCast v716
  let c128_373 : Index := 128#32
  ![v725.toNat, 128]
def k0_off3 (i : grid0.Coords) (k0_t1 : Fin (k0_t1_loop i).trips) : Fin 2 → Nat :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  let v716 : BitVec 32 := v715
  let v731 : Index := Scalar.indexCast v716
  let c256_378 : Index := 256#32
  ![v731.toNat, 256]
def k0_off4 (i : grid0.Coords) (k0_t1 : Fin (k0_t1_loop i).trips) : Fin 2 → Nat :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  let v716 : BitVec 32 := v715
  let v737 : Index := Scalar.indexCast v716
  let c384_383 : Index := 384#32
  ![v737.toNat, 384]
@[reducible] def k0_t2_loop (i : grid0.Coords) : Scf.Loop 32 :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let v249 : BitVec 32 := Scalar.addi c0_i32_154 v248
  let c1_i32_156 : BitVec 32 := 1#32
  ⟨v252, v249, c1_i32_156⟩
def k0_mult2 (i : grid0.Coords) (k0_t2 : Fin (k0_t2_loop i).trips) : BitVec 32 :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  v715
def k0_off5 (i : grid0.Coords) (k0_t2 : Fin (k0_t2_loop i).trips) : Fin 2 → Nat :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  let v716 : BitVec 32 := v715
  let v719 : Index := Scalar.indexCast v716
  let c0_368 : Index := 0#32
  ![v719.toNat, 0]
def k0_off6 (i : grid0.Coords) (k0_t2 : Fin (k0_t2_loop i).trips) : Fin 2 → Nat :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  let v716 : BitVec 32 := v715
  let v725 : Index := Scalar.indexCast v716
  let c128_373 : Index := 128#32
  ![v725.toNat, 128]
def k0_off7 (i : grid0.Coords) (k0_t2 : Fin (k0_t2_loop i).trips) : Fin 2 → Nat :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  let v716 : BitVec 32 := v715
  let v731 : Index := Scalar.indexCast v716
  let c256_378 : Index := 256#32
  ![v731.toNat, 256]
def k0_off8 (i : grid0.Coords) (k0_t2 : Fin (k0_t2_loop i).trips) : Fin 2 → Nat :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  let v716 : BitVec 32 := v715
  let v737 : Index := Scalar.indexCast v716
  let c384_383 : Index := 384#32
  ![v737.toNat, 384]
def k0_mult3 (i : grid0.Coords) : BitVec 32 :=
  let arg0 : BitVec 32 := BitVec.ofNat 32 (i 0).val
  let c256_i32_157 : BitVec 32 := 256#32
  let v253 : BitVec 32 := Scalar.muli arg0 c256_i32_157
  v253
def k0_off9 (i : grid0.Coords) : Fin 2 → Nat :=
  let arg0 : BitVec 32 := BitVec.ofNat 32 (i 0).val
  let c256_i32_157 : BitVec 32 := 256#32
  let v253 : BitVec 32 := Scalar.muli arg0 c256_i32_157
  let v254 : BitVec 32 := v253
  let v257 : Index := Scalar.indexCast v254
  let c0_161 : Index := 0#32
  ![v257.toNat, 0]
def k0_off10 (i : grid0.Coords) : Fin 2 → Nat :=
  let arg0 : BitVec 32 := BitVec.ofNat 32 (i 0).val
  let c256_i32_157 : BitVec 32 := 256#32
  let v253 : BitVec 32 := Scalar.muli arg0 c256_i32_157
  let v254 : BitVec 32 := v253
  let v263 : Index := Scalar.indexCast v254
  let c128_166 : Index := 128#32
  ![v263.toNat, 128]
def k0_off11 (i : grid0.Coords) : Fin 2 → Nat :=
  let arg0 : BitVec 32 := BitVec.ofNat 32 (i 0).val
  let c256_i32_157 : BitVec 32 := 256#32
  let v253 : BitVec 32 := Scalar.muli arg0 c256_i32_157
  let v254 : BitVec 32 := v253
  let v269 : Index := Scalar.indexCast v254
  let c256_171 : Index := 256#32
  ![v269.toNat, 256]
def k0_off12 (i : grid0.Coords) : Fin 2 → Nat :=
  let arg0 : BitVec 32 := BitVec.ofNat 32 (i 0).val
  let c256_i32_157 : BitVec 32 := 256#32
  let v253 : BitVec 32 := Scalar.muli arg0 c256_i32_157
  let v254 : BitVec 32 := v253
  let v275 : Index := Scalar.indexCast v254
  let c384_176 : Index := 384#32
  ![v275.toNat, 384]
def k0_cond2 (i : grid0.Coords) : BitVec 1 :=
  let arg0 : BitVec 32 := BitVec.ofNat 32 (i 0).val
  let c7_i32 : BitVec 32 := 7#32
  let v712 : BitVec 1 := Scalar.cmpi .eq arg0 c7_i32
  let v713 : BitVec 32 := Scalar.extui v712
  let c0_i32_363 : BitVec 32 := 0#32
  let v714 : BitVec 1 := Scalar.cmpi .ne v713 c0_i32_363
  v714

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceAttnIdeal.lean ====
abbrev S2048x1536 : Shape := ⟨2, ![2048, 1536]⟩
abbrev S2048x1024 : Shape := ⟨2, ![2048, 1024]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 176
  | .vmem => 0
  | .smem => 0
  | _ => 0

abbrev hbmTy0_0 (i : Nat) : BufTy := match i % 128 with
  | 0 => ⟨S2048x1536, .f32⟩
  | 1 => ⟨S2048x1024, .f32⟩
  | 2 => ⟨S2048x512, .f32⟩
  | 3 => ⟨S2048x8x64, .f32⟩
  | 4 => ⟨S2048x512, .f32⟩
  | 5 => ⟨S2048x8x64, .f32⟩
  | 6 => ⟨S2048x512, .f32⟩
  | 7 => ⟨S2048x8x64, .f32⟩
  | 8 => ⟨S8x2048x2048, .f32⟩
  | 9 => ⟨S_, .f32⟩
  | 10 => ⟨S8x2048x2048, .f32⟩
  | 11 => ⟨S8x2048x2048, .f32⟩
  | 12 => ⟨S2048, .i32⟩
  | 13 => ⟨S1x2048, .i32⟩
  | 14 => ⟨S2048x1, .i32⟩
  | 15 => ⟨S2048x2048, .i32⟩
  | 16 => ⟨S2048x2048, .i32⟩
  | 17 => ⟨S2048x2048, .i1⟩
  | 18 => ⟨S8x2048x2048, .f32⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .i1⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .i1⟩
  | 37 => ⟨S_, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .i1⟩
  | 43 => ⟨S_, .f32⟩
  | 44 => ⟨S8x2048x2048, .f32⟩
  | 45 => ⟨S8x2048x2048, .f32⟩
  | 46 => ⟨S8x2048x2048, .f32⟩
  | 47 => ⟨S8x2048x2048, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x2048x2048, .f32⟩
  | 56 => ⟨S8x2048x2048, .i1⟩
  | 57 => ⟨S_, .f32⟩
  | 58 => ⟨S8x2048x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S8x2048x2048, .f32⟩
  | 67 => ⟨S_, .f32⟩
  | 68 => ⟨S_, .f32⟩
  | 69 => ⟨S8x2048x2048, .i1⟩
  | 70 => ⟨S8x2048x2048, .f32⟩
  | 71 => ⟨S8x2048x2048, .f32⟩
  | 72 => ⟨S_, .f32⟩
  | 73 => ⟨S8x2048x2048, .f32⟩
  | 74 => ⟨S_, .f32⟩
  | 75 => ⟨S_, .f32⟩
  | 76 => ⟨S8x2048x2048, .f32⟩
  | 77 => ⟨S8x2048x2048, .f32⟩
  | 78 => ⟨S8x2048x2048, .f32⟩
  | 79 => ⟨S_, .f32⟩
  | 80 => ⟨S8x2048x2048, .f32⟩
  | 81 => ⟨S8x2048x2048, .f32⟩
  | 82 => ⟨S8x2048x2048, .f32⟩
  | 83 => ⟨S8x2048x2048, .f32⟩
  | 84 => ⟨S8x2048x2048, .i1⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S_, .f32⟩
  | 94 => ⟨S8x2048x2048, .f32⟩
  | 95 => ⟨S8x2048x2048, .i1⟩
  | 96 => ⟨S_, .f32⟩
  | 97 => ⟨S8x2048x2048, .f32⟩
  | 98 => ⟨S8x2048x2048, .f32⟩
  | 99 => ⟨S_, .f32⟩
  | 100 => ⟨S8x2048x2048, .f32⟩
  | 101 => ⟨S8x2048x2048, .i1⟩
  | 102 => ⟨S_, .f32⟩
  | 103 => ⟨S8x2048x2048, .f32⟩
  | 104 => ⟨S8x2048x2048, .f32⟩
  | 105 => ⟨S8x2048x2048, .f32⟩
  | 106 => ⟨S8x2048x2048, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x2048x2048, .f32⟩
  | 115 => ⟨S8x2048x2048, .i1⟩
  | 116 => ⟨S_, .f32⟩
  | 117 => ⟨S8x2048x2048, .f32⟩
  | 118 => ⟨S8x2048x2048, .f32⟩
  | 119 => ⟨S8x2048x2048, .f32⟩
  | 120 => ⟨S8x2048x2048, .f32⟩
  | 121 => ⟨S8x2048x2048, .f32⟩
  | 122 => ⟨S_, .f32⟩
  | 123 => ⟨S8x2048x2048, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x1536, .f32⟩

abbrev hbmTy0_1 (i : Nat) : BufTy := match i % 128 with
  | 0 => ⟨S_, .f32⟩
  | 1 => ⟨S_, .f32⟩
  | 2 => ⟨S8x2048x2048, .i1⟩
  | 3 => ⟨S8x2048x2048, .f32⟩
  | 4 => ⟨S8x2048x2048, .f32⟩
  | 5 => ⟨S_, .f32⟩
  | 6 => ⟨S8x2048x2048, .f32⟩
  | 7 => ⟨S8x64x2048, .f32⟩
  | 8 => ⟨S2048x8x64, .f32⟩
  | 9 => ⟨S2048x512, .f32⟩
  | 10 => ⟨S2048x8x64, .f32⟩
  | 11 => ⟨S8x64x2048, .f32⟩
  | 12 => ⟨S8x2048x2048, .f32⟩
  | 13 => ⟨S8x64x2048, .f32⟩
  | 14 => ⟨S2048x8x64, .f32⟩
  | 15 => ⟨S_, .f32⟩
  | 16 => ⟨S8x2048x2048, .f32⟩
  | 17 => ⟨S8x2048x2048, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S_, .f32⟩
  | 24 => ⟨S_, .f32⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S8x2048x64, .f32⟩
  | 39 => ⟨S2048x8x64, .f32⟩
  | 40 => ⟨S8x2048x64, .f32⟩
  | 41 => ⟨S2048x8x64, .f32⟩
  | 42 => ⟨S2048x512, .f32⟩
  | 43 => ⟨S2048x512, .bf16⟩
  | 44 => ⟨S2048x512, .f32⟩
  | 45 => ⟨S2048x512, .bf16⟩
  | 46 => ⟨S2048x512, .f32⟩
  | 47 => ⟨S2048x512, .bf16⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_call6_v0 : Ref sig .tc := ⟨.hbm, 147, rfl⟩
abbrev main_call6_v1 : Ref sig .tc := ⟨.hbm, 148, rfl⟩
abbrev main_v34 : Ref sig .tc := ⟨.hbm, 149, rfl⟩
abbrev main_v35 : Ref sig .tc := ⟨.hbm, 150, rfl⟩
abbrev main_call7_cst : Ref sig .tc := ⟨.hbm, 151, rfl⟩
abbrev main_call7_v0 : Ref sig .tc := ⟨.hbm, 152, rfl⟩
abbrev main_v36 : Ref sig .tc := ⟨.hbm, 153, rfl⟩
abbrev main_v37 : Ref sig .tc := ⟨.hbm, 154, rfl⟩
abbrev main_call8_cst : Ref sig .tc := ⟨.hbm, 155, rfl⟩
abbrev main_call8_v0 : Ref sig .tc := ⟨.hbm, 156, rfl⟩
abbrev main_v38 : Ref sig .tc := ⟨.hbm, 157, rfl⟩
abbrev main_call9_v0 : Ref sig .tc := ⟨.hbm, 158, rfl⟩
abbrev main_call9_v1 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_cst_2 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩

abbrev nD : Nat := 1
abbrev τ : Topo := Topo.v7x

variable {F : FTy → Type} [FloatOps F]
-- ==== KernelPle.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S512x256 : Shape := ⟨2, ![512, 256]⟩
abbrev S512x1 : Shape := ⟨2, ![512, 1]⟩
abbrev S1024 : Shape := ⟨1, ![1024]⟩
abbrev S512 : Shape := ⟨1, ![512]⟩

abbrev nBuf : Space → Nat
  | .hbm => 82
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x256, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .bf16⟩
  | .hbm, ⟨71, _⟩ => ⟨S2048x1024, .bf16⟩
  | .hbm, ⟨72, _⟩ => ⟨S2048x1024, .bf16⟩
  | .hbm, ⟨73, _⟩ => ⟨S2048x256, .bf16⟩
  | .hbm, ⟨74, _⟩ => ⟨S1024x1024, .bf16⟩
  | .hbm, ⟨75, _⟩ => ⟨S2048x1024, .f32⟩
  | .hbm, ⟨76, _⟩ => ⟨S2048x1024, .bf16⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1024x1024, .bf16⟩
  | .hbm, ⟨81, _⟩ => ⟨S256x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1024x1024, .bf16⟩
  | .local _ .vmem, ⟨24, _⟩ => ⟨S256x1024, .bf16⟩
  | .local _ .vmem, ⟨25, _⟩ => ⟨S1024x1024, .f32⟩
  | .local _ .vmem, ⟨26, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev main_v55_3 : Ref sig .tc := ⟨.hbm, 78, rfl⟩
abbrev main_v55_4 : Ref sig .tc := ⟨.hbm, 79, rfl⟩
abbrev main_v55_5 : Ref sig .tc := ⟨.hbm, 80, rfl⟩
abbrev main_v55_6 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c0_i32_23 : BitVec 32 := 0#32
  let v39 : BitVec 1 := Scalar.cmpi .eq arg0 c0_i32_23
  let v40 : BitVec 32 := Scalar.extui v39
  let c0_i32_24 : BitVec 32 := 0#32
  let v41 : BitVec 1 := Scalar.cmpi .ne v40 c0_i32_24
  v41

def k0_cond4 (i : grid0.Coords) : BitVec 1 :=
  let arg0 : BitVec 32 := BitVec.ofNat 32 (i 0).val
  let c0_i32_25 : BitVec 32 := 0#32
  let v42 : BitVec 1 := Scalar.cmpi .ne arg0 c0_i32_25
  let v43 : BitVec 32 := Scalar.extui v42
  let c0_i32_26 : BitVec 32 := 0#32
  let v44 : BitVec 1 := Scalar.cmpi .ne v43 c0_i32_26
  v44

def k0_cond5 (i : grid0.Coords) : BitVec 1 :=
  let arg0 : BitVec 32 := BitVec.ofNat 32 (i 0).val
  let c0_i32_45 : BitVec 32 := 0#32
  let v78 : BitVec 1 := Scalar.cmpi .eq arg0 c0_i32_45
  let v79 : BitVec 32 := Scalar.extui v78
  let c0_i32_46 : BitVec 32 := 0#32
  let v80 : BitVec 1 := Scalar.cmpi .ne v79 c0_i32_46
  v80

def k0_cond6 (i : grid0.Coords) : BitVec 1 :=
  let arg0 : BitVec 32 := BitVec.ofNat 32 (i 0).val
  let c0_i32_47 : BitVec 32 := 0#32
  let v81 : BitVec 1 := Scalar.cmpi .ne arg0 c0_i32_47
  let v82 : BitVec 32 := Scalar.extui v81
  let c0_i32_48 : BitVec 32 := 0#32
  let v83 : BitVec 1 := Scalar.cmpi .ne v82 c0_i32_48
  v83

def k0_cond7 (i : grid0.Coords) : BitVec 1 :=
  let arg0 : BitVec 32 := BitVec.ofNat 32 (i 0).val
  let c0_i32_50 : BitVec 32 := 0#32
  let v86 : BitVec 1 := Scalar.cmpi .eq arg0 c0_i32_50
  let v87 : BitVec 32 := Scalar.extui v86
  let c0_i32_51 : BitVec 32 := 0#32
  let v88 : BitVec 1 := Scalar.cmpi .ne v87 c0_i32_51
  v88

def k0_cond8 (i : grid0.Coords) : BitVec 1 :=
  let arg0 : BitVec 32 := BitVec.ofNat 32 (i 0).val
  let c0_i32_52 : BitVec 32 := 0#32
  let v89 : BitVec 1 := Scalar.cmpi .ne arg0 c0_i32_52
  let v90 : BitVec 32 := Scalar.extui v89
  let c0_i32_53 : BitVec 32 := 0#32
  let v91 : BitVec 1 := Scalar.cmpi .ne v90 c0_i32_53
  v91

def k0_cond9 (i : grid0.Coords) : BitVec 1 :=
  let arg0 : BitVec 32 := BitVec.ofNat 32 (i 0).val
  let c3_i32 : BitVec 32 := 3#32
  let v92 : BitVec 1 := Scalar.cmpi .eq arg0 c3_i32
  let v93 : BitVec 32 := Scalar.extui v92
  let c0_i32_54 : BitVec 32 := 0#32
  let v94 : BitVec 1 := Scalar.cmpi .ne v93 c0_i32_54
  v94

def k0_cond10 (i : grid0.Coords) : BitVec 1 :=
  let arg0 : BitVec 32 := BitVec.ofNat 32 (i 0).val
  let c3_i32_55 : BitVec 32 := 3#32
  let v95 : BitVec 1 := Scalar.cmpi .eq arg0 c3_i32_55
  let v96 : BitVec 32 := Scalar.extui v95
  let c0_i32_56 : BitVec 32 := 0#32
  let v97 : BitVec 1 := Scalar.cmpi .ne v96 c0_i32_56
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferencePleIdeal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x256 : Shape := ⟨2, ![1024, 256]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x256, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S1024x256, .f32⟩
  | .hbm, ⟨65, _⟩ => ⟨S256x1024, .f32⟩
  | .hbm, ⟨66, _⟩ => ⟨S2048x256, .f32⟩
  | .hbm, ⟨67, _⟩ => ⟨S2048x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S1024x1024, .f32⟩
  | .hbm, ⟨72, _⟩ => ⟨S1024x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S_, .f32⟩
  | .hbm, ⟨104, _⟩ => ⟨S2048, .f32⟩
  | .hbm, ⟨105, _⟩ => ⟨S2048x1, .f32⟩
  | .hbm, ⟨106, _⟩ => ⟨S2048x1024, .f32⟩
  | .hbm, ⟨107, _⟩ => ⟨S2048x1, .f32⟩
  | .hbm, ⟨108, _⟩ => ⟨S_, .f32⟩
  | .hbm, ⟨109, _⟩ => ⟨S2048x1, .f32⟩
  | .hbm, ⟨110, _⟩ => ⟨S2048x1, .f32⟩
  | .hbm, ⟨111, _⟩ => ⟨S_, .f32⟩
  | .hbm, ⟨112, _⟩ => ⟨S2048, .f32⟩
  | .hbm, ⟨113, _⟩ => ⟨S2048x1024, .f32⟩
  | .hbm, ⟨114, _⟩ => ⟨S2048x1024, .f32⟩
  | .hbm, ⟨115, _⟩ => ⟨S2048x1024, .bf16⟩
  | .hbm, ⟨116, _⟩ => ⟨S1024x1024, .bf16⟩
  | .hbm, ⟨117, _⟩ => ⟨S256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== KernelGates.lean ====
abbrev S2048x1024 : Shape := ⟨2, ![2048, 1024]⟩
abbrev S2048x512 : Shape := ⟨2, ![2048, 512]⟩
abbrev S2048x2048 : Shape := ⟨2, ![2048, 2048]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩
abbrev S2048 : Shape := ⟨1, ![2048]⟩
abbrev S2048x1 : Shape := ⟨2, ![2048, 1]⟩
abbrev S16x128x4x128 : Shape := ⟨4, ![16, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S4x16x128x128 : Shape := ⟨4, ![4, 16, 128, 128]⟩
abbrev S128x4 : Shape := ⟨2, ![128, 4]⟩
abbrev S1x128x4x1 : Shape := ⟨4, ![1, 128, 4, 1]⟩
abbrev S512x1024 : Shape := ⟨2, ![512, 1024]⟩
abbrev S512x512 : Shape := ⟨2, ![512, 512]⟩
abbrev S512x1 : Shape := ⟨2, ![512, 1]⟩
abbrev S512 : Shape := ⟨1, ![512]⟩
abbrev S1x128x128 : Shape := ⟨3, ![1, 128, 128]⟩

abbrev nBuf : Space → Nat
  | .hbm => 129
  | .vmem => 30
  | .smem => 0
  | _ => 0

abbrev hbmTy0_0 (i : Nat) : BufTy := match i % 128 with
  | 0 => ⟨S2048x1024, .f32⟩
  | 1 => ⟨S2048x512, .f32⟩
  | 2 => ⟨S2048x2048, .f32⟩
  | 3 => ⟨S1x512, .f32⟩
  | 4 => ⟨S1x512, .f32⟩
  | 5 => ⟨S1x512, .f32⟩
  | 6 => ⟨S1x512, .f32⟩
  | 7 => ⟨S4x128x128, .f32⟩
  | 8 => ⟨S4x128, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S2048x512, .f32⟩
  | 16 => ⟨S2048x512, .f32⟩
  | 17 => ⟨S2048x512, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048x1, .f32⟩
  | 26 => ⟨S2048x1, .f32⟩
  | 27 => ⟨S2048x1, .f32⟩
  | 28 => ⟨S2048x512, .f32⟩
  | 29 => ⟨S2048x512, .f32⟩
  | 30 => ⟨S2048x512, .f32⟩
  | 31 => ⟨S2048x512, .f32⟩
  | 32 => ⟨S2048x1024, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S2048x1024, .f32⟩
  | 43 => ⟨S_, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S2048x1024, .f32⟩
  | 50 => ⟨S2048x512, .f32⟩
  | 51 => ⟨S2048x512, .f32⟩
  | 52 => ⟨S_, .f32⟩
  | 53 => ⟨S2048, .f32⟩
  | 54 => ⟨S2048x1, .f32⟩
  | 55 => ⟨S_, .f32⟩
  | 56 => ⟨S2048x1, .f32⟩
  | 57 => ⟨S2048x1, .f32⟩
  | 58 => ⟨S2048x512, .f32⟩
  | 59 => ⟨S2048x512, .f32⟩
  | 60 => ⟨S2048x512, .f32⟩
  | 61 => ⟨S_, .f32⟩
  | 62 => ⟨S2048, .f32⟩
  | 63 => ⟨S2048x1, .f32⟩
  | 64 => ⟨S_, .f32⟩
  | 65 => ⟨S2048x1, .f32⟩
  | 66 => ⟨S2048x1, .f32⟩
  | 67 => ⟨S2048x512, .f32⟩
  | 68 => ⟨S2048x512, .f32⟩
  | 69 => ⟨S_, .f32⟩
  | 70 => ⟨S2048x1, .f32⟩
  | 71 => ⟨S2048x1, .f32⟩
  | 72 => ⟨S2048x1, .f32⟩
  | 73 => ⟨S2048x512, .f32⟩
  | 74 => ⟨S2048x512, .f32⟩
  | 75 => ⟨S2048x512, .f32⟩
  | 76 => ⟨S2048x512, .f32⟩
  | 77 => ⟨S2048x512, .f32⟩
  | 78 => ⟨S2048x512, .f32⟩
  | 79 => ⟨S16x128x4x128, .f32⟩
  | 80 => ⟨S128, .i32⟩
  | 81 => ⟨S1x128, .i32⟩
  | 82 => ⟨S128x1, .i32⟩
  | 83 => ⟨S128x128, .i32⟩
  | 84 => ⟨S128x128, .i32⟩
  | 85 => ⟨S128x128, .i1⟩
  | 86 => ⟨S_, .f32⟩
  | 87 => ⟨S_, .f32⟩
  | 88 => ⟨S4x128x128, .i1⟩
  | 89 => ⟨S4x128x128, .f32⟩
  | 90 => ⟨S4x128x128, .f32⟩
  | 91 => ⟨S4x16x128x128, .f32⟩
  | 92 => ⟨S16x128x4x128, .f32⟩
  | 93 => ⟨S128x4, .f32⟩
  | 94 => ⟨S1x128x4x1, .f32⟩
  | 95 => ⟨S16x128x4x128, .f32⟩
  | 96 => ⟨S16x128x4x128, .f32⟩
  | 97 => ⟨S2048x512, .f32⟩
  | 98 => ⟨S_, .f32⟩
  | 99 => ⟨S2048, .f32⟩
  | 100 => ⟨S2048x1, .f32⟩
  | 101 => ⟨S_, .f32⟩
  | 102 => ⟨S2048x1, .f32⟩
  | 103 => ⟨S2048x1, .f32⟩
  | 104 => ⟨S2048x512, .f32⟩
  | 105 => ⟨S2048x512, .f32⟩
  | 106 => ⟨S2048x512, .f32⟩
  | 107 => ⟨S_, .f32⟩
  | 108 => ⟨S2048, .f32⟩
  | 109 => ⟨S2048x1, .f32⟩
  | 110 => ⟨S_, .f32⟩
  | 111 => ⟨S2048x1, .f32⟩
  | 112 => ⟨S2048x1, .f32⟩
  | 113 => ⟨S_, .f32⟩
  | 114 => ⟨S2048x1, .f32⟩
  | 115 => ⟨S2048x1, .f32⟩
  | 116 => ⟨S2048x1, .f32⟩
  | 117 => ⟨S2048x512, .f32⟩
  | 118 => ⟨S2048x512, .f32⟩
  | 119 => ⟨S2048x512, .f32⟩
  | 120 => ⟨S2048x512, .f32⟩
  | 121 => ⟨S2048x512, .f32⟩
  | 122 => ⟨S2048x1024, .bf16⟩
  | 123 => ⟨S1x512, .f32⟩
  | 124 => ⟨S1x512, .f32⟩
  | 125 => ⟨S1x512, .f32⟩
  | 126 => ⟨S1x512, .f32⟩
  | 127 => ⟨S4x128x128, .f32⟩
  | _ => ⟨S2048x1024, .f32⟩

abbrev hbmTy0_1 (i : Nat) : BufTy := match i % 128 with
  | 0 => ⟨S4x128x128, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S512x512, .f32⟩
  | .local _ .vmem, ⟨9, _⟩ => ⟨S512x512, .f32⟩
  | .local _ .vmem, ⟨10, _⟩ => ⟨S512x1, .f32⟩
  | .local _ .vmem, ⟨11, _⟩ => ⟨S512x1, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S4x128x128, .f32⟩
  | .local _ .vmem, ⟨19, _⟩ => ⟨S512x512, .f32⟩
  | .local _ .vmem, ⟨20, _⟩ => ⟨S512x512, .f32⟩
  | .local _ .vmem, ⟨21, _⟩ => ⟨S512x1024, .bf16⟩
  | .local _ .vmem, ⟨22, _⟩ => ⟨S512x1024, .bf16⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S4x128x128, .f32⟩
  | .local _ .vmem, ⟨28, _⟩ => ⟨S4x128x128, .f32⟩
  | .local _ .vmem, ⟨29, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89_0 : Ref sig .tc := ⟨.hbm, 121, rfl⟩
abbrev main_v89_1 : Ref sig .tc := ⟨.hbm, 122, rfl⟩
abbrev main_v89_2 : Ref sig .tc := ⟨.hbm, 123, rfl⟩
abbrev main_v89_3 : Ref sig .tc := ⟨.hbm, 124, rfl⟩
abbrev main_v89_4 : Ref sig .tc := ⟨.hbm, 125, rfl⟩
abbrev main_v89_5 : Ref sig .tc := ⟨.hbm, 126, rfl⟩
abbrev main_v89_6 : Ref sig .tc := ⟨.hbm, 127, rfl⟩
abbrev main_v89_7 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_23 : BitVec 32 := 0#32
  let v51 : BitVec 1 := Scalar.cmpi .eq arg0 c0_i32_23
  let v52 : BitVec 32 := Scalar.extui v51
  let c0_i32_24 : BitVec 32 := 0#32
  let v53 : BitVec 1 := Scalar.cmpi .ne v52 c0_i32_24
  v53

def k0_cond2 (i : grid0.Coords) : BitVec 1 :=
  let arg0 : BitVec 32 := BitVec.ofNat 32 (i 0).val
  let c0_i32_25 : BitVec 32 := 0#32
  let v54 : BitVec 1 := Scalar.cmpi .ne arg0 c0_i32_25
  let v55 : BitVec 32 := Scalar.extui v54
  let c0_i32_26 : BitVec 32 := 0#32
  let v56 : BitVec 1 := Scalar.cmpi .ne v55 c0_i32_26
  v56

def k0_cond3 (i : grid0.Coords) : BitVec 1 :=
  let arg0 : BitVec 32 := BitVec.ofNat 32 (i 0).val
  let c0_i32_28 : BitVec 32 := 0#32
  let v59 : BitVec 1 := Scalar.cmpi .eq arg0 c0_i32_28
  let v60 : BitVec 32 := Scalar.extui v59
  let c0_i32_29 : BitVec 32 := 0#32
  let v61 : BitVec 1 := Scalar.cmpi .ne v60 c0_i32_29
  v61

def k0_cond4 (i : grid0.Coords) : BitVec 1 :=
  let arg0 : BitVec 32 := BitVec.ofNat 32 (i 0).val
  let c0_i32_30 : BitVec 32 := 0#32
  let v62 : BitVec 1 := Scalar.cmpi .ne arg0 c0_i32_30
  let v63 : BitVec 32 := Scalar.extui v62
  let c0_i32_31 : BitVec 32 := 0#32
  let v64 : BitVec 1 := Scalar.cmpi .ne v63 c0_i32_31
  v64

def k0_cond6 (i : grid0.Coords) : BitVec 1 :=
  let arg0 : BitVec 32 := BitVec.ofNat 32 (i 0).val
  let c0_i32_322 : BitVec 32 := 0#32
  let v486 : BitVec 1 := Scalar.cmpi .eq arg0 c0_i32_322
  let v487 : BitVec 32 := Scalar.extui v486
  let c0_i32_323 : BitVec 32 := 0#32
  let v488 : BitVec 1 := Scalar.cmpi .ne v487 c0_i32_323
  v488

def k0_cond7 (i : grid0.Coords) : BitVec 1 :=
  let arg0 : BitVec 32 := BitVec.ofNat 32 (i 0).val
  let c0_i32_324 : BitVec 32 := 0#32
  let v489 : BitVec 1 := Scalar.cmpi .ne arg0 c0_i32_324
  let v490 : BitVec 32 := Scalar.extui v489
  let c0_i32_325 : BitVec 32 := 0#32
  let v491 : BitVec 1 := Scalar.cmpi .ne v490 c0_i32_325
  v491

def k0_cond8 (i : grid0.Coords) : BitVec 1 :=
  let arg0 : BitVec 32 := BitVec.ofNat 32 (i 0).val
  let c0_i32_327 : BitVec 32 := 0#32
  let v494 : BitVec 1 := Scalar.cmpi .eq arg0 c0_i32_327
  let v495 : BitVec 32 := Scalar.extui v494
  let c0_i32_328 : BitVec 32 := 0#32
  let v496 : BitVec 1 := Scalar.cmpi .ne v495 c0_i32_328
  v496

def k0_cond9 (i : grid0.Coords) : BitVec 1 :=
  let arg0 : BitVec 32 := BitVec.ofNat 32 (i 0).val
  let c0_i32_329 : BitVec 32 := 0#32
  let v497 : BitVec 1 := Scalar.cmpi .ne arg0 c0_i32_329
  let v498 : BitVec 32 := Scalar.extui v497
  let c0_i32_330 : BitVec 32 := 0#32
  let v499 : BitVec 1 := Scalar.cmpi .ne v498 c0_i32_330
  v499

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceGatesIdeal.lean ====
abbrev S2048x1024 : Shape := ⟨2, ![2048, 1024]⟩
abbrev S2048x512 : Shape := ⟨2, ![2048, 512]⟩
abbrev S2048x2048 : Shape := ⟨2, ![2048, 2048]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩
abbrev S2048 : Shape := ⟨1, ![2048]⟩
abbrev S2048x1 : Shape := ⟨2, ![2048, 1]⟩
abbrev S16x128x4x128 : Shape := ⟨4, ![16, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S4x16x128x128 : Shape := ⟨4, ![4, 16, 128, 128]⟩
abbrev S128x4 : Shape := ⟨2, ![128, 4]⟩
abbrev S1x128x4x1 : Shape := ⟨4, ![1, 128, 4, 1]⟩
abbrev S512 : Shape := ⟨1, ![512]⟩
abbrev S4x128x1 : Shape := ⟨3, ![4, 128, 1]⟩

abbrev nBuf : Space → Nat
  | .hbm => 270
  | .vmem => 0
  | .smem => 0
  | _ => 0

abbrev hbmTy0_0 (i : Nat) : BufTy := match i % 128 with
  | 0 => ⟨S2048x1024, .f32⟩
  | 1 => ⟨S2048x512, .f32⟩
  | 2 => ⟨S2048x2048, .f32⟩
  | 3 => ⟨S1x512, .f32⟩
  | 4 => ⟨S1x512, .f32⟩
  | 5 => ⟨S1x512, .f32⟩
  | 6 => ⟨S1x512, .f32⟩
  | 7 => ⟨S4x128x128, .f32⟩
  | 8 => ⟨S4x128, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S2048x512, .f32⟩
  | 39 => ⟨S2048x512, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S2048x512, .f32⟩
  | 47 => ⟨S2048x512, .f32⟩
  | 48 => ⟨S2048x512, .f32⟩
  | 49 => ⟨S_, .f32⟩
  | 50 => ⟨S2048x512, .f32⟩
  | 51 => ⟨S2048x512, .f32⟩
  | 52 => ⟨S_, .f32⟩
  | 53 => ⟨S2048, .f32⟩
  | 54 => ⟨S2048x1, .f32⟩
  | 55 => ⟨S_, .f32⟩
  | 56 => ⟨S2048x1, .f32⟩
  | 57 => ⟨S2048x1, .f32⟩
  | 58 => ⟨S2048x512, .f32⟩
  | 59 => ⟨S2048x512, .f32⟩
  | 60 => ⟨S_, .f32⟩
  | 61 => ⟨S2048x1, .f32⟩
  | 62 => ⟨S2048x1, .f32⟩
  | 63 => ⟨S2048x1, .f32⟩
  | 64 => ⟨S2048x1, .f32⟩
  | 65 => ⟨S_, .f32⟩
  | 66 => ⟨S2048x1, .f32⟩
  | 67 => ⟨S2048x1, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S16x128x4x128, .f32⟩
  | 75 => ⟨S128, .i32⟩
  | 76 => ⟨S1x128, .i32⟩
  | 77 => ⟨S128x1, .i32⟩
  | 78 => ⟨S128x128, .i32⟩
  | 79 => ⟨S128x128, .i32⟩
  | 80 => ⟨S128x128, .i1⟩
  | 81 => ⟨S_, .f32⟩
  | 82 => ⟨S_, .f32⟩
  | 83 => ⟨S4x128x128, .i1⟩
  | 84 => ⟨S4x128x128, .f32⟩
  | 85 => ⟨S4x128x128, .f32⟩
  | 86 => ⟨S_, .f32⟩
  | 87 => ⟨S4x128x128, .f32⟩
  | 88 => ⟨S4x16x128x128, .f32⟩
  | 89 => ⟨S16x128x4x128, .f32⟩
  | 90 => ⟨S128x4, .f32⟩
  | 91 => ⟨S1x128x4x1, .f32⟩
  | 92 => ⟨S16x128x4x128, .f32⟩
  | 93 => ⟨S16x128x4x128, .f32⟩
  | 94 => ⟨S2048x512, .f32⟩
  | 95 => ⟨S_, .f32⟩
  | 96 => ⟨S2048, .f32⟩
  | 97 => ⟨S2048x1, .f32⟩
  | 98 => ⟨S_, .f32⟩
  | 99 => ⟨S2048x1, .f32⟩
  | 100 => ⟨S2048x1, .f32⟩
  | 101 => ⟨S2048x512, .f32⟩
  | 102 => ⟨S2048x512, .f32⟩
  | 103 => ⟨S2048x512, .f32⟩
  | 104 => ⟨S_, .f32⟩
  | 105 => ⟨S2048x512, .f32⟩
  | 106 => ⟨S2048x512, .f32⟩
  | 107 => ⟨S_, .f32⟩
  | 108 => ⟨S2048, .f32⟩
  | 109 => ⟨S2048x1, .f32⟩
  | 110 => ⟨S_, .f32⟩
  | 111 => ⟨S2048x1, .f32⟩
  | 112 => ⟨S2048x1, .f32⟩
  | 113 => ⟨S2048x512, .f32⟩
  | 114 => ⟨S2048x512, .f32⟩
  | 115 => ⟨S_, .f32⟩
  | 116 => ⟨S2048x1, .f32⟩
  | 117 => ⟨S2048x1, .f32⟩
  | 118 => ⟨S2048x1, .f32⟩
  | 119 => ⟨S2048x1, .f32⟩
  | 120 => ⟨S_, .f32⟩
  | 121 => ⟨S2048x1, .f32⟩
  | 122 => ⟨S2048x1, .f32⟩
  | 123 => ⟨S2048x512, .f32⟩
  | 124 => ⟨S2048x512, .f32⟩
  | 125 => ⟨S2048x512, .f32⟩
  | 126 => ⟨S2048x512, .f32⟩
  | 127 => ⟨S2048x512, .f32⟩
  | _ => ⟨S2048x1024, .f32⟩

abbrev hbmTy0_1 (i : Nat) : BufTy := match i % 128 with
  | 0 => ⟨S2048x512, .f32⟩
  | 1 => ⟨S2048x512, .f32⟩
  | 2 => ⟨S2048x512, .f32⟩
  | 3 => ⟨S_, .f32⟩
  | 4 => ⟨S2048x512, .f32⟩
  | 5 => ⟨S2048x512, .f32⟩
  | 6 => ⟨S_, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S2048x512, .f32⟩
  | 13 => ⟨S2048x512, .f32⟩
  | 14 => ⟨S2048x512, .f32⟩
  | 15 => ⟨S2048x1024, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S_, .f32⟩
  | 25 => ⟨S512, .f32⟩
  | 26 => ⟨S1x512, .f32⟩
  | 27 => ⟨S2048x512, .f32⟩
  | 28 => ⟨S_, .f32⟩
  | 29 => ⟨S512, .f32⟩
  | 30 => ⟨S1x512, .f32⟩
  | 31 => ⟨S2048x512, .f32⟩
  | 32 => ⟨S2048x512, .f32⟩
  | 33 => ⟨S2048x512, .f32⟩
  | 34 => ⟨S_, .f32⟩
  | 35 => ⟨S2048, .f32⟩
  | 36 => ⟨S2048x1, .f32⟩
  | 37 => ⟨S2048x512, .f32⟩
  | 38 => ⟨S2048x512, .f32⟩
  | 39 => ⟨S2048x1, .f32⟩
  | 40 => ⟨S2048x512, .f32⟩
  | 41 => ⟨S_, .f32⟩
  | 42 => ⟨S2048, .f32⟩
  | 43 => ⟨S2048x1, .f32⟩
  | 44 => ⟨S_, .f32⟩
  | 45 => ⟨S2048x1, .f32⟩
  | 46 => ⟨S2048x1, .f32⟩
  | 47 => ⟨S_, .f32⟩
  | 48 => ⟨S2048, .f32⟩
  | 49 => ⟨S2048x512, .f32⟩
  | 50 => ⟨S2048x512, .f32⟩
  | 51 => ⟨S2048x512, .f32⟩
  | 52 => ⟨S_, .f32⟩
  | 53 => ⟨S2048, .f32⟩
  | 54 => ⟨S2048x1, .f32⟩
  | 55 => ⟨S2048x512, .f32⟩
  | 56 => ⟨S2048x1, .f32⟩
  | 57 => ⟨S_, .f32⟩
  | 58 => ⟨S2048x1, .f32⟩
  | 59 => ⟨S2048x1, .f32⟩
  | 60 => ⟨S_, .f32⟩
  | 61 => ⟨S2048, .f32⟩
  | 62 => ⟨S2048x512, .f32⟩
  | 63 => ⟨S2048x512, .f32⟩
  | 64 => ⟨S16x128x4x128, .f32⟩
  | 65 => ⟨S_, .f32⟩
  | 66 => ⟨S128x4, .f32⟩
  | 67 => ⟨S1x128x4x1, .f32⟩
  | 68 => ⟨S_, .f32⟩
  | 69 => ⟨S128x4, .f32⟩
  | 70 => ⟨S4x128, .f32⟩
  | 71 => ⟨S4x16x128x128, .f32⟩
  | 72 => ⟨S4x128x128, .f32⟩
  | 73 => ⟨S4x16x128x128, .f32⟩
  | 74 => ⟨S16x128x4x128, .f32⟩
  | 75 => ⟨S_, .f32⟩
  | 76 => ⟨S4x128x128, .f32⟩
  | 77 => ⟨S4x128x128, .f32⟩
  | 78 => ⟨S2048x512, .f32⟩
  | 79 => ⟨S_, .f32⟩
  | 80 => ⟨S512, .f32⟩
  | 81 => ⟨S1x512, .f32⟩
  | 82 => ⟨S2048x512, .f32⟩
  | 83 => ⟨S_, .f32⟩
  | 84 => ⟨S512, .f32⟩
  | 85 => ⟨S1x512, .f32⟩
  | 86 => ⟨S2048x512, .f32⟩
  | 87 => ⟨S2048x512, .f32⟩
  | 88 => ⟨S2048x512, .f32⟩
  | 89 => ⟨S_, .f32⟩
  | 90 => ⟨S2048, .f32⟩
  | 91 => ⟨S2048x1, .f32⟩
  | 92 => ⟨S2048x512, .f32⟩
  | 93 => ⟨S2048x512, .f32⟩
  | 94 => ⟨S2048x1, .f32⟩
  | 95 => ⟨S2048x512, .f32⟩
  | 96 => ⟨S_, .f32⟩
  | 97 => ⟨S2048, .f32⟩
  | 98 => ⟨S2048x1, .f32⟩
  | 99 => ⟨S_, .f32⟩
  | 100 => ⟨S2048x1, .f32⟩
  | 101 => ⟨S2048x1, .f32⟩
  | 102 => ⟨S_, .f32⟩
  | 103 => ⟨S2048, .f32⟩
  | 104 => ⟨S2048x512, .f32⟩
  | 105 => ⟨S2048x512, .f32⟩
  | 106 => ⟨S2048x512, .f32⟩
  | 107 => ⟨S_, .f32⟩
  | 108 => ⟨S2048, .f32⟩
  | 109 => ⟨S2048x1, .f32⟩
  | 110 => ⟨S2048x512, .f32⟩
  | 111 => ⟨S2048x1, .f32⟩
  | 112 => ⟨S_, .f32⟩
  | 113 => ⟨S2048x1, .f32⟩
  | 114 => ⟨S2048x1, .f32⟩
  | 115 => ⟨S_, .f32⟩
  | 116 => ⟨S2048, .f32⟩
  | 117 => ⟨S2048x512, .f32⟩
  | 118 => ⟨S2048x512, .f32⟩
  | 119 => ⟨S_, .f32⟩
  | 120 => ⟨S2048x1024, .f32⟩
  | 121 => ⟨S_, .f32⟩
  | 122 => ⟨S2048x1024, .f32⟩
  | 123 => ⟨S2048x1024, .f32⟩
  | 124 => ⟨S2048x1024, .f32⟩
  | 125 => ⟨S2048x1024, .f32⟩
  | 126 => ⟨S_, .f32⟩
  | 127 => ⟨S2048x1024, .f32⟩
  | _ => ⟨S2048x1024, .f32⟩

abbrev hbmTy0_2 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S2048x1024, .f32⟩
  | 6 => ⟨S_, .f32⟩
  | 7 => ⟨S2048x1024, .f32⟩
  | 8 => ⟨S2048x1024, .f32⟩
  | 9 => ⟨S2048x1024, .f32⟩
  | 10 => ⟨S2048x1024, .f32⟩
  | 11 => ⟨S2048x1024, .bf16⟩
  | 12 => ⟨S4x128x1, .f32⟩
  | 13 => ⟨S4x128x128, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_call0_v0 : Ref sig .tc := ⟨.hbm, 82, rfl⟩
abbrev main_v58_1 : Ref sig .tc := ⟨.hbm, 83, rfl⟩
abbrev main_call0_v2 : Ref sig .tc := ⟨.hbm, 84, rfl⟩
abbrev main_v58_0 : Ref sig .tc := ⟨.hbm, 85, rfl⟩
abbrev main_call0_cst : Ref sig .tc := ⟨.hbm, 86, rfl⟩
abbrev main_v58_2 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_cst_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_19 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_20 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call1_v0 : Ref sig .tc := ⟨.hbm, 129, rfl⟩
abbrev main_call1_v1 : Ref sig .tc := ⟨.hbm, 130, rfl⟩
abbrev main_call1_cst : Ref sig .tc := ⟨.hbm, 131, rfl⟩
abbrev main_call1_v2 : Ref sig .tc := ⟨.hbm, 132, rfl⟩
abbrev main_call1_v3 : Ref sig .tc := ⟨.hbm, 133, rfl⟩
abbrev main_call1_cst_0 : Ref sig .tc := ⟨.hbm, 134, rfl⟩
abbrev main_call1_v4 : Ref sig .tc := ⟨.hbm, 135, rfl⟩
abbrev main_v93_2 : Ref sig .tc := ⟨.hbm, 136, rfl⟩
abbrev main_call1_cst_1 : Ref sig .tc := ⟨.hbm, 137, rfl⟩
abbrev main_call1_v6 : Ref sig .tc := ⟨.hbm, 138, rfl⟩
abbrev main_call1_v7 : Ref sig .tc := ⟨.hbm, 139, rfl⟩
abbrev main_v93_1 : Ref sig .tc := ⟨.hbm, 140, rfl⟩
abbrev main_v93_0 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v100 : Ref sig .tc := ⟨.hbm, 151, rfl⟩
abbrev main_cst_21 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_22 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_23 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_24 : Ref sig .tc := ⟨.hbm, 169, rfl⟩
abbrev main_v115 : Ref sig .tc := ⟨.hbm, 170, rfl⟩
abbrev main_v116 : Ref sig .tc := ⟨.hbm, 171, rfl⟩
abbrev main_cst_25 : Ref sig .tc := ⟨.hbm, 172, rfl⟩
abbrev main_v117 : Ref sig .tc := ⟨.hbm, 173, rfl⟩
abbrev main_v118 : Ref sig .tc := ⟨.hbm, 174, rfl⟩
abbrev main_cst_26 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_27 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_28 : Ref sig .tc := ⟨.hbm, 185, rfl⟩
abbrev main_v127 : Ref sig .tc := ⟨.hbm, 186, rfl⟩
abbrev main_v128 : Ref sig .tc := ⟨.hbm, 187, rfl⟩
abbrev main_cst_29 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_30 : Ref sig .tc := ⟨.hbm, 193, rfl⟩
abbrev main_v133 : Ref sig .tc := ⟨.hbm, 194, rfl⟩
abbrev main_v134 : Ref sig .tc := ⟨.hbm, 195, rfl⟩
abbrev main_cst_31 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_call3_cst : Ref sig .tc := ⟨.hbm, 203, rfl⟩
abbrev main_call3_v0 : Ref sig .tc := ⟨.hbm, 204, rfl⟩
abbrev main_v141 : Ref sig .tc := ⟨.hbm, 205, rfl⟩
abbrev main_v142 : Ref sig .tc := ⟨.hbm, 206, rfl⟩
abbrev main_cst_32 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_cst_33 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_cst_34 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_cst_35 : Ref sig .tc := ⟨.hbm, 224, rfl⟩
abbrev main_v157 : Ref sig .tc := ⟨.hbm, 225, rfl⟩
abbrev main_v158 : Ref sig .tc := ⟨.hbm, 226, rfl⟩
abbrev main_cst_36 : Ref sig .tc := ⟨.hbm, 227, rfl⟩
abbrev main_v159 : Ref sig .tc := ⟨.hbm, 228, rfl⟩
abbrev main_v160 : Ref sig .tc := ⟨.hbm, 229, rfl⟩
abbrev main_cst_37 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_cst_38 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_39 : Ref sig .tc := ⟨.hbm, 240, rfl⟩
abbrev main_v169 : Ref sig .tc := ⟨.hbm, 241, rfl⟩
abbrev main_v170 : Ref sig .tc := ⟨.hbm, 242, rfl⟩
abbrev main_cst_40 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_cst_41 : Ref sig .tc := ⟨.hbm, 247, rfl⟩
abbrev main_v174 : Ref sig .tc := ⟨.hbm, 248, rfl⟩
abbrev main_cst_42 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_cst_43 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_cst_44 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_cst_45 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩

abbrev nD : Nat := 1
abbrev τ : Topo := Topo.v7x

variable {F : FTy → Type} [FloatOps F]
-- ==== KernelFfn.lean ====
abbrev S2048x1024 : Shape := ⟨2, ![2048, 1024]⟩
abbrev S1024x2816 : Shape := ⟨2, ![1024, 2816]⟩
abbrev S2816x1024 : Shape := ⟨2, ![2816, 1024]⟩
abbrev S1024x8x352 : Shape := ⟨3, ![1024, 8, 352]⟩
abbrev S_ : Shape := ⟨0, ![]⟩
abbrev S1024x8x384 : Shape := ⟨3, ![1024, 8, 384]⟩
abbrev S1024x3072 : Shape := ⟨2, ![1024, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S2048x3072 : Shape := ⟨2, ![2048, 3072]⟩
abbrev S2048x512 : Shape := ⟨2, ![2048, 512]⟩
abbrev S1024x512 : Shape := ⟨2, ![1024, 512]⟩
abbrev S512x1024 : Shape := ⟨2, ![512, 1024]⟩
abbrev S2 : Shape := ⟨1, ![2]⟩
abbrev S1 : Shape := ⟨1, ![1]⟩
abbrev S256x1024 : Shape := ⟨2, ![256, 1024]⟩
abbrev S256x512 : Shape := ⟨2, ![256, 512]⟩

abbrev nBuf : Space → Nat
  | .hbm => 44
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x8x352, .f32⟩
  | .hbm, ⟨6, _⟩ => ⟨S_, .i32⟩
  | .hbm, ⟨7, _⟩ => ⟨S_, .f32⟩
  | .hbm, ⟨8, _⟩ => ⟨S1024x8x384, .f32⟩
  | .hbm, ⟨9, _⟩ => ⟨S1024x3072, .f32⟩
  | .hbm, ⟨10, _⟩ => ⟨S1024x8x352, .f32⟩
  | .hbm, ⟨11, _⟩ => ⟨S_, .i32⟩
  | .hbm, ⟨12, _⟩ => ⟨S_, .f32⟩
  | .hbm, ⟨13, _⟩ => ⟨S1024x8x384, .f32⟩
  | .hbm, ⟨14, _⟩ => ⟨S1024x3072, .f32⟩
  | .hbm, ⟨15, _⟩ => ⟨S8x352x1024, .f32⟩
  | .hbm, ⟨16, _⟩ => ⟨S_, .i32⟩
  | .hbm, ⟨17, _⟩ => ⟨S_, .f32⟩
  | .hbm, ⟨18, _⟩ => ⟨S8x384x1024, .f32⟩
  | .hbm, ⟨19, _⟩ => ⟨S3072x1024, .f32⟩
  | .hbm, ⟨20, _⟩ => ⟨S2048x3072, .f32⟩
  | .hbm, ⟨21, _⟩ => ⟨S2048x3072, .f32⟩
  | .hbm, ⟨22, _⟩ => ⟨S2048x1024, .bf16⟩
  | .hbm, ⟨23, _⟩ => ⟨S2048x1024, .bf16⟩
  | .hbm, ⟨24, _⟩ => ⟨S2048x3072, .bf16⟩
  | .hbm, ⟨25, _⟩ => ⟨S2048x3072, .bf16⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S_, .f32⟩
  | .hbm, ⟨32, _⟩ => ⟨S2048x3072, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S2048x3072, .bf16⟩
  | .hbm, ⟨37, _⟩ => ⟨S1024x3072, .bf16⟩
  | .hbm, ⟨38, _⟩ => ⟨S1024x3072, .bf16⟩
  | .hbm, ⟨39, _⟩ => ⟨S3072x1024, .bf16⟩
  | .hbm, ⟨40, _⟩ => ⟨S2048x1024, .f32⟩
  | .hbm, ⟨41, _⟩ => ⟨S1024x3072, .bf16⟩
  | .hbm, ⟨42, _⟩ => ⟨S1024x3072, .bf16⟩
  | .hbm, ⟨43, _⟩ => ⟨S3072x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S2048x1024, .f32⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S512x1024, .bf16⟩
  | .local _ .vmem, ⟨18, _⟩ => ⟨S512x1024, .bf16⟩
  | .local _ .vmem, ⟨19, _⟩ => ⟨S2048x1024, .bf16⟩
  | .local _ .vmem, ⟨20, _⟩ => ⟨S2048x1024, .bf16⟩
  | .local _ .vmem, ⟨21, _⟩ => ⟨S2048x512, .bf16⟩
  | .local _ .vmem, ⟨22, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call3_v0 : Ref sig .tc := ⟨.hbm, 26, rfl⟩
abbrev main_call3_v1 : Ref sig .tc := ⟨.hbm, 27, rfl⟩
abbrev main_call3_cst : Ref sig .tc := ⟨.hbm, 28, rfl⟩
abbrev main_call3_v2 : Ref sig .tc := ⟨.hbm, 29, rfl⟩
abbrev main_call3_v3 : Ref sig .tc := ⟨.hbm, 30, rfl⟩
abbrev main_call3_cst_0 : Ref sig .tc := ⟨.hbm, 31, rfl⟩
abbrev main_call3_v4 : Ref sig .tc := ⟨.hbm, 32, rfl⟩
abbrev main_call3_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v21_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![6], ![false]⟩

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFfnIdeal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S1024x8x352 : Shape := ⟨3, ![1024, 8, 352]⟩
abbrev S1024x8x384 : Shape := ⟨3, ![1024, 8, 384]⟩
abbrev S1024x3072 : Shape := ⟨2, ![1024, 3072]⟩
abbrev S8x352x1024 : Shape := ⟨3, ![8, 352, 1024]⟩
abbrev S8x384x1024 : Shape := ⟨3, ![8, 384, 1024]⟩
abbrev S3072x1024 : Shape := ⟨2, ![3072, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S1024x2816, .f32⟩
  | .hbm, ⟨23, _⟩ => ⟨S2816x1024, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2816x1024, .f32⟩
  | .hbm, ⟨28, _⟩ => ⟨S1024x2816, .f32⟩
  | .hbm, ⟨29, _⟩ => ⟨S2048x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2816x1024, .f32⟩
  | .hbm, ⟨35, _⟩ => ⟨S1024x2816, .f32⟩
  | .hbm, ⟨36, _⟩ => ⟨S2048x1024, .f32⟩
  | .hbm, ⟨37, _⟩ => ⟨S2048x1024, .f32⟩
  | .hbm, ⟨38, _⟩ => ⟨S1024x8x352, .f32⟩
  | .hbm, ⟨39, _⟩ => ⟨S_, .i32⟩
  | .hbm, ⟨40, _⟩ => ⟨S_, .f32⟩
  | .hbm, ⟨41, _⟩ => ⟨S1024x8x384, .f32⟩
  | .hbm, ⟨42, _⟩ => ⟨S1024x3072, .f32⟩
  | .hbm, ⟨43, _⟩ => ⟨S1024x3072, .bf16⟩
  | .hbm, ⟨44, _⟩ => ⟨S1024x8x352, .f32⟩
  | .hbm, ⟨45, _⟩ => ⟨S_, .i32⟩
  | .hbm, ⟨46, _⟩ => ⟨S_, .f32⟩
  | .hbm, ⟨47, _⟩ => ⟨S1024x8x384, .f32⟩
  | .hbm, ⟨48, _⟩ => ⟨S1024x3072, .f32⟩
  | .hbm, ⟨49, _⟩ => ⟨S1024x3072, .bf16⟩
  | .hbm, ⟨50, _⟩ => ⟨S8x352x1024, .f32⟩
  | .hbm, ⟨51, _⟩ => ⟨S_, .i32⟩
  | .hbm, ⟨52, _⟩ => ⟨S_, .f32⟩
  | .hbm, ⟨53, _⟩ => ⟨S8x384x1024, .f32⟩
  | .hbm, ⟨54, _⟩ => ⟨S3072x1024, .f32⟩
  | .hbm, ⟨55, _⟩ => ⟨S3072x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_call2_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_0 : Ref sig .tc := ⟨.hbm, 45, rfl⟩
abbrev main_call3_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_1 : Ref sig .tc := ⟨.hbm, 51, rfl⟩
abbrev main_call4_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== KernelPool.lean ====
abbrev S2048x1024 : Shape := ⟨2, ![2048, 1024]⟩
abbrev S2048x512 : Shape := ⟨2, ![2048, 512]⟩
abbrev S4x128x128 : Shape := ⟨3, ![4, 128, 128]⟩
abbrev S1x512 : Shape := ⟨2, ![1, 512]⟩
abbrev S2048x4x128 : Shape := ⟨3, ![2048, 4, 128]⟩
abbrev S2048x1x128 : Shape := ⟨3, ![2048, 1, 128]⟩
abbrev S2048x128 : Shape := ⟨2, ![2048, 128]⟩
abbrev S_ : Shape := ⟨0, ![]⟩
abbrev S1x128 : Shape := ⟨2, ![1, 128]⟩
abbrev S2049x128 : Shape := ⟨2, ![2049, 128]⟩
abbrev S2047x128 : Shape := ⟨2, ![2047, 128]⟩
abbrev S2048 : Shape := ⟨1, ![2048]⟩
abbrev S2048x1 : Shape := ⟨2, ![2048, 1]⟩
abbrev S3x128 : Shape := ⟨2, ![3, 128]⟩
abbrev S2045x128 : Shape := ⟨2, ![2045, 128]⟩
abbrev S7x128 : Shape := ⟨2, ![7, 128]⟩
abbrev S2041x128 : Shape := ⟨2, ![2041, 128]⟩
abbrev S15x128 : Shape := ⟨2, ![15, 128]⟩
abbrev S2033x128 : Shape := ⟨2, ![2033, 128]⟩
abbrev S2064x128 : Shape := ⟨2, ![2064, 128]⟩
abbrev S16x128 : Shape := ⟨2, ![16, 128]⟩
abbrev S1x128x128 : Shape := ⟨3, ![1, 128, 128]⟩
abbrev S128x128 : Shape := ⟨2, ![128, 128]⟩
abbrev S256x128 : Shape := ⟨2, ![256, 128]⟩
abbrev S128 : Shape := ⟨1, ![128]⟩
abbrev S256x1 : Shape := ⟨2, ![256, 1]⟩

abbrev nBuf : Space → Nat
  | .hbm => 127
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S4x128x128, .f32⟩
  | .hbm, ⟨3, _⟩ => ⟨S1x512, .f32⟩
  | .hbm, ⟨4, _⟩ => ⟨S2048x4x128, .f32⟩
  | .hbm, ⟨5, _⟩ => ⟨S2048x1x128, .f32⟩
  | .hbm, ⟨6, _⟩ => ⟨S2048x128, .f32⟩
  | .hbm, ⟨7, _⟩ => ⟨S_, .f32⟩
  | .hbm, ⟨8, _⟩ => ⟨S_, .f32⟩
  | .hbm, ⟨9, _⟩ => ⟨S2048x128, .f32⟩
  | .hbm, ⟨10, _⟩ => ⟨S_, .f32⟩
  | .hbm, ⟨11, _⟩ => ⟨S1x128, .f32⟩
  | .hbm, ⟨12, _⟩ => ⟨S2049x128, .f32⟩
  | .hbm, ⟨13, _⟩ => ⟨S2048x128, .f32⟩
  | .hbm, ⟨14, _⟩ => ⟨S_, .f32⟩
  | .hbm, ⟨15, _⟩ => ⟨S1x128, .f32⟩
  | .hbm, ⟨16, _⟩ => ⟨S2047x128, .f32⟩
  | .hbm, ⟨17, _⟩ => ⟨S2048x128, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S2048x1, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S2048x1x128, .f32⟩
  | .hbm, ⟨31, _⟩ => ⟨S2048x128, .f32⟩
  | .hbm, ⟨32, _⟩ => ⟨S2048x128, .f32⟩
  | .hbm, ⟨33, _⟩ => ⟨S2048x1x128, .f32⟩
  | .hbm, ⟨34, _⟩ => ⟨S2048x128, .f32⟩
  | .hbm, ⟨35, _⟩ => ⟨S_, .f32⟩
  | .hbm, ⟨36, _⟩ => ⟨S_, .f32⟩
  | .hbm, ⟨37, _⟩ => ⟨S2048x128, .f32⟩
  | .hbm, ⟨38, _⟩ => ⟨S_, .f32⟩
  | .hbm, ⟨39, _⟩ => ⟨S1x128, .f32⟩
  | .hbm, ⟨40, _⟩ => ⟨S2049x128, .f32⟩
  | .hbm, ⟨41, _⟩ => ⟨S2048x128, .f32⟩
  | .hbm, ⟨42, _⟩ => ⟨S_, .f32⟩
  | .hbm, ⟨43, _⟩ => ⟨S3x128, .f32⟩
  | .hbm, ⟨44, _⟩ => ⟨S2045x128, .f32⟩
  | .hbm, ⟨45, _⟩ => ⟨S2048x128, .f32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .f32⟩
  | .hbm, ⟨54, _⟩ => ⟨S2048x1, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S2048x1x128, .f32⟩
  | .hbm, ⟨59, _⟩ => ⟨S2048x128, .f32⟩
  | .hbm, ⟨60, _⟩ => ⟨S2048x128, .f32⟩
  | .hbm, ⟨61, _⟩ => ⟨S2048x1x128, .f32⟩
  | .hbm, ⟨62, _⟩ => ⟨S2048x128, .f32⟩
  | .hbm, ⟨63, _⟩ => ⟨S_, .f32⟩
  | .hbm, ⟨64, _⟩ => ⟨S_, .f32⟩
  | .hbm, ⟨65, _⟩ => ⟨S2048x128, .f32⟩
  | .hbm, ⟨66, _⟩ => ⟨S_, .f32⟩
  | .hbm, ⟨67, _⟩ => ⟨S1x128, .f32⟩
  | .hbm, ⟨68, _⟩ => ⟨S2049x128, .f32⟩
  | .hbm, ⟨69, _⟩ => ⟨S2048x128, .f32⟩
  | .hbm, ⟨70, _⟩ => ⟨S_, .f32⟩
  | .hbm, ⟨71, _⟩ => ⟨S7x128, .f32⟩
  | .hbm, ⟨72, _⟩ => ⟨S2041x128, .f32⟩
  | .hbm, ⟨73, _⟩ => ⟨S2048x128, .f32⟩
  | .hbm, ⟨74, _⟩ => ⟨S2048, .i32⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S_, .i32⟩
  | .hbm, ⟨79, _⟩ => ⟨S2048, .i32⟩
  | .hbm, ⟨80, _⟩ => ⟨S2048, .i32⟩
  | .hbm, ⟨81, _⟩ => ⟨S2048, .f32⟩
  | .hbm, ⟨82, _⟩ => ⟨S2048x1, .f32⟩
  | .hbm, ⟨83, _⟩ => ⟨S2048x128, .f32⟩
  | .hbm, ⟨84, _⟩ => ⟨S2048x128, .f32⟩
  | .hbm, ⟨85, _⟩ => ⟨S2048x128, .f32⟩
  | .hbm, ⟨86, _⟩ => ⟨S2048x1x128, .f32⟩
  | .hbm, ⟨87, _⟩ => ⟨S2048x128, .f32⟩
  | .hbm, ⟨88, _⟩ => ⟨S2048x128, .f32⟩
  | .hbm, ⟨89, _⟩ => ⟨S2048x1x128, .f32⟩
  | .hbm, ⟨90, _⟩ => ⟨S2048x128, .f32⟩
  | .hbm, ⟨91, _⟩ => ⟨S_, .f32⟩
  | .hbm, ⟨92, _⟩ => ⟨S_, .f32⟩
  | .hbm, ⟨93, _⟩ => ⟨S2048x128, .f32⟩
  | .hbm, ⟨94, _⟩ => ⟨S_, .f32⟩
  | .hbm, ⟨95, _⟩ => ⟨S1x128, .f32⟩
  | .hbm, ⟨96, _⟩ => ⟨S2049x128, .f32⟩
  | .hbm, ⟨97, _⟩ => ⟨S2048x128, .f32⟩
  | .hbm, ⟨98, _⟩ => ⟨S_, .f32⟩
  | .hbm, ⟨99, _⟩ => ⟨S15x128, .f32⟩
  | .hbm, ⟨100, _⟩ => ⟨S2033x128, .f32⟩
  | .hbm, ⟨101, _⟩ => ⟨S2048x128, .f32⟩
  | .hbm, ⟨102, _⟩ => ⟨S2048, .i32⟩
  | .hbm, ⟨103, _⟩ => ⟨S_, .i32⟩
  | .hbm, ⟨104, _⟩ => ⟨S2048, .i32⟩
  | .hbm, ⟨105, _⟩ => ⟨S2048, .i32⟩
  | .hbm, ⟨106, _⟩ => ⟨S_, .i32⟩
  | .hbm, ⟨107, _⟩ => ⟨S2048, .i32⟩
  | .hbm, ⟨108, _⟩ => ⟨S2048, .i32⟩
  | .hbm, ⟨109, _⟩ => ⟨S2048, .f32⟩
  | .hbm, ⟨110, _⟩ => ⟨S2048x1, .f32⟩
  | .hbm, ⟨111, _⟩ => ⟨S2048x128, .f32⟩
  | .hbm, ⟨112, _⟩ => ⟨S2048x128, .f32⟩
  | .hbm, ⟨113, _⟩ => ⟨S2048x128, .f32⟩
  | .hbm, ⟨114, _⟩ => ⟨S2048x1x128, .f32⟩
  | .hbm, ⟨115, _⟩ => ⟨S2048x128, .f32⟩
  | .hbm, ⟨116, _⟩ => ⟨S2048x128, .f32⟩
  | .hbm, ⟨117, _⟩ => ⟨S2048x1x128, .f32⟩
  | .hbm, ⟨118, _⟩ => ⟨S2048x1x128, .f32⟩
  | .hbm, ⟨119, _⟩ => ⟨S2048x1x128, .f32⟩
  | .hbm, ⟨120, _⟩ => ⟨S2048x1x128, .f32⟩
  | .hbm, ⟨121, _⟩ => ⟨S2048x4x128, .f32⟩
  | .hbm, ⟨122, _⟩ => ⟨S2048x512, .f32⟩
  | .hbm, ⟨123, _⟩ => ⟨S2048x512, .bf16⟩
  | .hbm, ⟨124, _⟩ => ⟨S2048x512, .bf16⟩
  | .hbm, ⟨125, _⟩ => ⟨S4x128x128, .f32⟩
  | .hbm, ⟨126, _⟩ => ⟨S1x512, .f32⟩
  | .local _ .vmem, ⟨0, _⟩ => ⟨S2048x512, .f32⟩
  | .local _ .vmem, ⟨1, _⟩ => ⟨S2048x512, .bf16⟩
  | .local _ .vmem, ⟨2, _⟩ => ⟨S4x128x128, .f32⟩
  | .local _ .vmem, ⟨3, _⟩ => ⟨S1x512, .f32⟩
  | .local _ .vmem, ⟨4, _⟩ => ⟨S2048x512, .bf16⟩
  | .local _ .vmem, ⟨5, _⟩ => ⟨S4x128x128, .f32⟩
  | .local _ .vmem, ⟨6, _⟩ => ⟨S1x512, .f32⟩
  | .local _ .vmem, ⟨7, _⟩ => ⟨S2064x128, .f32⟩
  | .local _ .vmem, ⟨8, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_call0_cst : Ref sig .tc := ⟨.hbm, 35, rfl⟩
abbrev main_call1_call0_v0 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call2_call0_cst : Ref sig .tc := ⟨.hbm, 63, rfl⟩
abbrev main_call2_call0_v0 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_8 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call3_call0_cst : Ref sig .tc := ⟨.hbm, 91, rfl⟩
abbrev main_call3_call0_v0 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_12 : Ref sig .tc := ⟨.hbm, 103, rfl⟩
abbrev main_v77 : Ref sig .tc := ⟨.hbm, 104, rfl⟩
abbrev main_v78 : Ref sig .tc := ⟨.hbm, 105, rfl⟩
abbrev main_c_13 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96_0 : Ref sig .tc := ⟨.hbm, 124, rfl⟩
abbrev main_v96_1 : Ref sig .tc := ⟨.hbm, 125, rfl⟩
abbrev main_v96_2 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePoolIdeal.lean ====
abbrev S2048x1024 : Shape := ⟨2, ![2048, 1024]⟩
abbrev S2048x512 : Shape := ⟨2, ![2048, 512]⟩
abbrev S4x128x128 : Shape := ⟨3, ![4, 128, 128]⟩
abbrev S1x512 : Shape := ⟨2, ![1, 512]⟩
abbrev S2048x4x128 : Shape := ⟨3, ![2048, 4, 128]⟩
abbrev S2048x1x128 : Shape := ⟨3, ![2048, 1, 128]⟩
abbrev S2048x128 : Shape := ⟨2, ![2048, 128]⟩
abbrev S_ : Shape := ⟨0, ![]⟩
abbrev S1x128 : Shape := ⟨2, ![1, 128]⟩
abbrev S2049x128 : Shape := ⟨2, ![2049, 128]⟩
abbrev S2047x128 : Shape := ⟨2, ![2047, 128]⟩
abbrev S2048 : Shape := ⟨1, ![2048]⟩
abbrev S2048x1 : Shape := ⟨2, ![2048, 1]⟩
abbrev S3x128 : Shape := ⟨2, ![3, 128]⟩
abbrev S2045x128 : Shape := ⟨2, ![2045, 128]⟩
abbrev S7x128 : Shape := ⟨2, ![7, 128]⟩
abbrev S2041x128 : Shape := ⟨2, ![2041, 128]⟩
abbrev S15x128 : Shape := ⟨2, ![15, 128]⟩
abbrev S2033x128 : Shape := ⟨2, ![2033, 128]⟩
abbrev S4x128x2048 : Shape := ⟨3, ![4, 128, 2048]⟩
abbrev S512 : Shape := ⟨1, ![512]⟩
abbrev S4x2048x128 : Shape := ⟨3, ![4, 2048, 128]⟩

abbrev nBuf : Space → Nat
  | .hbm => 261
  | .vmem => 0
  | .smem => 0
  | _ => 0

abbrev hbmTy0_0 (i : Nat) : BufTy := match i % 128 with
  | 0 => ⟨S2048x1024, .f32⟩
  | 1 => ⟨S2048x512, .f32⟩
  | 2 => ⟨S4x128x128, .f32⟩
  | 3 => ⟨S1x512, .f32⟩
  | 4 => ⟨S2048x4x128, .f32⟩
  | 5 => ⟨S2048x1x128, .f32⟩
  | 6 => ⟨S2048x128, .f32⟩
  | 7 => ⟨S_, .f32⟩
  | 8 => ⟨S_, .f32⟩
  | 9 => ⟨S2048x128, .f32⟩
  | 10 => ⟨S_, .f32⟩
  | 11 => ⟨S1x128, .f32⟩
  | 12 => ⟨S2049x128, .f32⟩
  | 13 => ⟨S_, .f32⟩
  | 14 => ⟨S1x128, .f32⟩
  | 15 => ⟨S2048x128, .f32⟩
  | 16 => ⟨S_, .f32⟩
  | 17 => ⟨S1x128, .f32⟩
  | 18 => ⟨S2047x128, .f32⟩
  | 19 => ⟨S2048x128, .f32⟩
  | 20 => ⟨S_, .f32⟩
  | 21 => ⟨S1x128, .f32⟩
  | 22 => ⟨S2048, .i32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S2048, .f32⟩
  | 30 => ⟨S2048x1, .f32⟩
  | 31 => ⟨S2048x128, .f32⟩
  | 32 => ⟨S2048x128, .f32⟩
  | 33 => ⟨S2048x128, .f32⟩
  | 34 => ⟨S2048x1x128, .f32⟩
  | 35 => ⟨S2048x128, .f32⟩
  | 36 => ⟨S2048x128, .f32⟩
  | 37 => ⟨S2048x1x128, .f32⟩
  | 38 => ⟨S2048x128, .f32⟩
  | 39 => ⟨S_, .f32⟩
  | 40 => ⟨S_, .f32⟩
  | 41 => ⟨S2048x128, .f32⟩
  | 42 => ⟨S_, .f32⟩
  | 43 => ⟨S1x128, .f32⟩
  | 44 => ⟨S2049x128, .f32⟩
  | 45 => ⟨S_, .f32⟩
  | 46 => ⟨S1x128, .f32⟩
  | 47 => ⟨S2048x128, .f32⟩
  | 48 => ⟨S_, .f32⟩
  | 49 => ⟨S3x128, .f32⟩
  | 50 => ⟨S2045x128, .f32⟩
  | 51 => ⟨S2048x128, .f32⟩
  | 52 => ⟨S_, .f32⟩
  | 53 => ⟨S3x128, .f32⟩
  | 54 => ⟨S2048, .i32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S2048, .f32⟩
  | 62 => ⟨S2048x1, .f32⟩
  | 63 => ⟨S2048x128, .f32⟩
  | 64 => ⟨S2048x128, .f32⟩
  | 65 => ⟨S2048x128, .f32⟩
  | 66 => ⟨S2048x1x128, .f32⟩
  | 67 => ⟨S2048x128, .f32⟩
  | 68 => ⟨S2048x128, .f32⟩
  | 69 => ⟨S2048x1x128, .f32⟩
  | 70 => ⟨S2048x128, .f32⟩
  | 71 => ⟨S_, .f32⟩
  | 72 => ⟨S_, .f32⟩
  | 73 => ⟨S2048x128, .f32⟩
  | 74 => ⟨S_, .f32⟩
  | 75 => ⟨S1x128, .f32⟩
  | 76 => ⟨S2049x128, .f32⟩
  | 77 => ⟨S_, .f32⟩
  | 78 => ⟨S1x128, .f32⟩
  | 79 => ⟨S2048x128, .f32⟩
  | 80 => ⟨S_, .f32⟩
  | 81 => ⟨S7x128, .f32⟩
  | 82 => ⟨S2041x128, .f32⟩
  | 83 => ⟨S2048x128, .f32⟩
  | 84 => ⟨S_, .f32⟩
  | 85 => ⟨S7x128, .f32⟩
  | 86 => ⟨S2048, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S2048, .f32⟩
  | 94 => ⟨S2048x1, .f32⟩
  | 95 => ⟨S2048x128, .f32⟩
  | 96 => ⟨S2048x128, .f32⟩
  | 97 => ⟨S2048x128, .f32⟩
  | 98 => ⟨S2048x1x128, .f32⟩
  | 99 => ⟨S2048x128, .f32⟩
  | 100 => ⟨S2048x128, .f32⟩
  | 101 => ⟨S2048x1x128, .f32⟩
  | 102 => ⟨S2048x128, .f32⟩
  | 103 => ⟨S_, .f32⟩
  | 104 => ⟨S_, .f32⟩
  | 105 => ⟨S2048x128, .f32⟩
  | 106 => ⟨S_, .f32⟩
  | 107 => ⟨S1x128, .f32⟩
  | 108 => ⟨S2049x128, .f32⟩
  | 109 => ⟨S_, .f32⟩
  | 110 => ⟨S1x128, .f32⟩
  | 111 => ⟨S2048x128, .f32⟩
  | 112 => ⟨S_, .f32⟩
  | 113 => ⟨S15x128, .f32⟩
  | 114 => ⟨S2033x128, .f32⟩
  | 115 => ⟨S2048x128, .f32⟩
  | 116 => ⟨S_, .f32⟩
  | 117 => ⟨S15x128, .f32⟩
  | 118 => ⟨S2048, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i32⟩
  | 125 => ⟨S2048, .f32⟩
  | 126 => ⟨S2048x1, .f32⟩
  | 127 => ⟨S2048x128, .f32⟩
  | _ => ⟨S2048x1024, .f32⟩

abbrev hbmTy0_1 (i : Nat) : BufTy := match i % 128 with
  | 0 => ⟨S2048x128, .f32⟩
  | 1 => ⟨S2048x128, .f32⟩
  | 2 => ⟨S2048x1x128, .f32⟩
  | 3 => ⟨S2048x128, .f32⟩
  | 4 => ⟨S2048x128, .f32⟩
  | 5 => ⟨S2048x1x128, .f32⟩
  | 6 => ⟨S2048x1x128, .f32⟩
  | 7 => ⟨S2048x1x128, .f32⟩
  | 8 => ⟨S2048x1x128, .f32⟩
  | 9 => ⟨S2048x4x128, .f32⟩
  | 10 => ⟨S4x128x2048, .f32⟩
  | 11 => ⟨S2048x4x128, .f32⟩
  | 12 => ⟨S2048x512, .f32⟩
  | 13 => ⟨S2048x512, .f32⟩
  | 14 => ⟨S2048x512, .f32⟩
  | 15 => ⟨S2048x512, .f32⟩
  | 16 => ⟨S2048x512, .f32⟩
  | 17 => ⟨S_, .f32⟩
  | 18 => ⟨S512, .f32⟩
  | 19 => ⟨S1x512, .f32⟩
  | 20 => ⟨S2048x512, .f32⟩
  | 21 => ⟨S2048x512, .f32⟩
  | 22 => ⟨S2048x4x128, .f32⟩
  | 23 => ⟨S4x128x2048, .f32⟩
  | 24 => ⟨S4x2048x128, .f32⟩
  | 25 => ⟨S2048x4x128, .f32⟩
  | 26 => ⟨S4x128x128, .f32⟩
  | 27 => ⟨S4x128x128, .f32⟩
  | 28 => ⟨S2048x1x128, .f32⟩
  | 29 => ⟨S2048x128, .f32⟩
  | 30 => ⟨S2048x1x128, .f32⟩
  | 31 => ⟨S2048x128, .f32⟩
  | 32 => ⟨S2048x1x128, .f32⟩
  | 33 => ⟨S2048x128, .f32⟩
  | 34 => ⟨S2048x1x128, .f32⟩
  | 35 => ⟨S2048x128, .f32⟩
  | 36 => ⟨S2048x128, .f32⟩
  | 37 => ⟨S2048x1x128, .f32⟩
  | 38 => ⟨S_, .f32⟩
  | 39 => ⟨S2048x4x128, .f32⟩
  | 40 => ⟨S2048x128, .f32⟩
  | 41 => ⟨S2048x128, .f32⟩
  | 42 => ⟨S2048x128, .f32⟩
  | 43 => ⟨S15x128, .f32⟩
  | 44 => ⟨S2033x128, .f32⟩
  | 45 => ⟨S_, .f32⟩
  | 46 => ⟨S2049x128, .f32⟩
  | 47 => ⟨S_, .f32⟩
  | 48 => ⟨S2049x128, .f32⟩
  | 49 => ⟨S2049x128, .f32⟩
  | 50 => ⟨S1x128, .f32⟩
  | 51 => ⟨S2048x128, .f32⟩
  | 52 => ⟨S_, .f32⟩
  | 53 => ⟨S_, .f32⟩
  | 54 => ⟨S2048x128, .f32⟩
  | 55 => ⟨S2048x1x128, .f32⟩
  | 56 => ⟨S_, .f32⟩
  | 57 => ⟨S2048x4x128, .f32⟩
  | 58 => ⟨S2048x4x128, .f32⟩
  | 59 => ⟨S2048x128, .f32⟩
  | 60 => ⟨S2048x1x128, .f32⟩
  | 61 => ⟨S_, .f32⟩
  | 62 => ⟨S2048x4x128, .f32⟩
  | 63 => ⟨S2048x4x128, .f32⟩
  | 64 => ⟨S2048x128, .f32⟩
  | 65 => ⟨S2048x128, .f32⟩
  | 66 => ⟨S2048x128, .f32⟩
  | 67 => ⟨S7x128, .f32⟩
  | 68 => ⟨S2041x128, .f32⟩
  | 69 => ⟨S_, .f32⟩
  | 70 => ⟨S2049x128, .f32⟩
  | 71 => ⟨S_, .f32⟩
  | 72 => ⟨S2049x128, .f32⟩
  | 73 => ⟨S2049x128, .f32⟩
  | 74 => ⟨S1x128, .f32⟩
  | 75 => ⟨S2048x128, .f32⟩
  | 76 => ⟨S_, .f32⟩
  | 77 => ⟨S_, .f32⟩
  | 78 => ⟨S2048x128, .f32⟩
  | 79 => ⟨S2048x1x128, .f32⟩
  | 80 => ⟨S_, .f32⟩
  | 81 => ⟨S2048x4x128, .f32⟩
  | 82 => ⟨S2048x4x128, .f32⟩
  | 83 => ⟨S2048x128, .f32⟩
  | 84 => ⟨S2048x1x128, .f32⟩
  | 85 => ⟨S_, .f32⟩
  | 86 => ⟨S2048x4x128, .f32⟩
  | 87 => ⟨S2048x4x128, .f32⟩
  | 88 => ⟨S2048x128, .f32⟩
  | 89 => ⟨S2048x128, .f32⟩
  | 90 => ⟨S2048x128, .f32⟩
  | 91 => ⟨S3x128, .f32⟩
  | 92 => ⟨S2045x128, .f32⟩
  | 93 => ⟨S_, .f32⟩
  | 94 => ⟨S2049x128, .f32⟩
  | 95 => ⟨S_, .f32⟩
  | 96 => ⟨S2049x128, .f32⟩
  | 97 => ⟨S2049x128, .f32⟩
  | 98 => ⟨S1x128, .f32⟩
  | 99 => ⟨S2048x128, .f32⟩
  | 100 => ⟨S_, .f32⟩
  | 101 => ⟨S_, .f32⟩
  | 102 => ⟨S2048x128, .f32⟩
  | 103 => ⟨S2048x1x128, .f32⟩
  | 104 => ⟨S_, .f32⟩
  | 105 => ⟨S2048x4x128, .f32⟩
  | 106 => ⟨S2048x4x128, .f32⟩
  | 107 => ⟨S2048x128, .f32⟩
  | 108 => ⟨S2048x1x128, .f32⟩
  | 109 => ⟨S_, .f32⟩
  | 110 => ⟨S2048x4x128, .f32⟩
  | 111 => ⟨S2048x4x128, .f32⟩
  | 112 => ⟨S2048x128, .f32⟩
  | 113 => ⟨S2048x128, .f32⟩
  | 114 => ⟨S2048x128, .f32⟩
  | 115 => ⟨S1x128, .f32⟩
  | 116 => ⟨S2047x128, .f32⟩
  | 117 => ⟨S_, .f32⟩
  | 118 => ⟨S2049x128, .f32⟩
  | 119 => ⟨S_, .f32⟩
  | 120 => ⟨S2049x128, .f32⟩
  | 121 => ⟨S2049x128, .f32⟩
  | 122 => ⟨S1x128, .f32⟩
  | 123 => ⟨S2048x128, .f32⟩
  | 124 => ⟨S_, .f32⟩
  | 125 => ⟨S_, .f32⟩
  | 126 => ⟨S2048x128, .f32⟩
  | 127 => ⟨S2048x1x128, .f32⟩
  | _ => ⟨S2048x1024, .f32⟩

abbrev hbmTy0_2 (i : Nat) : BufTy := match i % 128 with
  | 0 => ⟨S_, .f32⟩
  | 1 => ⟨S2048x4x128, .f32⟩
  | 2 => ⟨S2048x4x128, .f32⟩
  | 3 => ⟨S2048x512, .f32⟩
  | 4 => ⟨S2048x512, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_call0_cst : Ref sig .tc := ⟨.hbm, 39, rfl⟩
abbrev main_call1_call0_v0 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call2_call0_cst : Ref sig .tc := ⟨.hbm, 71, rfl⟩
abbrev main_call2_call0_v0 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call3_call0_cst : Ref sig .tc := ⟨.hbm, 103, rfl⟩
abbrev main_call3_call0_v0 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_c_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_22 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_23 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_24 : Ref sig .tc := ⟨.hbm, 173, rfl⟩
abbrev main_v135 : Ref sig .tc := ⟨.hbm, 174, rfl⟩
abbrev main_cst_25 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_call4_call0_cst : Ref sig .tc := ⟨.hbm, 180, rfl⟩
abbrev main_call4_call0_v0 : Ref sig .tc := ⟨.hbm, 181, rfl⟩
abbrev main_v140 : Ref sig .tc := ⟨.hbm, 182, rfl⟩
abbrev main_v141 : Ref sig .tc := ⟨.hbm, 183, rfl⟩
abbrev main_cst_26 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_27 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_28 : Ref sig .tc := ⟨.hbm, 197, rfl⟩
abbrev main_v153 : Ref sig .tc := ⟨.hbm, 198, rfl⟩
abbrev main_cst_29 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_call5_call0_cst : Ref sig .tc := ⟨.hbm, 204, rfl⟩
abbrev main_call5_call0_v0 : Ref sig .tc := ⟨.hbm, 205, rfl⟩
abbrev main_v158 : Ref sig .tc := ⟨.hbm, 206, rfl⟩
abbrev main_v159 : Ref sig .tc := ⟨.hbm, 207, rfl⟩
abbrev main_cst_30 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_cst_31 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_32 : Ref sig .tc := ⟨.hbm, 221, rfl⟩
abbrev main_v171 : Ref sig .tc := ⟨.hbm, 222, rfl⟩
abbrev main_cst_33 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_call6_call0_cst : Ref sig .tc := ⟨.hbm, 228, rfl⟩
abbrev main_call6_call0_v0 : Ref sig .tc := ⟨.hbm, 229, rfl⟩
abbrev main_v176 : Ref sig .tc := ⟨.hbm, 230, rfl⟩
abbrev main_v177 : Ref sig .tc := ⟨.hbm, 231, rfl⟩
abbrev main_cst_34 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_35 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_cst_36 : Ref sig .tc := ⟨.hbm, 245, rfl⟩
abbrev main_v189 : Ref sig .tc := ⟨.hbm, 246, rfl⟩
abbrev main_cst_37 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_call7_call0_cst : Ref sig .tc := ⟨.hbm, 252, rfl⟩
abbrev main_call7_call0_v0 : Ref sig .tc := ⟨.hbm, 253, rfl⟩
abbrev main_v194 : Ref sig .tc := ⟨.hbm, 254, rfl⟩
abbrev main_v195 : Ref sig .tc := ⟨.hbm, 255, rfl⟩
abbrev main_cst_38 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩

abbrev nD : Nat := 1
abbrev τ : Topo := Topo.v7x

variable {F : FTy → Type} [FloatOps F]
-- ==== KernelConv.lean ====
abbrev S2048x512 : Shape := ⟨2, ![2048, 512]⟩
abbrev S2048x2048 : Shape := ⟨2, ![2048, 2048]⟩
abbrev S31x512 : Shape := ⟨2, ![31, 512]⟩
abbrev S_ : Shape := ⟨0, ![]⟩
abbrev S2048x128 : Shape := ⟨2, ![2048, 128]⟩
abbrev S31x128 : Shape := ⟨2, ![31, 128]⟩
abbrev S2080x128 : Shape := ⟨2, ![2080, 128]⟩
abbrev S32x128 : Shape := ⟨2, ![32, 128]⟩
abbrev S1x128 : Shape := ⟨2, ![1, 128]⟩
abbrev S128x128 : Shape := ⟨2, ![128, 128]⟩
abbrev S128 : Shape := ⟨1, ![128]⟩

abbrev nBuf : Space → Nat
  | .hbm => 17
  | .vmem => 19
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S31x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .bf16⟩
  | .hbm, ⟨15, _⟩ => ⟨S2048x512, .bf16⟩
  | .hbm, ⟨16, _⟩ => ⟨S31x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S31x128, .f32⟩
  | .local _ .vmem, ⟨9, _⟩ => ⟨S31x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S31x128, .f32⟩
  | .local _ .vmem, ⟨15, _⟩ => ⟨S31x128, .f32⟩
  | .local _ .vmem, ⟨16, _⟩ => ⟨S2080x128, .f32⟩
  | .local _ .vmem, ⟨17, _⟩ => ⟨S2080x128, .f32⟩
  | .local _ .vmem, ⟨18, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S31x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceConvIdeal.lean ====
abbrev S2048x512 : Shape := ⟨2, ![2048, 512]⟩
abbrev S2048x2048 : Shape := ⟨2, ![2048, 2048]⟩
abbrev S31x512 : Shape := ⟨2, ![31, 512]⟩
abbrev S_ : Shape := ⟨0, ![]⟩
abbrev S30x512 : Shape := ⟨2, ![30, 512]⟩
abbrev S2078x512 : Shape := ⟨2, ![2078, 512]⟩
abbrev S1x512 : Shape := ⟨2, ![1, 512]⟩
abbrev S512 : Shape := ⟨1, ![512]⟩

abbrev nBuf : Space → Nat
  | .hbm => 563
  | .vmem => 0
  | .smem => 0
  | _ => 0

abbrev hbmTy0_0 (i : Nat) : BufTy := match i % 128 with
  | 0 => ⟨S2048x512, .f32⟩
  | 1 => ⟨S2048x2048, .f32⟩
  | 2 => ⟨S31x512, .f32⟩
  | 3 => ⟨S_, .f32⟩
  | 4 => ⟨S30x512, .f32⟩
  | 5 => ⟨S2048x512, .f32⟩
  | 6 => ⟨S2048x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2048x512, .f32⟩
  | 20 => ⟨S2078x512, .f32⟩
  | 21 => ⟨S_, .f32⟩
  | 22 => ⟨S30x512, .f32⟩
  | 23 => ⟨S1x512, .f32⟩
  | 24 => ⟨S2048x512, .f32⟩
  | 25 => ⟨S2048x512, .f32⟩
  | 26 => ⟨S2048x512, .f32⟩
  | 27 => ⟨S1x512, .f32⟩
  | 28 => ⟨S2048x512, .f32⟩
  | 29 => ⟨S2048x512, .f32⟩
  | 30 => ⟨S2048x512, .f32⟩
  | 31 => ⟨S2048x512, .f32⟩
  | 32 => ⟨S1x512, .f32⟩
  | 33 => ⟨S2048x512, .f32⟩
  | 34 => ⟨S2048x512, .f32⟩
  | 35 => ⟨S2048x512, .f32⟩
  | 36 => ⟨S2048x512, .f32⟩
  | 37 => ⟨S1x512, .f32⟩
  | 38 => ⟨S2048x512, .f32⟩
  | 39 => ⟨S2048x512, .f32⟩
  | 40 => ⟨S2048x512, .f32⟩
  | 41 => ⟨S2048x512, .f32⟩
  | 42 => ⟨S1x512, .f32⟩
  | 43 => ⟨S2048x512, .f32⟩
  | 44 => ⟨S2048x512, .f32⟩
  | 45 => ⟨S2048x512, .f32⟩
  | 46 => ⟨S2048x512, .f32⟩
  | 47 => ⟨S1x512, .f32⟩
  | 48 => ⟨S2048x512, .f32⟩
  | 49 => ⟨S2048x512, .f32⟩
  | 50 => ⟨S2048x512, .f32⟩
  | 51 => ⟨S2048x512, .f32⟩
  | 52 => ⟨S1x512, .f32⟩
  | 53 => ⟨S2048x512, .f32⟩
  | 54 => ⟨S2048x512, .f32⟩
  | 55 => ⟨S2048x512, .f32⟩
  | 56 => ⟨S2048x512, .f32⟩
  | 57 => ⟨S1x512, .f32⟩
  | 58 => ⟨S2048x512, .f32⟩
  | 59 => ⟨S2048x512, .f32⟩
  | 60 => ⟨S2048x512, .f32⟩
  | 61 => ⟨S2048x512, .f32⟩
  | 62 => ⟨S1x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S2048x512, .f32⟩
  | 69 => ⟨S2048x512, .f32⟩
  | 70 => ⟨S2048x512, .f32⟩
  | 71 => ⟨S2048x512, .f32⟩
  | 72 => ⟨S1x512, .f32⟩
  | 73 => ⟨S2048x512, .f32⟩
  | 74 => ⟨S2048x512, .f32⟩
  | 75 => ⟨S2048x512, .f32⟩
  | 76 => ⟨S2048x512, .f32⟩
  | 77 => ⟨S1x512, .f32⟩
  | 78 => ⟨S2048x512, .f32⟩
  | 79 => ⟨S2048x512, .f32⟩
  | 80 => ⟨S2048x512, .f32⟩
  | 81 => ⟨S2048x512, .f32⟩
  | 82 => ⟨S1x512, .f32⟩
  | 83 => ⟨S2048x512, .f32⟩
  | 84 => ⟨S2048x512, .f32⟩
  | 85 => ⟨S2048x512, .f32⟩
  | 86 => ⟨S2048x512, .f32⟩
  | 87 => ⟨S1x512, .f32⟩
  | 88 => ⟨S2048x512, .f32⟩
  | 89 => ⟨S2048x512, .f32⟩
  | 90 => ⟨S2048x512, .f32⟩
  | 91 => ⟨S2048x512, .f32⟩
  | 92 => ⟨S1x512, .f32⟩
  | 93 => ⟨S2048x512, .f32⟩
  | 94 => ⟨S2048x512, .f32⟩
  | 95 => ⟨S2048x512, .f32⟩
  | 96 => ⟨S2048x512, .f32⟩
  | 97 => ⟨S1x512, .f32⟩
  | 98 => ⟨S2048x512, .f32⟩
  | 99 => ⟨S2048x512, .f32⟩
  | 100 => ⟨S2048x512, .f32⟩
  | 101 => ⟨S2048x512, .f32⟩
  | 102 => ⟨S1x512, .f32⟩
  | 103 => ⟨S2048x512, .f32⟩
  | 104 => ⟨S2048x512, .f32⟩
  | 105 => ⟨S2048x512, .f32⟩
  | 106 => ⟨S2048x512, .f32⟩
  | 107 => ⟨S1x512, .f32⟩
  | 108 => ⟨S2048x512, .f32⟩
  | 109 => ⟨S2048x512, .f32⟩
  | 110 => ⟨S2048x512, .f32⟩
  | 111 => ⟨S2048x512, .f32⟩
  | 112 => ⟨S1x512, .f32⟩
  | 113 => ⟨S2048x512, .f32⟩
  | 114 => ⟨S2048x512, .f32⟩
  | 115 => ⟨S2048x512, .f32⟩
  | 116 => ⟨S2048x512, .f32⟩
  | 117 => ⟨S1x512, .f32⟩
  | 118 => ⟨S2048x512, .f32⟩
  | 119 => ⟨S2048x512, .f32⟩
  | 120 => ⟨S2048x512, .f32⟩
  | 121 => ⟨S2048x512, .f32⟩
  | 122 => ⟨S1x512, .f32⟩
  | 123 => ⟨S2048x512, .f32⟩
  | 124 => ⟨S2048x512, .f32⟩
  | 125 => ⟨S2048x512, .f32⟩
  | 126 => ⟨S2048x512, .f32⟩
  | 127 => ⟨S1x512, .f32⟩
  | _ => ⟨S2048x512, .f32⟩

abbrev hbmTy0_1 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S1x512, .f32⟩
  | 5 => ⟨S2048x512, .f32⟩
  | 6 => ⟨S2048x512, .f32⟩
  | 7 => ⟨S2048x512, .f32⟩
  | 8 => ⟨S2048x512, .f32⟩
  | 9 => ⟨S1x512, .f32⟩
  | 10 => ⟨S2048x512, .f32⟩
  | 11 => ⟨S2048x512, .f32⟩
  | 12 => ⟨S2048x512, .f32⟩
  | 13 => ⟨S2048x512, .f32⟩
  | 14 => ⟨S1x512, .f32⟩
  | 15 => ⟨S2048x512, .f32⟩
  | 16 => ⟨S2048x512, .f32⟩
  | 17 => ⟨S2048x512, .f32⟩
  | 18 => ⟨S2048x512, .f32⟩
  | 19 => ⟨S1x512, .f32⟩
  | 20 => ⟨S2048x512, .f32⟩
  | 21 => ⟨S2048x512, .f32⟩
  | 22 => ⟨S2048x512, .f32⟩
  | 23 => ⟨S2048x512, .f32⟩
  | 24 => ⟨S1x512, .f32⟩
  | 25 => ⟨S2048x512, .f32⟩
  | 26 => ⟨S2048x512, .f32⟩
  | 27 => ⟨S2048x512, .f32⟩
  | 28 => ⟨S2048x512, .f32⟩
  | 29 => ⟨S1x512, .f32⟩
  | 30 => ⟨S2048x512, .f32⟩
  | 31 => ⟨S2048x512, .f32⟩
  | 32 => ⟨S2048x512, .f32⟩
  | 33 => ⟨S2048x512, .f32⟩
  | 34 => ⟨S1x512, .f32⟩
  | 35 => ⟨S2048x512, .f32⟩
  | 36 => ⟨S2048x512, .f32⟩
  | 37 => ⟨S2048x512, .f32⟩
  | 38 => ⟨S2048x512, .f32⟩
  | 39 => ⟨S1x512, .f32⟩
  | 40 => ⟨S2048x512, .f32⟩
  | 41 => ⟨S2048x512, .f32⟩
  | 42 => ⟨S2048x512, .f32⟩
  | 43 => ⟨S2048x512, .f32⟩
  | 44 => ⟨S1x512, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S2048x512, .f32⟩
  | 51 => ⟨S2048x512, .f32⟩
  | 52 => ⟨S2048x512, .f32⟩
  | 53 => ⟨S2048x512, .f32⟩
  | 54 => ⟨S_, .f32⟩
  | 55 => ⟨S512, .f32⟩
  | 56 => ⟨S1x512, .f32⟩
  | 57 => ⟨S_, .f32⟩
  | 58 => ⟨S2078x512, .f32⟩
  | 59 => ⟨S_, .f32⟩
  | 60 => ⟨S31x512, .f32⟩
  | 61 => ⟨S2048x512, .f32⟩
  | 62 => ⟨S2048x512, .f32⟩
  | 63 => ⟨S2048x512, .f32⟩
  | 64 => ⟨S_, .f32⟩
  | 65 => ⟨S512, .f32⟩
  | 66 => ⟨S1x512, .f32⟩
  | 67 => ⟨S_, .f32⟩
  | 68 => ⟨S2078x512, .f32⟩
  | 69 => ⟨S2078x512, .f32⟩
  | 70 => ⟨S_, .f32⟩
  | 71 => ⟨S31x512, .f32⟩
  | 72 => ⟨S31x512, .f32⟩
  | 73 => ⟨S2048x512, .f32⟩
  | 74 => ⟨S2048x512, .f32⟩
  | 75 => ⟨S2048x512, .f32⟩
  | 76 => ⟨S_, .f32⟩
  | 77 => ⟨S512, .f32⟩
  | 78 => ⟨S1x512, .f32⟩
  | 79 => ⟨S_, .f32⟩
  | 80 => ⟨S2078x512, .f32⟩
  | 81 => ⟨S2078x512, .f32⟩
  | 82 => ⟨S_, .f32⟩
  | 83 => ⟨S31x512, .f32⟩
  | 84 => ⟨S31x512, .f32⟩
  | 85 => ⟨S2048x512, .f32⟩
  | 86 => ⟨S2048x512, .f32⟩
  | 87 => ⟨S2048x512, .f32⟩
  | 88 => ⟨S_, .f32⟩
  | 89 => ⟨S512, .f32⟩
  | 90 => ⟨S1x512, .f32⟩
  | 91 => ⟨S_, .f32⟩
  | 92 => ⟨S2078x512, .f32⟩
  | 93 => ⟨S2078x512, .f32⟩
  | 94 => ⟨S_, .f32⟩
  | 95 => ⟨S31x512, .f32⟩
  | 96 => ⟨S31x512, .f32⟩
  | 97 => ⟨S2048x512, .f32⟩
  | 98 => ⟨S2048x512, .f32⟩
  | 99 => ⟨S2048x512, .f32⟩
  | 100 => ⟨S_, .f32⟩
  | 101 => ⟨S512, .f32⟩
  | 102 => ⟨S1x512, .f32⟩
  | 103 => ⟨S_, .f32⟩
  | 104 => ⟨S2078x512, .f32⟩
  | 105 => ⟨S2078x512, .f32⟩
  | 106 => ⟨S_, .f32⟩
  | 107 => ⟨S31x512, .f32⟩
  | 108 => ⟨S31x512, .f32⟩
  | 109 => ⟨S2048x512, .f32⟩
  | 110 => ⟨S2048x512, .f32⟩
  | 111 => ⟨S2048x512, .f32⟩
  | 112 => ⟨S_, .f32⟩
  | 113 => ⟨S512, .f32⟩
  | 114 => ⟨S1x512, .f32⟩
  | 115 => ⟨S_, .f32⟩
  | 116 => ⟨S2078x512, .f32⟩
  | 117 => ⟨S2078x512, .f32⟩
  | 118 => ⟨S_, .f32⟩
  | 119 => ⟨S31x512, .f32⟩
  | 120 => ⟨S31x512, .f32⟩
  | 121 => ⟨S2048x512, .f32⟩
  | 122 => ⟨S2048x512, .f32⟩
  | 123 => ⟨S2048x512, .f32⟩
  | 124 => ⟨S_, .f32⟩
  | 125 => ⟨S512, .f32⟩
  | 126 => ⟨S1x512, .f32⟩
  | 127 => ⟨S_, .f32⟩
  | _ => ⟨S2048x512, .f32⟩

abbrev hbmTy0_2 (i : Nat) : BufTy := match i % 128 with
  | 0 => ⟨S2078x512, .f32⟩
  | 1 => ⟨S2078x512, .f32⟩
  | 2 => ⟨S_, .f32⟩
  | 3 => ⟨S31x512, .f32⟩
  | 4 => ⟨S31x512, .f32⟩
  | 5 => ⟨S2048x512, .f32⟩
  | 6 => ⟨S2048x512, .f32⟩
  | 7 => ⟨S2048x512, .f32⟩
  | 8 => ⟨S_, .f32⟩
  | 9 => ⟨S512, .f32⟩
  | 10 => ⟨S1x512, .f32⟩
  | 11 => ⟨S_, .f32⟩
  | 12 => ⟨S2078x512, .f32⟩
  | 13 => ⟨S2078x512, .f32⟩
  | 14 => ⟨S_, .f32⟩
  | 15 => ⟨S31x512, .f32⟩
  | 16 => ⟨S31x512, .f32⟩
  | 17 => ⟨S2048x512, .f32⟩
  | 18 => ⟨S2048x512, .f32⟩
  | 19 => ⟨S2048x512, .f32⟩
  | 20 => ⟨S_, .f32⟩
  | 21 => ⟨S512, .f32⟩
  | 22 => ⟨S1x512, .f32⟩
  | 23 => ⟨S_, .f32⟩
  | 24 => ⟨S2078x512, .f32⟩
  | 25 => ⟨S2078x512, .f32⟩
  | 26 => ⟨S_, .f32⟩
  | 27 => ⟨S31x512, .f32⟩
  | 28 => ⟨S31x512, .f32⟩
  | 29 => ⟨S2048x512, .f32⟩
  | 30 => ⟨S2048x512, .f32⟩
  | 31 => ⟨S2048x512, .f32⟩
  | 32 => ⟨S_, .f32⟩
  | 33 => ⟨S512, .f32⟩
  | 34 => ⟨S1x512, .f32⟩
  | 35 => ⟨S_, .f32⟩
  | 36 => ⟨S2078x512, .f32⟩
  | 37 => ⟨S2078x512, .f32⟩
  | 38 => ⟨S_, .f32⟩
  | 39 => ⟨S31x512, .f32⟩
  | 40 => ⟨S31x512, .f32⟩
  | 41 => ⟨S2048x512, .f32⟩
  | 42 => ⟨S2048x512, .f32⟩
  | 43 => ⟨S2048x512, .f32⟩
  | 44 => ⟨S_, .f32⟩
  | 45 => ⟨S512, .f32⟩
  | 46 => ⟨S1x512, .f32⟩
  | 47 => ⟨S_, .f32⟩
  | 48 => ⟨S2078x512, .f32⟩
  | 49 => ⟨S2078x512, .f32⟩
  | 50 => ⟨S_, .f32⟩
  | 51 => ⟨S31x512, .f32⟩
  | 52 => ⟨S31x512, .f32⟩
  | 53 => ⟨S2048x512, .f32⟩
  | 54 => ⟨S2048x512, .f32⟩
  | 55 => ⟨S2048x512, .f32⟩
  | 56 => ⟨S_, .f32⟩
  | 57 => ⟨S512, .f32⟩
  | 58 => ⟨S1x512, .f32⟩
  | 59 => ⟨S_, .f32⟩
  | 60 => ⟨S2078x512, .f32⟩
  | 61 => ⟨S2078x512, .f32⟩
  | 62 => ⟨S_, .f32⟩
  | 63 => ⟨S31x512, .f32⟩
  | 64 => ⟨S31x512, .f32⟩
  | 65 => ⟨S2048x512, .f32⟩
  | 66 => ⟨S2048x512, .f32⟩
  | 67 => ⟨S2048x512, .f32⟩
  | 68 => ⟨S_, .f32⟩
  | 69 => ⟨S512, .f32⟩
  | 70 => ⟨S1x512, .f32⟩
  | 71 => ⟨S_, .f32⟩
  | 72 => ⟨S2078x512, .f32⟩
  | 73 => ⟨S2078x512, .f32⟩
  | 74 => ⟨S_, .f32⟩
  | 75 => ⟨S31x512, .f32⟩
  | 76 => ⟨S31x512, .f32⟩
  | 77 => ⟨S2048x512, .f32⟩
  | 78 => ⟨S2048x512, .f32⟩
  | 79 => ⟨S2048x512, .f32⟩
  | 80 => ⟨S_, .f32⟩
  | 81 => ⟨S512, .f32⟩
  | 82 => ⟨S1x512, .f32⟩
  | 83 => ⟨S_, .f32⟩
  | 84 => ⟨S2078x512, .f32⟩
  | 85 => ⟨S2078x512, .f32⟩
  | 86 => ⟨S_, .f32⟩
  | 87 => ⟨S31x512, .f32⟩
  | 88 => ⟨S31x512, .f32⟩
  | 89 => ⟨S2048x512, .f32⟩
  | 90 => ⟨S2048x512, .f32⟩
  | 91 => ⟨S2048x512, .f32⟩
  | 92 => ⟨S_, .f32⟩
  | 93 => ⟨S512, .f32⟩
  | 94 => ⟨S1x512, .f32⟩
  | 95 => ⟨S_, .f32⟩
  | 96 => ⟨S2078x512, .f32⟩
  | 97 => ⟨S2078x512, .f32⟩
  | 98 => ⟨S_, .f32⟩
  | 99 => ⟨S31x512, .f32⟩
  | 100 => ⟨S31x512, .f32⟩
  | 101 => ⟨S2048x512, .f32⟩
  | 102 => ⟨S2048x512, .f32⟩
  | 103 => ⟨S2048x512, .f32⟩
  | 104 => ⟨S_, .f32⟩
  | 105 => ⟨S512, .f32⟩
  | 106 => ⟨S1x512, .f32⟩
  | 107 => ⟨S_, .f32⟩
  | 108 => ⟨S2078x512, .f32⟩
  | 109 => ⟨S2078x512, .f32⟩
  | 110 => ⟨S_, .f32⟩
  | 111 => ⟨S31x512, .f32⟩
  | 112 => ⟨S31x512, .f32⟩
  | 113 => ⟨S2048x512, .f32⟩
  | 114 => ⟨S2048x512, .f32⟩
  | 115 => ⟨S2048x512, .f32⟩
  | 116 => ⟨S_, .f32⟩
  | 117 => ⟨S512, .f32⟩
  | 118 => ⟨S1x512, .f32⟩
  | 119 => ⟨S_, .f32⟩
  | 120 => ⟨S2078x512, .f32⟩
  | 121 => ⟨S2078x512, .f32⟩
  | 122 => ⟨S_, .f32⟩
  | 123 => ⟨S31x512, .f32⟩
  | 124 => ⟨S31x512, .f32⟩
  | 125 => ⟨S2048x512, .f32⟩
  | 126 => ⟨S2048x512, .f32⟩
  | 127 => ⟨S2048x512, .f32⟩
  | _ => ⟨S2048x512, .f32⟩

abbrev hbmTy0_3 (i : Nat) : BufTy := match i % 128 with
  | 0 => ⟨S_, .f32⟩
  | 1 => ⟨S512, .f32⟩
  | 2 => ⟨S1x512, .f32⟩
  | 3 => ⟨S_, .f32⟩
  | 4 => ⟨S2078x512, .f32⟩
  | 5 => ⟨S2078x512, .f32⟩
  | 6 => ⟨S_, .f32⟩
  | 7 => ⟨S31x512, .f32⟩
  | 8 => ⟨S31x512, .f32⟩
  | 9 => ⟨S2048x512, .f32⟩
  | 10 => ⟨S2048x512, .f32⟩
  | 11 => ⟨S2048x512, .f32⟩
  | 12 => ⟨S_, .f32⟩
  | 13 => ⟨S512, .f32⟩
  | 14 => ⟨S1x512, .f32⟩
  | 15 => ⟨S_, .f32⟩
  | 16 => ⟨S2078x512, .f32⟩
  | 17 => ⟨S2078x512, .f32⟩
  | 18 => ⟨S_, .f32⟩
  | 19 => ⟨S31x512, .f32⟩
  | 20 => ⟨S31x512, .f32⟩
  | 21 => ⟨S2048x512, .f32⟩
  | 22 => ⟨S2048x512, .f32⟩
  | 23 => ⟨S2048x512, .f32⟩
  | 24 => ⟨S_, .f32⟩
  | 25 => ⟨S512, .f32⟩
  | 26 => ⟨S1x512, .f32⟩
  | 27 => ⟨S_, .f32⟩
  | 28 => ⟨S2078x512, .f32⟩
  | 29 => ⟨S2078x512, .f32⟩
  | 30 => ⟨S_, .f32⟩
  | 31 => ⟨S31x512, .f32⟩
  | 32 => ⟨S31x512, .f32⟩
  | 33 => ⟨S2048x512, .f32⟩
  | 34 => ⟨S2048x512, .f32⟩
  | 35 => ⟨S2048x512, .f32⟩
  | 36 => ⟨S_, .f32⟩
  | 37 => ⟨S512, .f32⟩
  | 38 => ⟨S1x512, .f32⟩
  | 39 => ⟨S_, .f32⟩
  | 40 => ⟨S2078x512, .f32⟩
  | 41 => ⟨S2078x512, .f32⟩
  | 42 => ⟨S_, .f32⟩
  | 43 => ⟨S31x512, .f32⟩
  | 44 => ⟨S31x512, .f32⟩
  | 45 => ⟨S2048x512, .f32⟩
  | 46 => ⟨S2048x512, .f32⟩
  | 47 => ⟨S2048x512, .f32⟩
  | 48 => ⟨S_, .f32⟩
  | 49 => ⟨S512, .f32⟩
  | 50 => ⟨S1x512, .f32⟩
  | 51 => ⟨S_, .f32⟩
  | 52 => ⟨S2078x512, .f32⟩
  | 53 => ⟨S2078x512, .f32⟩
  | 54 => ⟨S_, .f32⟩
  | 55 => ⟨S31x512, .f32⟩
  | 56 => ⟨S31x512, .f32⟩
  | 57 => ⟨S2048x512, .f32⟩
  | 58 => ⟨S2048x512, .f32⟩
  | 59 => ⟨S2048x512, .f32⟩
  | 60 => ⟨S_, .f32⟩
  | 61 => ⟨S512, .f32⟩
  | 62 => ⟨S1x512, .f32⟩
  | 63 => ⟨S_, .f32⟩
  | 64 => ⟨S2078x512, .f32⟩
  | 65 => ⟨S2078x512, .f32⟩
  | 66 => ⟨S_, .f32⟩
  | 67 => ⟨S31x512, .f32⟩
  | 68 => ⟨S31x512, .f32⟩
  | 69 => ⟨S2048x512, .f32⟩
  | 70 => ⟨S2048x512, .f32⟩
  | 71 => ⟨S2048x512, .f32⟩
  | 72 => ⟨S_, .f32⟩
  | 73 => ⟨S512, .f32⟩
  | 74 => ⟨S1x512, .f32⟩
  | 75 => ⟨S_, .f32⟩
  | 76 => ⟨S2078x512, .f32⟩
  | 77 => ⟨S2078x512, .f32⟩
  | 78 => ⟨S_, .f32⟩
  | 79 => ⟨S31x512, .f32⟩
  | 80 => ⟨S31x512, .f32⟩
  | 81 => ⟨S2048x512, .f32⟩
  | 82 => ⟨S2048x512, .f32⟩
  | 83 => ⟨S2048x512, .f32⟩
  | 84 => ⟨S_, .f32⟩
  | 85 => ⟨S512, .f32⟩
  | 86 => ⟨S1x512, .f32⟩
  | 87 => ⟨S_, .f32⟩
  | 88 => ⟨S2078x512, .f32⟩
  | 89 => ⟨S2078x512, .f32⟩
  | 90 => ⟨S_, .f32⟩
  | 91 => ⟨S31x512, .f32⟩
  | 92 => ⟨S31x512, .f32⟩
  | 93 => ⟨S2048x512, .f32⟩
  | 94 => ⟨S2048x512, .f32⟩
  | 95 => ⟨S2048x512, .f32⟩
  | 96 => ⟨S_, .f32⟩
  | 97 => ⟨S512, .f32⟩
  | 98 => ⟨S1x512, .f32⟩
  | 99 => ⟨S_, .f32⟩
  | 100 => ⟨S2078x512, .f32⟩
  | 101 => ⟨S2078x512, .f32⟩
  | 102 => ⟨S_, .f32⟩
  | 103 => ⟨S31x512, .f32⟩
  | 104 => ⟨S31x512, .f32⟩
  | 105 => ⟨S2048x512, .f32⟩
  | 106 => ⟨S2048x512, .f32⟩
  | 107 => ⟨S2048x512, .f32⟩
  | 108 => ⟨S_, .f32⟩
  | 109 => ⟨S512, .f32⟩
  | 110 => ⟨S1x512, .f32⟩
  | 111 => ⟨S_, .f32⟩
  | 112 => ⟨S2078x512, .f32⟩
  | 113 => ⟨S2078x512, .f32⟩
  | 114 => ⟨S_, .f32⟩
  | 115 => ⟨S31x512, .f32⟩
  | 116 => ⟨S31x512, .f32⟩
  | 117 => ⟨S2048x512, .f32⟩
  | 118 => ⟨S2048x512, .f32⟩
  | 119 => ⟨S2048x512, .f32⟩
  | 120 => ⟨S_, .f32⟩
  | 121 => ⟨S512, .f32⟩
  | 122 => ⟨S1x512, .f32⟩
  | 123 => ⟨S_, .f32⟩
  | 124 => ⟨S2078x512, .f32⟩
  | 125 => ⟨S2078x512, .f32⟩
  | 126 => ⟨S_, .f32⟩
  | 127 => ⟨S31x512, .f32⟩
  | _ => ⟨S2048x512, .f32⟩

abbrev hbmTy0_4 (i : Nat) : BufTy := match i % 128 with
  | 0 => ⟨S31x512, .f32⟩
  | 1 => ⟨S2048x512, .f32⟩
  | 2 => ⟨S2048x512, .f32⟩
  | 3 => ⟨S2048x512, .f32⟩
  | 4 => ⟨S_, .f32⟩
  | 5 => ⟨S512, .f32⟩
  | 6 => ⟨S1x512, .f32⟩
  | 7 => ⟨S_, .f32⟩
  | 8 => ⟨S2078x512, .f32⟩
  | 9 => ⟨S2078x512, .f32⟩
  | 10 => ⟨S_, .f32⟩
  | 11 => ⟨S31x512, .f32⟩
  | 12 => ⟨S31x512, .f32⟩
  | 13 => ⟨S2048x512, .f32⟩
  | 14 => ⟨S2048x512, .f32⟩
  | 15 => ⟨S2048x512, .f32⟩
  | 16 => ⟨S_, .f32⟩
  | 17 => ⟨S512, .f32⟩
  | 18 => ⟨S1x512, .f32⟩
  | 19 => ⟨S_, .f32⟩
  | 20 => ⟨S2078x512, .f32⟩
  | 21 => ⟨S2078x512, .f32⟩
  | 22 => ⟨S_, .f32⟩
  | 23 => ⟨S31x512, .f32⟩
  | 24 => ⟨S31x512, .f32⟩
  | 25 => ⟨S2048x512, .f32⟩
  | 26 => ⟨S2048x512, .f32⟩
  | 27 => ⟨S2048x512, .f32⟩
  | 28 => ⟨S_, .f32⟩
  | 29 => ⟨S512, .f32⟩
  | 30 => ⟨S1x512, .f32⟩
  | 31 => ⟨S_, .f32⟩
  | 32 => ⟨S2078x512, .f32⟩
  | 33 => ⟨S2078x512, .f32⟩
  | 34 => ⟨S_, .f32⟩
  | 35 => ⟨S31x512, .f32⟩
  | 36 => ⟨S31x512, .f32⟩
  | 37 => ⟨S30x512, .f32⟩
  | 38 => ⟨S2048x512, .f32⟩
  | 39 => ⟨S2048x512, .f32⟩
  | 40 => ⟨S2048x512, .f32⟩
  | 41 => ⟨S2048x512, .f32⟩
  | 42 => ⟨S_, .f32⟩
  | 43 => ⟨S2048x2048, .f32⟩
  | 44 => ⟨S_, .f32⟩
  | 45 => ⟨S2048x2048, .f32⟩
  | 46 => ⟨S2048x2048, .f32⟩
  | 47 => ⟨S2048x512, .f32⟩
  | 48 => ⟨S2048x512, .bf16⟩
  | 49 => ⟨S2048x512, .f32⟩
  | 50 => ⟨S2048x512, .bf16⟩
  | _ => ⟨S2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_cst_4 : Ref sig .tc := ⟨.hbm, 182, rfl⟩
abbrev main_v174 : Ref sig .tc := ⟨.hbm, 183, rfl⟩
abbrev main_v175 : Ref sig .tc := ⟨.hbm, 184, rfl⟩
abbrev main_cst_5 : Ref sig .tc := ⟨.hbm, 185, rfl⟩
abbrev main_v176 : Ref sig .tc := ⟨.hbm, 186, rfl⟩
abbrev main_cst_6 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_cst_7 : Ref sig .tc := ⟨.hbm, 192, rfl⟩
abbrev main_v181 : Ref sig .tc := ⟨.hbm, 193, rfl⟩
abbrev main_v182 : Ref sig .tc := ⟨.hbm, 194, rfl⟩
abbrev main_cst_8 : Ref sig .tc := ⟨.hbm, 195, rfl⟩
abbrev main_v183 : Ref sig .tc := ⟨.hbm, 196, rfl⟩
abbrev main_v184 : Ref sig .tc := ⟨.hbm, 197, rfl⟩
abbrev main_cst_9 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_cst_10 : Ref sig .tc := ⟨.hbm, 204, rfl⟩
abbrev main_v190 : Ref sig .tc := ⟨.hbm, 205, rfl⟩
abbrev main_v191 : Ref sig .tc := ⟨.hbm, 206, rfl⟩
abbrev main_cst_11 : Ref sig .tc := ⟨.hbm, 207, rfl⟩
abbrev main_v192 : Ref sig .tc := ⟨.hbm, 208, rfl⟩
abbrev main_v193 : Ref sig .tc := ⟨.hbm, 209, rfl⟩
abbrev main_cst_12 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_cst_13 : Ref sig .tc := ⟨.hbm, 216, rfl⟩
abbrev main_v199 : Ref sig .tc := ⟨.hbm, 217, rfl⟩
abbrev main_v200 : Ref sig .tc := ⟨.hbm, 218, rfl⟩
abbrev main_cst_14 : Ref sig .tc := ⟨.hbm, 219, rfl⟩
abbrev main_v201 : Ref sig .tc := ⟨.hbm, 220, rfl⟩
abbrev main_v202 : Ref sig .tc := ⟨.hbm, 221, rfl⟩
abbrev main_cst_15 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_cst_16 : Ref sig .tc := ⟨.hbm, 228, rfl⟩
abbrev main_v208 : Ref sig .tc := ⟨.hbm, 229, rfl⟩
abbrev main_v209 : Ref sig .tc := ⟨.hbm, 230, rfl⟩
abbrev main_cst_17 : Ref sig .tc := ⟨.hbm, 231, rfl⟩
abbrev main_v210 : Ref sig .tc := ⟨.hbm, 232, rfl⟩
abbrev main_v211 : Ref sig .tc := ⟨.hbm, 233, rfl⟩
abbrev main_cst_18 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_cst_19 : Ref sig .tc := ⟨.hbm, 240, rfl⟩
abbrev main_v217 : Ref sig .tc := ⟨.hbm, 241, rfl⟩
abbrev main_v218 : Ref sig .tc := ⟨.hbm, 242, rfl⟩
abbrev main_cst_20 : Ref sig .tc := ⟨.hbm, 243, rfl⟩
abbrev main_v219 : Ref sig .tc := ⟨.hbm, 244, rfl⟩
abbrev main_v220 : Ref sig .tc := ⟨.hbm, 245, rfl⟩
abbrev main_cst_21 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_cst_22 : Ref sig .tc := ⟨.hbm, 252, rfl⟩
abbrev main_v226 : Ref sig .tc := ⟨.hbm, 253, rfl⟩
abbrev main_v227 : Ref sig .tc := ⟨.hbm, 254, rfl⟩
abbrev main_cst_23 : Ref sig .tc := ⟨.hbm, 255, rfl⟩
abbrev main_v228 : Ref sig .tc := ⟨.hbm, 256, rfl⟩
abbrev main_v229 : Ref sig .tc := ⟨.hbm, 257, rfl⟩
abbrev main_cst_24 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_cst_25 : Ref sig .tc := ⟨.hbm, 264, rfl⟩
abbrev main_v235 : Ref sig .tc := ⟨.hbm, 265, rfl⟩
abbrev main_v236 : Ref sig .tc := ⟨.hbm, 266, rfl⟩
abbrev main_cst_26 : Ref sig .tc := ⟨.hbm, 267, rfl⟩
abbrev main_v237 : Ref sig .tc := ⟨.hbm, 268, rfl⟩
abbrev main_v238 : Ref sig .tc := ⟨.hbm, 269, rfl⟩
abbrev main_cst_27 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_cst_28 : Ref sig .tc := ⟨.hbm, 276, rfl⟩
abbrev main_v244 : Ref sig .tc := ⟨.hbm, 277, rfl⟩
abbrev main_v245 : Ref sig .tc := ⟨.hbm, 278, rfl⟩
abbrev main_cst_29 : Ref sig .tc := ⟨.hbm, 279, rfl⟩
abbrev main_v246 : Ref sig .tc := ⟨.hbm, 280, rfl⟩
abbrev main_v247 : Ref sig .tc := ⟨.hbm, 281, rfl⟩
abbrev main_cst_30 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_cst_31 : Ref sig .tc := ⟨.hbm, 288, rfl⟩
abbrev main_v253 : Ref sig .tc := ⟨.hbm, 289, rfl⟩
abbrev main_v254 : Ref sig .tc := ⟨.hbm, 290, rfl⟩
abbrev main_cst_32 : Ref sig .tc := ⟨.hbm, 291, rfl⟩
abbrev main_v255 : Ref sig .tc := ⟨.hbm, 292, rfl⟩
abbrev main_v256 : Ref sig .tc := ⟨.hbm, 293, rfl⟩
abbrev main_cst_33 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_cst_34 : Ref sig .tc := ⟨.hbm, 300, rfl⟩
abbrev main_v262 : Ref sig .tc := ⟨.hbm, 301, rfl⟩
abbrev main_v263 : Ref sig .tc := ⟨.hbm, 302, rfl⟩
abbrev main_cst_35 : Ref sig .tc := ⟨.hbm, 303, rfl⟩
abbrev main_v264 : Ref sig .tc := ⟨.hbm, 304, rfl⟩
abbrev main_v265 : Ref sig .tc := ⟨.hbm, 305, rfl⟩
abbrev main_cst_36 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_cst_37 : Ref sig .tc := ⟨.hbm, 312, rfl⟩
abbrev main_v271 : Ref sig .tc := ⟨.hbm, 313, rfl⟩
abbrev main_v272 : Ref sig .tc := ⟨.hbm, 314, rfl⟩
abbrev main_cst_38 : Ref sig .tc := ⟨.hbm, 315, rfl⟩
abbrev main_v273 : Ref sig .tc := ⟨.hbm, 316, rfl⟩
abbrev main_v274 : Ref sig .tc := ⟨.hbm, 317, rfl⟩
abbrev main_cst_39 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_cst_40 : Ref sig .tc := ⟨.hbm, 324, rfl⟩
abbrev main_v280 : Ref sig .tc := ⟨.hbm, 325, rfl⟩
abbrev main_v281 : Ref sig .tc := ⟨.hbm, 326, rfl⟩
abbrev main_cst_41 : Ref sig .tc := ⟨.hbm, 327, rfl⟩
abbrev main_v282 : Ref sig .tc := ⟨.hbm, 328, rfl⟩
abbrev main_v283 : Ref sig .tc := ⟨.hbm, 329, rfl⟩
abbrev main_cst_42 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_cst_43 : Ref sig .tc := ⟨.hbm, 336, rfl⟩
abbrev main_v289 : Ref sig .tc := ⟨.hbm, 337, rfl⟩
abbrev main_v290 : Ref sig .tc := ⟨.hbm, 338, rfl⟩
abbrev main_cst_44 : Ref sig .tc := ⟨.hbm, 339, rfl⟩
abbrev main_v291 : Ref sig .tc := ⟨.hbm, 340, rfl⟩
abbrev main_v292 : Ref sig .tc := ⟨.hbm, 341, rfl⟩
abbrev main_cst_45 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_cst_46 : Ref sig .tc := ⟨.hbm, 348, rfl⟩
abbrev main_v298 : Ref sig .tc := ⟨.hbm, 349, rfl⟩
abbrev main_v299 : Ref sig .tc := ⟨.hbm, 350, rfl⟩
abbrev main_cst_47 : Ref sig .tc := ⟨.hbm, 351, rfl⟩
abbrev main_v300 : Ref sig .tc := ⟨.hbm, 352, rfl⟩
abbrev main_v301 : Ref sig .tc := ⟨.hbm, 353, rfl⟩
abbrev main_cst_48 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_cst_49 : Ref sig .tc := ⟨.hbm, 360, rfl⟩
abbrev main_v307 : Ref sig .tc := ⟨.hbm, 361, rfl⟩
abbrev main_v308 : Ref sig .tc := ⟨.hbm, 362, rfl⟩
abbrev main_cst_50 : Ref sig .tc := ⟨.hbm, 363, rfl⟩
abbrev main_v309 : Ref sig .tc := ⟨.hbm, 364, rfl⟩
abbrev main_v310 : Ref sig .tc := ⟨.hbm, 365, rfl⟩
abbrev main_cst_51 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_cst_52 : Ref sig .tc := ⟨.hbm, 372, rfl⟩
abbrev main_v316 : Ref sig .tc := ⟨.hbm, 373, rfl⟩
abbrev main_v317 : Ref sig .tc := ⟨.hbm, 374, rfl⟩
abbrev main_cst_53 : Ref sig .tc := ⟨.hbm, 375, rfl⟩
abbrev main_v318 : Ref sig .tc := ⟨.hbm, 376, rfl⟩
abbrev main_v319 : Ref sig .tc := ⟨.hbm, 377, rfl⟩
abbrev main_cst_54 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_cst_55 : Ref sig .tc := ⟨.hbm, 384, rfl⟩
abbrev main_v325 : Ref sig .tc := ⟨.hbm, 385, rfl⟩
abbrev main_v326 : Ref sig .tc := ⟨.hbm, 386, rfl⟩
abbrev main_cst_56 : Ref sig .tc := ⟨.hbm, 387, rfl⟩
abbrev main_v327 : Ref sig .tc := ⟨.hbm, 388, rfl⟩
abbrev main_v328 : Ref sig .tc := ⟨.hbm, 389, rfl⟩
abbrev main_cst_57 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_cst_58 : Ref sig .tc := ⟨.hbm, 396, rfl⟩
abbrev main_v334 : Ref sig .tc := ⟨.hbm, 397, rfl⟩
abbrev main_v335 : Ref sig .tc := ⟨.hbm, 398, rfl⟩
abbrev main_cst_59 : Ref sig .tc := ⟨.hbm, 399, rfl⟩
abbrev main_v336 : Ref sig .tc := ⟨.hbm, 400, rfl⟩
abbrev main_v337 : Ref sig .tc := ⟨.hbm, 401, rfl⟩
abbrev main_cst_60 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_cst_61 : Ref sig .tc := ⟨.hbm, 408, rfl⟩
abbrev main_v343 : Ref sig .tc := ⟨.hbm, 409, rfl⟩
abbrev main_v344 : Ref sig .tc := ⟨.hbm, 410, rfl⟩
abbrev main_cst_62 : Ref sig .tc := ⟨.hbm, 411, rfl⟩
abbrev main_v345 : Ref sig .tc := ⟨.hbm, 412, rfl⟩
abbrev main_v346 : Ref sig .tc := ⟨.hbm, 413, rfl⟩
abbrev main_cst_63 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_cst_64 : Ref sig .tc := ⟨.hbm, 420, rfl⟩
abbrev main_v352 : Ref sig .tc := ⟨.hbm, 421, rfl⟩
abbrev main_v353 : Ref sig .tc := ⟨.hbm, 422, rfl⟩
abbrev main_cst_65 : Ref sig .tc := ⟨.hbm, 423, rfl⟩
abbrev main_v354 : Ref sig .tc := ⟨.hbm, 424, rfl⟩
abbrev main_v355 : Ref sig .tc := ⟨.hbm, 425, rfl⟩
abbrev main_cst_66 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_v360 : Ref sig .tc := ⟨.hbm, 431, rfl⟩
abbrev main_cst_67 : Ref sig .tc := ⟨.hbm, 432, rfl⟩
abbrev main_v361 : Ref sig .tc := ⟨.hbm, 433, rfl⟩
abbrev main_v362 : Ref sig .tc := ⟨.hbm, 434, rfl⟩
abbrev main_cst_68 : Ref sig .tc := ⟨.hbm, 435, rfl⟩
abbrev main_v363 : Ref sig .tc := ⟨.hbm, 436, rfl⟩
abbrev main_v364 : Ref sig .tc := ⟨.hbm, 437, rfl⟩
abbrev main_cst_69 : Ref sig .tc := ⟨.hbm, 438, rfl⟩
abbrev main_v365 : Ref sig .tc := ⟨.hbm, 439, rfl⟩
abbrev main_v366 : Ref sig .tc := ⟨.hbm, 440, rfl⟩
abbrev main_v367 : Ref sig .tc := ⟨.hbm, 441, rfl⟩
abbrev main_v368 : Ref sig .tc := ⟨.hbm, 442, rfl⟩
abbrev main_v369 : Ref sig .tc := ⟨.hbm, 443, rfl⟩
abbrev main_cst_70 : Ref sig .tc := ⟨.hbm, 444, rfl⟩
abbrev main_v370 : Ref sig .tc := ⟨.hbm, 445, rfl⟩
abbrev main_v371 : Ref sig .tc := ⟨.hbm, 446, rfl⟩
abbrev main_cst_71 : Ref sig .tc := ⟨.hbm, 447, rfl⟩
abbrev main_v372 : Ref sig .tc := ⟨.hbm, 448, rfl⟩
abbrev main_v373 : Ref sig .tc := ⟨.hbm, 449, rfl⟩
abbrev main_cst_72 : Ref sig .tc := ⟨.hbm, 450, rfl⟩
abbrev main_v374 : Ref sig .tc := ⟨.hbm, 451, rfl⟩
abbrev main_v375 : Ref sig .tc := ⟨.hbm, 452, rfl⟩
abbrev main_v376 : Ref sig .tc := ⟨.hbm, 453, rfl⟩
abbrev main_v377 : Ref sig .tc := ⟨.hbm, 454, rfl⟩
abbrev main_v378 : Ref sig .tc := ⟨.hbm, 455, rfl⟩
abbrev main_cst_73 : Ref sig .tc := ⟨.hbm, 456, rfl⟩
abbrev main_v379 : Ref sig .tc := ⟨.hbm, 457, rfl⟩
abbrev main_v380 : Ref sig .tc := ⟨.hbm, 458, rfl⟩
abbrev main_cst_74 : Ref sig .tc := ⟨.hbm, 459, rfl⟩
abbrev main_v381 : Ref sig .tc := ⟨.hbm, 460, rfl⟩
abbrev main_v382 : Ref sig .tc := ⟨.hbm, 461, rfl⟩
abbrev main_cst_75 : Ref sig .tc := ⟨.hbm, 462, rfl⟩
abbrev main_v383 : Ref sig .tc := ⟨.hbm, 463, rfl⟩
abbrev main_v384 : Ref sig .tc := ⟨.hbm, 464, rfl⟩
abbrev main_v385 : Ref sig .tc := ⟨.hbm, 465, rfl⟩
abbrev main_v386 : Ref sig .tc := ⟨.hbm, 466, rfl⟩
abbrev main_v387 : Ref sig .tc := ⟨.hbm, 467, rfl⟩
abbrev main_cst_76 : Ref sig .tc := ⟨.hbm, 468, rfl⟩
abbrev main_v388 : Ref sig .tc := ⟨.hbm, 469, rfl⟩
abbrev main_v389 : Ref sig .tc := ⟨.hbm, 470, rfl⟩
abbrev main_cst_77 : Ref sig .tc := ⟨.hbm, 471, rfl⟩
abbrev main_v390 : Ref sig .tc := ⟨.hbm, 472, rfl⟩
abbrev main_v391 : Ref sig .tc := ⟨.hbm, 473, rfl⟩
abbrev main_cst_78 : Ref sig .tc := ⟨.hbm, 474, rfl⟩
abbrev main_v392 : Ref sig .tc := ⟨.hbm, 475, rfl⟩
abbrev main_v393 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_cst_79 : Ref sig .tc := ⟨.hbm, 480, rfl⟩
abbrev main_v397 : Ref sig .tc := ⟨.hbm, 481, rfl⟩
abbrev main_v398 : Ref sig .tc := ⟨.hbm, 482, rfl⟩
abbrev main_cst_80 : Ref sig .tc := ⟨.hbm, 483, rfl⟩
abbrev main_v399 : Ref sig .tc := ⟨.hbm, 484, rfl⟩
abbrev main_v400 : Ref sig .tc := ⟨.hbm, 485, rfl⟩
abbrev main_cst_81 : Ref sig .tc := ⟨.hbm, 486, rfl⟩
abbrev main_v401 : Ref sig .tc := ⟨.hbm, 487, rfl⟩
abbrev main_v402 : Ref sig .tc := ⟨.hbm, 488, rfl⟩
abbrev main_v403 : Ref sig .tc := ⟨.hbm, 489, rfl⟩
abbrev main_v404 : Ref sig .tc := ⟨.hbm, 490, rfl⟩
abbrev main_v405 : Ref sig .tc := ⟨.hbm, 491, rfl⟩
abbrev main_cst_82 : Ref sig .tc := ⟨.hbm, 492, rfl⟩
abbrev main_v406 : Ref sig .tc := ⟨.hbm, 493, rfl⟩
abbrev main_v407 : Ref sig .tc := ⟨.hbm, 494, rfl⟩
abbrev main_cst_83 : Ref sig .tc := ⟨.hbm, 495, rfl⟩
abbrev main_v408 : Ref sig .tc := ⟨.hbm, 496, rfl⟩
abbrev main_v409 : Ref sig .tc := ⟨.hbm, 497, rfl⟩
abbrev main_cst_84 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_cst_85 : Ref sig .tc := ⟨.hbm, 504, rfl⟩
abbrev main_v415 : Ref sig .tc := ⟨.hbm, 505, rfl⟩
abbrev main_v416 : Ref sig .tc := ⟨.hbm, 506, rfl⟩
abbrev main_cst_86 : Ref sig .tc := ⟨.hbm, 507, rfl⟩
abbrev main_v417 : Ref sig .tc := ⟨.hbm, 508, rfl⟩
abbrev main_v418 : Ref sig .tc := ⟨.hbm, 509, rfl⟩
abbrev main_cst_87 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_v422 : Ref sig .tc := ⟨.hbm, 514, rfl⟩
abbrev main_v423 : Ref sig .tc := ⟨.hbm, 515, rfl⟩
abbrev main_cst_88 : Ref sig .tc := ⟨.hbm, 516, rfl⟩
abbrev main_v424 : Ref sig .tc := ⟨.hbm, 517, rfl⟩
abbrev main_v425 : Ref sig .tc := ⟨.hbm, 518, rfl⟩
abbrev main_cst_89 : Ref sig .tc := ⟨.hbm, 519, rfl⟩
abbrev main_v426 : Ref sig .tc := ⟨.hbm, 520, rfl⟩
abbrev main_v427 : Ref sig .tc := ⟨.hbm, 521, rfl⟩
abbrev main_cst_90 : Ref sig .tc := ⟨.hbm, 522, rfl⟩
abbrev main_v428 : Ref sig .tc := ⟨.hbm, 523, rfl⟩
abbrev main_v429 : Ref sig .tc := ⟨.hbm, 524, rfl⟩
abbrev main_v430 : Ref sig .tc := ⟨.hbm, 525, rfl⟩
abbrev main_v431 : Ref sig .tc := ⟨.hbm, 526, rfl⟩
abbrev main_v432 : Ref sig .tc := ⟨.hbm, 527, rfl⟩
abbrev main_cst_91 : Ref sig .tc := ⟨.hbm, 528, rfl⟩
abbrev main_v433 : Ref sig .tc := ⟨.hbm, 529, rfl⟩
abbrev main_v434 : Ref sig .tc := ⟨.hbm, 530, rfl⟩
abbrev main_cst_92 : Ref sig .tc := ⟨.hbm, 531, rfl⟩
abbrev main_v435 : Ref sig .tc := ⟨.hbm, 532, rfl⟩
abbrev main_v436 : Ref sig .tc := ⟨.hbm, 533, rfl⟩
abbrev main_cst_93 : Ref sig .tc := ⟨.hbm, 534, rfl⟩
abbrev main_v437 : Ref sig .tc := ⟨.hbm, 535, rfl⟩
abbrev main_v438 : Ref sig .tc := ⟨.hbm, 536, rfl⟩
abbrev main_v439 : Ref sig .tc := ⟨.hbm, 537, rfl⟩
abbrev main_v440 : Ref sig .tc := ⟨.hbm, 538, rfl⟩
abbrev main_v441 : Ref sig .tc := ⟨.hbm, 539, rfl⟩
abbrev main_cst_94 : Ref sig .tc := ⟨.hbm, 540, rfl⟩
abbrev main_v442 : Ref sig .tc := ⟨.hbm, 541, rfl⟩
abbrev main_v443 : Ref sig .tc := ⟨.hbm, 542, rfl⟩
abbrev main_cst_95 : Ref sig .tc := ⟨.hbm, 543, rfl⟩
abbrev main_v444 : Ref sig .tc := ⟨.hbm, 544, rfl⟩
abbrev main_v445 : Ref sig .tc := ⟨.hbm, 545, rfl⟩
abbrev main_cst_96 : Ref sig .tc := ⟨.hbm, 546, rfl⟩
abbrev main_v446 : Ref sig .tc := ⟨.hbm, 547, rfl⟩
abbrev main_v447 : Ref sig .tc := ⟨.hbm, 548, rfl⟩
abbrev main_v448 : Ref sig .tc := ⟨.hbm, 549, rfl⟩
abbrev main_v449 : Ref sig .tc := ⟨.hbm, 550, rfl⟩
abbrev main_v450 : Ref sig .tc := ⟨.hbm, 551, rfl⟩
abbrev main_v451 : Ref sig .tc := ⟨.hbm, 552, rfl⟩
abbrev main_v452 : Ref sig .tc := ⟨.hbm, 553, rfl⟩
abbrev main_cst_97 : Ref sig .tc := ⟨.hbm, 554, rfl⟩
abbrev main_v453 : Ref sig .tc := ⟨.hbm, 555, rfl⟩
abbrev main_cst_98 : Ref sig .tc := ⟨.hbm, 556, rfl⟩
abbrev main_v454 : Ref sig .tc := ⟨.hbm, 557, rfl⟩
abbrev main_v455 : Ref sig .tc := ⟨.hbm, 558, rfl⟩
abbrev main_v456 : Ref sig .tc := ⟨.hbm, 559, rfl⟩
abbrev main_v457 : Ref sig .tc := ⟨.hbm, 560, rfl⟩
abbrev main_v458 : Ref sig .tc := ⟨.hbm, 561, rfl⟩
abbrev main_v459 : Ref sig .tc := ⟨.hbm, 562, rfl⟩

abbrev nD : Nat := 1
abbrev τ : Topo := Topo.v7x

variable {F : FTy → Type} [FloatOps F]
-- ==== Proof.RealLift.lean ====
/- Reading an expression over the extended reals as an expression over the reals, when every array in it is finite. -/
module

public import Idealize.ShloMosaic.Lib.Pointwise
public import Idealize.ShloMosaic.Lib.IdealHost
public import Mathlib.Tactic.Ring
public import Mathlib.Tactic.Positivity
public import Mathlib.Tactic.NormNum
public import Mathlib.Tactic.Linarith
public import Mathlib.Tactic.FieldSimp

@[expose] public section

noncomputable section

namespace Cert.RealLift

open Idealize.ShloMosaic

/-- A sum of reals is the same real whether it is taken in the extended reals or in the reals. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- A quotient of reals by a real that is not zero. -/
theorem coe_div (a : ℝ) {b : ℝ} (h : b ≠ 0) : Ideal.div (a : EReal) (b : EReal) = ((a / b : ℝ) : EReal) := by
  rw [Ideal.div_coe h, ← EReal.coe_mul, mul_one_div]

/-- The reciprocal square root of a positive real. -/
theorem coe_rsqrt {a : ℝ} (h : 0 < a) : Ideal.rsqrt (a : EReal) = (((Real.sqrt a)⁻¹ : ℝ) : EReal) := by
  rw [Ideal.rsqrt_coe, if_neg (not_lt.mpr h.le), if_neg h.ne']

/-- A value is finite: it is a real. -/
def IsReal (x : EReal) : Prop := ∃ r : ℝ, x = (r : EReal)

theorem IsReal.of_abs_lt {x : EReal} (h : max x (-x) < ⊤) : IsReal x := by
  refine ⟨x.toReal, (EReal.coe_toReal ?_ ?_).symm⟩
  · rintro rfl; simp at h
  · rintro rfl; simp at h

/-- An array of finite values is an array of reals. -/
theorem exists_real {ι : Type} {x : ι → EReal} (h : ∀ i, IsReal (x i)) : ∃ f : ι → ℝ, x = fun i => (f i : EReal) :=
  ⟨fun i => (h i).choose, funext fun i => (h i).choose_spec⟩

theorem IsReal.coe (r : ℝ) : IsReal (r : EReal) := ⟨r, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sub {x y : EReal} : IsReal x → IsReal y → IsReal (x - y) := by
  rintro ⟨a, rfl⟩ ⟨b, rfl⟩; exact ⟨a - b, (EReal.coe_sub a b).symm⟩
theorem IsReal.sum {ι : Type} [Fintype ι] {f : ι → EReal} (h : ∀ i, IsReal (f i)) : IsReal (∑ i, f i) := by
  obtain ⟨g, rfl⟩ := exists_real h
  exact ⟨_, coe_sum g⟩

theorem ofBits_1024 : Ideal.ofBits .f32 0x44800000#32 = ((1024 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity
theorem ofBits_alpha : ∃ e : ℝ, Ideal.ofBits .f32 0x3FB504F3#32 = (e : EReal) :=
  ⟨_, by simp [Ideal.ofBits, Ideal.ieee, -EReal.coe_mul]; rfl⟩
theorem ofBits_inf : Ideal.ofBits .f32 0x7F800000#32 = ⊤ := by
  simp [Ideal.ofBits, Ideal.ieee]

theorem ofBits_eighth : Ideal.ofBits .f32 1040187392#32 = ((1 / 8 : ℝ) : EReal) := by
  simp [Ideal.ofBits, Ideal.ieee, -EReal.coe_mul]; norm_num

end Cert.RealLift
end
-- ==== Proof.LayerNorm.lean ====
/- The gradient of a layer norm with respect to its input: what the chain rule gives, operation by operation, against
   the closed form that a kernel evaluates from the normalised row and its reciprocal deviation. -/
module

public import proofs.«01_k».proof.Proof.RealLift

@[expose] public section

noncomputable section

namespace Cert.LayerNorm

open Idealize.ShloMosaic Cert.RealLift

variable {n : ℕ}

/-- The mean of a row, `N` its length. -/
def mean (N : EReal) (x : Fin n → EReal) : EReal := Ideal.div (∑ k, x k) N
/-- The mean square of the row about its mean. -/
def var (N : EReal) (x : Fin n → EReal) : EReal := Ideal.div (∑ k, (x k - mean N x) * (x k - mean N x)) N
/-- The reciprocal of the row's deviation. -/
def rstd (N e : EReal) (x : Fin n → EReal) : EReal := Ideal.rsqrt (var N x + e)
/-- The normalised row. -/
def hat (N e : EReal) (x : Fin n → EReal) (j : Fin n) : EReal := (x j - mean N x) * rstd N e x

/-- The gradient in closed form: `d` the cotangent of the normalised row `h`, `r` the reciprocal deviation. -/
def back (N r : EReal) (d h : Fin n → EReal) (j : Fin n) : EReal :=
  r * (d j - Ideal.div (∑ k, d k) N - h j * Ideal.div (∑ k, d k * h k) N)

/-- The cotangent of the row's mean square, by the chain rule. -/
def dvar (N e mh : EReal) (x d : Fin n → EReal) : EReal :=
  Ideal.div ((∑ k, (x k - mean N x) * d k) * (mh * Ideal.div (rstd N e x) (var N x + e))) N
/-- The gradient by the chain rule, `mh` the literal -1/2 and `two` the literal 2. -/
def chain (N e mh two : EReal) (x d : Fin n → EReal) (j : Fin n) : EReal :=
  d j * rstd N e x + dvar N e mh x d * (two * (x j - mean N x))
    + Ideal.div ((∑ k, -(d k * rstd N e x)) + ∑ k, -(dvar N e mh x d * (two * (x k - mean N x)))) N

section Real
variable (N e : ℝ) (a b : Fin n → ℝ)

theorem mean_coe (hN : N ≠ 0) : mean (N : EReal) (fun k => (a k : EReal)) = (((∑ k, a k) / N : ℝ) : EReal) := by
  rw [mean, coe_sum, coe_div _ hN]

theorem var_coe (hN : N ≠ 0) : var (N : EReal) (fun k => (a k : EReal))
    = (((∑ k, (a k - (∑ k, a k) / N) * (a k - (∑ k, a k) / N)) / N : ℝ) : EReal) := by
  simp only [var, mean_coe N a hN, ← EReal.coe_sub, ← EReal.coe_mul, coe_sum, coe_div _ hN]

/-- The mean square plus a positive number is positive. -/
theorem var_pos (hN : 0 < N) (he : 0 < e) : 0 < (∑ k, (a k - (∑ k, a k) / N) * (a k - (∑ k, a k) / N)) / N + e :=
  add_pos_of_nonneg_of_pos (div_nonneg (Finset.sum_nonneg fun k _ => mul_self_nonneg _) hN.le) he

theorem rstd_coe (hN : 0 < N) (he : 0 < e) : rstd (N : EReal) (e : EReal) (fun k => (a k : EReal))
    = (((Real.sqrt ((∑ k, (a k - (∑ k, a k) / N) * (a k - (∑ k, a k) / N)) / N + e))⁻¹ : ℝ) : EReal) := by
  rw [rstd, var_coe N a hN.ne', ← EReal.coe_add, coe_rsqrt (var_pos N e a hN he)]

theorem hat_coe (hN : 0 < N) (he : 0 < e) (j) : hat (N : EReal) (e : EReal) (fun k => (a k : EReal)) j
    = (((a j - (∑ k, a k) / N) * (Real.sqrt ((∑ k, (a k - (∑ k, a k) / N) * (a k - (∑ k, a k) / N)) / N + e))⁻¹ : ℝ) : EReal) := by
  rw [hat, rstd_coe N e a hN he, mean_coe N a hN.ne', ← EReal.coe_sub, ← EReal.coe_mul]

/-- The identity over the reals: `s` the deviation's square, `u` the row less its mean, whose sum is zero. -/
theorem real_chain {s : ℝ} (hs : 0 < s) (hN : N ≠ 0) (u : Fin n → ℝ) (hu : ∑ k, u k = 0) (j) :
    b j * (√s)⁻¹ + (∑ k, u k * b k) * (-(1 / 2) * ((√s)⁻¹ / s)) / N * (2 * u j)
      + (∑ k, -(b k * (√s)⁻¹) + ∑ k, -((∑ k, u k * b k) * (-(1 / 2) * ((√s)⁻¹ / s)) / N * (2 * u k))) / N
      = (√s)⁻¹ * (b j - (∑ k, b k) / N - u j * (√s)⁻¹ * ((∑ k, b k * (u k * (√s)⁻¹)) / N)) := by
  have h1 : (√s)⁻¹ * (√s)⁻¹ = 1 / s := by
    rw [← mul_inv, Real.mul_self_sqrt hs.le, one_div]
  have h2 : ∑ k, -(b k * (√s)⁻¹) = -((∑ k, b k) * (√s)⁻¹) := by
    rw [Finset.sum_neg_distrib, Finset.sum_mul]
  have h3 (c : ℝ) : ∑ k, -(c * (2 * u k)) = 0 := by
    rw [Finset.sum_neg_distrib, ← Finset.mul_sum, ← Finset.mul_sum, hu]; simp
  have h4 : ∑ k, b k * (u k * (√s)⁻¹) = (∑ k, u k * b k) * (√s)⁻¹ := by
    rw [Finset.sum_mul]; exact Finset.sum_congr rfl fun k _ => by ring
  rw [h2, h3, h4]
  generalize (∑ k, u k * b k) = S
  generalize (√s)⁻¹ = r at *
  have h5 : r / s = r * (r * r) := by rw [h1]; ring
  rw [h5]
  ring

theorem sum_centred (hN : (n : ℝ) = N) (h0 : N ≠ 0) : ∑ k, (a k - (∑ k, a k) / N) = 0 := by
  rw [Finset.sum_sub_distrib, Finset.sum_const, Finset.card_univ, Fintype.card_fin, nsmul_eq_mul, hN, mul_div_cancel₀ _ h0, sub_self]

/-- THE GRADIENT: on a row of reals the chain rule's expression is the closed form. -/
theorem chain_eq (hn : (n : ℝ) = N) (hN : 0 < N) (he : 0 < e) (j) :
    chain (N : EReal) (e : EReal) ((-(1 / 2) : ℝ) : EReal) ((2 : ℝ) : EReal) (fun k => (a k : EReal)) (fun k => (b k : EReal)) j
      = back (N : EReal) (rstd (N : EReal) (e : EReal) fun k => (a k : EReal)) (fun k => (b k : EReal))
          (hat (N : EReal) (e : EReal) fun k => (a k : EReal)) j := by
  have hp := var_pos N e a hN he
  have h := real_chain N b hp hN.ne' (fun k => a k - (∑ k, a k) / N) (sum_centred N a hn hN.ne') j
  simp only [chain, back, dvar, hat_coe N e a hN he, rstd_coe N e a hN he, mean_coe N a hN.ne', var_coe N a hN.ne',
    ← EReal.coe_sub, ← EReal.coe_mul, ← EReal.coe_add, ← EReal.coe_neg, coe_sum, coe_div _ hN.ne', coe_div _ hp.ne']
  exact congrArg _ h
end Real

/-- The same for rows of finite extended reals. -/
theorem chain_eq_back {N e mh two : EReal} {x d : Fin n → EReal} (hx : ∀ k, IsReal (x k)) (hd : ∀ k, IsReal (d k))
    (hN : N = ((n : ℝ) : EReal)) (hn : 0 < n) (he : ∃ r : ℝ, 0 < r ∧ e = (r : EReal)) (hm : mh = ((-(1 / 2) : ℝ) : EReal))
    (h2 : two = ((2 : ℝ) : EReal)) (j) :
    chain N e mh two x d j = back N (rstd N e x) d (hat N e x) j := by
  obtain ⟨a, rfl⟩ := exists_real hx
  obtain ⟨b, rfl⟩ := exists_real hd
  obtain ⟨r, hr, rfl⟩ := he
  subst hN hm h2
  exact chain_eq _ r a b rfl (by exact_mod_cast hn) hr j

end Cert.LayerNorm
end
-- ==== Proof.MixValue.lean ====
/- What the mixer's backward call computes: each of its five results as an expression over its operands. -/
module

public import proofs.«01_k».proof.Proof.Gen.KernelMixIdeal.Value
public import proofs.«01_k».proof.Proof.LayerNorm
public import Idealize.ShloMosaic.Lib.Pipeline.ValueKit
public import Idealize.ShloMosaic.Lib.Claim

@[expose] public section

set_option maxRecDepth 16384

noncomputable section

namespace Cert.Mix

open Cert.KernelMixIdeal Cert.KernelMixIdeal.Gen Idealize.ShloMosaic Idealize.ShloMosaic.TcCoe Idealize.SL.Sem Cert.LayerNorm
open Idealize.ShloMosaic.Pipeline (Dat)

variable (m : (ℓ : Loc nD τ sig) → Buf (Elt Ideal) ℓ)

/-- The row length as the program's literal. -/
abbrev N : EReal := Ideal.ofBits .f32 0x44800000#32
/-- The residual's scale as the program's literal. -/
abbrev A : EReal := Ideal.ofBits .f32 0x3FB504F3#32

/-- The cotangent of the layer norm's result. -/
def ct (p q : FVec Ideal S2048x1024 .f32) (i : Fin 2048) (j : Fin 1024) : EReal := A * q (ix2 i j) + p (ix2 i j)
/-- The cotangent of the normalised row. -/
def dhat (p q : FVec Ideal S2048x1024 .f32) (g : FVec Ideal S1x1024 .f32) (i : Fin 2048) (j : Fin 1024) : EReal :=
  ct p q i j * g (ix2 0 j)
/-- The gradient of the layer norm's input. -/
def DR (p q xh : FVec Ideal S2048x1024 .f32) (rs : FVec Ideal S2048x1 .f32) (g : FVec Ideal S1x1024 .f32) (i : Fin 2048) (j : Fin 1024) :
    EReal :=
  back N (rs (ix2 i 0)) (dhat p q g i) (fun k => xh (ix2 i k)) j

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] ∧ win0_12.index t = ![0, 0] :=
  (by decide +kernel : ∀ t : Fin grid0.N, _)

/-- Row `k` of grid point `t`'s block of rows. -/
def row (t : Fin cfg0.N) (k : Fin 512) : Fin 2048 := ⟨t.val * 512 + k.val, by have h : t.val < 4 := t.isLt; omega⟩

theorem blk0 (c : Dev nD) (t : Fin cfg0.N) (y) : iblk m c 0 t y = V m c main_arg0 (ix2 (row t (y 0)) (y 1)) := by
  blk_point [iblk, idx t, row]
theorem blk1 (c : Dev nD) (t : Fin cfg0.N) (y) : iblk m c 1 t y = V m c main_arg1 (ix2 (row t (y 0)) (y 1)) := by
  blk_point [iblk, idx t, row]
theorem blk2 (c : Dev nD) (t : Fin cfg0.N) (y) : iblk m c 2 t y = V m c main_v21 (ix2 (row t (y 0)) (y 1)) := by
  blk_point [iblk, idx t, row]
theorem blk3 (c : Dev nD) (t : Fin cfg0.N) (y) : iblk m c 3 t y = V m c main_v17 (ix2 (row t (y 0)) (y 1)) := by
  blk_point [iblk, idx t, row]
theorem blk4 (c : Dev nD) (t : Fin cfg0.N) (y) : iblk m c 4 t y = V m c main_v23 (ix2 (row t (y 0)) (y 1)) := by
  blk_point [iblk, idx t, row]
theorem blk5 (c : Dev nD) (t : Fin cfg0.N) (y) : iblk m c 5 t y = V m c main_v24 (ix2 (row t (y 0)) (y 1)) := by
  blk_point [iblk, idx t, row]
theorem blk6 (c : Dev nD) (t : Fin cfg0.N) (y) : iblk m c 6 t y = V m c main_arg5 (ix2 (y 0) (y 1)) := by
  blk_point [iblk, idx t, row]
theorem blk7 (c : Dev nD) (t : Fin cfg0.N) (y) : iblk m c 7 t y = V m c main_v25 (ix2 (y 0) (y 1)) := by
  blk_point [iblk, idx t, row]
theorem ix2_0 {n k : ℕ} (a : Fin n) (b : Fin k) : (ix2 a b) 0 = a := rfl
theorem ix2_1 {n k : ℕ} (a : Fin n) (b : Fin k) : (ix2 a b) 1 = b := rfl

/-- The gradient of the input at one grid point, by its row. -/
theorem dr_row (c : Dev nD) (t : Fin cfg0.N) (y) :
    k0_pay6 (iblk m c 1 t) (iblk m c 0 t) (iblk m c 2 t) (iblk m c 3 t) (iblk m c 6 t) y
      = DR (V m c main_arg0) (V m c main_arg1) (V m c main_v21) (V m c main_v17) (V m c main_arg5) (row t (y 0)) (y 1) := by
  pointwise [k0_pay6, k0_pay5, k0_pay4, DR, dhat, ct, back]
  simp only [blk0, blk1, blk2, blk3, blk6, ix2_0, ix2_1]
  rfl

/-- The gradient of the input at one grid point. -/
theorem dr_point (c : Dev nD) (t : Fin cfg0.N) (y) :
    k0_pay6 (iblk m c 1 t) (iblk m c 0 t) (iblk m c 2 t) (iblk m c 3 t) (iblk m c 6 t) y
      = DR (V m c main_arg0) (V m c main_arg1) (V m c main_v21) (V m c main_v17) (V m c main_arg5)
          ((((cfg0.win 8).blk t).view.emb y) 0) ((((cfg0.win 8).blk t).view.emb y) 1) := by
  have e0 : (((cfg0.win 8).blk t).view.emb y) 0 = row t (y 0) := Fin.ext (by blk_simp; simp [idx t, row])
  have e1 : (((cfg0.win 8).blk t).view.emb y) 1 = y 1 := Fin.ext (by blk_simp; simp [idx t, row])
  rw [dr_row, e0, e1]

/-- A sum over the points and the rows of a point's block is a sum over all rows. -/
theorem sum_rows (f : Fin 2048 → EReal) : ∑ t : Fin cfg0.N, ∑ k : Fin 512, f (row t k) = ∑ i : Fin 2048, f i :=
  Fin.sum_mul_add_congr (fun _ _ _ => rfl)

/-- The second operand of the weight's gradient, in its two halves of columns. -/
def LL (a b : FVec Ideal S2048x512 .bf16) (i : Fin 2048) (j : Fin 1024) : EReal :=
  if h : j.val < 512 then a (ix2 i ⟨j.val, h⟩) else b (ix2 i ⟨j.val - 512, by omega⟩)
theorem final8 (c : Dev nD) : (dats m 0 c).arrAt 8 (cfgs 0).N
    = fun i => DR (V m c main_arg0) (V m c main_arg1) (V m c main_v21) (V m c main_v17) (V m c main_arg5) (i 0) (i 1) := by
  refine (dats m 0 c).arrAt_eq_of_covers 8 _ (by decide +kernel) fun t hf y => ?_
  blk_simp
  rw [after0_8]
  have h4 : t.val < 4 := t.isLt
  by_cases h0 : t.val % 4 = 0
  · rw [outsAt0_A m c t h0 h0 (by omega) h0 (by omega) (by omega)]
    frame_out
    exact dr_point m c t y
  · by_cases h3 : t.val % 4 = 3
    · rw [outsAt0_C m c t h0 h0 (by omega) h0 (by omega) h3]
      frame_out
      exact dr_point m c t y
    · rw [outsAt0_B m c t h0 h0 (by omega) h0 (by omega) h3]
      frame_out
      exact dr_point m c t y
end Cert.Mix
end
-- ==== Proof.Canon.lean ====
/- Reading a buffer that was written piece by piece: at a place the last piece holds, and at a place it does not. -/
module

public import Idealize.ShloMosaic.Lib.Pipeline.ValueKit

@[expose] public section

namespace Cert.Canon

open Idealize.ShloMosaic Idealize.ShloMosaic.TcCoe Idealize.SL.Sem

variable {Val : EltTy → Type} {s : Shape} {e : EltTy}

/-- At a place inside the last piece stands that piece's value. -/
theorem hit [∀ e, Nonempty (Val e)] (off size : Fin s.rank → Nat) (inb) (w : (Rect.unit off size inb).shape.Idx → Val e)
    (L : List (View.Piece Val s e)) (y : s.Idx) (x : (Rect.unit off size inb).shape.Idx) (h : ∀ a, (y a : Nat) = off a + x a) :
    View.canon (⟨Rect.unit off size inb, w⟩ :: L) y = w x := by
  have e : y = (Rect.unit off size inb).emb x := funext fun a => Fin.ext ((h a).trans (ValueKit.rect_emb_unit_val off size inb x a).symm)
  rw [e]; exact View.canon_cons_emb _ w L x

/-- At a place outside the last piece stand the earlier pieces. -/
theorem miss [∀ e, Nonempty (Val e)] (off size : Fin s.rank → Nat) (inb) (w : (Rect.unit off size inb).shape.Idx → Val e)
    (L : List (View.Piece Val s e)) (y : s.Idx) (a : Fin s.rank) (h : (y a : Nat) < off a ∨ off a + size a ≤ y a) :
    View.canon (⟨Rect.unit off size inb, w⟩ :: L) y = View.canon L y := by
  refine View.canon_cons_of_not_mem _ L fun hm => ?_
  obtain ⟨x, hx⟩ := (Rect.unit off size inb).exists_idx_of_mem hm
  have e := ValueKit.rect_emb_unit_val off size inb x a
  rw [show (Rect.unit off size inb).emb x = y from hx] at e
  have hl : (x a : Nat) < size a := (x a).isLt
  omega

end Cert.Canon
end
-- ==== Proof.MixAcc.lean ====
/- The mixer's backward call, the results summed over the grid: the scale's, the shift's and the weight's gradients. -/
module

public import proofs.«01_k».proof.Proof.MixValue
public import proofs.«01_k».proof.Proof.Canon
public import Idealize.ShloMosaic.Lib.Pipeline.ReadBack

@[expose] public section

set_option maxRecDepth 16384

noncomputable section

namespace Cert.Mix

open Cert.KernelMixIdeal Cert.KernelMixIdeal.Gen Idealize.ShloMosaic Idealize.ShloMosaic.TcCoe Idealize.SL.Sem Cert.LayerNorm
open Idealize.ShloMosaic.Pipeline (Dat)

variable (m : (ℓ : Loc nD τ sig) → Buf (Elt Ideal) ℓ)

theorem dr_row7 (c : Dev nD) (t : Fin cfg0.N) (y) :
    (k0_pay7 (iblk m c 1 t) (iblk m c 0 t) (iblk m c 2 t) (iblk m c 3 t) (iblk m c 6 t) y : EReal)
      = DR (V m c main_arg0) (V m c main_arg1) (V m c main_v21) (V m c main_v17) (V m c main_arg5) (row t (y 0)) (y 1) :=
  dr_row m c t y

/-- The part of the weight's gradient that one point adds. -/
def dwT (c : Dev nD) (t : Fin cfg0.N) (j : S1024x1024.Idx) : EReal :=
  ∑ k : Fin 512, LL (V m c main_v23) (V m c main_v24) (row t k) (j 0)
    * DR (V m c main_arg0) (V m c main_arg1) (V m c main_v21) (V m c main_v17) (V m c main_arg5) (row t k) (j 1)

theorem pay1_point (c : Dev nD) (t : Fin cfg0.N) (z : FVec Ideal S512x1024 .f32) (j : S1024x1024.Idx) (x : S512x1024.Idx)
    (h0 : (j 0).val = 512 + (x 0).val) (h1 : (j 1).val = (x 1).val) :
    k0_pay1 (k0_pay7 (iblk m c 1 t) (iblk m c 0 t) (iblk m c 2 t) (iblk m c 3 t) (iblk m c 6 t)) z (k0_pay15 (iblk m c 5 t))
      (constant S512x1024 FTy.f32 0#32) x = z x + dwT m c t j := by
  have e1 : j 1 = x 1 := Fin.ext h1
  pointwise [k0_pay1, k0_pay15]
  unfold dwT
  refine congrArg (_ + ·) (Fin.sum_fin_congr fun k => ?_)
  rw [e1]
  refine congrArg₂ (· * ·) ?_ (dr_row7 m c t _)
  unfold LL
  rw [dif_neg (by omega)]
  refine (blk5 m c t _).trans (congrArg _ ?_)
  exact congrArg₂ ix2 rfl (Fin.ext (by show (x 0).val = (j 0).val - 512; omega))

theorem pay14_point (c : Dev nD) (t : Fin cfg0.N) (z : FVec Ideal S512x1024 .f32) (j : S1024x1024.Idx) (x : S512x1024.Idx)
    (h0 : (j 0).val = (x 0).val) (h1 : (j 1).val = (x 1).val) :
    k0_pay14 (k0_pay7 (iblk m c 1 t) (iblk m c 0 t) (iblk m c 2 t) (iblk m c 3 t) (iblk m c 6 t)) z (iblk m c 4 t) x
      = z x + dwT m c t j := by
  have e1 : j 1 = x 1 := Fin.ext h1
  have hx : (x 0).val < 512 := (x 0).isLt
  pointwise [k0_pay14]
  unfold dwT
  refine congrArg (_ + ·) (Fin.sum_fin_congr fun k => ?_)
  rw [e1]
  refine congrArg₂ (· * ·) ?_ (dr_row7 m c t _)
  unfold LL
  rw [dif_pos (by omega)]
  refine (blk4 m c t _).trans (congrArg _ ?_)
  exact congrArg₂ ix2 rfl (Fin.ext h0.symm)

theorem two (a b : ℕ) {p : Fin 2 → Prop} (h0 : p 0) (h1 : p 1) : ∀ i, p i
  | 0 => h0
  | 1 => h1

/-- Reading the two halves of rows stored over what the buffer held. -/
theorem halves (c : Dev nD) (t : Fin cfg0.N) (z : FVec Ideal S1024x1024 .f32) (L) (j : S1024x1024.Idx) :
    View.canon (Val := Elt Ideal) (e := .f32) (⟨Rect.unit ![512, 0] ![512, 1024] inb_S1024x1024_S512x1024_512_0,
          k0_pay1 (k0_pay7 (iblk m c 1 t) (iblk m c 0 t) (iblk m c 2 t) (iblk m c 3 t) (iblk m c 6 t))
            (View.ld (Val := Elt Ideal) (e' := .f32) z (Rect.unit ![512, 0] ![512, 1024] inb_S1024x1024_S512x1024_512_0))
            (k0_pay15 (iblk m c 5 t)) (constant S512x1024 FTy.f32 0#32)⟩ ::
        ⟨Rect.unit ![0, 0] ![512, 1024] inb_S1024x1024_S512x1024_0_0,
          k0_pay14 (k0_pay7 (iblk m c 1 t) (iblk m c 0 t) (iblk m c 2 t) (iblk m c 3 t) (iblk m c 6 t))
            (View.ld (Val := Elt Ideal) (e' := .f32) z (Rect.unit ![0, 0] ![512, 1024] inb_S1024x1024_S512x1024_0_0))
            (iblk m c 4 t)⟩ :: L) j = z j + dwT m c t j := by
  have hj0 : (j 0).val < 1024 := (j 0).isLt
  have hj1 : (j 1).val < 1024 := (j 1).isLt
  by_cases h : (j 0).val < 512
  · rw [Canon.miss _ _ _ _ _ j 0 (.inl h)]
    have hx : ∀ a : Fin 2, ((j a : ℕ)) = (![0, 0] : Fin 2 → ℕ) a + ((ix2 ⟨(j 0).val, h⟩ ⟨(j 1).val, hj1⟩ : S512x1024.Idx) a).val :=
      two 0 0 (Nat.zero_add _).symm (Nat.zero_add _).symm
    refine (Canon.hit _ _ _ _ _ j (ix2 ⟨(j 0).val, h⟩ ⟨(j 1).val, hj1⟩) hx).trans ?_
    rw [pay14_point m c t _ j _ rfl rfl]
    exact congrArg (· + _) (View.ld_unit_apply_of _ _ _ _ _ j hx)
  · have hx : ∀ a : Fin 2, ((j a : ℕ)) = (![512, 0] : Fin 2 → ℕ) a + ((ix2 ⟨(j 0).val - 512, by omega⟩ ⟨(j 1).val, hj1⟩ : S512x1024.Idx) a).val :=
      two 0 0 (by show (j 0).val = 512 + ((j 0).val - 512); omega) (Nat.zero_add _).symm
    refine (Canon.hit _ _ _ _ _ j (ix2 ⟨(j 0).val - 512, by omega⟩ ⟨(j 1).val, hj1⟩) hx).trans ?_
    rw [pay1_point m c t _ j _ (by show (j 0).val = 512 + ((j 0).val - 512); omega) rfl]
    exact congrArg (· + _) (View.ld_unit_apply_of _ _ _ _ _ j hx)

theorem scr_A (c : Dev nD) (t : Fin cfg0.N) (h : t.val % 4 = 0) (j : S1024x1024.Idx) :
    (outsAt0 m c t.val t.isLt).2.2.2.2.2 j = 0 + dwT m c t j := by
  have h4 : t.val < 4 := t.isLt
  rw [outsAt0_A m c t h h (by omega) h (by omega) (by omega)]
  frame_open
  simp (disch := decide) only [↓ View.readCov_skip, ↓ View.readCov_cons_toLoadRect, ↓ View.readCov_fill]
  frame_out
  refine (halves m c t _ _ j).trans (congrArg (· + _) ?_)
  pointwise [k0_pay3]

theorem scr_B (c : Dev nD) (t : Fin cfg0.N) (h : ¬ t.val % 4 = 0) (j : S1024x1024.Idx) :
    (outsAt0 m c t.val t.isLt).2.2.2.2.2 j = (outsAt0 m c (t.val - 1) (Nat.lt_of_le_of_lt (Nat.sub_le _ _) t.isLt)).2.2.2.2.2 j + dwT m c t j := by
  have h4 : t.val < 4 := t.isLt
  by_cases h3 : t.val % 4 = 3
  · rw [outsAt0_C m c t h h (by omega) h (by omega) h3]
    frame_open
    simp (disch := decide) only [↓ View.readCov_skip, ↓ View.readCov_cons_toLoadRect, ↓ View.readCov_fill]
    frame_out
    simp only [read_unread_whole]
    exact halves m c t _ _ j
  · rw [outsAt0_B m c t h h (by omega) h (by omega) h3]
    frame_open
    simp (disch := decide) only [↓ View.readCov_skip, ↓ View.readCov_cons_toLoadRect, ↓ View.readCov_fill]
    frame_out
    simp only [read_unread_whole]
    exact halves m c t _ _ j

theorem scr_out (c : Dev nD) (t : Fin cfg0.N) (h3 : t.val % 4 = 3) (j : S1024x1024.Idx) :
    ((outsAt0 m c t.val t.isLt).2.2.2.2.1 j : EReal) = (outsAt0 m c t.val t.isLt).2.2.2.2.2 j := by
  have h4 : t.val < 4 := t.isLt
  have h : ¬ t.val % 4 = 0 := by omega
  rw [outsAt0_C m c t h h (by omega) h (by omega) h3]
  frame_open
  simp (disch := decide) only [↓ View.readCov_skip, ↓ View.readCov_cons_toLoadRect, ↓ View.readCov_fill]
  frame_out
  pointwise [k0_pay2]
  rw [View.readCov_eq_canon']
  exact congrArg _ (funext (two 0 0 (Fin.ext (by show 0 + 1 * _ = _; omega)) (Fin.ext (by show 0 + 1 * _ = _; omega))))

/-- The weight's gradient. -/
theorem final12 (c : Dev nD) : (dats m 0 c).arrAt 12 (cfgs 0).N
    = fun j => ∑ i : Fin 2048, LL (V m c main_v23) (V m c main_v24) i (j 0)
        * DR (V m c main_arg0) (V m c main_arg1) (V m c main_v21) (V m c main_v17) (V m c main_arg5) i (j 1) := by
  refine (dats m 0 c).arrAt_eq_of_after_last 12 t0_3 (by decide +kernel) _ fun j => ?_
  blk_simp
  rw [after0_12]
  refine (scr_out m c t0_3 rfl j).trans ?_
  rw [Pipeline.eq_sum_fin_of_reset_step_apply_last (fun n h => (outsAt0 m c n h).2.2.2.2.2) 4 (fun _ => 0) (dwT m c)
    (fun t h j => scr_A m c t h j) (fun t h j => scr_B m c t h j) (le_of_eq N_0) t0_3 rfl j, zero_add]
  exact sum_rows fun i => LL (V m c main_v23) (V m c main_v24) i (j 0) * DR (V m c main_arg0) (V m c main_arg1) (V m c main_v21) (V m c main_v17) (V m c main_arg5) i (j 1)

/-- The shift's gradient. -/
theorem final11 (c : Dev nD) : (dats m 0 c).arrAt 11 (cfgs 0).N
    = fun j => ∑ i : Fin 2048, ct (V m c main_arg0) (V m c main_arg1) i (j 1) := by
  have hA : ∀ (t : Fin cfg0.N) (y), k0_pay12 (k0_pay4 (iblk m c 1 t) (iblk m c 0 t)) y
      = ∑ k : Fin 512, ct (V m c main_arg0) (V m c main_arg1) (row t k) (y 1) := fun t y => by
    pointwise [k0_pay12, k0_pay4]
    refine Fin.sum_fin_congr fun k => ?_
    simp only [blk0, blk1]
    rfl
  have hs : ∀ (t : Fin cfg0.N) (z : FVec Ideal S1x1024 .f32) (y), k0_pay13 (k0_pay4 (iblk m c 1 t) (iblk m c 0 t)) z y
      = z y + ∑ k : Fin 512, ct (V m c main_arg0) (V m c main_arg1) (row t k) (y 1) := fun t z y => by
    rw [← hA]; pointwise [k0_pay13]
  refine (dats m 0 c).arrAt_eq_of_after_last 11 t0_3 (by decide +kernel) _ fun j => ?_
  blk_simp
  rw [after0_11, Pipeline.eq_sum_fin_of_reset_step_apply_last (fun n h => (outsAt0 m c n h).2.2.2.1) 4 (fun _ => 0)
    (fun t y => ∑ k : Fin 512, ct (V m c main_arg0) (V m c main_arg1) (row t k) (y 1))
    (fun t h j => by
      have h4 : t.val < 4 := t.isLt
      rw [outsAt0_A m c t h h (by omega) h (by omega) (by omega)]; frame_out; rw [hA, zero_add])
    (fun t h j => by
      have h4 : t.val < 4 := t.isLt
      by_cases h3 : t.val % 4 = 3
      · rw [outsAt0_C m c t h h (by omega) h (by omega) h3]; frame_out; rw [hs]
      · rw [outsAt0_B m c t h h (by omega) h (by omega) h3]; frame_out; rw [hs]) (le_of_eq N_0) t0_3 rfl j, zero_add]
  exact sum_rows fun i => ct (V m c main_arg0) (V m c main_arg1) i (j 1)

/-- The scale's gradient. -/
theorem final10 (c : Dev nD) : (dats m 0 c).arrAt 10 (cfgs 0).N
    = fun j => ∑ i : Fin 2048, ct (V m c main_arg0) (V m c main_arg1) i (j 1) * V m c main_v21 (ix2 i (j 1)) := by
  have hA : ∀ (t : Fin cfg0.N) (y), k0_pay10 (k0_pay4 (iblk m c 1 t) (iblk m c 0 t)) (k0_pay5 (iblk m c 2 t)) y
      = ∑ k : Fin 512, ct (V m c main_arg0) (V m c main_arg1) (row t k) (y 1) * V m c main_v21 (ix2 (row t k) (y 1)) := fun t y => by
    pointwise [k0_pay10, k0_pay4, k0_pay5]
    refine Fin.sum_fin_congr fun k => ?_
    simp only [blk0, blk1, blk2]
    rfl
  have hs : ∀ (t : Fin cfg0.N) (z : FVec Ideal S1x1024 .f32) (y), k0_pay11 (k0_pay4 (iblk m c 1 t) (iblk m c 0 t)) (k0_pay5 (iblk m c 2 t)) z y
      = z y + ∑ k : Fin 512, ct (V m c main_arg0) (V m c main_arg1) (row t k) (y 1) * V m c main_v21 (ix2 (row t k) (y 1)) := fun t z y => by
    rw [← hA]; pointwise [k0_pay11]
  refine (dats m 0 c).arrAt_eq_of_after_last 10 t0_3 (by decide +kernel) _ fun j => ?_
  blk_simp
  rw [after0_10, Pipeline.eq_sum_fin_of_reset_step_apply_last (fun n h => (outsAt0 m c n h).2.2.1) 4 (fun _ => 0)
    (fun t y => ∑ k : Fin 512, ct (V m c main_arg0) (V m c main_arg1) (row t k) (y 1) * V m c main_v21 (ix2 (row t k) (y 1)))
    (fun t h j => by
      have h4 : t.val < 4 := t.isLt
      rw [outsAt0_A m c t h h (by omega) h (by omega) (by omega)]; frame_out; rw [hA, zero_add])
    (fun t h j => by
      have h4 : t.val < 4 := t.isLt
      by_cases h3 : t.val % 4 = 3
      · rw [outsAt0_C m c t h h (by omega) h (by omega) h3]; frame_out; rw [hs]
      · rw [outsAt0_B m c t h h (by omega) h (by omega) h3]; frame_out; rw [hs]) (le_of_eq N_0) t0_3 rfl j, zero_add]
  exact sum_rows fun i => ct (V m c main_arg0) (V m c main_arg1) i (j 1) * V m c main_v21 (ix2 i (j 1))

/-- The other operand's gradient. -/
theorem final9 (c : Dev nD) : (dats m 0 c).arrAt 9 (cfgs 0).N
    = fun i => ∑ k : Fin 1024, DR (V m c main_arg0) (V m c main_arg1) (V m c main_v21) (V m c main_v17) (V m c main_arg5) (i 0) k
        * V m c main_v25 (ix2 (i 1) k) := by
  have hp : ∀ (t : Fin cfg0.N) (y), k0_pay9 (k0_pay7 (iblk m c 1 t) (iblk m c 0 t) (iblk m c 2 t) (iblk m c 3 t) (iblk m c 6 t))
      (k0_pay8 (iblk m c 7 t)) (constant S512x1024 FTy.f32 0#32) y
      = (fun i : S2048x1024.Idx => ∑ k : Fin 1024, DR (V m c main_arg0) (V m c main_arg1) (V m c main_v21) (V m c main_v17) (V m c main_arg5) (i 0) k
        * V m c main_v25 (ix2 (i 1) k)) (((cfg0.win 9).blk t).view.emb y) := fun t y => by
    have e0 : (((cfg0.win 9).blk t).view.emb y) 0 = row t (y 0) := Fin.ext (by blk_simp; simp [idx t, row])
    have e1 : (((cfg0.win 9).blk t).view.emb y) 1 = y 1 := Fin.ext (by blk_simp; simp [idx t, row])
    simp only [e0, e1]
    pointwise [k0_pay9, k0_pay8]
    refine Fin.sum_fin_congr fun k => congrArg₂ (· * ·) (dr_row7 m c t _) (blk7 m c t _)
  refine (dats m 0 c).arrAt_eq_of_covers 9 _ (by decide +kernel) fun t hf y => ?_
  blk_simp
  rw [after0_9]
  have h4 : t.val < 4 := t.isLt
  by_cases h0 : t.val % 4 = 0
  · rw [outsAt0_A m c t h0 h0 (by omega) h0 (by omega) (by omega)]
    frame_out
    exact hp t y
  · by_cases h3 : t.val % 4 = 3
    · rw [outsAt0_C m c t h0 h0 (by omega) h0 (by omega) h3]
      frame_out
      exact hp t y
    · rw [outsAt0_B m c t h0 h0 (by omega) h0 (by omega) h3]
      frame_out
      exact hp t y
end Cert.Mix
end
-- ==== Proof.MixRef.lean ====
/- What the mixer's reference computes, row by row, and that it is what the kernel computes. -/
module

public import proofs.«01_k».proof.Proof.MixAcc
public import proofs.«01_k».proof.Proof.Gen.ReferenceMixIdeal.Read

@[expose] public section

set_option maxRecDepth 16384

noncomputable section

namespace Cert.Mix

open Cert.KernelMixIdeal Cert.KernelMixIdeal.Gen Idealize.ShloMosaic Idealize.ShloMosaic.TcCoe Idealize.SL.Sem Cert.LayerNorm Cert.RealLift
open Cert.ReferenceMixIdeal.Read

/-- The small literal under the root. -/
abbrev E : EReal := Ideal.ofBits .f32 0x3727C5AC#32

/-- The layer norm's input. -/
def X (x l : FVec Ideal S2048x1024 .f32) (w : FVec Ideal S1024x1024 .f32) (i : Fin 2048) (j : Fin 1024) : EReal :=
  A * x (ix2 i j) + ∑ k : Fin 1024, l (ix2 i k) * w (ix2 k j)

section Ref
variable (p q x l : FVec Ideal S2048x1024 .f32) (w : FVec Ideal S1024x1024 .f32) (g : FVec Ideal S1x1024 .f32)

theorem r3 (i) : val_main_v3 (F := Ideal) x l w i = X x l w (i 0) (i 1) := by
  rw [val_main_v3_apply, val_main_v2_apply, val_main_v1_apply]; pointwise [val_main_v0, val_main_cst, X]; blk_point []
theorem r7 (i) : val_main_v7 (F := Ideal) x l w i = mean N (X x l w (i 0)) := by
  rw [val_main_v7_apply, val_main_v5_apply, val_main_v4_apply]
  simp only [r3]
  pointwise [val_main_v6, val_main_cst_0, val_main_cst_1]; rfl
theorem r9 (i) : val_main_v9 (F := Ideal) x l w i = X x l w (i 0) (i 1) - mean N (X x l w (i 0)) := by
  rw [val_main_v9_apply, val_main_v8_apply, r7, r3]; rfl
theorem r18 (i) : val_main_v18 (F := Ideal) x l w i = X x l w (i 0) (i 1) - mean N (X x l w (i 0)) := by
  rw [val_main_v18_apply, val_main_v17_apply, r7, r3]; rfl
theorem r20 (i) : val_main_v20 (F := Ideal) x l w i = var N (X x l w (i 0)) + E := by
  rw [val_main_v20_apply, val_main_v16_apply, val_main_v14_apply, val_main_v13_apply]
  simp only [val_main_v10_apply, r9]
  pointwise [val_main_v19, val_main_v15, val_main_cst_3, val_main_cst_4, val_main_cst_5]; rfl
theorem r21 (i) : val_main_v21 (F := Ideal) x l w i = rstd N E (X x l w (i 0)) := by
  rw [val_main_v21_apply, r20]; rfl
theorem r26 (i) : val_main_v26 (F := Ideal) x l w i = hat N E (X x l w (i 0)) (i 1) := by
  rw [val_main_v26_apply, val_main_v25_apply, r21, r18]; rfl
theorem r33 (i) : val_main_v33 (F := Ideal) p q i = ct p q (i 0) (i 1) := by
  rw [val_main_v33_apply, val_main_v32_apply]; pointwise [val_main_v31, val_main_cst_7, ct]
theorem r40 (i) : val_main_v40 (F := Ideal) p q g i = dhat p q g (i 0) (i 1) := by
  rw [val_main_v40_apply, val_main_v39_apply, r33]; exact congrArg (ct p q (i 0) (i 1) * g ·) (by blk_ext)
theorem r45 (i) : val_main_v45 (F := Ideal) p q x l w g i = dhat p q g (i 0) (i 1) * rstd N E (X x l w (i 0)) := by
  rw [val_main_v45_apply, val_main_v44_apply, r40, r21]; rfl
/-- The gradient of the input by the chain rule. -/
theorem r64 (i) : val_main_v64 (F := Ideal) p q x l w g i
    = chain N E (Ideal.ofBits .f32 0xBF000000#32) (Ideal.ofBits .f32 0x40000000#32) (X x l w (i 0)) (dhat p q g (i 0)) (i 1) := by
  have i42 (i : S2048x1.Idx) (k) : idx_main_v42 (idx_main_v43 i) k 0 = i 0 :=
    congrFun (show idx_main_v42 (idx_main_v43 i) k = ix2 (i 0) k by blk_ext) 0
  have i48 (i : S2048x1.Idx) (k) : idx_main_v48 (idx_main_v49 i) k 0 = i 0 :=
    congrFun (show idx_main_v48 (idx_main_v49 i) k = ix2 (i 0) k by blk_ext) 0
  have i56 (i : S2048x1.Idx) (k) : idx_main_v56 (idx_main_v57 i) k 0 = i 0 :=
    congrFun (show idx_main_v56 (idx_main_v57 i) k = ix2 (i 0) k by blk_ext) 0
  have hv (i) : val_main_v51 (F := Ideal) p q x l w g i = dvar N E (Ideal.ofBits .f32 0xBF000000#32) (X x l w (i 0)) (dhat p q g (i 0)) := by
    rw [val_main_v51_apply, val_main_v46_apply, val_main_v24_apply, val_main_v22_apply, r21, r20, val_main_v43_apply, val_main_v42_apply]
    simp only [val_main_v41_apply, r18, r40, i42]
    pointwise [val_main_v23, val_main_v50, val_main_cst_6, val_main_cst_10, val_main_cst_12]; rfl
  have h54 (i) : val_main_v54 (F := Ideal) p q x l w g i = dvar N E (Ideal.ofBits .f32 0xBF000000#32) (X x l w (i 0)) (dhat p q g (i 0))
      * (Ideal.ofBits .f32 0x40000000#32 * (X x l w (i 0) (i 1) - mean N (X x l w (i 0)))) := by
    rw [val_main_v54_apply, val_main_v53_apply, val_main_v52_apply, val_main_v12_apply, r9]
    simp only [hv]
    pointwise [val_main_v11, val_main_cst_2, val_main_cst_13]
    exact congrArg (· * _) (Fin.sum_univ_one _)
  rw [val_main_v64_apply, val_main_v58_apply, val_main_v63_apply, val_main_v62_apply, r45, h54]
  simp only [val_main_v61_apply, val_main_v59_apply, val_main_v57_apply, val_main_v56_apply, val_main_v55_apply, val_main_v49_apply, val_main_v48_apply, val_main_v47_apply, r45, h54, i48, i56]
  pointwise [val_main_v60, val_main_cst_11, val_main_cst_14, val_main_cst_15, val_main_cst_16]
  exact (congrArg₂ (· + ·) rfl (Fin.sum_univ_one _)).trans rfl

/-- The gradient of the input on finite arguments: the closed form that the kernel computes. -/
theorem r64_eq (hx : ∀ i j, IsReal (X x l w i j)) (hd : ∀ i j, IsReal (dhat p q g i j)) (i : S2048x1024.Idx) :
    val_main_v64 (F := Ideal) p q x l w g i
      = DR p q (fun i => hat N E (X x l w (i 0)) (i 1)) (fun i => rstd N E (X x l w (i 0))) g (i 0) (i 1) :=
  (r64 p q x l w g i).trans (chain_eq_back (hx (i 0)) (hd (i 0)) (by rw [N, ofBits_1024]; norm_num) (by decide) ofBits_eps ofBits_neg_half ofBits_two _)
theorem r67 (i) : val_main_v67 (F := Ideal) p q x l w g i
    = ∑ k : Fin 1024, val_main_v64 (F := Ideal) p q x l w g (ix2 (i 0) k) * w (ix2 (i 1) k) := by
  rw [val_main_v67_apply]
  refine Fin.sum_fin_congr fun k => congrArg₂ (· * ·) (congrArg _ ?_) (congrArg _ ?_) <;> blk_ext
theorem r68 (i) : (val_main_v68 (F := Ideal) p q x l w g i : EReal)
    = ∑ k : Fin 2048, l (ix2 k (i 0)) * val_main_v64 (F := Ideal) p q x l w g (ix2 k (i 1)) := by
  rw [val_main_v68_apply, val_main_v66_apply]
  refine (val_main_v65_apply _ _ _ _ _ _ _).trans ?_
  refine Fin.sum_fin_congr fun k => (mul_comm _ _).trans (congrArg₂ (· * ·) (congrArg _ ?_) (congrArg _ ?_)) <;> blk_ext
theorem r35 (i) : val_main_v35 (F := Ideal) p q i = ∑ k : Fin 2048, ct p q k (i 1) := by
  have i34 (k) : idx_main_v34 (idx_main_v35 i) k 1 = i 1 :=
    congrFun (show idx_main_v34 (idx_main_v35 i) k = ix2 k (i 1) by blk_ext) 1
  rw [val_main_v35_apply, val_main_v34_apply]
  simp only [r33, i34]
  pointwise [val_main_cst_8]
  rfl
theorem r38 (i) : val_main_v38 (F := Ideal) p q x l w i = ∑ k : Fin 2048, ct p q k (i 1) * hat N E (X x l w k) (i 1) := by
  have i37 (k) : idx_main_v37 (idx_main_v38 i) k 1 = i 1 :=
    congrFun (show idx_main_v37 (idx_main_v38 i) k = ix2 k (i 1) by blk_ext) 1
  rw [val_main_v38_apply, val_main_v37_apply]
  simp only [val_main_v36_apply, r33, r26, i37]
  pointwise [val_main_cst_9]
  exact Fin.sum_fin_congr fun k => mul_comm _ _
end Ref
end Cert.Mix
end
-- ==== Proof.FiniteArray.lean ====
/- The printed precondition `|a| < +∞` of an array says that each of its elements is a real number. -/
module

public import proofs.«01_k».proof.Proof.RealLift

@[expose] public section

noncomputable section

namespace Cert.RealLift

open Idealize.ShloMosaic

/-- An array whose comparison `|a| < +∞` is all ones holds real numbers only. -/
theorem isReal_of_finite {s : Shape} (a : FVec Ideal s .f32) (hb : (⟨0, ![]⟩ : Shape).BroadcastsInDim s (![] : Fin 0 → Fin s.rank))
    (h : cmpf (F := Ideal) .olt (Host.absf a) (broadcastInDim s ![] hb (constant ⟨0, ![]⟩ .f32 0x7F800000#32)) = fun _ => 1#1) (i : s.Idx) :
    IsReal (a i) := by
  have h' := congrFun h i
  have e : cmpf (F := Ideal) .olt (Host.absf a) (broadcastInDim s ![] hb (constant ⟨0, ![]⟩ .f32 0x7F800000#32)) i
      = BitVec.ofBool (decide ((max (a i) (-(a i)) : EReal) < Ideal.ofBits .f32 0x7F800000#32)) := by
    rfl
  rw [e, ofBits_inf] at h'
  refine IsReal.of_abs_lt ?_
  by_contra hn
  rw [decide_eq_false hn] at h'
  exact absurd h' (by decide)

end Cert.RealLift
end
-- ==== Proof.MixClaim.lean ====
/- The mixer's backward call against its reference: the arguments of the launch, the precondition, the equation. -/
module

public import proofs.«01_k».proof.Proof.MixRef
public import proofs.«01_k».proof.Proof.FiniteArray
public import proofs.«01_k».proof.Defs
public import Idealize.ShloMosaic.Lib.Claim

@[expose] public section

set_option maxRecDepth 16384

noncomputable section

namespace Cert.Mix

open Cert.KernelMixIdeal Cert.KernelMixIdeal.Gen Idealize.ShloMosaic Idealize.ShloMosaic.TcCoe Idealize.SL.Sem Cert.LayerNorm Cert.RealLift
open Cert.ReferenceMixIdeal.Read

variable (m : (ℓ : Loc nD τ sig) → Buf (Elt Ideal) ℓ)

instance preFacts : Cert.Pre_finite_mix.Facts := ⟨by decide, by decide, by decide⟩

/-- The layer norm's input, of the arguments in memory. -/
abbrev XM (c : Dev nD) : Fin 2048 → Fin 1024 → EReal :=
  X (m (c, Proc.tc.devRef main_arg2)) (m (c, Proc.tc.devRef main_arg3)) (m (c, Proc.tc.devRef main_arg4))

theorem v17_at (c : Dev nD) : (V m c main_v17 : FVec Ideal S2048x1 .f32) = fun i => rstd N E (XM m c (i 0)) := by
  funext i; entry_read; pointwise; rfl
theorem v21_at (c : Dev nD) (i : Fin 2048) (j : Fin 1024) :
    (V m c main_v21 : FVec Ideal S2048x1024 .f32) (ix2 i j) = hat N E (XM m c i) j := by
  entry_read; pointwise; rfl
theorem v23_at (c : Dev nD) (i : Fin 2048) (j : Fin 512) :
    (V m c main_v23 : FVec Ideal S2048x512 .bf16) (ix2 i j) = m (c, Proc.tc.devRef main_arg3) (ix2 i ⟨j.val, by omega⟩) := by
  entry_read; pointwise
theorem v24_at (c : Dev nD) (i : Fin 2048) (j : Fin 512) :
    (V m c main_v24 : FVec Ideal S2048x512 .bf16) (ix2 i j) = m (c, Proc.tc.devRef main_arg3) (ix2 i ⟨j.val + 512, by omega⟩) := by
  entry_read; pointwise; exact congrArg _ (by blk_ext)
theorem ll_at (c : Dev nD) (i j) : LL (V m c main_v23) (V m c main_v24) i j = m (c, Proc.tc.devRef main_arg3) (ix2 i j) := by
  rw [LL]; split
  · exact v23_at m c _ _
  · next h =>
    refine (v24_at m c _ _).trans (congrArg (fun k => m (c, Proc.tc.devRef main_arg3) (ix2 i k)) (Fin.ext ?_))
    exact Nat.sub_add_cancel (not_lt.mp h)
theorem v25_at (c : Dev nD) : (V m c main_v25 : FVec Ideal S1024x1024 .f32) = m (c, Proc.tc.devRef main_arg4) := by
  funext i; entry_read; pointwise

theorem alpha_real : IsReal A := ofBits_alpha.elim fun e h => ⟨e, h⟩

variable (h : Cert.Pre_KernelMixIdeal_finite_mix m)
include h

theorem x_real (c : Dev nD) (i j) : IsReal (XM m c i j) :=
  (alpha_real.mul (isReal_of_finite _ _ (h c).2.2.1 _)).add (IsReal.sum fun _ =>
    (isReal_of_finite _ _ (h c).2.2.2.1 _).mul (isReal_of_finite _ _ (h c).2.2.2.2.1 _))
theorem dhat_real (c : Dev nD) (i j) : IsReal (dhat (m (c, Proc.tc.devRef main_arg0)) (m (c, Proc.tc.devRef main_arg1)) (m (c, Proc.tc.devRef main_arg5)) i j) :=
  ((alpha_real.mul (isReal_of_finite _ _ (h c).2.1 _)).add (isReal_of_finite _ _ (h c).1 _)).mul (isReal_of_finite _ _ (h c).2.2.2.2.2 _)

theorem dr_eq (c : Dev nD) (i : S2048x1024.Idx) :
    val_main_v64 (F := Ideal) (m (c, Proc.tc.devRef main_arg0)) (m (c, Proc.tc.devRef main_arg1)) (m (c, Proc.tc.devRef main_arg2))
      (m (c, Proc.tc.devRef main_arg3)) (m (c, Proc.tc.devRef main_arg4)) (m (c, Proc.tc.devRef main_arg5)) i
      = DR (V m c main_arg0) (V m c main_arg1) (V m c main_v21) (V m c main_v17) (V m c main_arg5) (i 0) (i 1) := by
  refine (r64_eq _ _ _ _ _ _ (x_real m h c) (dhat_real m h c) i).trans ?_
  rw [V_main_arg0, V_main_arg1, V_main_arg5]
  exact (congrArg₂ (fun r h => back N r (dhat (m (c, Proc.tc.devRef main_arg0)) (m (c, Proc.tc.devRef main_arg1)) (m (c, Proc.tc.devRef main_arg5)) (i 0)) h (i 1))
    (congrFun (v17_at m c) (ix2 (i 0) 0)) (funext fun k => v21_at m c (i 0) k)).symm
theorem res64 (c : Dev nD) : val_main_v64 (F := Ideal) (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) = (dats m 0 c).arrAt 8 (cfgs 0).N :=
  (funext fun i => dr_eq m h c i).trans (final8 m c).symm
theorem res67 (c : Dev nD) : val_main_v67 (F := Ideal) (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) = (dats m 0 c).arrAt 9 (cfgs 0).N := by
  refine (funext fun i => ?_).trans (final9 m c).symm
  rw [r67]; simp only [dr_eq m h c, v25_at]; rfl
theorem res68 (c : Dev nD) : val_main_v68 (F := Ideal) (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) = (dats m 0 c).arrAt 12 (cfgs 0).N := by
  refine (funext fun i => ?_).trans (final12 m c).symm
  refine (r68 ..).trans ?_
  exact Fin.sum_fin_congr fun k => congrArg₂ (· * ·) (ll_at m c k _).symm (dr_eq m h c (ix2 k (i 1)))
omit h
theorem res38 (c : Dev nD) : val_main_v38 (F := Ideal) (m (c, Proc.tc.devRef main_arg0)) (m (c, Proc.tc.devRef main_arg1)) (m (c, Proc.tc.devRef main_arg2))
    (m (c, Proc.tc.devRef main_arg3)) (m (c, Proc.tc.devRef main_arg4)) = (dats m 0 c).arrAt 10 (cfgs 0).N := by
  refine (funext fun i => ?_).trans (final10 m c).symm
  refine (r38 ..).trans (Fin.sum_fin_congr fun k => congrArg₂ (· * ·) ?_ (v21_at m c k (i 1)).symm)
  rw [V_main_arg0, V_main_arg1]
theorem res35 (c : Dev nD) : val_main_v35 (F := Ideal) (m (c, Proc.tc.devRef main_arg0)) (m (c, Proc.tc.devRef main_arg1)) = (dats m 0 c).arrAt 11 (cfgs 0).N := by
  refine (funext fun i => ?_).trans (final11 m c).symm
  rw [r35, V_main_arg0, V_main_arg1]

set_option maxHeartbeats 3200000 in
/-- Kernel and reference compute the same five arrays. -/
theorem algebraic : Cert.algebraic_KernelMixIdeal_ReferenceMixIdeal_pre_finite_mix := by
  pair_intro
  · run_from Cert.KernelMixIdeal.Gen.run_main m g
  · refine (θ_run Cert.ReferenceMixIdeal.defs _ _).mono (fun r hr c => ?_) (Cert.ReferenceMixIdeal.Value.run m' g')
    obtain ⟨h0, h1, h2, h3, h4, h5, -⟩ := hagree c
    obtain ⟨k0, k1, k2, k3, k4, k⟩ := hr c
    refine ⟨k0.trans ?_, k1.trans ?_, k2.trans ?_, k3.trans ?_, k4.trans ?_, k⟩
    · rw [val_main_v64_eq, h0, h1, h2, h3, h4, h5]; exact res64 m hpre c
    · rw [val_main_v67_eq, h0, h1, h2, h3, h4, h5]; exact res67 m hpre c
    · rw [val_main_v38_eq, h0, h1, h2, h3, h4]; exact res38 m c
    · rw [val_main_v35_eq, h0, h1]; exact res35 m c
    · rw [val_main_v68_eq, h0, h1, h2, h3, h4, h5]; exact res68 m hpre c

end Cert.Mix
end
-- ==== Proof.AttnMath.lean ====
/- The stick-breaking attention over the real numbers: scores, weights and the gradients of both, and the sums over one
   block of rows or columns that the kernel adds up. -/
module

public import proofs.«01_k».proof.Proof.RealLift
public import Mathlib.Analysis.SpecialFunctions.Log.Basic
public import Mathlib.Algebra.BigOperators.Fin
public import Mathlib.Algebra.BigOperators.Intervals
public import Mathlib.Tactic.Ring
public import Mathlib.Tactic.Linarith

@[expose] public section

namespace Cert.Attn

open Finset

/-- The softplus `log (1 + exp z)`, as both programs compute it. -/
noncomputable def sp (z : ℝ) : ℝ := max z 0 + Real.log (1 + Real.exp (-|z|))

theorem sp_neg (z : ℝ) : sp (-z) = sp z - z := by
  have h : max (-z) 0 = max z 0 - z := by
    rcases le_total z 0 with h | h
    · rw [max_eq_left (by linarith), max_eq_right h]; ring
    · rw [max_eq_right (by linarith), max_eq_left h]; ring
  rw [sp, sp, abs_neg, h]; ring

theorem exp_sp (z : ℝ) : Real.exp (sp z) = 1 + Real.exp z := by
  have hp : 0 < 1 + Real.exp (-|z|) := by positivity
  rw [sp, Real.exp_add, Real.exp_log hp]
  rcases le_total z 0 with h | h
  · rw [max_eq_right h, abs_of_nonpos h, Real.exp_zero, neg_neg, one_mul]
  · rw [max_eq_left h, abs_of_nonneg h, mul_add, mul_one, ← Real.exp_add, add_neg_cancel, Real.exp_zero, add_comm]

/-- The two slopes of the log-sigmoid add up to one. -/
theorem slopes (z : ℝ) : Real.exp (-sp z) = 1 - Real.exp (z - sp z) := by
  rw [sub_eq_add_neg z, Real.exp_add, Real.exp_neg, exp_sp]
  have : 0 < 1 + Real.exp z := by positivity
  field_simp
  ring

/-- The rows of the queries, keys and values and of the incoming gradient, all heads side by side. -/
structure Inp where
  q : ℕ → ℕ → ℝ
  k : ℕ → ℕ → ℝ
  v : ℕ → ℕ → ℝ
  d : ℕ → ℕ → ℝ

namespace Inp

variable (X : Inp)

/-- The score of head `h` at row `t` for column `s`. -/
noncomputable def Z (h t s : ℕ) : ℝ := (∑ e : Fin 64, X.q t (64 * h + e) * X.k s (64 * h + e)) * (1 / 8)

/-- What is taken off the stick's logarithm, below the diagonal only. -/
noncomputable def L (h t s : ℕ) : ℝ := if s < t then sp (X.Z h t s) else 0

/-- The log-sigmoid of the score. -/
noncomputable def A (h t s : ℕ) : ℝ := X.Z h t s - sp (X.Z h t s)

/-- All that is taken off in a row. -/
noncomputable def T (h t : ℕ) : ℝ := ∑ j ∈ range 2048, X.L h t j

/-- The weight. -/
noncomputable def W (h t s : ℕ) : ℝ :=
  if s < t then Real.exp (X.A h t s - (X.T h t - ∑ j ∈ range (s + 1), X.L h t j)) else 0

/-- The gradient of the weight. -/
noncomputable def DW (h t s : ℕ) : ℝ := ∑ e : Fin 64, X.d t (64 * h + e) * X.v s (64 * h + e)

noncomputable def G (h t s : ℕ) : ℝ := X.DW h t s * X.W h t s

/-- The gradient of the score. -/
noncomputable def DZ (h t s : ℕ) : ℝ :=
  if s < t then X.G h t s - Real.exp (X.A h t s) * (X.G h t s + ∑ j ∈ range s, X.G h t j) else 0

/-- The scaled query row, with the other head's columns cleared: row `r` of the pair `p`'s two stacked blocks. -/
noncomputable def QH (i p r c : ℕ) : ℝ := if (r < 256 ↔ c < 64) then X.q (256 * i + r % 256) (128 * p + c) * (1 / 8) else 0

/-- The incoming gradient, stacked in the same way. -/
noncomputable def DH (i p r c : ℕ) : ℝ := if (r < 256 ↔ c < 64) then X.d (256 * i + r % 256) (128 * p + c) else 0

end Inp

/-! ## Sums -/

theorem sum_128 (f : ℕ → ℝ) : ∑ x : Fin 128, f x = ∑ e : Fin 64, f e + ∑ e : Fin 64, f (64 + e) := by
  rw [Fin.sum_univ_eq_sum_range f 128, Fin.sum_univ_eq_sum_range f 64, Fin.sum_univ_eq_sum_range (fun e => f (64 + e)) 64]
  exact Finset.sum_range_add f 64 64

theorem sum_512 (f : ℕ → ℝ) : ∑ x : Fin 512, f x = ∑ e : Fin 256, f e + ∑ e : Fin 256, f (256 + e) := by
  rw [Fin.sum_univ_eq_sum_range f 512, Fin.sum_univ_eq_sum_range f 256, Fin.sum_univ_eq_sum_range (fun e => f (256 + e)) 256]
  exact Finset.sum_range_add f 256 256

/-- One more block of 256. -/
theorem sum_block (f : ℕ → ℝ) (n : ℕ) :
    ∑ j ∈ range (256 * n), f j + ∑ x : Fin 256, f (256 * n + x) = ∑ j ∈ range (256 * (n + 1)), f j := by
  rw [Fin.sum_univ_eq_sum_range (fun x => f (256 * n + x)) 256, mul_add, mul_one, Finset.sum_range_add f]

/-- Summing against a step: the terms before `m`. -/
theorem sum_step (f : ℕ → ℝ) (m : ℕ) (hm : m ≤ 256) :
    ∑ x : Fin 256, f x * (if x.val < m then 1 else 0) = ∑ j ∈ range m, f j := by
  rw [Fin.sum_univ_eq_sum_range (fun x => f x * (if x < m then 1 else 0)) 256, ← Finset.sum_subset (Finset.range_subset_range.2 hm)]
  · exact Finset.sum_congr rfl fun j hj => by rw [if_pos (Finset.mem_range.1 hj), mul_one]
  · exact fun j _ hj => by rw [if_neg (fun h => hj (Finset.mem_range.2 h)), mul_zero]

/-- With the other head's columns cleared only this head's 64 columns are summed. -/
theorem sum_mask (f : ℕ → ℝ) (r : ℕ) (F : ℕ → ℝ)
    (hF : ∀ c < 128, F c = if (r < 256 ↔ c < 64) then f c else 0) :
    ∑ x : Fin 128, F x = ∑ e : Fin 64, f (64 * min (r / 256) 1 + e) := by
  rw [sum_128 F]
  by_cases h : r < 256
  · rw [Nat.div_eq_of_lt h]
    have h2 : ∑ e : Fin 64, F (64 + e) = 0 := Finset.sum_eq_zero fun e _ => by
      rw [hF _ (by omega), if_neg (by omega)]
    rw [h2, add_zero]
    exact Finset.sum_congr rfl fun e _ => by rw [hF _ (by omega), if_pos (by omega)]; simp
  · have h1 : ∑ e : Fin 64, F e = 0 := Finset.sum_eq_zero fun e _ => by
      rw [hF _ (by omega), if_neg (by omega)]
    rw [h1, zero_add]
    refine Finset.sum_congr rfl fun e _ => ?_
    have : min (r / 256) 1 = 1 := Nat.min_eq_right (by omega)
    rw [hF _ (by omega), if_pos (by omega), this]

namespace Inp

variable (X : Inp)

theorem sum_QH (i p r s : ℕ) (hr : r < 512) :
    ∑ x : Fin 128, X.QH i p r x * X.k s (128 * p + x) = X.Z (2 * p + r / 256) (256 * i + r % 256) s := by
  rw [sum_mask (fun c => X.q (256 * i + r % 256) (128 * p + c) * (1 / 8) * X.k s (128 * p + c)) r
    (fun c => X.QH i p r c * X.k s (128 * p + c)) fun c _ => by simp only [QH, ite_mul, zero_mul], Z, Finset.sum_mul]
  refine Finset.sum_congr rfl fun e _ => ?_
  have : 128 * p + (64 * min (r / 256) 1 + e) = 64 * (2 * p + r / 256) + e := by omega
  simp only [this]; ring

theorem sum_DH (i p r s : ℕ) (hr : r < 512) :
    ∑ x : Fin 128, X.DH i p r x * X.v s (128 * p + x) = X.DW (2 * p + r / 256) (256 * i + r % 256) s := by
  rw [sum_mask (fun c => X.d (256 * i + r % 256) (128 * p + c) * X.v s (128 * p + c)) r
    (fun c => X.DH i p r c * X.v s (128 * p + c)) fun c _ => by simp only [DH, ite_mul, zero_mul], DW]
  refine Finset.sum_congr rfl fun e _ => ?_
  have : 128 * p + (64 * min (r / 256) 1 + e) = 64 * (2 * p + r / 256) + e := by omega
  simp only [this]

/-- Down a column of the stacked block only the rows of the column's own head count. -/
theorem sum_rows_QH (φ : ℕ → ℕ → ℝ) (i p c : ℕ) (hc : c < 128) :
    ∑ x : Fin 512, φ (2 * p + x / 256) (256 * i + x % 256) * X.QH i p x c
      = ∑ r : Fin 256, φ (2 * p + c / 64) (256 * i + r) * (X.q (256 * i + r) (128 * p + c) * (1 / 8)) := by
  rw [sum_512 (fun x => φ (2 * p + x / 256) (256 * i + x % 256) * X.QH i p x c)]
  by_cases h : c < 64
  · rw [Finset.sum_eq_zero (s := Finset.univ) (f := fun e : Fin 256 => φ (2 * p + (256 + e.val) / 256) (256 * i + (256 + e.val) % 256) *
      X.QH i p (256 + e.val) c) fun e _ => by rw [QH, if_neg (by omega), mul_zero], add_zero]
    refine Finset.sum_congr rfl fun e _ => ?_
    rw [QH, if_pos (by omega), show e.val / 256 = c / 64 by omega, show e.val % 256 = e.val by omega]
  · rw [Finset.sum_eq_zero (s := Finset.univ) (f := fun e : Fin 256 => φ (2 * p + e.val / 256) (256 * i + e.val % 256) *
      X.QH i p e.val c) fun e _ => by rw [QH, if_neg (by omega), mul_zero], zero_add]
    refine Finset.sum_congr rfl fun e _ => ?_
    rw [QH, if_pos (by omega), show (256 + e.val) / 256 = c / 64 by omega, show (256 + e.val) % 256 = e.val by omega]

theorem sum_rows_DH (φ : ℕ → ℕ → ℝ) (i p c : ℕ) (hc : c < 128) :
    ∑ x : Fin 512, φ (2 * p + x / 256) (256 * i + x % 256) * X.DH i p x c
      = ∑ r : Fin 256, φ (2 * p + c / 64) (256 * i + r) * X.d (256 * i + r) (128 * p + c) := by
  have h := sum_rows_QH { X with q := fun t c => X.d t c * 8 } φ i p c hc
  have e (x : ℕ) : QH { X with q := fun t c => X.d t c * 8 } i p x c = X.DH i p x c := by
    simp only [QH, DH]; congr 1; ring
  simp only [e] at h
  rw [h]
  exact Finset.sum_congr rfl fun r _ => by ring

end Inp

end Cert.Attn
end
-- ==== Proof.AttnBlock.lean ====
/- What one block of 256 columns contributes: each vector of the block's computation, read as a real function of head, row and column. -/
module

public import proofs.«01_k».proof.Proof.Gen.KernelAttnIdeal.Value
public import proofs.«01_k».proof.Proof.AttnMath
public import Idealize.ShloMosaic.Lib.ValueIdx
public import Idealize.ShloMosaic.Lib.WordCmp
public import Idealize.ShloMosaic.Lib.Pointwise
public import Idealize.ShloMosaic.Lib.Pipeline.ValueKit

@[expose] public section

noncomputable section

namespace Cert.KernelAttnIdeal.Gen

open Idealize.ShloMosaic Idealize.ShloMosaic.TcCoe Idealize.ShloMosaic.Tactic Idealize.SL.Sem Cert.Attn Cert.RealLift

set_option maxRecDepth 8192

/-! ## The masks -/

theorem mask_head (y : S1x128.Idx) (a b : EReal) :
    Scalar.select (k0_pay149 y) a b = if (y 1).val < 64 then a else b := by
  have h (c : ℕ) (hc : c < 128) : Scalar.select (IntOp.cmpi .slt (BitVec.ofNat 32 c) (BitVec.ofNat 32 64)) a b = if c < 64 then a else b := by
    rw [WordCmp.cmpi_slt_ofNat (by omega) (by omega)]
    by_cases h : c < 64
    · rw [decide_eq_true h, if_pos h]; rfl
    · rw [decide_eq_false h, if_neg h]; rfl
  pointwise [k0_pay149]
  exact h _ (y 1).isLt

theorem mask_diag (y : S512x256.Idx) (a b : EReal) :
    Scalar.select (k0_pay150 y) a b = if (y 1).val < (y 0).val % 256 then a else b := by
  have h (r : ℕ) (hr : r < 512) : Scalar.select (IntOp.cmpi .sge (BitVec.ofNat 32 r) (BitVec.ofNat 32 256))
      (IntOp.subi (BitVec.ofNat 32 r) 256#32) (BitVec.ofNat 32 r) = BitVec.ofNat 32 (r % 256) := by
    rw [WordCmp.cmpi_sge_ofNat (by omega) (by omega)]
    by_cases h : 256 ≤ r
    · rw [decide_eq_true h, show r % 256 = r - 256 by omega]
      show BitVec.ofNat 32 r - BitVec.ofNat 32 256 = _
      exact (BitVec.ofNat_sub_ofNat_of_le _ _ (by omega) h).trans rfl
    · rw [decide_eq_false h, Nat.mod_eq_of_lt (by omega)]; rfl
  have h2 (c r : ℕ) (hc : c < 256) (hr : r < 256) :
      Scalar.select (IntOp.cmpi .slt (BitVec.ofNat 32 c) (BitVec.ofNat 32 r)) a b = if c < r then a else b := by
    rw [WordCmp.cmpi_slt_ofNat (by omega) (by omega)]
    by_cases h : c < r
    · rw [decide_eq_true h, if_pos h]; rfl
    · rw [decide_eq_false h, if_neg h]; rfl
  pointwise [k0_pay150]
  exact (congrArg (fun w => Scalar.select (IntOp.cmpi .slt (BitVec.ofNat 32 (y 1).val) w) a b) (h _ (y 0).isLt)).trans
    (h2 _ _ (y 1).isLt (Nat.mod_lt _ (by decide)))

theorem word_bool (p : Prop) [Decidable p] :
    (FloatOps.sitofp .f32 (BitVec.setWidth 32 (BitVec.ofBool (decide p))) : Ideal .f32) = ((if p then 1 else 0 : ℝ) : EReal) := by
  by_cases h : p
  · rw [decide_eq_true h, if_pos h]
    show (((BitVec.setWidth 32 (BitVec.ofBool true)).toInt : ℝ) : EReal) = _
    rw [show (BitVec.setWidth 32 (BitVec.ofBool true)).toInt = 1 by decide, Int.cast_one]
  · rw [decide_eq_false h, if_neg h]
    show (((BitVec.setWidth 32 (BitVec.ofBool false)).toInt : ℝ) : EReal) = _
    rw [show (BitVec.setWidth 32 (BitVec.ofBool false)).toInt = 0 by decide, Int.cast_zero]

theorem step_le (y : S256x256.Idx) : k0_pay151 (F := Ideal) y = (((if (y 0).val < (y 1).val + 1 then 1 else 0 : ℝ)) : EReal) := by
  have h (a b : ℕ) (ha : a < 256) (hb : b < 256) : IntOp.cmpi .sle (BitVec.ofNat 32 a) (BitVec.ofNat 32 b) = BitVec.ofBool (decide (a < b + 1)) := by
    rw [WordCmp.cmpi_sle_ofNat (by omega) (by omega)]
    simp only [Nat.lt_succ_iff]
  pointwise [k0_pay151]
  exact (congrArg (fun w => (FloatOps.sitofp .f32 (BitVec.setWidth 32 w) : Ideal .f32)) (h _ _ (y 0).isLt (y 1).isLt)).trans (word_bool _)

theorem step_lt (y : S256x256.Idx) : k0_pay152 (F := Ideal) y = (((if (y 0).val < (y 1).val then 1 else 0 : ℝ)) : EReal) := by
  have h (a b : ℕ) (ha : a < 256) (hb : b < 256) : IntOp.cmpi .slt (BitVec.ofNat 32 a) (BitVec.ofNat 32 b) = BitVec.ofBool (decide (a < b)) :=
    WordCmp.cmpi_slt_ofNat (by omega) (by omega)
  pointwise [k0_pay152]
  exact (congrArg (fun w => (FloatOps.sitofp .f32 (BitVec.setWidth 32 w) : Ideal .f32)) (h _ _ (y 0).isLt (y 1).isLt)).trans (word_bool _)

/-! ## The vectors of a block -/

variable (X : Inp) (i p n : ℕ)

/-- A stacked sheet of rows and columns holds the real function `φ` of head, row and column. -/
def Sheet (φ : ℕ → ℕ → ℕ → ℝ) (f : S512x256.Idx → EReal) : Prop :=
  ∀ y, f y = ((φ (2 * p + (y 0).val / 256) (256 * i + (y 0).val % 256) (256 * n + (y 1).val) : ℝ) : EReal)

/-- One pair of a carried row value: the same in every column. -/
def Carry (φ : ℕ → ℕ → ℝ) (f : S1x512x256.Idx → EReal) : Prop :=
  ∀ y, f y = ((φ (2 * p + (y 1).val / 256) (256 * i + (y 1).val % 256) : ℝ) : EReal)

/-- What is left of a row's total before block `n`. -/
def Left (h t : ℕ) : ℝ := X.T h t - ∑ j ∈ Finset.range (256 * n), X.L h t j

/-- The sum of the weights' gradients before block `n`. -/
def Run (h t : ℕ) : ℝ := ∑ j ∈ Finset.range (256 * n), X.G h t j

/-- The block's running sums of what is taken off. -/
def Pre (h t s : ℕ) : ℝ := ∑ j ∈ Finset.range (s % 256 + 1), X.L h t (256 * n + j)

/-- The block's running sums of the weights' gradients, without the column's own. -/
def Gs (h t s : ℕ) : ℝ := ∑ j ∈ Finset.range (s % 256), X.G h t (256 * n + j)

/-- The sum of the weights' gradients left of a column. -/
def Gx (h t s : ℕ) : ℝ := ∑ j ∈ Finset.range s, X.G h t j

variable {X i p n}

variable {qh doh : Vec Ideal S1x512x128 .bf16} {kk vv : Vec Ideal S256x128 .bf16}

theorem z_sheet (hq : ∀ y, qh y = ((X.QH i p (y 1).val (y 2).val : ℝ) : EReal))
    (hk : ∀ y, kk y = ((X.k (256 * n + (y 0).val) (128 * p + (y 1).val) : ℝ) : EReal)) :
    Sheet i p n X.Z (k0_pay3 (F := Ideal) qh kk) := fun y => by
  pointwise [k0_pay3]
  simp only [hq, hk, ← EReal.coe_mul]
  exact (coe_sum _).trans (congrArg _ (X.sum_QH i p (y 0).val (256 * n + (y 1).val) (y 0).isLt))

theorem dw_sheet (hq : ∀ y, doh y = ((X.DH i p (y 1).val (y 2).val : ℝ) : EReal))
    (hk : ∀ y, vv y = ((X.v (256 * n + (y 0).val) (128 * p + (y 1).val) : ℝ) : EReal)) :
    Sheet i p n X.DW (k0_pay3 (F := Ideal) doh vv) := fun y => by
  pointwise [k0_pay3]
  simp only [hq, hk, ← EReal.coe_mul]
  exact (coe_sum _).trans (congrArg _ (X.sum_DH i p (y 0).val (256 * n + (y 1).val) (y 0).isLt))

variable {z dw a pre w g gs gex dz : FVec Ideal S512x256 .f32} {rem gc : Vec Ideal S1x512x256 .f32}

theorem coe_max (a b : ℝ) : ((max a b : ℝ) : EReal) = max (a : EReal) (b : EReal) := EReal.coe_strictMono.monotone.map_max

theorem coe_sp (x : ℝ) : max (x : EReal) 0 + Ideal.log (1 + Ideal.exp (0 - max (x : EReal) (-x))) = ((sp x : ℝ) : EReal) := by
  have h : (0 : EReal) - max (x : EReal) (-x) = ((-|x| : ℝ) : EReal) := by
    rw [zero_sub, ← EReal.coe_neg, ← coe_max, EReal.coe_neg]; rfl
  rw [h, Ideal.exp_coe, ← EReal.coe_one, ← EReal.coe_add, Ideal.log_coe, if_neg (by have := Real.exp_pos (-|x|); linarith), ← EReal.coe_zero,
    ← coe_max, ← EReal.coe_add]
  rfl

theorem sp_sheet (hz : Sheet i p n X.Z z) : Sheet i p n (fun h t s => sp (X.Z h t s)) (k0_pay11 (F := Ideal) z) := fun y => by
  pointwise [k0_pay11]
  rw [hz, Ideal.absf_def]
  exact coe_sp _

theorem a_sheet (hz : Sheet i p n X.Z z) : Sheet i p n X.A (k0_pay12 (F := Ideal) z) := fun y => by
  pointwise [k0_pay12]
  rw [hz, sp_sheet hz, ← EReal.coe_sub]
  rfl

/-- The running sum of the block: the terms of the block up to and with the column. -/
theorem tri_le {φ : ℕ → ℕ → ℕ → ℝ} {f : S512x256.Idx → EReal} (hf : Sheet i p n φ f) (y : S512x256.Idx) :
    ∑ x : Fin 256, f (ix2 (y 0) x) * k0_pay151 (F := Ideal) (ix2 x (y 1))
      = ((∑ j ∈ Finset.range ((y 1).val + 1), φ (2 * p + (y 0).val / 256) (256 * i + (y 0).val % 256) (256 * n + j) : ℝ) : EReal) := by
  simp only [hf _, step_le, ← EReal.coe_mul]
  exact (coe_sum _).trans (congrArg _ (sum_step (fun j => φ (2 * p + (y 0).val / 256) (256 * i + (y 0).val % 256) (256 * n + j)) _ (y 1).isLt))

/-- The same without the column's own term. -/
theorem tri_lt {φ : ℕ → ℕ → ℕ → ℝ} {f : S512x256.Idx → EReal} (hf : Sheet i p n φ f) (y : S512x256.Idx) :
    ∑ x : Fin 256, f (ix2 (y 0) x) * k0_pay152 (F := Ideal) (ix2 x (y 1))
      = ((∑ j ∈ Finset.range (y 1).val, φ (2 * p + (y 0).val / 256) (256 * i + (y 0).val % 256) (256 * n + j) : ℝ) : EReal) := by
  simp only [hf _, step_lt, ← EReal.coe_mul]
  exact (coe_sum _).trans (congrArg _ (sum_step (fun j => φ (2 * p + (y 0).val / 256) (256 * i + (y 0).val % 256) (256 * n + j)) _ (y 1).isLt.le))

theorem col_lo (s : ℕ) (hs : s < 256) : (256 * n + s) % 256 = s := by omega

theorem Sheet.congr {φ ψ : ℕ → ℕ → ℕ → ℝ} {f : S512x256.Idx → EReal} (hf : Sheet i p n φ f)
    (h : ∀ h t s, 256 * i ≤ t → s < 256 * (n + 1) → φ h t s = ψ h t s) : Sheet i p n ψ f := fun y => by
  have := (y 1).isLt
  rw [hf, h _ _ _ (by omega) (by have : (y 1).val < 256 := (y 1).isLt; omega)]

/-- A term and its rounding error, summed against a step each, are the term's sum. -/
theorem split_zero {φ : ℕ → ℕ → ℕ → ℝ} {f : S512x256.Idx → EReal} (hf : Sheet i p n φ f) (y : S512x256.Idx) (u : S256x256.Idx → EReal) :
    ∑ x : Fin 256, (f (ix2 (y 0) x) - f (ix2 (y 0) x)) * u (ix2 x (y 1)) = 0 :=
  Finset.sum_eq_zero fun x _ => by rw [hf, ← EReal.coe_sub, sub_self, EReal.coe_zero, zero_mul]

/-! ### Left of the diagonal block -/

theorem pre_sheet (hn : n < i) (hz : Sheet i p n X.Z z) : Sheet i p n (Pre X n) (k0_pay13 (F := Ideal) k0_pay151 z) := fun y => by
  pointwise [k0_pay13]
  have hL : Sheet i p n X.L (k0_pay11 (F := Ideal) z) := (sp_sheet hz).congr fun h t s ht hs => by rw [Inp.L, if_pos (by omega)]
  refine (congrArg₂ (· + ·) (tri_le hL y) (split_zero hL y _)).trans ?_
  rw [add_zero, Pre, col_lo _ (y 1).isLt]

theorem rem_read (hr : Carry i p (Left X n) rem) : Sheet i p n (fun h t _ => Left X n h t) (k0_pay27 (F := Ideal) rem) := fun y => by
  pointwise [k0_pay27]
  exact hr _

/-- The exponent of the weight. -/
theorem exponent (h t s : ℕ) (hs : s / 256 = n) :
    X.A h t s - Left X n h t + Pre X n h t s = X.A h t s - (X.T h t - ∑ j ∈ Finset.range (s + 1), X.L h t j) := by
  have e := Finset.sum_range_add (fun j => X.L h t j) (256 * n) (s % 256 + 1)
  rw [show 256 * n + (s % 256 + 1) = s + 1 by omega] at e
  rw [Left, Pre, e]
  ring

theorem left_succ (h t : ℕ) : Left X n h t - Pre X n h t (256 * n + 255) = Left X (n + 1) h t := by
  rw [Left, Left, Pre, show (256 * n + 255) % 256 + 1 = 256 by omega, mul_add, mul_one, Finset.sum_range_add (fun j => X.L h t j)]
  ring

theorem run_add (h t s : ℕ) (hs : s < 256) : Run X n h t + Gs X n h t (256 * n + s) = Gx X h t (256 * n + s) := by
  rw [Run, Gs, Gx, Finset.sum_range_add (fun j => X.G h t j), col_lo _ hs]

theorem run_succ (h t : ℕ) : Gx X h t (256 * n + 255) + X.G h t (256 * n + 255) = Run X (n + 1) h t := by
  rw [Gx, Run, show 256 * (n + 1) = 256 * n + 255 + 1 by omega, Finset.sum_range_succ (fun j => X.G h t j) (256 * n + 255)]

theorem w_sheet (hn : n < i) (ha : Sheet i p n X.A a) (hp : Sheet i p n (Pre X n) pre) (hr : Carry i p (Left X n) rem) :
    Sheet i p n X.W (k0_pay28 (F := Ideal) a pre rem) := fun y => by
  pointwise [k0_pay28]
  have h1 : (y 1).val < 256 := (y 1).isLt
  rw [ha, hp, rem_read hr, ← EReal.coe_sub, ← EReal.coe_add, Ideal.exp_coe, exponent _ _ _ (by omega), Inp.W, if_pos (by omega)]

theorem g_sheet (hd : Sheet i p n X.DW dw) (hw : Sheet i p n X.W (k0_pay28 (F := Ideal) a pre rem)) :
    Sheet i p n X.G (k0_pay29 (F := Ideal) dw a pre rem) := fun y => by
  pointwise [k0_pay29]
  rw [hd, hw, ← EReal.coe_mul]
  rfl

theorem gs_sheet (hg : Sheet i p n X.G (k0_pay29 (F := Ideal) dw a pre rem)) :
    Sheet i p n (Gs X n) (k0_pay31 (F := Ideal) k0_pay152 dw a pre rem) := fun y => by
  pointwise [k0_pay31]
  refine (tri_lt hg y).trans ?_
  rw [Gs, col_lo _ (y 1).isLt]

theorem left_next (hp : Sheet i p n (Pre X n) pre) (hr : Carry i p (Left X n) rem) :
    Carry i p (Left X (n + 1)) (k0_pay32 (F := Ideal) pre rem) := fun y => by
  pointwise [k0_pay32]
  rw [rem_read hr, hp, ← EReal.coe_sub]
  exact congrArg _ (left_succ _ _)

theorem gx_sheet (hs : Sheet i p n (Gs X n) gs) (hc : Carry i p (Run X n) gc) :
    Sheet i p n (Gx X) (k0_pay51 (F := Ideal) gs gc) := fun y => by
  pointwise [k0_pay51]
  have h1 : (y 1).val < 256 := (y 1).isLt
  rw [hc, hs, ← EReal.coe_add]
  exact congrArg _ (run_add _ _ _ h1)

theorem run_next (hg : Sheet i p n X.G g) (hx : Sheet i p n (Gx X) gex) : Carry i p (Run X (n + 1)) (k0_pay58 (F := Ideal) g gex) := fun y => by
  pointwise [k0_pay58]
  rw [hg, hx, ← EReal.coe_add]
  exact congrArg _ (run_succ _ _)

theorem dz_sheet (hn : n < i) (ha : Sheet i p n X.A a) (hg : Sheet i p n X.G g) (hx : Sheet i p n (Gx X) (k0_pay51 (F := Ideal) gs gc)) :
    Sheet i p n X.DZ (k0_pay52 (F := Ideal) a g gs gc) := fun y => by
  pointwise [k0_pay52]
  have h1 : (y 1).val < 256 := (y 1).isLt
  rw [ha, hg, hx, Ideal.exp_coe, ← EReal.coe_add, ← EReal.coe_mul, ← EReal.coe_sub, Inp.DZ, if_pos (by omega)]
  rfl

/-! ### The diagonal block -/

theorem select_lift (y : S512x256.Idx) (u v : ℝ) :
    Scalar.select (k0_pay150 y) (u : EReal) (v : EReal) = ((if (y 1).val < (y 0).val % 256 then u else v : ℝ) : EReal) := by
  rw [mask_diag]; split <;> rfl

theorem pre_diag (hz : Sheet i p i X.Z z) : Sheet i p i (Pre X i) (k0_pay209 (F := Ideal) k0_pay150 k0_pay151 z) := fun y => by
  have hs : Sheet i p i (fun h t s => sp (X.Z h t s)) (k0_pay207 (F := Ideal) z) := sp_sheet hz
  have hL : Sheet i p i X.L (fun y => Scalar.select (k0_pay150 y) (k0_pay207 (F := Ideal) z y) 0) := fun y => by
    have h0 : (y 0).val < 512 := (y 0).isLt
    beta_reduce
    rw [hs, ← EReal.coe_zero, select_lift, Inp.L]
    exact congrArg _ (if_congr (by omega) rfl rfl)
  pointwise [k0_pay209]
  refine (congrArg₂ (· + ·) ((Finset.sum_congr rfl fun x _ => ?_).trans (tri_le hL y)) (split_zero hL y _)).trans ?_
  · beta_reduce
    rw [mask_diag, mask_diag]
    split
    · rfl
    · rw [zero_mul]
  · rw [add_zero, Pre, col_lo _ (y 1).isLt]

theorem rem_read' (hr : Carry i p (Left X n) rem) : Sheet i p n (fun h t _ => Left X n h t) (k0_pay222 (F := Ideal) rem) := fun y => by
  pointwise [k0_pay222]
  exact hr _

variable {rm : FVec Ideal S512x256 .f32}

theorem w_diag (ha : Sheet i p i X.A a) (hp : Sheet i p i (Pre X i) pre) (hr : Sheet i p i (fun h t _ => Left X i h t) rm) :
    Sheet i p i X.W (k0_pay223 (F := Ideal) k0_pay150 a pre rm) := fun y => by
  pointwise [k0_pay223]
  have h1 : (y 1).val < 256 := (y 1).isLt
  rw [ha, hp, hr, ← EReal.coe_sub, ← EReal.coe_add, Ideal.exp_coe, exponent _ _ _ (by omega), ← EReal.coe_zero, select_lift, Inp.W]
  exact congrArg _ (if_congr (by omega) rfl rfl)

theorem g_diag (hd : Sheet i p i X.DW dw) (hw : Sheet i p i X.W (k0_pay223 (F := Ideal) k0_pay150 a pre rm)) :
    Sheet i p i X.G (k0_pay224 (F := Ideal) k0_pay150 dw a pre rm) := fun y => by
  pointwise [k0_pay224]
  rw [hd, hw, ← EReal.coe_mul]
  rfl

theorem gs_diag (hg : Sheet i p i X.G (k0_pay224 (F := Ideal) k0_pay150 dw a pre rm)) :
    Sheet i p i (Gs X i) (k0_pay226 (F := Ideal) k0_pay150 k0_pay152 dw a pre rm) := fun y => by
  pointwise [k0_pay226]
  refine (tri_lt hg y).trans ?_
  rw [Gs, col_lo _ (y 1).isLt]

theorem gx_diag (hs : Sheet i p n (Gs X n) gs) (hc : Carry i p (Run X n) gc) :
    Sheet i p n (Gx X) (k0_pay246 (F := Ideal) gs gc) := gx_sheet hs hc

theorem dz_diag (ha : Sheet i p i X.A a) (hg : Sheet i p i X.G g) (hx : Sheet i p i (Gx X) (k0_pay246 (F := Ideal) gs gc)) :
    Sheet i p i X.DZ (k0_pay247 (F := Ideal) k0_pay150 a g gs gc) := fun y => by
  pointwise [k0_pay247]
  have h0 : (y 0).val < 512 := (y 0).isLt
  rw [ha, hg, hx, Ideal.exp_coe, ← EReal.coe_add, ← EReal.coe_mul, ← EReal.coe_sub, ← EReal.coe_zero, select_lift, Inp.DZ]
  exact congrArg _ (if_congr (by omega) rfl rfl)

/-! ### The three products -/

variable {dq dk dv : Vec Ideal S256x128 .f32} {ws : FVec Ideal S512x256 .f32}

theorem zero_word : (((0#32).toInt : ℝ) : EReal) = 0 := by simp

/-- The queries' gradient, one block of columns more. -/
theorem dq_next (hz : Sheet i p n X.DZ dz) (hk : ∀ y, kk y = ((X.k (256 * n + (y 0).val) (128 * p + (y 1).val) : ℝ) : EReal))
    (hq : ∀ y, dq y = ((∑ j ∈ Finset.range (256 * n), X.DZ (2 * p + (y 1).val / 64) (256 * i + (y 0).val) j * X.k j (128 * p + (y 1).val) : ℝ) : EReal))
    (y : S256x128.Idx) :
    k0_pay248 (F := Ideal) k0_pay149 dz dq kk y
      = ((∑ j ∈ Finset.range (256 * (n + 1)), X.DZ (2 * p + (y 1).val / 64) (256 * i + (y 0).val) j * X.k j (128 * p + (y 1).val) : ℝ) : EReal) := by
  pointwise [k0_pay248]
  have h1 : (y 1).val < 128 := (y 1).isLt
  have h0 : (y 0).val < 256 := (y 0).isLt
  rw [hq, ← sum_block, EReal.coe_add, ← coe_sum]
  refine congrArg _ ?_
  by_cases h : (y 1).val < 64
  · refine (congrArg₂ (· + ·) (Finset.sum_congr rfl fun x _ => ?_) (Finset.sum_eq_zero fun x _ => ?_)).trans (add_zero _)
    · rw [mask_head, hz, hk]
      refine (congrArg _ (if_pos h)).trans ((EReal.coe_mul _ _).symm.trans (congrArg _ ?_))
      show X.DZ (2 * p + (y 0).val / 256) (256 * i + (y 0).val % 256) _ * _ = _
      rw [show (y 0).val / 256 = (y 1).val / 64 by omega, show (y 0).val % 256 = (y 0).val by omega]
      rfl
    · rw [mask_head, zero_word]
      exact (congrArg _ (if_pos h)).trans (mul_zero _)
  · refine (congrArg₂ (· + ·) (Finset.sum_eq_zero fun x _ => ?_) (Finset.sum_congr rfl fun x _ => ?_)).trans (zero_add _)
    · rw [mask_head, zero_word]
      exact (congrArg _ (if_neg h)).trans (mul_zero _)
    · rw [mask_head, hz, hk]
      refine (congrArg _ (if_neg h)).trans ((EReal.coe_mul _ _).symm.trans (congrArg _ ?_))
      show X.DZ (2 * p + (256 + (y 0).val) / 256) (256 * i + (256 + (y 0).val) % 256) _ * _ = _
      rw [show (256 + (y 0).val) / 256 = (y 1).val / 64 by omega, show (256 + (y 0).val) % 256 = (y 0).val by omega]
      rfl

theorem dk_next (hz : Sheet i p n X.DZ dz) (hq : ∀ y, qh y = ((X.QH i p (y 1).val (y 2).val : ℝ) : EReal)) (y : S256x128.Idx) :
    k0_pay56 (F := Ideal) dz dk qh y
      = dk y + ((∑ r : Fin 256, X.DZ (2 * p + (y 1).val / 64) (256 * i + r) (256 * n + (y 0).val) * (X.q (256 * i + r) (128 * p + (y 1).val) * (1 / 8)) : ℝ) : EReal) := by
  pointwise [k0_pay56]
  simp only [hz _, hq _, ← EReal.coe_mul]
  exact congrArg _ ((coe_sum _).trans (congrArg _ (X.sum_rows_QH (fun h t => X.DZ h t (256 * n + (y 0).val)) i p (y 1).val (y 1).isLt)))

theorem dv_next (hw : Sheet i p n X.W ws) (hq : ∀ y, doh y = ((X.DH i p (y 1).val (y 2).val : ℝ) : EReal)) (y : S256x128.Idx) :
    k0_pay57 (F := Ideal) ws dv doh y
      = dv y + ((∑ r : Fin 256, X.W (2 * p + (y 1).val / 64) (256 * i + r) (256 * n + (y 0).val) * X.d (256 * i + r) (128 * p + (y 1).val) : ℝ) : EReal) := by
  pointwise [k0_pay57]
  simp only [hw _, hq _, ← EReal.coe_mul]
  exact congrArg _ ((coe_sum _).trans (congrArg _ (X.sum_rows_DH (fun h t => X.W h t (256 * n + (y 0).val)) i p (y 1).val (y 1).isLt)))

end Cert.KernelAttnIdeal.Gen
end
-- ==== Proof.AttnState.lean ====
/- Where a buffer written in slabs is read, and what the kernel's buffers hold before a block of columns. -/
module

public import proofs.«01_k».proof.Proof.AttnBlock
public import Idealize.ShloMosaic.Lib.WritesUnit

@[expose] public section

noncomputable section

namespace Cert.KernelAttnIdeal.Gen

open Idealize.ShloMosaic Idealize.ShloMosaic.TcCoe Idealize.ShloMosaic.Tactic Idealize.SL.Sem Cert.Attn Cert.RealLift

set_option maxRecDepth 8192

/-! ## Slabs -/

section Slabs

variable {Val : EltTy → Type} {sig : RefSig} {κ : Kind} {sp : Space} {s : Shape} {e : EltTy}

/-- A load through a rectangle of unit stride reads the place its offsets shift to. -/
theorem readAt_place (v : View sig κ sp s e) (f : v.ty.Contents Val) {off size : Fin s.rank → ℕ} {inb : ∀ a, off a + size a ≤ s.size a}
    (y : (Rect.unit off size inb).shape.Idx) (x : s.Idx) (h : ∀ a, (x a).val = off a + (y a).val) :
    v.readAt Val (Rect.unit off size inb).toLoadRect f y = v.read Val f x := by
  have e : (Rect.unit off size inb).emb y = x := funext fun a => Fin.ext ((ValueKit.rect_emb_unit_val off size inb y a).trans (h a).symm)
  exact congrArg (v.read Val f) e

variable {R C : ℕ} (v : View sig κ sp (⟨3, ![4, R, C]⟩ : Shape) e) (f : v.ty.Contents Val)

/-- Four slabs written one after another: each holds its own values. -/
theorem slabs (Q : (⟨3, ![4, R, C]⟩ : Shape).Idx → Val e → Prop) {b0 b1 b2 b3} (w0 w1 w2 w3 : (⟨3, ![1, R, C]⟩ : Shape).Idx → Val e) (L : List (View.Piece Val (⟨3, ![4, R, C]⟩ : Shape) e))
    (h0 : ∀ x : (⟨3, ![1, R, C]⟩ : Shape).Idx, Q (ix3 0 (x 1) (x 2)) (w0 x)) (h1 : ∀ x : (⟨3, ![1, R, C]⟩ : Shape).Idx, Q (ix3 1 (x 1) (x 2)) (w1 x))
    (h2 : ∀ x : (⟨3, ![1, R, C]⟩ : Shape).Idx, Q (ix3 2 (x 1) (x 2)) (w2 x)) (h3 : ∀ x : (⟨3, ![1, R, C]⟩ : Shape).Idx, Q (ix3 3 (x 1) (x 2)) (w3 x)) (y : (⟨3, ![4, R, C]⟩ : Shape).Idx) :
    Q y (v.read Val (v.writes Val f (⟨Rect.unit (s := ⟨3, ![4, R, C]⟩) ![3, 0, 0] (⟨3, ![1, R, C]⟩ : Shape).size b3, w3⟩ :: ⟨Rect.unit (s := ⟨3, ![4, R, C]⟩) ![2, 0, 0] (⟨3, ![1, R, C]⟩ : Shape).size b2, w2⟩ ::
      ⟨Rect.unit (s := ⟨3, ![4, R, C]⟩) ![1, 0, 0] (⟨3, ![1, R, C]⟩ : Shape).size b1, w1⟩ :: ⟨Rect.unit (s := ⟨3, ![4, R, C]⟩) ![0, 0, 0] (⟨3, ![1, R, C]⟩ : Shape).size b0, w0⟩ :: L)) y) := by
  have place (p : Fin 4) (hp : y 0 = p) : y = ix3 p (y 1) (y 2) := by
    funext a; fin_cases a
    · exact hp
    · rfl
    · rfl
  have skip (q : ℕ) (hq : (y 0).val ≠ q) {b} (w : (⟨3, ![1, R, C]⟩ : Shape).Idx → Val e) (L : List (View.Piece Val (⟨3, ![4, R, C]⟩ : Shape) e)) :
      v.read Val (v.writes Val f (⟨Rect.unit (s := ⟨3, ![4, R, C]⟩) ![q, 0, 0] (⟨3, ![1, R, C]⟩ : Shape).size b, w⟩ :: L)) y = v.read Val (v.writes Val f L) y :=
    View.read_writes_cons_unit_of_not_mem v f b w L y rfl 0 (by
      show (y 0).val < q ∨ q + 1 ≤ (y 0).val
      omega)
  have get (q : ℕ) (hq : (y 0).val = q) {b} (w : (⟨3, ![1, R, C]⟩ : Shape).Idx → Val e) (L : List (View.Piece Val (⟨3, ![4, R, C]⟩ : Shape) e)) :
      v.read Val (v.writes Val f (⟨Rect.unit (s := ⟨3, ![4, R, C]⟩) ![q, 0, 0] (⟨3, ![1, R, C]⟩ : Shape).size b, w⟩ :: L)) y = w (ix3 0 (y 1) (y 2)) :=
    View.read_writes_cons_unit_of_mem v f b w L y (ix3 0 (y 1) (y 2)) rfl fun a => by
      fin_cases a
      · exact hq
      · exact (Nat.zero_add _).symm
      · exact (Nat.zero_add _).symm
  have hy : (y 0).val < 4 := (y 0).isLt
  rcases (by omega : (y 0).val = 3 ∨ (y 0).val = 2 ∨ (y 0).val = 1 ∨ (y 0).val = 0) with h | h | h | h
  · rw [get 3 h]; exact (congrArg (Q · _) (place 3 (Fin.ext h))).mpr (h3 (ix3 0 (y 1) (y 2)))
  · rw [skip 3 (by omega), get 2 h]; exact (congrArg (Q · _) (place 2 (Fin.ext h))).mpr (h2 (ix3 0 (y 1) (y 2)))
  · rw [skip 3 (by omega), skip 2 (by omega), get 1 h]; exact (congrArg (Q · _) (place 1 (Fin.ext h))).mpr (h1 (ix3 0 (y 1) (y 2)))
  · rw [skip 3 (by omega), skip 2 (by omega), skip 1 (by omega), get 0 h]; exact (congrArg (Q · _) (place 0 (Fin.ext h))).mpr (h0 (ix3 0 (y 1) (y 2)))

end Slabs

section Cols

variable {Val : EltTy → Type} {sig : RefSig} {κ : Kind} {sp : Space} {N : ℕ} {e : EltTy}
variable (v : View sig κ sp (⟨2, ![N, 512]⟩ : Shape) e) (f : v.ty.Contents Val)

/-- Four tiles of 256 rows and 128 columns side by side, from row `r` on: each holds its own values, the other rows what was there. -/
theorem tiles (r : ℕ) (Q : (⟨2, ![N, 512]⟩ : Shape).Idx → Val e → Prop) {o0 o1 o2 o3 : Fin 2 → ℕ} {b0 b1 b2 b3}
    (e0 : o0 = ![r, 0]) (e1 : o1 = ![r, 128]) (e2 : o2 = ![r, 256]) (e3 : o3 = ![r, 384])
    (w0 w1 w2 w3 : S256x128.Idx → Val e) (L : List (View.Piece Val (⟨2, ![N, 512]⟩ : Shape) e))
    (h0 : ∀ y (x : S256x128.Idx), (y 0).val = r + (x 0).val → (y 1).val = 0 + (x 1).val → Q y (w0 x))
    (h1 : ∀ y (x : S256x128.Idx), (y 0).val = r + (x 0).val → (y 1).val = 128 + (x 1).val → Q y (w1 x))
    (h2 : ∀ y (x : S256x128.Idx), (y 0).val = r + (x 0).val → (y 1).val = 256 + (x 1).val → Q y (w2 x))
    (h3 : ∀ y (x : S256x128.Idx), (y 0).val = r + (x 0).val → (y 1).val = 384 + (x 1).val → Q y (w3 x))
    (y : (⟨2, ![N, 512]⟩ : Shape).Idx)
    (hL : (y 0).val < r ∨ r + 256 ≤ (y 0).val → Q y (v.read Val (v.writes Val f L) y)) :
    Q y (v.read Val (v.writes Val f (⟨Rect.unit (s := ⟨2, ![N, 512]⟩) o3 S256x128.size b3, w3⟩ :: ⟨Rect.unit (s := ⟨2, ![N, 512]⟩) o2 S256x128.size b2, w2⟩ ::
      ⟨Rect.unit (s := ⟨2, ![N, 512]⟩) o1 S256x128.size b1, w1⟩ :: ⟨Rect.unit (s := ⟨2, ![N, 512]⟩) o0 S256x128.size b0, w0⟩ :: L)) y) := by
  have hy : (y 1).val < 512 := (y 1).isLt
  have skip (q : ℕ) {o : Fin 2 → ℕ} (ho : o = ![r, q])
      (hq : ((y 0).val < r ∨ r + 256 ≤ (y 0).val) ∨ ((y 1).val < q ∨ q + 128 ≤ (y 1).val)) {b} (w : S256x128.Idx → Val e)
      (L : List (View.Piece Val (⟨2, ![N, 512]⟩ : Shape) e)) :
      v.read Val (v.writes Val f (⟨Rect.unit (s := ⟨2, ![N, 512]⟩) o S256x128.size b, w⟩ :: L)) y = v.read Val (v.writes Val f L) y := by
    rcases hq with hq | hq
    · exact View.read_writes_cons_unit_of_not_mem v f b w L y ho (0 : Fin 2) hq
    · exact View.read_writes_cons_unit_of_not_mem v f b w L y ho (1 : Fin 2) hq
  by_cases hr : (y 0).val < r ∨ r + 256 ≤ (y 0).val
  · rw [skip 384 e3 (.inl hr), skip 256 e2 (.inl hr), skip 128 e1 (.inl hr), skip 0 e0 (.inl hr)]
    exact hL hr
  · have get (q : ℕ) {o : Fin 2 → ℕ} (ho : o = ![r, q]) (h1 : q ≤ (y 1).val) (h2 : (y 1).val < q + 128) {b} (w : S256x128.Idx → Val e)
        (L : List (View.Piece Val (⟨2, ![N, 512]⟩ : Shape) e)) :
        v.read Val (v.writes Val f (⟨Rect.unit (s := ⟨2, ![N, 512]⟩) o S256x128.size b, w⟩ :: L)) y
          = w (ix2 ⟨(y 0).val - r, by omega⟩ ⟨(y 1).val - q, by omega⟩) :=
      View.read_writes_cons_unit_of_mem v f b w L y (ix2 ⟨(y 0).val - r, by omega⟩ ⟨(y 1).val - q, by omega⟩) ho (Fin.forall_fin_two.2
        ⟨by show (y 0).val = r + ((y 0).val - r); omega, by show (y 1).val = q + ((y 1).val - q); omega⟩)
    have row (q : ℕ) (h : (y 1).val - q < 128) : (y 0).val = r + ((ix2 (⟨(y 0).val - r, by omega⟩ : Fin 256) (⟨(y 1).val - q, h⟩ : Fin 128) : S256x128.Idx) 0).val := by
      show (y 0).val = r + ((y 0).val - r); omega
    have col (q : ℕ) (h : (y 1).val - q < 128) (hq : q ≤ (y 1).val) :
        (y 1).val = q + ((ix2 (⟨(y 0).val - r, by omega⟩ : Fin 256) (⟨(y 1).val - q, h⟩ : Fin 128) : S256x128.Idx) 1).val := by
      show (y 1).val = q + ((y 1).val - q); omega
    rcases (by omega : 384 ≤ (y 1).val ∨ (256 ≤ (y 1).val ∧ (y 1).val < 384) ∨ (128 ≤ (y 1).val ∧ (y 1).val < 256) ∨ (y 1).val < 128) with h | h | h | h
    · rw [get 384 e3 h (by omega)]
      exact h3 _ _ (row _ _) (col _ _ h)
    · rw [skip 384 e3 (by omega), get 256 e2 h.1 (by omega)]
      exact h2 _ _ (row _ _) (col _ _ h.1)
    · rw [skip 384 e3 (by omega), skip 256 e2 (by omega), get 128 e1 h.1 (by omega)]
      exact h1 _ _ (row _ _) (col _ _ h.1)
    · rw [skip 384 e3 (by omega), skip 256 e2 (by omega), skip 128 e1 (by omega), get 0 e0 (by omega) (by omega)]
      exact h0 _ _ (row _ _) (col _ _ (by omega))

end Cols

/-! ## The state -/

/-- The keys' gradient gathered from all earlier row blocks and, in the first `n` column blocks, from row block `i`. -/
def KA (X : Inp) (i n s c : ℕ) : ℝ :=
  ∑ t ∈ Finset.range (256 * i), X.DZ (c / 64) t s * (X.q t c * (1 / 8))
    + if s < 256 * n then ∑ r : Fin 256, X.DZ (c / 64) (256 * i + r) s * (X.q (256 * i + r) c * (1 / 8)) else 0

/-- The values' gradient gathered in the same way. -/
def VA (X : Inp) (i n s c : ℕ) : ℝ :=
  ∑ t ∈ Finset.range (256 * i), X.W (c / 64) t s * X.d t c
    + if s < 256 * n then ∑ r : Fin 256, X.W (c / 64) (256 * i + r) s * X.d (256 * i + r) c else 0

/-- The queries' gradient of row block `i` gathered from the first `n` column blocks, before its scale. -/
def QA (X : Inp) (i n r c : ℕ) : ℝ := ∑ j ∈ Finset.range (256 * n), X.DZ (c / 64) (256 * i + r) j * X.k j c

/-- The five buffers of row block `i` before column block `n`. -/
structure St (X : Inp) (i n : ℕ) (dka dva : S2048x512.Idx → EReal) (dqa : S256x512.Idx → EReal) (pc gc : S4x512x256.Idx → EReal) : Prop where
  dk : ∀ y, dka y = ((KA X i n (y 0).val (y 1).val : ℝ) : EReal)
  dv : ∀ y, dva y = ((VA X i n (y 0).val (y 1).val : ℝ) : EReal)
  dq : ∀ y, dqa y = ((QA X i n (y 0).val (y 1).val : ℝ) : EReal)
  left : ∀ y, pc y = ((Left X n (2 * (y 0).val + (y 1).val / 256) (256 * i + (y 1).val % 256) : ℝ) : EReal)
  run : ∀ y, gc y = ((Run X n (2 * (y 0).val + (y 1).val / 256) (256 * i + (y 1).val % 256) : ℝ) : EReal)

theorem KA_out (X : Inp) (i n s c : ℕ) (h : s < 256 * n ∨ 256 * n + 256 ≤ s) : KA X i n s c = KA X i (n + 1) s c := by
  rw [KA, KA, if_congr (show s < 256 * n ↔ s < 256 * (n + 1) by omega) rfl rfl]

theorem VA_out (X : Inp) (i n s c : ℕ) (h : s < 256 * n ∨ 256 * n + 256 ≤ s) : VA X i n s c = VA X i (n + 1) s c := by
  rw [VA, VA, if_congr (show s < 256 * n ↔ s < 256 * (n + 1) by omega) rfl rfl]

theorem KA_in (X : Inp) (i n s c : ℕ) (h : s < 256) : KA X i n (256 * n + s) c
    + ∑ r : Fin 256, X.DZ (c / 64) (256 * i + r) (256 * n + s) * (X.q (256 * i + r) c * (1 / 8)) = KA X i (n + 1) (256 * n + s) c := by
  rw [KA, KA, if_neg (by omega), if_pos (by omega), add_zero]

theorem VA_in (X : Inp) (i n s c : ℕ) (h : s < 256) : VA X i n (256 * n + s) c
    + ∑ r : Fin 256, X.W (c / 64) (256 * i + r) (256 * n + s) * X.d (256 * i + r) c = VA X i (n + 1) (256 * n + s) c := by
  rw [VA, VA, if_neg (by omega), if_pos (by omega), add_zero]

/-! ## One pair of heads -/

variable {X : Inp} {i p n : ℕ} {qh doh : Vec Ideal S1x512x128 .bf16} {kk vv : Vec Ideal S256x128 .bf16} {rem gc : Vec Ideal S1x512x256 .f32}

/-- What a pair's vectors hold at the end of a block. -/
structure Pair (X : Inp) (i p n : ℕ) (w dz : FVec Ideal S512x256 .f32) (rem gc : Vec Ideal S1x512x256 .f32) : Prop where
  w : Sheet i p n X.W w
  dz : Sheet i p n X.DZ dz
  left : Carry i p (Left X (n + 1)) rem
  run : Carry i p (Run X (n + 1)) gc

theorem pair_left (hn : n < i) (hq : ∀ y, qh y = ((X.QH i p (y 1).val (y 2).val : ℝ) : EReal))
    (hd : ∀ y, doh y = ((X.DH i p (y 1).val (y 2).val : ℝ) : EReal))
    (hk : ∀ y, kk y = ((X.k (256 * n + (y 0).val) (128 * p + (y 1).val) : ℝ) : EReal))
    (hv : ∀ y, vv y = ((X.v (256 * n + (y 0).val) (128 * p + (y 1).val) : ℝ) : EReal))
    (hr : Carry i p (Left X n) rem) (hc : Carry i p (Run X n) gc) :
    Pair X i p n (k0_pay28 (k0_pay12 (k0_pay3 qh kk)) (k0_pay13 k0_pay151 (k0_pay3 qh kk)) rem)
      (k0_pay52 (k0_pay12 (k0_pay3 qh kk)) (k0_pay29 (k0_pay3 doh vv) (k0_pay12 (k0_pay3 qh kk)) (k0_pay13 k0_pay151 (k0_pay3 qh kk)) rem)
        (k0_pay31 k0_pay152 (k0_pay3 doh vv) (k0_pay12 (k0_pay3 qh kk)) (k0_pay13 k0_pay151 (k0_pay3 qh kk)) rem) gc)
      (k0_pay32 (k0_pay13 k0_pay151 (k0_pay3 qh kk)) rem)
      (k0_pay58 (k0_pay29 (k0_pay3 doh vv) (k0_pay12 (k0_pay3 qh kk)) (k0_pay13 k0_pay151 (k0_pay3 qh kk)) rem)
        (k0_pay51 (k0_pay31 k0_pay152 (k0_pay3 doh vv) (k0_pay12 (k0_pay3 qh kk)) (k0_pay13 k0_pay151 (k0_pay3 qh kk)) rem) gc)) :=
  have hz := z_sheet hq hk
  have ha := a_sheet hz
  have hp := pre_sheet hn hz
  have hw := w_sheet hn ha hp hr
  have hg := g_sheet (dw_sheet hd hv) hw
  have hx := gx_sheet (gs_sheet hg) hc
  ⟨hw, dz_sheet hn ha hg hx, left_next hp hr, run_next hg hx⟩

theorem pair_diag (hq : ∀ y, qh y = ((X.QH i p (y 1).val (y 2).val : ℝ) : EReal))
    (hd : ∀ y, doh y = ((X.DH i p (y 1).val (y 2).val : ℝ) : EReal))
    (hk : ∀ y, kk y = ((X.k (256 * i + (y 0).val) (128 * p + (y 1).val) : ℝ) : EReal))
    (hv : ∀ y, vv y = ((X.v (256 * i + (y 0).val) (128 * p + (y 1).val) : ℝ) : EReal))
    (hr : Carry i p (Left X i) rem) (hc : Carry i p (Run X i) gc) :
    Sheet i p i X.W (k0_pay223 k0_pay150 (k0_pay208 (k0_pay197 qh kk)) (k0_pay209 k0_pay150 k0_pay151 (k0_pay197 qh kk)) (k0_pay222 rem)) ∧
    Sheet i p i X.DZ (k0_pay247 k0_pay150 (k0_pay208 (k0_pay197 qh kk))
        (k0_pay224 k0_pay150 (k0_pay203 doh vv) (k0_pay208 (k0_pay197 qh kk)) (k0_pay209 k0_pay150 k0_pay151 (k0_pay197 qh kk)) (k0_pay222 rem))
        (k0_pay226 k0_pay150 k0_pay152 (k0_pay203 doh vv) (k0_pay208 (k0_pay197 qh kk)) (k0_pay209 k0_pay150 k0_pay151 (k0_pay197 qh kk)) (k0_pay222 rem)) gc) :=
  have hz : Sheet i p i X.Z (k0_pay197 qh kk) := z_sheet hq hk
  have ha : Sheet i p i X.A (k0_pay208 (k0_pay197 qh kk)) := a_sheet hz
  have hp := pre_diag hz
  have hw := w_diag ha hp (rem_read' hr)
  have hg := g_diag (dw := k0_pay203 doh vv) (dw_sheet hd hv) hw
  ⟨hw, dz_diag ha hg (gx_diag (gs_diag hg) hc)⟩

end Cert.KernelAttnIdeal.Gen
end
-- ==== Proof.AttnTrip.lean ====
/- One trip of the kernel's loop over the column blocks left of the diagonal, and the whole loop. -/
module

public import proofs.«01_k».proof.Proof.AttnState

@[expose] public section

noncomputable section

namespace Cert.KernelAttnIdeal.Gen

open Idealize.ShloMosaic Idealize.ShloMosaic.TcCoe Idealize.ShloMosaic.Tactic Idealize.SL.Sem Cert.Attn Cert.RealLift

set_option maxRecDepth 8192

theorem trips_t1 : ∀ t : Fin grid0.N, (k0_t1_loop (grid0.coords t)).trips = t.val := by decide +kernel

theorem off_t1 : ∀ (t : Fin grid0.N) (k : Fin (k0_t1_loop (grid0.coords t)).trips),
    k0_off1 (grid0.coords t) k = ![256 * k.val, 0] ∧ k0_off2 (grid0.coords t) k = ![256 * k.val, 128] ∧
    k0_off3 (grid0.coords t) k = ![256 * k.val, 256] ∧ k0_off4 (grid0.coords t) k = ![256 * k.val, 384] := by decide +kernel

theorem off_diag : ∀ t : Fin grid0.N,
    k0_off9 (grid0.coords t) = ![256 * t.val, 0] ∧ k0_off10 (grid0.coords t) = ![256 * t.val, 128] ∧
    k0_off11 (grid0.coords t) = ![256 * t.val, 256] ∧ k0_off12 (grid0.coords t) = ![256 * t.val, 384] := by decide +kernel

/-! ## A tile of the three products -/

section Tiles

variable {X : Inp} {i p n : ℕ} {qh : Vec Ideal S1x512x128 .bf16} {kk : Vec Ideal S256x128 .bf16}
  {w : FVec Ideal S512x256 .f32} {acc : Vec Ideal S256x128 .f32}

theorem tile_dk (hz : Sheet i p n X.DZ w) (hq : ∀ y, qh y = ((X.QH i p (y 1).val (y 2).val : ℝ) : EReal))
    (ha : ∀ (y : S2048x512.Idx) (x : S256x128.Idx), (y 0).val = 256 * n + (x 0).val → (y 1).val = 128 * p + (x 1).val →
      acc x = ((KA X i n (y 0).val (y 1).val : ℝ) : EReal))
    (y : S2048x512.Idx) (x : S256x128.Idx) (h0 : (y 0).val = 256 * n + (x 0).val) (h1 : (y 1).val = 128 * p + (x 1).val) :
    k0_pay56 w acc qh x = ((KA X i (n + 1) (y 0).val (y 1).val : ℝ) : EReal) := by
  have hx0 : (x 0).val < 256 := (x 0).isLt
  have hx1 : (x 1).val < 128 := (x 1).isLt
  rw [dk_next hz hq x, ha y x h0 h1, ← EReal.coe_add, h0, ← KA_in X i n _ _ hx0, h1,
    show 2 * p + (x 1).val / 64 = (128 * p + (x 1).val) / 64 by omega]

theorem tile_dv (hw : Sheet i p n X.W w) (hq : ∀ y, qh y = ((X.DH i p (y 1).val (y 2).val : ℝ) : EReal))
    (ha : ∀ (y : S2048x512.Idx) (x : S256x128.Idx), (y 0).val = 256 * n + (x 0).val → (y 1).val = 128 * p + (x 1).val →
      acc x = ((VA X i n (y 0).val (y 1).val : ℝ) : EReal))
    (y : S2048x512.Idx) (x : S256x128.Idx) (h0 : (y 0).val = 256 * n + (x 0).val) (h1 : (y 1).val = 128 * p + (x 1).val) :
    k0_pay57 w acc qh x = ((VA X i (n + 1) (y 0).val (y 1).val : ℝ) : EReal) := by
  have hx0 : (x 0).val < 256 := (x 0).isLt
  have hx1 : (x 1).val < 128 := (x 1).isLt
  rw [dv_next hw hq x, ha y x h0 h1, ← EReal.coe_add, h0, ← VA_in X i n _ _ hx0, h1,
    show 2 * p + (x 1).val / 64 = (128 * p + (x 1).val) / 64 by omega]

theorem tile_dq (hp : p < 4) (hz : Sheet i p n X.DZ w) (hk : ∀ y, kk y = ((X.k (256 * n + (y 0).val) (128 * p + (y 1).val) : ℝ) : EReal))
    (ha : ∀ (y : S256x512.Idx) (x : S256x128.Idx), (y 0).val = 0 + (x 0).val → (y 1).val = 128 * p + (x 1).val →
      acc x = ((QA X i n (y 0).val (y 1).val : ℝ) : EReal))
    (y : S256x512.Idx) (x : S256x128.Idx) (h0 : (y 0).val = 0 + (x 0).val) (h1 : (y 1).val = 128 * p + (x 1).val) :
    k0_pay248 k0_pay149 w acc kk x = ((QA X i (n + 1) (y 0).val (y 1).val : ℝ) : EReal) := by
  have c (x : S256x128.Idx) : 2 * p + (x 1).val / 64 = (128 * p + (x 1).val) / 64 := by omega
  refine (dq_next hz hk (fun x => ?_) x).trans ?_
  · have hx0 : (x 0).val < 256 := (x 0).isLt
    have hx1 : (x 1).val < 128 := (x 1).isLt
    refine (ha (ix2 (⟨0 + (x 0).val, by omega⟩ : Fin 256) (⟨128 * p + (x 1).val, by omega⟩ : Fin 512)) x rfl rfl).trans ?_
    rw [c x]
    exact congrArg (fun r : ℕ => ((QA X i n r (128 * p + (x 1).val) : ℝ) : EReal)) (Nat.zero_add _)
  · rw [c x, h0, h1, Nat.zero_add]; rfl

end Tiles

/-! ## Places -/

theorem slab_place {R C : ℕ} (p : ℕ) (hp : p < 4) (y : (⟨3, ![1, R, C]⟩ : Shape).Idx) :
    ∀ a, ((ix3 (⟨p, hp⟩ : Fin 4) (y 1) (y 2) : (⟨3, ![4, R, C]⟩ : Shape).Idx) a).val = ![p, 0, 0] a + (y a).val := by
  have h : (y 0).val < 1 := (y 0).isLt
  intro a; fin_cases a
  · show p = p + (y 0).val
    omega
  · exact (Nat.zero_add _).symm
  · exact (Nat.zero_add _).symm

/-- The place in the keys of entry `y` of the tile of row block `n` and column group `p`. -/
def tileIdx (n p : ℕ) (hn : n < 8) (hp : p < 4) (y : S256x128.Idx) : S2048x512.Idx :=
  ix2 (⟨256 * n + (y 0).val, by have h : (y 0).val < 256 := (y 0).isLt; omega⟩ : Fin 2048)
    (⟨128 * p + (y 1).val, by have h : (y 1).val < 128 := (y 1).isLt; omega⟩ : Fin 512)

theorem tile_place (n p : ℕ) (hn : n < 8) (hp : p < 4) (y : S256x128.Idx) :
    ∀ a, (tileIdx n p hn hp y a).val = ![256 * n, 128 * p] a + (y a).val := Fin.forall_fin_two.2 ⟨rfl, rfl⟩

/-! ## The trip -/

section Trip

variable (𝒱 : Variants) (c : Dev nD) (bd : Option 𝒱.V) (arg1 : Memref sig .tc .vmem S256x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S256x512 .f32) (harg4 : arg4.IsWhole) (arg5 : Memref sig .tc .vmem S8x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .f32) (harg9 : arg9.IsWhole) (arg10 : Memref sig .tc .vmem S2048x512 .f32) (harg10 : arg10.IsWhole) (arg11 : Memref sig .tc .vmem S256x512 .f32) (harg11 : arg11.IsWhole) (arg12 : Memref sig .tc .vmem S4x512x256 .f32) (harg12 : arg12.IsWhole) (arg13 : Memref sig .tc .vmem S4x512x256 .f32) (harg13 : arg13.IsWhole) (arg14 : Memref sig .tc .vmem S4x512x128 .bf16) (harg14 : arg14.IsWhole) (arg15 : Memref sig .tc .vmem S4x512x128 .bf16) (harg15 : arg15.IsWhole)
  (arg0 : BitVec 32) (t : Fin grid0.N)
  (X2 : BufTy.Contents (Elt Ideal) arg2.view.ty) (X3 : BufTy.Contents (Elt Ideal) arg3.view.ty)
  (X14 : BufTy.Contents (Elt Ideal) arg14.view.ty) (X15 : BufTy.Contents (Elt Ideal) arg15.view.ty)
  (f9 : BufTy.Contents (Elt Ideal) arg9.view.ty) (f10 : BufTy.Contents (Elt Ideal) arg10.view.ty)
  (f11 : BufTy.Contents (Elt Ideal) arg11.view.ty) (f12 : BufTy.Contents (Elt Ideal) arg12.view.ty) (f13 : BufTy.Contents (Elt Ideal) arg13.view.ty)

/-- The arrays the loop only reads: the keys, the values, and the row block's queries and cotangents laid out by pairs of heads. -/
structure Base (X : Inp) (i : ℕ) (X2 : BufTy.Contents (Elt Ideal) arg2.view.ty) (X3 : BufTy.Contents (Elt Ideal) arg3.view.ty) (X14 : BufTy.Contents (Elt Ideal) arg14.view.ty) (X15 : BufTy.Contents (Elt Ideal) arg15.view.ty) : Prop where
  k : ∀ y, arg2.view.read (Elt Ideal) X2 y = ((X.k (y 0).val (y 1).val : ℝ) : EReal)
  v : ∀ y, arg3.view.read (Elt Ideal) X3 y = ((X.v (y 0).val (y 1).val : ℝ) : EReal)
  q : ∀ y, arg14.view.read (Elt Ideal) X14 y = ((X.QH i (y 0).val (y 1).val (y 2).val : ℝ) : EReal)
  d : ∀ y, arg15.view.read (Elt Ideal) X15 y = ((X.DH i (y 0).val (y 1).val (y 2).val : ℝ) : EReal)

variable {arg2 arg3 arg14 arg15 X2 X3 X14 X15}

theorem Base.q_slab {X : Inp} {i : ℕ} (hB : Base arg2 arg3 arg14 arg15 X i X2 X3 X14 X15) (p : ℕ) (hp : p < 4)
    (b : ∀ a, ![p, 0, 0] a + S1x512x128.size a ≤ S4x512x128.size a) (y : S1x512x128.Idx) :
    arg14.view.readAt (Elt Ideal) (Rect.unit (s := S4x512x128) ![p, 0, 0] S1x512x128.size b).toLoadRect X14 y
      = ((X.QH i p (y 1).val (y 2).val : ℝ) : EReal) :=
  (readAt_place arg14.view X14 y (ix3 ⟨p, hp⟩ (y 1) (y 2)) (slab_place p hp y)).trans (hB.q _)

theorem Base.d_slab {X : Inp} {i : ℕ} (hB : Base arg2 arg3 arg14 arg15 X i X2 X3 X14 X15) (p : ℕ) (hp : p < 4)
    (b : ∀ a, ![p, 0, 0] a + S1x512x128.size a ≤ S4x512x128.size a) (y : S1x512x128.Idx) :
    arg15.view.readAt (Elt Ideal) (Rect.unit (s := S4x512x128) ![p, 0, 0] S1x512x128.size b).toLoadRect X15 y
      = ((X.DH i p (y 1).val (y 2).val : ℝ) : EReal) :=
  (readAt_place arg15.view X15 y (ix3 ⟨p, hp⟩ (y 1) (y 2)) (slab_place p hp y)).trans (hB.d _)

theorem Base.k_tile {X : Inp} {i : ℕ} (hB : Base arg2 arg3 arg14 arg15 X i X2 X3 X14 X15) (n p : ℕ) (hn : n < 8) (hp : p < 4)
    {o : Fin 2 → ℕ} (ho : o = ![256 * n, 128 * p]) (b : ∀ a, o a + S256x128.size a ≤ S2048x512.size a) (y : S256x128.Idx) :
    arg2.view.readAt (Elt Ideal) (Rect.unit (s := S2048x512) o S256x128.size b).toLoadRect X2 y
      = ((X.k (256 * n + (y 0).val) (128 * p + (y 1).val) : ℝ) : EReal) :=
  (readAt_place arg2.view X2 y (tileIdx n p hn hp y) (by subst ho; exact tile_place n p hn hp y)).trans (hB.k _)

theorem Base.v_tile {X : Inp} {i : ℕ} (hB : Base arg2 arg3 arg14 arg15 X i X2 X3 X14 X15) (n p : ℕ) (hn : n < 8) (hp : p < 4)
    {o : Fin 2 → ℕ} (ho : o = ![256 * n, 128 * p]) (b : ∀ a, o a + S256x128.size a ≤ S2048x512.size a) (y : S256x128.Idx) :
    arg3.view.readAt (Elt Ideal) (Rect.unit (s := S2048x512) o S256x128.size b).toLoadRect X3 y
      = ((X.v (256 * n + (y 0).val) (128 * p + (y 1).val) : ℝ) : EReal) :=
  (readAt_place arg3.view X3 y (tileIdx n p hn hp y) (by subst ho; exact tile_place n p hn hp y)).trans (hB.v _)

set_option maxHeartbeats 4000000 in
theorem trip_left (X : Inp) (hB : Base arg2 arg3 arg14 arg15 X t.val X2 X3 X14 X15) (n : Fin (k0_t1_loop (grid0.coords t)).trips)
    (h : St X t.val n.val (arg9.view.read _ f9) (arg10.view.read _ f10) (arg11.view.read _ f11) (arg12.view.read _ f12) (arg13.view.read _ f13)) :
    St X t.val (n.val + 1)
      (arg9.view.read (Elt Ideal) (arg9.view.writes _ f9 (tripL_k0_t1 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 n f9 f10 f11 f12 f13).1))
      (arg10.view.read (Elt Ideal) (arg10.view.writes _ f10 (tripL_k0_t1 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 n f9 f10 f11 f12 f13).2.1))
      (arg11.view.read (Elt Ideal) (arg11.view.writes _ f11 (tripL_k0_t1 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 n f9 f10 f11 f12 f13).2.2.1))
      (arg12.view.read (Elt Ideal) (arg12.view.writes _ f12 (tripL_k0_t1 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 n f9 f10 f11 f12 f13).2.2.2.1))
      (arg13.view.read (Elt Ideal) (arg13.view.writes _ f13 (tripL_k0_t1 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 n f9 f10 f11 f12 f13).2.2.2.2)) := by
  have hn : n.val < t.val := lt_of_lt_of_eq n.isLt (trips_t1 t)
  obtain ⟨o1, o2, o3, o4⟩ := off_t1 t n
  have h8 : n.val < 8 := lt_trans hn (lt_of_lt_of_eq t.isLt N_0)
  have P (p : ℕ) (hp : p < 4) (o : Fin 2 → ℕ) (ho : o = ![256 * n.val, 128 * p]) (bq : ∀ a, ![p, 0, 0] a + S1x512x128.size a ≤ S4x512x128.size a)
      (bk : ∀ a, o a + S256x128.size a ≤ S2048x512.size a) (br : ∀ a, ![p, 0, 0] a + S1x512x256.size a ≤ S4x512x256.size a) :=
    pair_left (p := p) hn (hB.q_slab p hp bq) (hB.d_slab p hp bq) (hB.k_tile n.val p h8 hp ho bk) (hB.v_tile n.val p h8 hp ho bk)
      (fun y => (readAt_place arg12.view f12 (inb := br) y (ix3 ⟨p, hp⟩ (y 1) (y 2)) (slab_place p hp y)).trans (h.left _))
      (fun y => (readAt_place arg13.view f13 (inb := br) y (ix3 ⟨p, hp⟩ (y 1) (y 2)) (slab_place p hp y)).trans (h.run _))
  have A9 {o : Fin 2 → ℕ} {p : ℕ} (ho : o = ![256 * n.val, 128 * p]) (b : ∀ a, o a + S256x128.size a ≤ S2048x512.size a)
      (y : S2048x512.Idx) (x : S256x128.Idx) (h0 : (y 0).val = 256 * n.val + (x 0).val) (h1 : (y 1).val = 128 * p + (x 1).val) :
      arg9.view.readAt (Elt Ideal) (Rect.unit (s := S2048x512) o S256x128.size b).toLoadRect f9 x = ((KA X t.val n.val (y 0).val (y 1).val : ℝ) : EReal) :=
    (readAt_place arg9.view f9 x y (by subst ho; exact Fin.forall_fin_two.2 ⟨h0, h1⟩)).trans (h.dk y)
  have A10 {o : Fin 2 → ℕ} {p : ℕ} (ho : o = ![256 * n.val, 128 * p]) (b : ∀ a, o a + S256x128.size a ≤ S2048x512.size a)
      (y : S2048x512.Idx) (x : S256x128.Idx) (h0 : (y 0).val = 256 * n.val + (x 0).val) (h1 : (y 1).val = 128 * p + (x 1).val) :
      arg10.view.readAt (Elt Ideal) (Rect.unit (s := S2048x512) o S256x128.size b).toLoadRect f10 x = ((VA X t.val n.val (y 0).val (y 1).val : ℝ) : EReal) :=
    (readAt_place arg10.view f10 x y (by subst ho; exact Fin.forall_fin_two.2 ⟨h0, h1⟩)).trans (h.dv y)
  have A11 {p : ℕ} (b : ∀ a, ![0, 128 * p] a + S256x128.size a ≤ S256x512.size a)
      (y : S256x512.Idx) (x : S256x128.Idx) (h0 : (y 0).val = 0 + (x 0).val) (h1 : (y 1).val = 128 * p + (x 1).val) :
      arg11.view.readAt (Elt Ideal) (Rect.unit (s := S256x512) ![0, 128 * p] S256x128.size b).toLoadRect f11 x = ((QA X t.val n.val (y 0).val (y 1).val : ℝ) : EReal) :=
    (readAt_place arg11.view f11 x y (Fin.forall_fin_two.2 ⟨h0, h1⟩)).trans (h.dq y)
  unfold tripL_k0_t1 trip_k0_t1
  dsimp only
  refine ⟨fun y => ?_, fun y => ?_, fun y => ?_, fun y => ?_, fun y => ?_⟩
  · refine tiles arg9.view f9 (256 * n.val) (fun y e => e = ((KA X t.val (n.val + 1) (y 0).val (y 1).val : ℝ) : EReal)) o1 o2 o3 o4 _ _ _ _ []
      (fun y x => ?_) (fun y x => ?_) (fun y x => ?_) (fun y x => ?_) y (fun hr => (h.dk y).trans (congrArg _ (KA_out X _ _ _ _ hr)))
    · exact tile_dk (p := 0) (P 0 (by decide) _ o1 (by decide) _ (by decide)).dz (hB.q_slab 0 (by decide) _) (A9 o1 _) y x
    · exact tile_dk (p := 1) (P 1 (by decide) _ o2 (by decide) _ (by decide)).dz (hB.q_slab 1 (by decide) _) (A9 o2 _) y x
    · exact tile_dk (p := 2) (P 2 (by decide) _ o3 (by decide) _ (by decide)).dz (hB.q_slab 2 (by decide) _) (A9 o3 _) y x
    · exact tile_dk (p := 3) (P 3 (by decide) _ o4 (by decide) _ (by decide)).dz (hB.q_slab 3 (by decide) _) (A9 o4 _) y x
  · refine tiles arg10.view f10 (256 * n.val) (fun y e => e = ((VA X t.val (n.val + 1) (y 0).val (y 1).val : ℝ) : EReal)) o1 o2 o3 o4 _ _ _ _ []
      (fun y x => ?_) (fun y x => ?_) (fun y x => ?_) (fun y x => ?_) y (fun hr => (h.dv y).trans (congrArg _ (VA_out X _ _ _ _ hr)))
    · exact tile_dv (p := 0) (P 0 (by decide) _ o1 (by decide) _ (by decide)).w (hB.d_slab 0 (by decide) _) (A10 o1 _) y x
    · exact tile_dv (p := 1) (P 1 (by decide) _ o2 (by decide) _ (by decide)).w (hB.d_slab 1 (by decide) _) (A10 o2 _) y x
    · exact tile_dv (p := 2) (P 2 (by decide) _ o3 (by decide) _ (by decide)).w (hB.d_slab 2 (by decide) _) (A10 o3 _) y x
    · exact tile_dv (p := 3) (P 3 (by decide) _ o4 (by decide) _ (by decide)).w (hB.d_slab 3 (by decide) _) (A10 o4 _) y x
  · refine tiles arg11.view f11 0 (fun y e => e = ((QA X t.val (n.val + 1) (y 0).val (y 1).val : ℝ) : EReal)) rfl rfl rfl rfl _ _ _ _ []
      (fun y x => ?_) (fun y x => ?_) (fun y x => ?_) (fun y x => ?_) y (fun hr => absurd (y 0).isLt (by rcases hr with hr | hr; exact absurd hr (Nat.not_lt_zero _); exact Nat.not_lt.2 ((Nat.zero_add 256).symm.trans_le hr)))
    · exact tile_dq (p := 0) (by decide) (P 0 (by decide) _ o1 (by decide) _ (by decide)).dz (hB.k_tile n.val 0 h8 (by decide) o1 _) (A11 (p := 0) _) y x
    · exact tile_dq (p := 1) (by decide) (P 1 (by decide) _ o2 (by decide) _ (by decide)).dz (hB.k_tile n.val 1 h8 (by decide) o2 _) (A11 (p := 1) _) y x
    · exact tile_dq (p := 2) (by decide) (P 2 (by decide) _ o3 (by decide) _ (by decide)).dz (hB.k_tile n.val 2 h8 (by decide) o3 _) (A11 (p := 2) _) y x
    · exact tile_dq (p := 3) (by decide) (P 3 (by decide) _ o4 (by decide) _ (by decide)).dz (hB.k_tile n.val 3 h8 (by decide) o4 _) (A11 (p := 3) _) y x
  · exact slabs arg12.view f12 (fun y e => e = ((Left X (n.val + 1) (2 * (y 0).val + (y 1).val / 256) (256 * t.val + (y 1).val % 256) : ℝ) : EReal)) _ _ _ _ []
      (P 0 (by decide) _ o1 (by decide) _ (by decide)).left (P 1 (by decide) _ o2 (by decide) _ (by decide)).left
      (P 2 (by decide) _ o3 (by decide) _ (by decide)).left (P 3 (by decide) _ o4 (by decide) _ (by decide)).left y
  · exact slabs arg13.view f13 (fun y e => e = ((Run X (n.val + 1) (2 * (y 0).val + (y 1).val / 256) (256 * t.val + (y 1).val % 256) : ℝ) : EReal)) _ _ _ _ []
      (P 0 (by decide) _ o1 (by decide) _ (by decide)).run (P 1 (by decide) _ o2 (by decide) _ (by decide)).run
      (P 2 (by decide) _ o3 (by decide) _ (by decide)).run (P 3 (by decide) _ o4 (by decide) _ (by decide)).run y

/-- Before trip `n` of the loop. -/
theorem loop_left (X : Inp) (hB : Base arg2 arg3 arg14 arg15 X t.val X2 X3 X14 X15)
    (h : St X t.val 0 (arg9.view.read _ f9) (arg10.view.read _ f10) (arg11.view.read _ f11) (arg12.view.read _ f12) (arg13.view.read _ f13))
    (n : ℕ) (hn : n ≤ (k0_t1_loop (grid0.coords t)).trips) :
    St X t.val n
      (arg9.view.read (Elt Ideal) (arg9.view.writes _ f9 (pb_k0_t1 (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 f9 f10 f11 f12 f13 n).1))
      (arg10.view.read (Elt Ideal) (arg10.view.writes _ f10 (pb_k0_t1 (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 f9 f10 f11 f12 f13 n).2.1))
      (arg11.view.read (Elt Ideal) (arg11.view.writes _ f11 (pb_k0_t1 (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 f9 f10 f11 f12 f13 n).2.2.1))
      (arg12.view.read (Elt Ideal) (arg12.view.writes _ f12 (pb_k0_t1 (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 f9 f10 f11 f12 f13 n).2.2.2.1))
      (arg13.view.read (Elt Ideal) (arg13.view.writes _ f13 (pb_k0_t1 (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 f9 f10 f11 f12 f13 n).2.2.2.2)) := by
  induction n with
  | zero => exact h
  | succ n ih =>
    have e := pb_k0_t1_succ (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 X2 X3 X14 X15 f9 f10 f11 f12 f13 ⟨n, hn⟩
    dsimp only at e
    rw [e]
    dsimp only
    rw [View.writes_append, View.writes_append, View.writes_append, View.writes_append, View.writes_append]
    apply trip_left (X := X) (hB := hB) (n := ⟨n, hn⟩) (h := ih (Nat.le_of_succ_le hn))

end Trip

end Cert.KernelAttnIdeal.Gen
end
-- ==== Proof.AttnDiag.lean ====
/- The diagonal block: what the buffers hold after it. -/
module

public import proofs.«01_k».proof.Proof.AttnTrip

@[expose] public section

noncomputable section

namespace Cert.KernelAttnIdeal.Gen

open Idealize.ShloMosaic Idealize.ShloMosaic.TcCoe Idealize.ShloMosaic.Tactic Idealize.SL.Sem Cert.Attn Cert.RealLift

set_option maxRecDepth 8192

/-- What the diagonal block starts from: the buffers with what was written to them, where its four column groups begin in the rows of the
keys, and the six slabs it stores of the two running sums, which nothing reads. -/
structure Mem where
  a2 : Memref sig .tc .vmem S2048x512 .bf16
  a3 : Memref sig .tc .vmem S2048x512 .bf16
  a9 : Memref sig .tc .vmem S2048x512 .f32
  a10 : Memref sig .tc .vmem S2048x512 .f32
  a11 : Memref sig .tc .vmem S256x512 .f32
  a12 : Memref sig .tc .vmem S4x512x256 .f32
  a13 : Memref sig .tc .vmem S4x512x256 .f32
  a14 : Memref sig .tc .vmem S4x512x128 .bf16
  a15 : Memref sig .tc .vmem S4x512x128 .bf16
  X2 : BufTy.Contents (Elt Ideal) a2.view.ty
  X3 : BufTy.Contents (Elt Ideal) a3.view.ty
  X14 : BufTy.Contents (Elt Ideal) a14.view.ty
  X15 : BufTy.Contents (Elt Ideal) a15.view.ty
  g9 : BufTy.Contents (Elt Ideal) a9.view.ty
  g10 : BufTy.Contents (Elt Ideal) a10.view.ty
  g11 : BufTy.Contents (Elt Ideal) a11.view.ty
  g12 : BufTy.Contents (Elt Ideal) a12.view.ty
  g13 : BufTy.Contents (Elt Ideal) a13.view.ty
  L9 : List (View.Piece (Elt Ideal) S2048x512 .f32)
  L10 : List (View.Piece (Elt Ideal) S2048x512 .f32)
  L11 : List (View.Piece (Elt Ideal) S256x512 .f32)
  L12 : List (View.Piece (Elt Ideal) S4x512x256 .f32)
  L13 : List (View.Piece (Elt Ideal) S4x512x256 .f32)
  o : Fin 4 → Fin 2 → ℕ
  bo : ∀ p a, o p a + S256x128.size a ≤ S2048x512.size a
  c : Fin 3 → Vec Ideal S1x512x256 .f32
  e : Fin 3 → Vec Ideal S1x512x256 .f32

namespace Mem

theorem slab_in {R C : ℕ} (p : Fin 4) : ∀ a : Fin 3, ![p.val, 0, 0] a + (![1, R, C] : Fin 3 → ℕ) a ≤ (![4, R, C] : Fin 3 → ℕ) a := by
  intro a; fin_cases a
  · exact p.isLt
  · exact (Nat.zero_add _).le
  · exact (Nat.zero_add _).le

theorem group_in (p : Fin 4) : ∀ a : Fin 2, ![0, 128 * p.val] a + (![256, 128] : Fin 2 → ℕ) a ≤ (![256, 512] : Fin 2 → ℕ) a :=
  Fin.forall_fin_two.2 ⟨le_of_eq (Nat.zero_add _), by show 128 * p.val + 128 ≤ 512; omega⟩

variable (M : Mem)

abbrev qh (p : Fin 4) : Vec Ideal S1x512x128 .bf16 :=
  M.a14.view.readAt (Elt Ideal) (Rect.unit (s := S4x512x128) ![p.val, 0, 0] S1x512x128.size (slab_in p)).toLoadRect M.X14
abbrev doh (p : Fin 4) : Vec Ideal S1x512x128 .bf16 :=
  M.a15.view.readAt (Elt Ideal) (Rect.unit (s := S4x512x128) ![p.val, 0, 0] S1x512x128.size (slab_in p)).toLoadRect M.X15
abbrev kk (p : Fin 4) : Vec Ideal S256x128 .bf16 :=
  M.a2.view.readAt (Elt Ideal) (Rect.unit (s := S2048x512) (M.o p) S256x128.size (M.bo p)).toLoadRect M.X2
abbrev vv (p : Fin 4) : Vec Ideal S256x128 .bf16 :=
  M.a3.view.readAt (Elt Ideal) (Rect.unit (s := S2048x512) (M.o p) S256x128.size (M.bo p)).toLoadRect M.X3

/-- The running sums' buffers after the slabs of the first pairs of heads are stored. -/
abbrev C1 : List (View.Piece (Elt Ideal) S4x512x256 .f32) := ⟨Rect.unit ![0, 0, 0] S1x512x256.size (slab_in 0), M.c 0⟩ :: M.L12
abbrev C2 : List (View.Piece (Elt Ideal) S4x512x256 .f32) := ⟨Rect.unit ![1, 0, 0] S1x512x256.size (slab_in 1), M.c 1⟩ :: M.C1
abbrev C3 : List (View.Piece (Elt Ideal) S4x512x256 .f32) := ⟨Rect.unit ![2, 0, 0] S1x512x256.size (slab_in 2), M.c 2⟩ :: M.C2
abbrev E1 : List (View.Piece (Elt Ideal) S4x512x256 .f32) := ⟨Rect.unit ![0, 0, 0] S1x512x256.size (slab_in 0), M.e 0⟩ :: M.L13
abbrev E2 : List (View.Piece (Elt Ideal) S4x512x256 .f32) := ⟨Rect.unit ![1, 0, 0] S1x512x256.size (slab_in 1), M.e 1⟩ :: M.E1
abbrev E3 : List (View.Piece (Elt Ideal) S4x512x256 .f32) := ⟨Rect.unit ![2, 0, 0] S1x512x256.size (slab_in 2), M.e 2⟩ :: M.E2

/-- A pair's slab of the first running sum, of the second. -/
abbrev remAt (p : Fin 4) (L : List (View.Piece (Elt Ideal) S4x512x256 .f32)) : Vec Ideal S1x512x256 .f32 :=
  M.a12.view.readAt (Elt Ideal) (Rect.unit (s := S4x512x256) ![p.val, 0, 0] S1x512x256.size (slab_in p)).toLoadRect
    (M.a12.view.writes (Elt Ideal) M.g12 L)
abbrev gcAt (p : Fin 4) (L : List (View.Piece (Elt Ideal) S4x512x256 .f32)) : Vec Ideal S1x512x256 .f32 :=
  M.a13.view.readAt (Elt Ideal) (Rect.unit (s := S4x512x256) ![p.val, 0, 0] S1x512x256.size (slab_in p)).toLoadRect
    (M.a13.view.writes (Elt Ideal) M.g13 L)

abbrev aD (p : Fin 4) : FVec Ideal S512x256 .f32 := k0_pay208 (k0_pay197 (M.qh p) (M.kk p))
abbrev preD (p : Fin 4) : FVec Ideal S512x256 .f32 := k0_pay209 k0_pay150 k0_pay151 (k0_pay197 (M.qh p) (M.kk p))
abbrev wD (p : Fin 4) (L12 : List (View.Piece (Elt Ideal) S4x512x256 .f32)) : FVec Ideal S512x256 .f32 :=
  k0_pay223 k0_pay150 (M.aD p) (M.preD p) (k0_pay222 (M.remAt p L12))
abbrev dzD (p : Fin 4) (L12 L13 : List (View.Piece (Elt Ideal) S4x512x256 .f32)) : FVec Ideal S512x256 .f32 :=
  k0_pay247 k0_pay150 (M.aD p) (k0_pay224 k0_pay150 (k0_pay203 (M.doh p) (M.vv p)) (M.aD p) (M.preD p) (k0_pay222 (M.remAt p L12)))
    (k0_pay226 k0_pay150 k0_pay152 (k0_pay203 (M.doh p) (M.vv p)) (M.aD p) (M.preD p) (k0_pay222 (M.remAt p L12))) (M.gcAt p L13)

abbrev kAt (p : Fin 4) (L : List (View.Piece (Elt Ideal) S2048x512 .f32)) : Vec Ideal S256x128 .f32 :=
  M.a9.view.readAt (Elt Ideal) (Rect.unit (s := S2048x512) (M.o p) S256x128.size (M.bo p)).toLoadRect (M.a9.view.writes (Elt Ideal) M.g9 L)
abbrev vAt (p : Fin 4) (L : List (View.Piece (Elt Ideal) S2048x512 .f32)) : Vec Ideal S256x128 .f32 :=
  M.a10.view.readAt (Elt Ideal) (Rect.unit (s := S2048x512) (M.o p) S256x128.size (M.bo p)).toLoadRect (M.a10.view.writes (Elt Ideal) M.g10 L)
abbrev qAt (p : Fin 4) (L : List (View.Piece (Elt Ideal) S256x512 .f32)) : Vec Ideal S256x128 .f32 :=
  M.a11.view.readAt (Elt Ideal) (Rect.unit (s := S256x512) ![0, 128 * p.val] S256x128.size (group_in p)).toLoadRect
    (M.a11.view.writes (Elt Ideal) M.g11 L)

/-- The keys' gradient with the tiles of the first pairs of heads stored. -/
abbrev K1 : List (View.Piece (Elt Ideal) S2048x512 .f32) :=
  ⟨Rect.unit (M.o 0) S256x128.size (M.bo 0), k0_pay56 (M.dzD 0 M.L12 M.L13) (M.kAt 0 M.L9) (M.qh 0)⟩ :: M.L9
abbrev K2 : List (View.Piece (Elt Ideal) S2048x512 .f32) :=
  ⟨Rect.unit (M.o 1) S256x128.size (M.bo 1), k0_pay56 (M.dzD 1 M.C1 M.E1) (M.kAt 1 M.K1) (M.qh 1)⟩ :: M.K1
abbrev K3 : List (View.Piece (Elt Ideal) S2048x512 .f32) :=
  ⟨Rect.unit (M.o 2) S256x128.size (M.bo 2), k0_pay56 (M.dzD 2 M.C2 M.E2) (M.kAt 2 M.K2) (M.qh 2)⟩ :: M.K2
abbrev K4 : List (View.Piece (Elt Ideal) S2048x512 .f32) :=
  ⟨Rect.unit (M.o 3) S256x128.size (M.bo 3), k0_pay56 (M.dzD 3 M.C3 M.E3) (M.kAt 3 M.K3) (M.qh 3)⟩ :: M.K3
/-- The values' gradient likewise. -/
abbrev V1 : List (View.Piece (Elt Ideal) S2048x512 .f32) :=
  ⟨Rect.unit (M.o 0) S256x128.size (M.bo 0), k0_pay57 (M.wD 0 M.L12) (M.vAt 0 M.L10) (M.doh 0)⟩ :: M.L10
abbrev V2 : List (View.Piece (Elt Ideal) S2048x512 .f32) :=
  ⟨Rect.unit (M.o 1) S256x128.size (M.bo 1), k0_pay57 (M.wD 1 M.C1) (M.vAt 1 M.V1) (M.doh 1)⟩ :: M.V1
abbrev V3 : List (View.Piece (Elt Ideal) S2048x512 .f32) :=
  ⟨Rect.unit (M.o 2) S256x128.size (M.bo 2), k0_pay57 (M.wD 2 M.C2) (M.vAt 2 M.V2) (M.doh 2)⟩ :: M.V2
abbrev V4 : List (View.Piece (Elt Ideal) S2048x512 .f32) :=
  ⟨Rect.unit (M.o 3) S256x128.size (M.bo 3), k0_pay57 (M.wD 3 M.C3) (M.vAt 3 M.V3) (M.doh 3)⟩ :: M.V3
/-- The queries' gradient likewise. -/
abbrev Q1 : List (View.Piece (Elt Ideal) S256x512 .f32) :=
  ⟨Rect.unit ![0, 0] S256x128.size (group_in 0), k0_pay248 k0_pay149 (M.dzD 0 M.L12 M.L13) (M.qAt 0 M.L11) (M.kk 0)⟩ :: M.L11
abbrev Q2 : List (View.Piece (Elt Ideal) S256x512 .f32) :=
  ⟨Rect.unit ![0, 128] S256x128.size (group_in 1), k0_pay248 k0_pay149 (M.dzD 1 M.C1 M.E1) (M.qAt 1 M.Q1) (M.kk 1)⟩ :: M.Q1
abbrev Q3 : List (View.Piece (Elt Ideal) S256x512 .f32) :=
  ⟨Rect.unit ![0, 256] S256x128.size (group_in 2), k0_pay248 k0_pay149 (M.dzD 2 M.C2 M.E2) (M.qAt 2 M.Q2) (M.kk 2)⟩ :: M.Q2
abbrev Q4 : List (View.Piece (Elt Ideal) S256x512 .f32) :=
  ⟨Rect.unit ![0, 384] S256x128.size (group_in 3), k0_pay248 k0_pay149 (M.dzD 3 M.C3 M.E3) (M.qAt 3 M.Q3) (M.kk 3)⟩ :: M.Q3

/-! ## Stores elsewhere are not seen -/

variable {Val : EltTy → Type} {κ : Kind} {sp : Space} {e : EltTy}

/-- Another pair's slab is not seen by a slab's load. -/
theorem slab_skip {v : View sig κ sp S4x512x256 e} {f : v.ty.Contents Val} (p q : Fin 4) (h : p ≠ q)
    {b : ∀ a, ![q.val, 0, 0] a + S1x512x256.size a ≤ S4x512x256.size a} (w : S1x512x256.Idx → Val e) {L : List (View.Piece Val S4x512x256 e)}
    (y : S4x512x256.Idx) (hy : y 0 = p) :
    v.read Val (v.writes Val f (⟨Rect.unit ![q.val, 0, 0] S1x512x256.size b, w⟩ :: L)) y = v.read Val (v.writes Val f L) y :=
  View.read_writes_cons_unit_of_not_mem v f b w L y rfl 0 (by
    have h' : (y 0).val ≠ q.val := fun e => h (hy.symm.trans (Fin.ext e))
    show (y 0).val < q.val ∨ q.val + 1 ≤ (y 0).val
    omega)

/-- Another column group's tile is not seen by a tile's load. -/
theorem tile_skip {N : ℕ} {v : View sig κ sp (⟨2, ![N, 512]⟩ : Shape) e} {f : v.ty.Contents Val} (r p q : ℕ) (h : q < p) {o : Fin 2 → ℕ}
    (ho : o = ![r, 128 * q]) {b : ∀ a, o a + S256x128.size a ≤ (⟨2, ![N, 512]⟩ : Shape).size a} (w : S256x128.Idx → Val e)
    {L : List (View.Piece Val (⟨2, ![N, 512]⟩ : Shape) e)} (y : (⟨2, ![N, 512]⟩ : Shape).Idx) (hy : 128 * p ≤ (y 1).val) :
    v.read Val (v.writes Val f (⟨Rect.unit (s := ⟨2, ![N, 512]⟩) o S256x128.size b, w⟩ :: L)) y = v.read Val (v.writes Val f L) y :=
  View.read_writes_cons_unit_of_not_mem v f b w L y ho (1 : Fin 2) (by
    right
    show 128 * q + 128 ≤ (y 1).val
    omega)

/-! ## After the block -/

variable {M} {X : Inp} {i : ℕ} (hi : i < 8) (ho : ∀ p : Fin 4, M.o p = ![256 * i, 128 * p.val])
  (hB : Base M.a2 M.a3 M.a14 M.a15 X i M.X2 M.X3 M.X14 M.X15)
  (hS : St X i i (M.a9.view.read _ (M.a9.view.writes _ M.g9 M.L9)) (M.a10.view.read _ (M.a10.view.writes _ M.g10 M.L10))
    (M.a11.view.read _ (M.a11.view.writes _ M.g11 M.L11)) (M.a12.view.read _ (M.a12.view.writes _ M.g12 M.L12))
    (M.a13.view.read _ (M.a13.view.writes _ M.g13 M.L13)))
include hi ho hB hS

theorem pair (p : Fin 4) {L12 L13 : List (View.Piece (Elt Ideal) S4x512x256 .f32)}
    (h12 : ∀ y : S4x512x256.Idx, y 0 = p → M.a12.view.read _ (M.a12.view.writes _ M.g12 L12) y = M.a12.view.read _ (M.a12.view.writes _ M.g12 M.L12) y)
    (h13 : ∀ y : S4x512x256.Idx, y 0 = p → M.a13.view.read _ (M.a13.view.writes _ M.g13 L13) y = M.a13.view.read _ (M.a13.view.writes _ M.g13 M.L13) y) :
    Sheet i p.val i X.W (M.wD p L12) ∧ Sheet i p.val i X.DZ (M.dzD p L12 L13) :=
  pair_diag (hB.q_slab p.val p.isLt _) (hB.d_slab p.val p.isLt _) (hB.k_tile i p.val hi p.isLt (ho p) _) (hB.v_tile i p.val hi p.isLt (ho p) _)
    (fun y => (readAt_place M.a12.view _ y (ix3 p (y 1) (y 2)) (slab_place p.val p.isLt y)).trans ((h12 _ rfl).trans (hS.left _)))
    (fun y => (readAt_place M.a13.view _ y (ix3 p (y 1) (y 2)) (slab_place p.val p.isLt y)).trans ((h13 _ rfl).trans (hS.run _)))

theorem pair0 : Sheet i 0 i X.W (M.wD 0 M.L12) ∧ Sheet i 0 i X.DZ (M.dzD 0 M.L12 M.L13) :=
  pair hi ho hB hS 0 (fun _ _ => rfl) (fun _ _ => rfl)

theorem pair1 : Sheet i 1 i X.W (M.wD 1 M.C1) ∧ Sheet i 1 i X.DZ (M.dzD 1 M.C1 M.E1) :=
  pair hi ho hB hS 1 (fun y hy => slab_skip 1 0 (by decide) _ y hy) (fun y hy => slab_skip 1 0 (by decide) _ y hy)

theorem pair2 : Sheet i 2 i X.W (M.wD 2 M.C2) ∧ Sheet i 2 i X.DZ (M.dzD 2 M.C2 M.E2) :=
  pair hi ho hB hS 2 (fun y hy => (slab_skip 2 1 (by decide) _ y hy).trans (slab_skip 2 0 (by decide) _ y hy))
    (fun y hy => (slab_skip 2 1 (by decide) _ y hy).trans (slab_skip 2 0 (by decide) _ y hy))

theorem pair3 : Sheet i 3 i X.W (M.wD 3 M.C3) ∧ Sheet i 3 i X.DZ (M.dzD 3 M.C3 M.E3) :=
  pair hi ho hB hS 3 (fun y hy => (slab_skip 3 2 (by decide) _ y hy).trans ((slab_skip 3 1 (by decide) _ y hy).trans (slab_skip 3 0 (by decide) _ y hy)))
    (fun y hy => (slab_skip 3 2 (by decide) _ y hy).trans ((slab_skip 3 1 (by decide) _ y hy).trans (slab_skip 3 0 (by decide) _ y hy)))

theorem dk_end (y : S2048x512.Idx) :
    M.a9.view.read (Elt Ideal) (M.a9.view.writes _ M.g9 M.K4) y = ((KA X i (i + 1) (y 0).val (y 1).val : ℝ) : EReal) := by
  have A (p : Fin 4) {L : List (View.Piece (Elt Ideal) S2048x512 .f32)}
      (hL : ∀ y : S2048x512.Idx, 128 * p.val ≤ (y 1).val → M.a9.view.read _ (M.a9.view.writes _ M.g9 L) y = M.a9.view.read _ (M.a9.view.writes _ M.g9 M.L9) y)
      (y : S2048x512.Idx) (x : S256x128.Idx) (h0 : (y 0).val = 256 * i + (x 0).val) (h1 : (y 1).val = 128 * p.val + (x 1).val) :
      M.kAt p L x = ((KA X i i (y 0).val (y 1).val : ℝ) : EReal) :=
    (readAt_place M.a9.view _ x y (Fin.forall_fin_two.2 ⟨h0.trans (congrArg (· + (x 0).val) (congrFun (ho p) 0).symm), h1.trans (congrArg (· + (x 1).val) (congrFun (ho p) 1).symm)⟩)).trans ((hL y (by omega)).trans (hS.dk y))
  refine tiles M.a9.view M.g9 (256 * i) (fun y e => e = ((KA X i (i + 1) (y 0).val (y 1).val : ℝ) : EReal)) (ho 0) (ho 1) (ho 2) (ho 3) _ _ _ _ M.L9
    (fun y x => ?_) (fun y x => ?_) (fun y x => ?_) (fun y x => ?_) y (fun hr => (hS.dk y).trans (congrArg _ (KA_out X _ _ _ _ hr)))
  · exact tile_dk (p := 0) (pair0 hi ho hB hS).2 (hB.q_slab 0 (by decide) _) (A 0 fun _ _ => rfl) y x
  · exact tile_dk (p := 1) (pair1 hi ho hB hS).2 (hB.q_slab 1 (by decide) _) (A 1 fun y hy => tile_skip _ 1 0 (by decide) (ho 0) _ y hy) y x
  · exact tile_dk (p := 2) (pair2 hi ho hB hS).2 (hB.q_slab 2 (by decide) _)
      (A 2 fun y hy => (tile_skip _ 2 1 (by decide) (ho 1) _ y hy).trans (tile_skip _ 2 0 (by decide) (ho 0) _ y hy)) y x
  · exact tile_dk (p := 3) (pair3 hi ho hB hS).2 (hB.q_slab 3 (by decide) _)
      (A 3 fun y hy => (tile_skip _ 3 2 (by decide) (ho 2) _ y hy).trans
        ((tile_skip _ 3 1 (by decide) (ho 1) _ y hy).trans (tile_skip _ 3 0 (by decide) (ho 0) _ y hy))) y x

theorem dv_end (y : S2048x512.Idx) :
    M.a10.view.read (Elt Ideal) (M.a10.view.writes _ M.g10 M.V4) y = ((VA X i (i + 1) (y 0).val (y 1).val : ℝ) : EReal) := by
  have A (p : Fin 4) {L : List (View.Piece (Elt Ideal) S2048x512 .f32)}
      (hL : ∀ y : S2048x512.Idx, 128 * p.val ≤ (y 1).val → M.a10.view.read _ (M.a10.view.writes _ M.g10 L) y = M.a10.view.read _ (M.a10.view.writes _ M.g10 M.L10) y)
      (y : S2048x512.Idx) (x : S256x128.Idx) (h0 : (y 0).val = 256 * i + (x 0).val) (h1 : (y 1).val = 128 * p.val + (x 1).val) :
      M.vAt p L x = ((VA X i i (y 0).val (y 1).val : ℝ) : EReal) :=
    (readAt_place M.a10.view _ x y (Fin.forall_fin_two.2 ⟨h0.trans (congrArg (· + (x 0).val) (congrFun (ho p) 0).symm), h1.trans (congrArg (· + (x 1).val) (congrFun (ho p) 1).symm)⟩)).trans ((hL y (by omega)).trans (hS.dv y))
  refine tiles M.a10.view M.g10 (256 * i) (fun y e => e = ((VA X i (i + 1) (y 0).val (y 1).val : ℝ) : EReal)) (ho 0) (ho 1) (ho 2) (ho 3) _ _ _ _ M.L10
    (fun y x => ?_) (fun y x => ?_) (fun y x => ?_) (fun y x => ?_) y (fun hr => (hS.dv y).trans (congrArg _ (VA_out X _ _ _ _ hr)))
  · exact tile_dv (p := 0) (pair0 hi ho hB hS).1 (hB.d_slab 0 (by decide) _) (A 0 fun _ _ => rfl) y x
  · exact tile_dv (p := 1) (pair1 hi ho hB hS).1 (hB.d_slab 1 (by decide) _) (A 1 fun y hy => tile_skip _ 1 0 (by decide) (ho 0) _ y hy) y x
  · exact tile_dv (p := 2) (pair2 hi ho hB hS).1 (hB.d_slab 2 (by decide) _)
      (A 2 fun y hy => (tile_skip _ 2 1 (by decide) (ho 1) _ y hy).trans (tile_skip _ 2 0 (by decide) (ho 0) _ y hy)) y x
  · exact tile_dv (p := 3) (pair3 hi ho hB hS).1 (hB.d_slab 3 (by decide) _)
      (A 3 fun y hy => (tile_skip _ 3 2 (by decide) (ho 2) _ y hy).trans
        ((tile_skip _ 3 1 (by decide) (ho 1) _ y hy).trans (tile_skip _ 3 0 (by decide) (ho 0) _ y hy))) y x

theorem dq_end (y : S256x512.Idx) :
    M.a11.view.read (Elt Ideal) (M.a11.view.writes _ M.g11 M.Q4) y = ((QA X i (i + 1) (y 0).val (y 1).val : ℝ) : EReal) := by
  have A (p : Fin 4) {L : List (View.Piece (Elt Ideal) S256x512 .f32)}
      (hL : ∀ y : S256x512.Idx, 128 * p.val ≤ (y 1).val → M.a11.view.read _ (M.a11.view.writes _ M.g11 L) y = M.a11.view.read _ (M.a11.view.writes _ M.g11 M.L11) y)
      (y : S256x512.Idx) (x : S256x128.Idx) (h0 : (y 0).val = 0 + (x 0).val) (h1 : (y 1).val = 128 * p.val + (x 1).val) :
      M.qAt p L x = ((QA X i i (y 0).val (y 1).val : ℝ) : EReal) :=
    (readAt_place M.a11.view _ x y (Fin.forall_fin_two.2 ⟨h0, h1⟩)).trans ((hL y (by omega)).trans (hS.dq y))
  refine tiles M.a11.view M.g11 0 (fun y e => e = ((QA X i (i + 1) (y 0).val (y 1).val : ℝ) : EReal)) rfl rfl rfl rfl _ _ _ _ M.L11
    (fun y x => ?_) (fun y x => ?_) (fun y x => ?_) (fun y x => ?_) y (fun hr => absurd (y 0).isLt (by rcases hr with hr | hr; exact absurd hr (Nat.not_lt_zero _); exact Nat.not_lt.2 ((Nat.zero_add 256).symm.trans_le hr)))
  · exact tile_dq (p := 0) (by decide) (pair0 hi ho hB hS).2 (hB.k_tile i 0 hi (by decide) (ho 0) _) (A 0 fun _ _ => rfl) y x
  · exact tile_dq (p := 1) (by decide) (pair1 hi ho hB hS).2 (hB.k_tile i 1 hi (by decide) (ho 1) _) (A 1 fun y hy => tile_skip 0 1 0 (by decide) rfl _ y hy) y x
  · exact tile_dq (p := 2) (by decide) (pair2 hi ho hB hS).2 (hB.k_tile i 2 hi (by decide) (ho 2) _)
      (A 2 fun y hy => (tile_skip 0 2 1 (by decide) rfl _ y hy).trans (tile_skip 0 2 0 (by decide) rfl _ y hy)) y x
  · exact tile_dq (p := 3) (by decide) (pair3 hi ho hB hS).2 (hB.k_tile i 3 hi (by decide) (ho 3) _)
      (A 3 fun y hy => (tile_skip 0 3 2 (by decide) rfl _ y hy).trans
        ((tile_skip 0 3 1 (by decide) rfl _ y hy).trans (tile_skip 0 3 0 (by decide) rfl _ y hy))) y x

/-- All three gradients. -/
theorem ends : (∀ y, M.a11.view.read (Elt Ideal) (M.a11.view.writes _ M.g11 M.Q4) y = ((QA X i (i + 1) (y 0).val (y 1).val : ℝ) : EReal))
    ∧ (∀ y, M.a9.view.read (Elt Ideal) (M.a9.view.writes _ M.g9 M.K4) y = ((KA X i (i + 1) (y 0).val (y 1).val : ℝ) : EReal))
    ∧ (∀ y, M.a10.view.read (Elt Ideal) (M.a10.view.writes _ M.g10 M.V4) y = ((VA X i (i + 1) (y 0).val (y 1).val : ℝ) : EReal)) :=
  ⟨dq_end hi ho hB hS, dk_end hi ho hB hS, dv_end hi ho hB hS⟩

end Mem

end Cert.KernelAttnIdeal.Gen
end
-- ==== Proof.AttnStart.lean ====
/- What the buffers hold when the loop over the column blocks begins. -/
module

public import proofs.«01_k».proof.Proof.AttnDiag

@[expose] public section

noncomputable section

namespace Cert.KernelAttnIdeal.Gen

open Idealize.ShloMosaic Idealize.ShloMosaic.TcCoe Idealize.ShloMosaic.Tactic Idealize.SL.Sem Cert.Attn Cert.RealLift

set_option maxRecDepth 8192

theorem trips_t2 : ∀ t : Fin grid0.N, (k0_t2_loop (grid0.coords t)).trips = 0 := by decide +kernel

/-- The second loop makes no trip. -/
theorem pb_t2 (t : Fin grid0.N) (𝒱 : Variants) (c : Dev nD) (bd : Option 𝒱.V) (arg1 : Memref sig .tc .vmem S256x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S256x512 .f32) (harg4 : arg4.IsWhole) (arg5 : Memref sig .tc .vmem S8x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .f32) (harg9 : arg9.IsWhole) (arg10 : Memref sig .tc .vmem S2048x512 .f32) (harg10 : arg10.IsWhole) (arg11 : Memref sig .tc .vmem S256x512 .f32) (harg11 : arg11.IsWhole) (arg12 : Memref sig .tc .vmem S4x512x256 .f32) (harg12 : arg12.IsWhole) (arg13 : Memref sig .tc .vmem S4x512x256 .f32) (harg13 : arg13.IsWhole) (arg14 : Memref sig .tc .vmem S4x512x128 .bf16) (harg14 : arg14.IsWhole) (arg15 : Memref sig .tc .vmem S4x512x128 .bf16) (harg15 : arg15.IsWhole) (arg0 : BitVec 32) (v2 : IVec S1x128 1) (v16 : FVec Ideal S256x256 .bf16) (v20 : FVec Ideal S256x256 .bf16) (v252 : BitVec 32) (X_arg2 : BufTy.Contents (Elt Ideal) arg2.view.ty) (X_arg3 : BufTy.Contents (Elt Ideal) arg3.view.ty) (X_arg14 : BufTy.Contents (Elt Ideal) arg14.view.ty) (X_arg15 : BufTy.Contents (Elt Ideal) arg15.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (G_arg13 : BufTy.Contents (Elt Ideal) arg13.view.ty) (n : ℕ) :
    pb_k0_t2 (F := Ideal) 𝒱 c bd (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v2 v16 v20 v252 X_arg2 X_arg3 X_arg14 X_arg15 G_arg9 G_arg10 G_arg11 G_arg12 G_arg13 n = ([], [], [], [], []) := by
  induction n with
  | zero => rfl
  | succ n ih =>
    rw [pb_k0_t2.eq_2]; unfold pb_k0_t2Step
    rw [dif_neg (by rw [trips_t2]; exact Nat.not_lt_zero n)]
    exact ih

/-! ## Queries and cotangents by pairs of heads -/

theorem ofBits_eighth_bf16 : Ideal.ofBits .bf16 15872#16 = ((1 / 8 : ℝ) : EReal) := by
  simp [Ideal.ofBits, Ideal.ieee, -EReal.coe_mul]; norm_num

theorem toInt_zero : (((0#32).toInt : ℝ) : EReal) = 0 := by simp

section Start

variable {X : Inp} {i p : ℕ}

theorem qh_pay {x : Vec Ideal S256x128 .bf16} (hx : ∀ y, x y = ((X.q (256 * i + (y 0).val) (128 * p + (y 1).val) : ℝ) : EReal))
    (y : S1x512x128.Idx) : k0_pay167 (F := Ideal) k0_pay149 x y = ((X.QH i p (y 1).val (y 2).val : ℝ) : EReal) := by
  have h1 : (y 1).val < 512 := (y 1).isLt
  pointwise [k0_pay167]
  rw [Inp.QH]
  by_cases h : (y 1).val < 256
  · rw [dif_pos h, Nat.mod_eq_of_lt h]
    refine (mask_head _ _ _).trans ?_
    by_cases hc : (y 2).val < 64
    · refine (if_pos hc).trans ?_
      rw [if_pos (iff_of_true h hc)]
      rw [hx, ofBits_eighth_bf16, ← EReal.coe_mul]; rfl
    · refine (if_neg hc).trans ?_
      rw [if_neg (fun e => hc (e.1 h))]
      exact toInt_zero
  · rw [dif_neg h, show (y 1).val % 256 = (y 1).val - 256 by omega]
    refine (mask_head _ _ _).trans ?_
    by_cases hc : (y 2).val < 64
    · refine (if_pos hc).trans ?_
      rw [if_neg (fun e => h (e.2 hc))]
      exact toInt_zero
    · refine (if_neg hc).trans ?_
      rw [if_pos (iff_of_false h hc)]
      rw [hx, ofBits_eighth_bf16, ← EReal.coe_mul]; rfl

theorem doh_pay {x : Vec Ideal S256x128 .f32} (hx : ∀ y, x y = ((X.d (256 * i + (y 0).val) (128 * p + (y 1).val) : ℝ) : EReal))
    (y : S1x512x128.Idx) : k0_pay161 (F := Ideal) k0_pay149 x y = ((X.DH i p (y 1).val (y 2).val : ℝ) : EReal) := by
  have h1 : (y 1).val < 512 := (y 1).isLt
  pointwise [k0_pay161]
  rw [Inp.DH]
  by_cases h : (y 1).val < 256
  · rw [dif_pos h, Nat.mod_eq_of_lt h]
    refine (mask_head _ _ _).trans ?_
    by_cases hc : (y 2).val < 64
    · refine (if_pos hc).trans ?_
      rw [if_pos (iff_of_true h hc)]
      rw [hx]; rfl
    · refine (if_neg hc).trans ?_
      rw [if_neg (fun e => hc (e.1 h))]
      exact toInt_zero
  · rw [dif_neg h, show (y 1).val % 256 = (y 1).val - 256 by omega]
    refine (mask_head _ _ _).trans ?_
    by_cases hc : (y 2).val < 64
    · refine (if_pos hc).trans ?_
      rw [if_neg (fun e => h (e.2 hc))]
      exact toInt_zero
    · refine (if_neg hc).trans ?_
      rw [if_pos (iff_of_false h hc)]
      rw [hx]; rfl

end Start

/-! ## The running sum's start -/

section Quarters

variable {Val : EltTy → Type} {sig : RefSig} {κ : Kind} {sp : Space} {e : EltTy}
variable (v : View sig κ sp S4x512x256 e) (f : v.ty.Contents Val)

/-- A quarter of a slab in front of the others: the place is in it, or in one before it. -/
theorem quarter (Q : S4x512x256.Idx → Val e → Prop) (k p a b : ℕ) (hk : k = 4 * p + 2 * a + b) (ha : a < 2) (hb : b < 2)
    {o : Fin 3 → ℕ} (ho : o = ![p, 256 * a, 128 * b]) {inb : ∀ j, o j + S1x256x128.size j ≤ S4x512x256.size j} {w : S1x256x128.Idx → Val e}
    {L : List (View.Piece Val S4x512x256 e)} (y : S4x512x256.Idx)
    (hw : ∀ x : S1x256x128.Idx, (y 0).val = p → (y 1).val = 256 * a + (x 1).val → (y 2).val = 128 * b + (x 2).val → Q y (w x))
    (hy : 4 * (y 0).val + 2 * ((y 1).val / 256) + (y 2).val / 128 < k + 1)
    (hL : 4 * (y 0).val + 2 * ((y 1).val / 256) + (y 2).val / 128 < k → Q y (v.read Val (v.writes Val f L) y)) :
    Q y (v.read Val (v.writes Val f (⟨Rect.unit (s := S4x512x256) o S1x256x128.size inb, w⟩ :: L)) y) := by
  have h0 : (y 0).val < 4 := (y 0).isLt
  have h1 : (y 1).val < 512 := (y 1).isLt
  have h2 : (y 2).val < 256 := (y 2).isLt
  by_cases h : 4 * (y 0).val + 2 * ((y 1).val / 256) + (y 2).val / 128 < k
  · have := View.read_writes_cons_unit_of_not_mem v f inb w L y ho
    rcases (by omega : (y 0).val < p ∨ ((y 0).val = p ∧ (y 1).val < 256 * a) ∨ ((y 0).val = p ∧ (y 2).val < 128 * b)) with c | c | c
    · rw [this (0 : Fin 3) (.inl c)]; exact hL h
    · rw [this (1 : Fin 3) (.inl c.2)]; exact hL h
    · rw [this (2 : Fin 3) (.inl c.2)]; exact hL h
  · have e0 : (y 0).val = p := by omega
    have e1 : (y 1).val / 256 = a := by omega
    have e2 : (y 2).val / 128 = b := by omega
    have x1 : (y 1).val - 256 * a < 256 := by omega
    have x2 : (y 2).val - 128 * b < 128 := by omega
    rw [View.read_writes_cons_unit_of_mem v f inb w L y (ix3 (0 : Fin 1) (⟨(y 1).val - 256 * a, x1⟩ : Fin 256) (⟨(y 2).val - 128 * b, x2⟩ : Fin 128)) ho
      (fun j => by
        fin_cases j
        · exact e0
        · show (y 1).val = 256 * a + ((y 1).val - 256 * a); omega
        · show (y 2).val = 128 * b + ((y 2).val - 128 * b); omega)]
    refine hw _ e0 ?_ ?_
    · show (y 1).val = 256 * a + ((y 1).val - 256 * a); omega
    · show (y 2).val = 128 * b + ((y 2).val - 128 * b); omega

end Quarters

/-- The row totals of a row block, loaded for head `h`. -/
theorem total_at (v : View sig .tc .vmem S8x256x128 .f32) (f : v.ty.Contents (Elt Ideal)) (X : Inp) (i : ℕ)
    (hx : ∀ y, v.read (Elt Ideal) f y = ((X.T (y 0).val (256 * i + (y 1).val) : ℝ) : EReal)) (p a b h : ℕ) (hh : h = 2 * p + a)
    {inb : ∀ j, ![h, 0, 0] j + S1x256x128.size j ≤ S8x256x128.size j} (y : S4x512x256.Idx)
    (x : S1x256x128.Idx) (e0 : (y 0).val = p) (e1 : (y 1).val = 256 * a + (x 1).val) (_ : (y 2).val = 128 * b + (x 2).val) :
    k0_pay162 (F := Ideal) (v.readAt (Elt Ideal) (Rect.unit (s := S8x256x128) ![h, 0, 0] S1x256x128.size inb).toLoadRect f) x
      = ((Left X 0 (2 * (y 0).val + (y 1).val / 256) (256 * i + (y 1).val % 256) : ℝ) : EReal) := by
  have x0 : (x 0).val < 1 := (x 0).isLt
  have x1 : (x 1).val < 256 := (x 1).isLt
  have hb : h < 8 := by have := inb 0; change h + 1 ≤ 8 at this; omega
  pointwise [k0_pay162]
  refine (readAt_place v f x (ix3 (⟨h, hb⟩ : Fin 8) (x 1) (x 2)) (fun j => by
    fin_cases j
    · show h = h + (x 0).val; omega
    · exact (Nat.zero_add _).symm
    · exact (Nat.zero_add _).symm)).trans ((hx _).trans ?_)
  show ((X.T h (256 * i + (x 1).val) : ℝ) : EReal) = _
  rw [Left, Nat.mul_zero, Finset.range_zero, Finset.sum_empty, sub_zero, e0, e1, show 2 * p + (256 * a + (x 1).val) / 256 = h by omega,
    show (256 * a + (x 1).val) % 256 = (x 1).val by omega]

end Cert.KernelAttnIdeal.Gen
end
-- ==== Proof.AttnLoop.lean ====
/- The buffers before the diagonal block of a row block. -/
module

public import proofs.«01_k».proof.Proof.AttnStart
public import Idealize.ShloMosaic.Lib.VecWindow

@[expose] public section

noncomputable section

namespace Cert.KernelAttnIdeal.Gen

open Idealize.ShloMosaic Idealize.ShloMosaic.TcCoe Idealize.ShloMosaic.Tactic Idealize.SL.Sem Cert.Attn Cert.RealLift

set_option maxRecDepth 8192

/-- What the five input blocks of row block `i` hold. -/
structure Blk (X : Inp) (i : ℕ) (x0 : Vec Ideal S256x512 .bf16) (x1 x2 : Vec Ideal S2048x512 .bf16) (x3 : Vec Ideal S256x512 .f32)
    (x4 : Vec Ideal S8x256x128 .f32) : Prop where
  q : ∀ y, x0 y = ((X.q (256 * i + (y 0).val) (y 1).val : ℝ) : EReal)
  k : ∀ y, x1 y = ((X.k (y 0).val (y 1).val : ℝ) : EReal)
  v : ∀ y, x2 y = ((X.v (y 0).val (y 1).val : ℝ) : EReal)
  d : ∀ y, x3 y = ((X.d (256 * i + (y 0).val) (y 1).val : ℝ) : EReal)
  t : ∀ y, x4 y = ((X.T (y 0).val (256 * i + (y 1).val) : ℝ) : EReal)

variable (c : Dev nD) (arg1 : Memref sig .tc .vmem S256x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S256x512 .f32) (harg4 : arg4.IsWhole) (arg5 : Memref sig .tc .vmem S8x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .f32) (harg9 : arg9.IsWhole) (arg10 : Memref sig .tc .vmem S2048x512 .f32) (harg10 : arg10.IsWhole) (arg11 : Memref sig .tc .vmem S256x512 .f32) (harg11 : arg11.IsWhole) (arg12 : Memref sig .tc .vmem S4x512x256 .f32) (harg12 : arg12.IsWhole) (arg13 : Memref sig .tc .vmem S4x512x256 .f32) (harg13 : arg13.IsWhole) (arg14 : Memref sig .tc .vmem S4x512x128 .bf16) (harg14 : arg14.IsWhole) (arg15 : Memref sig .tc .vmem S4x512x128 .bf16) (harg15 : arg15.IsWhole)
  (x0 : Vec Ideal S256x512 .bf16) (x1 x2 : Vec Ideal S2048x512 .bf16) (x3 : Vec Ideal S256x512 .f32) (x4 : Vec Ideal S8x256x128 .f32)

/-- A pair's columns of the queries, of the cotangents. -/
abbrev queryOf (p : Fin 4) : Vec Ideal S256x128 .bf16 :=
  arg1.view.readAt (Elt Ideal) (Rect.unit (s := S256x512) ![0, 128 * p.val] S256x128.size (Mem.group_in p)).toLoadRect (harg1.unread x0)
abbrev cotangentOf (p : Fin 4) : Vec Ideal S256x128 .f32 :=
  arg4.view.readAt (Elt Ideal) (Rect.unit (s := S256x512) ![0, 128 * p.val] S256x128.size (Mem.group_in p)).toLoadRect (harg4.unread x3)

/-- The row totals of head `h`. -/
abbrev totalOf (h : ℕ) (b : ∀ a, ![h, 0, 0] a + S1x256x128.size a ≤ S8x256x128.size a) : Vec Ideal S1x256x128 .f32 :=
  arg5.view.readAt (Elt Ideal) (Rect.unit (s := S8x256x128) ![h, 0, 0] S1x256x128.size b).toLoadRect (harg5.unread x4)

/-- The slabs of the queries, scaled and laid out by pairs of heads; of the cotangents; of the row totals. -/
abbrev queries : List (View.Piece (Elt Ideal) S4x512x128 .bf16) :=
  [⟨Rect.unit ![3, 0, 0] S1x512x128.size (Mem.slab_in 3), k0_pay167 (F := Ideal) k0_pay149 (queryOf arg1 harg1 x0 3)⟩,
    ⟨Rect.unit ![2, 0, 0] S1x512x128.size (Mem.slab_in 2), k0_pay167 (F := Ideal) k0_pay149 (queryOf arg1 harg1 x0 2)⟩,
    ⟨Rect.unit ![1, 0, 0] S1x512x128.size (Mem.slab_in 1), k0_pay167 (F := Ideal) k0_pay149 (queryOf arg1 harg1 x0 1)⟩,
    ⟨Rect.unit ![0, 0, 0] S1x512x128.size (Mem.slab_in 0), k0_pay167 (F := Ideal) k0_pay149 (queryOf arg1 harg1 x0 0)⟩]
abbrev cotangents : List (View.Piece (Elt Ideal) S4x512x128 .bf16) :=
  [⟨Rect.unit ![3, 0, 0] S1x512x128.size (Mem.slab_in 3), k0_pay161 (F := Ideal) k0_pay149 (cotangentOf arg4 harg4 x3 3)⟩,
    ⟨Rect.unit ![2, 0, 0] S1x512x128.size (Mem.slab_in 2), k0_pay161 (F := Ideal) k0_pay149 (cotangentOf arg4 harg4 x3 2)⟩,
    ⟨Rect.unit ![1, 0, 0] S1x512x128.size (Mem.slab_in 1), k0_pay161 (F := Ideal) k0_pay149 (cotangentOf arg4 harg4 x3 1)⟩,
    ⟨Rect.unit ![0, 0, 0] S1x512x128.size (Mem.slab_in 0), k0_pay161 (F := Ideal) k0_pay149 (cotangentOf arg4 harg4 x3 0)⟩]
abbrev totals : List (View.Piece (Elt Ideal) S4x512x256 .f32) :=
  [⟨Rect.unit (s := S4x512x256) ![3, 256, 128] S1x256x128.size (by decide), k0_pay162 (F := Ideal) (totalOf arg5 harg5 x4 7 (by decide))⟩,
    ⟨Rect.unit (s := S4x512x256) ![3, 256, 0] S1x256x128.size (by decide), k0_pay162 (F := Ideal) (totalOf arg5 harg5 x4 7 (by decide))⟩,
    ⟨Rect.unit (s := S4x512x256) ![3, 0, 128] S1x256x128.size (by decide), k0_pay162 (F := Ideal) (totalOf arg5 harg5 x4 6 (by decide))⟩,
    ⟨Rect.unit (s := S4x512x256) ![3, 0, 0] S1x256x128.size (by decide), k0_pay162 (F := Ideal) (totalOf arg5 harg5 x4 6 (by decide))⟩,
    ⟨Rect.unit (s := S4x512x256) ![2, 256, 128] S1x256x128.size (by decide), k0_pay162 (F := Ideal) (totalOf arg5 harg5 x4 5 (by decide))⟩,
    ⟨Rect.unit (s := S4x512x256) ![2, 256, 0] S1x256x128.size (by decide), k0_pay162 (F := Ideal) (totalOf arg5 harg5 x4 5 (by decide))⟩,
    ⟨Rect.unit (s := S4x512x256) ![2, 0, 128] S1x256x128.size (by decide), k0_pay162 (F := Ideal) (totalOf arg5 harg5 x4 4 (by decide))⟩,
    ⟨Rect.unit (s := S4x512x256) ![2, 0, 0] S1x256x128.size (by decide), k0_pay162 (F := Ideal) (totalOf arg5 harg5 x4 4 (by decide))⟩,
    ⟨Rect.unit (s := S4x512x256) ![1, 256, 128] S1x256x128.size (by decide), k0_pay162 (F := Ideal) (totalOf arg5 harg5 x4 3 (by decide))⟩,
    ⟨Rect.unit (s := S4x512x256) ![1, 256, 0] S1x256x128.size (by decide), k0_pay162 (F := Ideal) (totalOf arg5 harg5 x4 3 (by decide))⟩,
    ⟨Rect.unit (s := S4x512x256) ![1, 0, 128] S1x256x128.size (by decide), k0_pay162 (F := Ideal) (totalOf arg5 harg5 x4 2 (by decide))⟩,
    ⟨Rect.unit (s := S4x512x256) ![1, 0, 0] S1x256x128.size (by decide), k0_pay162 (F := Ideal) (totalOf arg5 harg5 x4 2 (by decide))⟩,
    ⟨Rect.unit (s := S4x512x256) ![0, 256, 128] S1x256x128.size (by decide), k0_pay162 (F := Ideal) (totalOf arg5 harg5 x4 1 (by decide))⟩,
    ⟨Rect.unit (s := S4x512x256) ![0, 256, 0] S1x256x128.size (by decide), k0_pay162 (F := Ideal) (totalOf arg5 harg5 x4 1 (by decide))⟩,
    ⟨Rect.unit (s := S4x512x256) ![0, 0, 128] S1x256x128.size (by decide), k0_pay162 (F := Ideal) (totalOf arg5 harg5 x4 0 (by decide))⟩,
    ⟨Rect.unit (s := S4x512x256) ![0, 0, 0] S1x256x128.size (by decide), k0_pay162 (F := Ideal) (totalOf arg5 harg5 x4 0 (by decide))⟩]

section

variable {X : Inp} {i : ℕ} {x0 x1 x2 x3 x4} (hX : Blk X i x0 x1 x2 x3 x4)
include hX

theorem query_at (p : Fin 4) (y : S256x128.Idx) :
    queryOf arg1 harg1 x0 p y = ((X.q (256 * i + (y 0).val) (128 * p.val + (y 1).val) : ℝ) : EReal) := by
  have h0 : (y 0).val < 256 := (y 0).isLt
  have h1 : (y 1).val < 128 := (y 1).isLt
  refine (readAt_place arg1.view _ y (ix2 (⟨(y 0).val, h0⟩ : Fin 256) (⟨128 * p.val + (y 1).val, by omega⟩ : Fin 512))
    (Fin.forall_fin_two.2 ⟨(Nat.zero_add _).symm, rfl⟩)).trans ?_
  rw [harg1.read_unread]
  exact hX.q _

theorem cotangent_at (p : Fin 4) (y : S256x128.Idx) :
    cotangentOf arg4 harg4 x3 p y = ((X.d (256 * i + (y 0).val) (128 * p.val + (y 1).val) : ℝ) : EReal) := by
  have h0 : (y 0).val < 256 := (y 0).isLt
  have h1 : (y 1).val < 128 := (y 1).isLt
  refine (readAt_place arg4.view _ y (ix2 (⟨(y 0).val, h0⟩ : Fin 256) (⟨128 * p.val + (y 1).val, by omega⟩ : Fin 512))
    (Fin.forall_fin_two.2 ⟨(Nat.zero_add _).symm, rfl⟩)).trans ?_
  rw [harg4.read_unread]
  exact hX.d _

theorem base_start (f14 : BufTy.Contents (Elt Ideal) arg14.view.ty) (f15 : BufTy.Contents (Elt Ideal) arg15.view.ty) :
    Base arg2 arg3 arg14 arg15 X i (harg2.unread x1) (harg3.unread x2) (arg14.view.writes (Elt Ideal) f14 (queries arg1 harg1 x0))
      (arg15.view.writes (Elt Ideal) f15 (cotangents arg4 harg4 x3)) where
  k y := by rw [harg2.read_unread]; exact hX.k y
  v y := by rw [harg3.read_unread]; exact hX.v y
  q y := slabs arg14.view f14 (fun y e => e = ((X.QH i (y 0).val (y 1).val (y 2).val : ℝ) : EReal)) _ _ _ _ []
    (qh_pay (query_at arg1 harg1 hX 0)) (qh_pay (query_at arg1 harg1 hX 1)) (qh_pay (query_at arg1 harg1 hX 2)) (qh_pay (query_at arg1 harg1 hX 3)) y
  d y := slabs arg15.view f15 (fun y e => e = ((X.DH i (y 0).val (y 1).val (y 2).val : ℝ) : EReal)) _ _ _ _ []
    (doh_pay (cotangent_at arg4 harg4 hX 0)) (doh_pay (cotangent_at arg4 harg4 hX 1)) (doh_pay (cotangent_at arg4 harg4 hX 2)) (doh_pay (cotangent_at arg4 harg4 hX 3)) y

theorem totals_start (f12 : BufTy.Contents (Elt Ideal) arg12.view.ty) (y : S4x512x256.Idx) :
    arg12.view.read (Elt Ideal) (arg12.view.writes (Elt Ideal) f12 (totals arg5 harg5 x4)) y
      = ((Left X 0 (2 * (y 0).val + (y 1).val / 256) (256 * i + (y 1).val % 256) : ℝ) : EReal) := by
  have hT (y) : arg5.view.read (Elt Ideal) (harg5.unread x4) y = ((X.T (y 0).val (256 * i + (y 1).val) : ℝ) : EReal) := by
    rw [harg5.read_unread]; exact hX.t y
  have h0 : (y 0).val < 4 := (y 0).isLt
  have h1 : (y 1).val < 512 := (y 1).isLt
  have h2 : (y 2).val < 256 := (y 2).isLt
  let Q (y : S4x512x256.Idx) (e : EReal) : Prop := e = ((Left X 0 (2 * (y 0).val + (y 1).val / 256) (256 * i + (y 1).val % 256) : ℝ) : EReal)
  have hq (p a b h : ℕ) (hh : h = 2 * p + a) (inb) (x : S1x256x128.Idx) (e0 : (y 0).val = p) (e1 : (y 1).val = 256 * a + (x 1).val)
      (e2 : (y 2).val = 128 * b + (x 2).val) : Q y (k0_pay162 (F := Ideal) (totalOf arg5 harg5 x4 h inb) x) :=
    total_at arg5.view _ X i hT p a b h hh y x e0 e1 e2
  change Q y _
  refine quarter (Val := Elt Ideal) arg12.view f12 Q 15 3 1 1 rfl (by decide) (by decide) rfl y (hq 3 1 1 7 rfl _) (by omega) fun h => ?_
  refine quarter (Val := Elt Ideal) arg12.view f12 Q 14 3 1 0 rfl (by decide) (by decide) rfl y (hq 3 1 0 7 rfl _) h fun h => ?_
  refine quarter (Val := Elt Ideal) arg12.view f12 Q 13 3 0 1 rfl (by decide) (by decide) rfl y (hq 3 0 1 6 rfl _) h fun h => ?_
  refine quarter (Val := Elt Ideal) arg12.view f12 Q 12 3 0 0 rfl (by decide) (by decide) rfl y (hq 3 0 0 6 rfl _) h fun h => ?_
  refine quarter (Val := Elt Ideal) arg12.view f12 Q 11 2 1 1 rfl (by decide) (by decide) rfl y (hq 2 1 1 5 rfl _) h fun h => ?_
  refine quarter (Val := Elt Ideal) arg12.view f12 Q 10 2 1 0 rfl (by decide) (by decide) rfl y (hq 2 1 0 5 rfl _) h fun h => ?_
  refine quarter (Val := Elt Ideal) arg12.view f12 Q 9 2 0 1 rfl (by decide) (by decide) rfl y (hq 2 0 1 4 rfl _) h fun h => ?_
  refine quarter (Val := Elt Ideal) arg12.view f12 Q 8 2 0 0 rfl (by decide) (by decide) rfl y (hq 2 0 0 4 rfl _) h fun h => ?_
  refine quarter (Val := Elt Ideal) arg12.view f12 Q 7 1 1 1 rfl (by decide) (by decide) rfl y (hq 1 1 1 3 rfl _) h fun h => ?_
  refine quarter (Val := Elt Ideal) arg12.view f12 Q 6 1 1 0 rfl (by decide) (by decide) rfl y (hq 1 1 0 3 rfl _) h fun h => ?_
  refine quarter (Val := Elt Ideal) arg12.view f12 Q 5 1 0 1 rfl (by decide) (by decide) rfl y (hq 1 0 1 2 rfl _) h fun h => ?_
  refine quarter (Val := Elt Ideal) arg12.view f12 Q 4 1 0 0 rfl (by decide) (by decide) rfl y (hq 1 0 0 2 rfl _) h fun h => ?_
  refine quarter (Val := Elt Ideal) arg12.view f12 Q 3 0 1 1 rfl (by decide) (by decide) rfl y (hq 0 1 1 1 rfl _) h fun h => ?_
  refine quarter (Val := Elt Ideal) arg12.view f12 Q 2 0 1 0 rfl (by decide) (by decide) rfl y (hq 0 1 0 1 rfl _) h fun h => ?_
  refine quarter (Val := Elt Ideal) arg12.view f12 Q 1 0 0 1 rfl (by decide) (by decide) rfl y (hq 0 0 1 0 rfl _) h fun h => ?_
  refine quarter (Val := Elt Ideal) arg12.view f12 Q 0 0 0 0 rfl (by decide) (by decide) rfl y (hq 0 0 0 0 rfl _) h fun h => ?_
  exact absurd h (Nat.not_lt_zero _)

end

section

variable {X : Inp} {t : Fin grid0.N} {x0 x1 x2 x3 x4} (hX : Blk X t.val x0 x1 x2 x3 x4)

include hX in
/-- After both loops, from whatever the two carried gradients were. -/
theorem after_loops {c9 : BufTy.Contents (Elt Ideal) arg9.view.ty} {c10 : BufTy.Contents (Elt Ideal) arg10.view.ty}
    (h9 : ∀ y, arg9.view.read (Elt Ideal) c9 y = ((KA X t.val 0 (y 0).val (y 1).val : ℝ) : EReal))
    (h10 : ∀ y, arg10.view.read (Elt Ideal) c10 y = ((VA X t.val 0 (y 0).val (y 1).val : ℝ) : EReal))
    {arg0 arg0' v2' v16' v20' v252' X2' X3' X14' X15' G9' G10' G11' G12' G13' n'} {n : ℕ} (hn : n = (k0_t1_loop (grid0.coords t)).trips) :
    St X t.val t.val
      (arg9.view.read (Elt Ideal) (arg9.view.writes _ c9 ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').1 ++ (pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) c9 c10 (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).1)))
      (arg10.view.read (Elt Ideal) (arg10.view.writes _ c10 ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').2.1 ++ (pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) c9 c10 (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).2.1)))
      (arg11.view.read (Elt Ideal) (arg11.view.writes _ arg11.view.junk ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').2.2.1 ++ ((pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) c9 c10 (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).2.2.1 ++ [⟨Rect.unit ![0, 0] S256x512.size inb_S256x512_S256x512_0_0, k0_pay155 (F := Ideal)⟩]))))
      (arg12.view.read (Elt Ideal) (arg12.view.writes _ arg12.view.junk ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').2.2.2.1 ++ ((pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) c9 c10 (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).2.2.2.1 ++ totals arg5 harg5 x4))))
      (arg13.view.read (Elt Ideal) (arg13.view.writes _ arg13.view.junk ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').2.2.2.2 ++ ((pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) c9 c10 (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).2.2.2.2 ++ [⟨Rect.unit ![0, 0, 0] S4x512x256.size inb_S4x512x256_S4x512x256_0_0_0, k0_pay156 (F := Ideal)⟩])))) := by
  simp only [pb_t2, List.nil_append, View.writes_append]
  have hl := hn.trans (trips_t1 t)
  refine (fun k (e : n = k) h => e ▸ h : ∀ k, n = k → St X t.val n _ _ _ _ _ → St X t.val k _ _ _ _ _) t.val hl ?_
  apply loop_left
  · apply base_start (hX := hX)
  · refine ⟨h9, h10, fun y => ?_, fun y => by apply totals_start (hX := hX),  fun y => ?_⟩
    · rw [View.read_writes_full _ _ _ _ _]
      pointwise [k0_pay155, QA]
      rw [Finset.sum_range_zero]; rfl
    · rw [View.read_writes_full _ _ _ _ _]
      pointwise [k0_pay156, Run]
      rw [Finset.sum_range_zero]; rfl
  · exact hn.le

include hX in
/-- The same where the two carried gradients were just set. -/
theorem after_loops_set {f9 : BufTy.Contents (Elt Ideal) arg9.view.ty} {f10 : BufTy.Contents (Elt Ideal) arg10.view.ty}
    {T9 T10 : List (View.Piece (Elt Ideal) S2048x512 .f32)}
    (h9 : ∀ y, arg9.view.read (Elt Ideal) (arg9.view.writes _ f9 T9) y = ((KA X t.val 0 (y 0).val (y 1).val : ℝ) : EReal))
    (h10 : ∀ y, arg10.view.read (Elt Ideal) (arg10.view.writes _ f10 T10) y = ((VA X t.val 0 (y 0).val (y 1).val : ℝ) : EReal))
    {arg0 arg0' v2' v16' v20' v252' X2' X3' X14' X15' G9' G10' G11' G12' G13' n'} {n : ℕ} (hn : n = (k0_t1_loop (grid0.coords t)).trips) :
    St X t.val t.val
      (arg9.view.read (Elt Ideal) (arg9.view.writes _ f9 ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').1 ++ ((pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) (arg9.view.writes _ f9 T9) (arg10.view.writes _ f10 T10) (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).1 ++ T9))))
      (arg10.view.read (Elt Ideal) (arg10.view.writes _ f10 ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').2.1 ++ ((pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) (arg9.view.writes _ f9 T9) (arg10.view.writes _ f10 T10) (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).2.1 ++ T10))))
      (arg11.view.read (Elt Ideal) (arg11.view.writes _ arg11.view.junk ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').2.2.1 ++ ((pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) (arg9.view.writes _ f9 T9) (arg10.view.writes _ f10 T10) (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).2.2.1 ++ [⟨Rect.unit ![0, 0] S256x512.size inb_S256x512_S256x512_0_0, k0_pay155 (F := Ideal)⟩]))))
      (arg12.view.read (Elt Ideal) (arg12.view.writes _ arg12.view.junk ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').2.2.2.1 ++ ((pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) (arg9.view.writes _ f9 T9) (arg10.view.writes _ f10 T10) (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).2.2.2.1 ++ totals arg5 harg5 x4))))
      (arg13.view.read (Elt Ideal) (arg13.view.writes _ arg13.view.junk ((pb_k0_t2 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0' v2' v16' v20' v252' X2' X3' X14' X15' G9' G10' G11' G12' G13' n').2.2.2.2 ++ ((pb_k0_t1 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_pay149 k0_pay151 k0_pay152 (harg2.unread x1) (harg3.unread x2) (arg14.view.writes (Elt Ideal) arg14.view.junk (queries arg1 harg1 x0)) (arg15.view.writes (Elt Ideal) arg15.view.junk (cotangents arg4 harg4 x3)) (arg9.view.writes _ f9 T9) (arg10.view.writes _ f10 T10) (arg11.view.writes (Elt Ideal) arg11.view.junk [⟨Rect.unit ![0, 0] S256x512.size inb_S256x512_S256x512_0_0, k0_pay155 (F := Ideal)⟩]) (arg12.view.writes (Elt Ideal) arg12.view.junk (totals arg5 harg5 x4)) (arg13.view.writes (Elt Ideal) arg13.view.junk [⟨Rect.unit ![0, 0, 0] S4x512x256.size inb_S4x512x256_S4x512x256_0_0_0, k0_pay156 (F := Ideal)⟩]) n).2.2.2.2 ++ [⟨Rect.unit ![0, 0, 0] S4x512x256.size inb_S4x512x256_S4x512x256_0_0_0, k0_pay156 (F := Ideal)⟩])))) := by
  have := after_loops c arg1 harg1 arg2 harg2 arg3 harg3 arg4 harg4 arg5 harg5 arg6 harg6 arg7 harg7 arg8 harg8 arg9 harg9 arg10 harg10 arg11 harg11 arg12 harg12 arg13 harg13 arg14 harg14 arg15 harg15 (hX := hX) h9 h10 (arg0 := arg0) (arg0' := arg0') (v2' := v2') (v16' := v16') (v20' := v20') (v252' := v252') (X2' := X2') (X3' := X3') (X14' := X14') (X15' := X15') (G9' := G9') (G10' := G10') (G11' := G11') (G12' := G12') (G13' := G13') (n' := n') hn
  simp only [View.writes_append] at this ⊢
  exact this

end

end Cert.KernelAttnIdeal.Gen
end
-- ==== Proof.AttnPoint.lean ====
/- What one grid point leaves behind. -/
module

public import proofs.«01_k».proof.Proof.AttnLoop

@[expose] public section

noncomputable section

namespace Cert.KernelAttnIdeal.Gen

open Idealize.ShloMosaic Idealize.ShloMosaic.TcCoe Idealize.ShloMosaic.Tactic Idealize.SL.Sem Cert.Attn Cert.RealLift

set_option maxRecDepth 8192

attribute [local irreducible] k0_off9 k0_off10 k0_off11 k0_off12

theorem diag_off (t : Fin grid0.N) (p : Fin 4) :
    (![k0_off9 (grid0.coords t), k0_off10 (grid0.coords t), k0_off11 (grid0.coords t), k0_off12 (grid0.coords t)] : Fin 4 → Fin 2 → ℕ) p
      = ![256 * t.val, 128 * p.val] := by
  obtain ⟨h0, h1, h2, h3⟩ := off_diag t
  fin_cases p
  · exact h0
  · exact h1
  · exact h2
  · exact h3

theorem diag_in (t : Fin grid0.N) (p : Fin 4) (a : Fin 2) :
    (![k0_off9 (grid0.coords t), k0_off10 (grid0.coords t), k0_off11 (grid0.coords t), k0_off12 (grid0.coords t)] : Fin 4 → Fin 2 → ℕ) p a
      + S256x128.size a ≤ S2048x512.size a := by
  have ht : t.val < 8 := t.isLt
  rw [diag_off]
  fin_cases a
  · show 256 * t.val + 256 ≤ 2048; omega
  · show 128 * p.val + 128 ≤ 512; omega

theorem scale_pay {x : Vec Ideal S256x512 .f32} {y : S256x512.Idx} {r : ℝ} (h : x y = (r : EReal)) :
    k0_pay274 (F := Ideal) x y = ((r * (1 / 8) : ℝ) : EReal) := by
  pointwise [k0_pay274]
  rw [h, ofBits_eighth, ← EReal.coe_mul]

theorem zero_pay (y : S2048x512.Idx) : k0_pay153 (F := Ideal) y = ((0 : ℝ) : EReal) := by
  pointwise [k0_pay153]; rfl

theorem KA_zero (X : Inp) {i : ℕ} (h : i = 0) (s c : ℕ) : KA X i 0 s c = 0 := by
  subst h; simp [KA]

theorem VA_zero (X : Inp) {i : ℕ} (h : i = 0) (s c : ℕ) : VA X i 0 s c = 0 := by
  subst h; simp [VA]

variable (c : Dev nD) (arg1 : Memref sig .tc .vmem S256x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S256x512 .f32) (harg4 : arg4.IsWhole) (arg5 : Memref sig .tc .vmem S8x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .f32) (harg9 : arg9.IsWhole) (arg10 : Memref sig .tc .vmem S2048x512 .f32) (harg10 : arg10.IsWhole) (arg11 : Memref sig .tc .vmem S256x512 .f32) (harg11 : arg11.IsWhole) (arg12 : Memref sig .tc .vmem S4x512x256 .f32) (harg12 : arg12.IsWhole) (arg13 : Memref sig .tc .vmem S4x512x256 .f32) (harg13 : arg13.IsWhole) (arg14 : Memref sig .tc .vmem S4x512x128 .bf16) (harg14 : arg14.IsWhole) (arg15 : Memref sig .tc .vmem S4x512x128 .bf16) (harg15 : arg15.IsWhole)
  (x0 : Vec Ideal S256x512 .bf16) (x1 x2 : Vec Ideal S2048x512 .bf16) (x3 : Vec Ideal S256x512 .f32) (x4 : Vec Ideal S8x256x128 .f32)

variable {xs0 xs1 : Vec Ideal S2048x512 .f32} {X : Inp} {t : Fin grid0.N} {x0 x1 x2 x3 x4} (hX : Blk X t.val x0 x1 x2 x3 x4)
include hX

set_option maxHeartbeats 1600000 in
theorem point_A (ht : t.val = 0) (hc0 : cond0_0 (grid0.coords t)) (hc1 : ¬cond0_1 (grid0.coords t)) :
    (∀ y, out0_A_5 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y = ((QA X t.val (t.val + 1) (y 0).val (y 1).val * (1 / 8) : ℝ) : EReal))
      ∧ (∀ y, sout0_A_0 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y = ((KA X t.val (t.val + 1) (y 0).val (y 1).val : ℝ) : EReal))
      ∧ (∀ y, sout0_A_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y = ((VA X t.val (t.val + 1) (y 0).val (y 1).val : ℝ) : EReal)) := by
  have h := fun hB hS => Mem.ends (X := X) (M := { a2 := arg2, a3 := arg3, a9 := arg9, a10 := arg10, a11 := arg11, a12 := arg12, a13 := arg13, a14 := arg14, a15 := arg15, X2 := harg2.unread x1, X3 := harg3.unread x2, X14 := arg14.view.writes (Elt Ideal) arg14.view.junk (kernelRun0_A.sl.HS5_4 (F := Ideal) c arg1 harg1 x0), X15 := arg15.view.writes (Elt Ideal) arg15.view.junk (kernelRun0_A.sl.HS6_4 (F := Ideal) c arg4 harg4 x3), g9 := arg9.view.junk, g10 := arg10.view.junk, g11 := arg11.view.junk, g12 := arg12.view.junk, g13 := arg13.view.junk, L9 := (kernelRun0_A.sl.HS0_1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4).tail, L10 := (kernelRun0_A.sl.HS1_1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4).tail, L11 := (kernelRun0_A.sl.HS2_1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4).tail, L12 := (kernelRun0_A.sl.HS3_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4).tail, L13 := (kernelRun0_A.sl.HS4_1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4).tail, o := ![k0_off9 (grid0.coords t), k0_off10 (grid0.coords t), k0_off11 (grid0.coords t), k0_off12 (grid0.coords t)], bo := diag_in t, c := ![k0_pay227 (kernelRun0_A.sl.r_17 (F := Ideal) c (grid0.coords t) arg1 harg1 arg2 harg2 arg14 x0 x1) (kernelRun0_A.sl.r_26 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4), k0_pay233 (kernelRun0_A.sl.r_21 (F := Ideal) c (grid0.coords t) arg1 harg1 arg2 harg2 arg14 x0 x1) (kernelRun0_A.sl.v409 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4), k0_pay239 (kernelRun0_A.sl.r_23 (F := Ideal) c (grid0.coords t) arg1 harg1 arg2 harg2 arg14 x0 x1) (kernelRun0_A.sl.r_33 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)], e := ![k0_pay252 (kernelRun0_A.sl.r_27 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) (kernelRun0_A.sl.r_41 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4), k0_pay258 (kernelRun0_A.sl.r_30 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) (kernelRun0_A.sl.r_44 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4), k0_pay266 (kernelRun0_A.sl.r_35 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4) (kernelRun0_A.sl.r_47 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)] }) t.isLt (diag_off t) hB hS
  dsimp only [Mem.qh, Mem.doh, Mem.kk, Mem.vv, Mem.C1, Mem.C2, Mem.C3, Mem.E1, Mem.E2, Mem.E3, Mem.remAt, Mem.gcAt, Mem.aD, Mem.preD, Mem.wD, Mem.dzD, Mem.kAt, Mem.vAt, Mem.qAt, Mem.K1, Mem.K2, Mem.K3, Mem.K4, Mem.V1, Mem.V2, Mem.V3, Mem.V4, Mem.Q1, Mem.Q2, Mem.Q3, Mem.Q4, Matrix.cons_val] at h
  obtain ⟨hq, hk, hv⟩ := h (base_start (hX := hX) ..) (after_loops_set c arg1 harg1 arg2 harg2 arg3 harg3 arg4 harg4 arg5 harg5 arg6 harg6 arg7 harg7 arg8 harg8 arg9 harg9 arg10 harg10 arg11 harg11 arg12 harg12 arg13 harg13 arg14 harg14 arg15 harg15 (hX := hX) (f9 := arg9.view.junk) (T9 := [⟨Rect.unit ![0, 0] S2048x512.size inb_S2048x512_S2048x512_0_0, k0_pay153 (F := Ideal)⟩])
    (f10 := arg10.view.junk) (T10 := [⟨Rect.unit ![0, 0] S2048x512.size inb_S2048x512_S2048x512_0_0, k0_pay154 (F := Ideal)⟩]) (h9 := fun y => ((congrFun (View.read_writes_full ..) y).trans (zero_pay y)).trans (congrArg _ (KA_zero X ht _ _).symm)) (h10 := fun y => ((congrFun (View.read_writes_full ..) y).trans (zero_pay y)).trans (congrArg _ (VA_zero X ht _ _).symm)) (hn := rfl))
  refine ⟨fun y => ?_, fun y => ?_, fun y => ?_⟩
  · unfold out0_A_5 kernelRun0_A
    exact (congrFun (View.read_writes_full ..) y).trans
      (scale_pay ((readAt_place arg11.view _ y y (Fin.forall_fin_two.2 ⟨(Nat.zero_add _).symm, (Nat.zero_add _).symm⟩)).trans (hq y)))
  · refine (congrFun (View.read_writes_of_cover VS0_0 _ arg9.view arg9.view.junk _ (scover0_A_0 c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4)) y).trans ?_
    unfold kernelRun0_A
    exact hk y
  · refine (congrFun (View.read_writes_of_cover VS0_1 _ arg10.view arg10.view.junk _ (scover0_A_1 c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4)) y).trans ?_
    unfold kernelRun0_A
    exact hv y

set_option maxHeartbeats 1600000 in
theorem point_B (hc0 : ¬cond0_0 (grid0.coords t)) (hc1 : ¬cond0_1 (grid0.coords t))
    (h9 : ∀ y, xs0 y = ((KA X t.val 0 (y 0).val (y 1).val : ℝ) : EReal)) (h10 : ∀ y, xs1 y = ((VA X t.val 0 (y 0).val (y 1).val : ℝ) : EReal)) :
    (∀ y, out0_B_5 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xs0 xs1 y = ((QA X t.val (t.val + 1) (y 0).val (y 1).val * (1 / 8) : ℝ) : EReal))
      ∧ (∀ y, sout0_B_0 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xs0 xs1 y = ((KA X t.val (t.val + 1) (y 0).val (y 1).val : ℝ) : EReal))
      ∧ (∀ y, sout0_B_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xs0 xs1 y = ((VA X t.val (t.val + 1) (y 0).val (y 1).val : ℝ) : EReal)) := by
  have h := fun hB hS => Mem.ends (X := X) (M := { a2 := arg2, a3 := arg3, a9 := arg9, a10 := arg10, a11 := arg11, a12 := arg12, a13 := arg13, a14 := arg14, a15 := arg15, X2 := harg2.unread x1, X3 := harg3.unread x2, X14 := arg14.view.writes (Elt Ideal) arg14.view.junk (kernelRun0_B.sl.HS5_4 (F := Ideal) c arg1 harg1 x0), X15 := arg15.view.writes (Elt Ideal) arg15.view.junk (kernelRun0_B.sl.HS6_4 (F := Ideal) c arg4 harg4 x3), g9 := harg9.unread xs0, g10 := harg10.unread xs1, g11 := arg11.view.junk, g12 := arg12.view.junk, g13 := arg13.view.junk, L9 := (kernelRun0_B.sl.HS0_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, L10 := (kernelRun0_B.sl.HS1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, L11 := (kernelRun0_B.sl.HS2_1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, L12 := (kernelRun0_B.sl.HS3_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, L13 := (kernelRun0_B.sl.HS4_1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, o := ![k0_off9 (grid0.coords t), k0_off10 (grid0.coords t), k0_off11 (grid0.coords t), k0_off12 (grid0.coords t)], bo := diag_in t, c := ![k0_pay227 (kernelRun0_B.sl.r_17 (F := Ideal) c (grid0.coords t) arg1 harg1 arg2 harg2 arg14 x0 x1) (kernelRun0_B.sl.r_26 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1), k0_pay233 (kernelRun0_B.sl.r_21 (F := Ideal) c (grid0.coords t) arg1 harg1 arg2 harg2 arg14 x0 x1) (kernelRun0_B.sl.v409 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1), k0_pay239 (kernelRun0_B.sl.r_23 (F := Ideal) c (grid0.coords t) arg1 harg1 arg2 harg2 arg14 x0 x1) (kernelRun0_B.sl.r_33 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1)], e := ![k0_pay252 (kernelRun0_B.sl.r_27 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1) (kernelRun0_B.sl.r_41 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1), k0_pay258 (kernelRun0_B.sl.r_30 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1) (kernelRun0_B.sl.r_44 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1), k0_pay266 (kernelRun0_B.sl.r_35 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1) (kernelRun0_B.sl.r_47 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1)] }) t.isLt (diag_off t) hB hS
  dsimp only [Mem.qh, Mem.doh, Mem.kk, Mem.vv, Mem.C1, Mem.C2, Mem.C3, Mem.E1, Mem.E2, Mem.E3, Mem.remAt, Mem.gcAt, Mem.aD, Mem.preD, Mem.wD, Mem.dzD, Mem.kAt, Mem.vAt, Mem.qAt, Mem.K1, Mem.K2, Mem.K3, Mem.K4, Mem.V1, Mem.V2, Mem.V3, Mem.V4, Mem.Q1, Mem.Q2, Mem.Q3, Mem.Q4, Matrix.cons_val] at h
  obtain ⟨hq, hk, hv⟩ := h (base_start (hX := hX) ..) (after_loops c arg1 harg1 arg2 harg2 arg3 harg3 arg4 harg4 arg5 harg5 arg6 harg6 arg7 harg7 arg8 harg8 arg9 harg9 arg10 harg10 arg11 harg11 arg12 harg12 arg13 harg13 arg14 harg14 arg15 harg15 (hX := hX) (c9 := harg9.unread xs0) (c10 := harg10.unread xs1) (h9 := fun y => by rw [harg9.read_unread]; exact h9 y) (h10 := fun y => by rw [harg10.read_unread]; exact h10 y) (hn := rfl))
  refine ⟨fun y => ?_, hk, hv⟩
  · unfold out0_B_5 kernelRun0_B
    exact (congrFun (View.read_writes_full ..) y).trans
      (scale_pay ((readAt_place arg11.view _ y y (Fin.forall_fin_two.2 ⟨(Nat.zero_add _).symm, (Nat.zero_add _).symm⟩)).trans (hq y)))

set_option maxHeartbeats 1600000 in
theorem point_C (hc0 : ¬cond0_0 (grid0.coords t)) (hc1 : cond0_1 (grid0.coords t))
    (h9 : ∀ y, xs0 y = ((KA X t.val 0 (y 0).val (y 1).val : ℝ) : EReal)) (h10 : ∀ y, xs1 y = ((VA X t.val 0 (y 0).val (y 1).val : ℝ) : EReal)) :
    (∀ y, out0_C_5 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xs0 xs1 y = ((QA X t.val (t.val + 1) (y 0).val (y 1).val * (1 / 8) : ℝ) : EReal))
      ∧ (∀ y, sout0_C_0 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xs0 xs1 y = ((KA X t.val (t.val + 1) (y 0).val (y 1).val : ℝ) : EReal))
      ∧ (∀ y, sout0_C_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xs0 xs1 y = ((VA X t.val (t.val + 1) (y 0).val (y 1).val : ℝ) : EReal))
      ∧ (∀ y, out0_C_6 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xs0 xs1 y = ((KA X t.val (t.val + 1) (y 0).val (y 1).val : ℝ) : EReal))
      ∧ (∀ y, out0_C_7 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xs0 xs1 y = ((VA X t.val (t.val + 1) (y 0).val (y 1).val : ℝ) : EReal)) := by
  have h := fun hB hS => Mem.ends (X := X) (M := { a2 := arg2, a3 := arg3, a9 := arg9, a10 := arg10, a11 := arg11, a12 := arg12, a13 := arg13, a14 := arg14, a15 := arg15, X2 := harg2.unread x1, X3 := harg3.unread x2, X14 := arg14.view.writes (Elt Ideal) arg14.view.junk (kernelRun0_C.sl.HS5_4 (F := Ideal) c arg1 harg1 x0), X15 := arg15.view.writes (Elt Ideal) arg15.view.junk (kernelRun0_C.sl.HS6_4 (F := Ideal) c arg4 harg4 x3), g9 := harg9.unread xs0, g10 := harg10.unread xs1, g11 := arg11.view.junk, g12 := arg12.view.junk, g13 := arg13.view.junk, L9 := (kernelRun0_C.sl.HS0_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, L10 := (kernelRun0_C.sl.HS1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, L11 := (kernelRun0_C.sl.HS2_1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, L12 := (kernelRun0_C.sl.HS3_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, L13 := (kernelRun0_C.sl.HS4_1_1 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1).tail, o := ![k0_off9 (grid0.coords t), k0_off10 (grid0.coords t), k0_off11 (grid0.coords t), k0_off12 (grid0.coords t)], bo := diag_in t, c := ![k0_pay227 (kernelRun0_C.sl.r_17 (F := Ideal) c (grid0.coords t) arg1 harg1 arg2 harg2 arg14 x0 x1) (kernelRun0_C.sl.r_26 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1), k0_pay233 (kernelRun0_C.sl.r_21 (F := Ideal) c (grid0.coords t) arg1 harg1 arg2 harg2 arg14 x0 x1) (kernelRun0_C.sl.v409 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1), k0_pay239 (kernelRun0_C.sl.r_23 (F := Ideal) c (grid0.coords t) arg1 harg1 arg2 harg2 arg14 x0 x1) (kernelRun0_C.sl.r_33 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1)], e := ![k0_pay252 (kernelRun0_C.sl.r_27 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1) (kernelRun0_C.sl.r_41 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1), k0_pay258 (kernelRun0_C.sl.r_30 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1) (kernelRun0_C.sl.r_44 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1), k0_pay266 (kernelRun0_C.sl.r_35 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1) (kernelRun0_C.sl.r_47 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xs0 xs1)] }) t.isLt (diag_off t) hB hS
  dsimp only [Mem.qh, Mem.doh, Mem.kk, Mem.vv, Mem.C1, Mem.C2, Mem.C3, Mem.E1, Mem.E2, Mem.E3, Mem.remAt, Mem.gcAt, Mem.aD, Mem.preD, Mem.wD, Mem.dzD, Mem.kAt, Mem.vAt, Mem.qAt, Mem.K1, Mem.K2, Mem.K3, Mem.K4, Mem.V1, Mem.V2, Mem.V3, Mem.V4, Mem.Q1, Mem.Q2, Mem.Q3, Mem.Q4, Matrix.cons_val] at h
  obtain ⟨hq, hk, hv⟩ := h (base_start (hX := hX) ..) (after_loops c arg1 harg1 arg2 harg2 arg3 harg3 arg4 harg4 arg5 harg5 arg6 harg6 arg7 harg7 arg8 harg8 arg9 harg9 arg10 harg10 arg11 harg11 arg12 harg12 arg13 harg13 arg14 harg14 arg15 harg15 (hX := hX) (c9 := harg9.unread xs0) (c10 := harg10.unread xs1) (h9 := fun y => by rw [harg9.read_unread]; exact h9 y) (h10 := fun y => by rw [harg10.read_unread]; exact h10 y) (hn := rfl))
  refine ⟨fun y => ?_, hk, hv, fun y => ?_, fun y => ?_⟩
  · unfold out0_C_5 kernelRun0_C
    exact (congrFun (View.read_writes_full ..) y).trans
      (scale_pay ((readAt_place arg11.view _ y y (Fin.forall_fin_two.2 ⟨(Nat.zero_add _).symm, (Nat.zero_add _).symm⟩)).trans (hq y)))
  · unfold out0_C_6 kernelRun0_C
    exact (congrFun (View.read_writes_full ..) y).trans ((readAt_place arg9.view _ y y (Fin.forall_fin_two.2 ⟨(Nat.zero_add _).symm, (Nat.zero_add _).symm⟩)).trans (hk y))
  · unfold out0_C_7 kernelRun0_C
    exact (congrFun (View.read_writes_full ..) y).trans ((readAt_place arg10.view _ y y (Fin.forall_fin_two.2 ⟨(Nat.zero_add _).symm, (Nat.zero_add _).symm⟩)).trans (hv y))

end Cert.KernelAttnIdeal.Gen
end
-- ==== Proof.WindowSum.lean ====
/- The host's window sum over the extended reals: the padded operand summed over a window, and the two running sums along a last axis. -/
module

public import proofs.«01_k».proof.Proof.RealLift
public import Idealize.ShloMosaic.Lib.Claim

@[expose] public section

noncomputable section

namespace Cert.WindowSum

open Idealize.ShloMosaic

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A position of a window of the padded operand: the operand's element, or the initial value in the padding. -/
def term {s t : Shape} (window strides lo hi : Fin s.rank → ℕ) (h : s.ReduceWindows window strides lo hi t) (x : s.Idx → EReal) (v : EReal) (j : t.Idx)
    (w : (⟨s.rank, window⟩ : Shape).Idx) : EReal :=
  if hin : ∀ a, lo a ≤ (j (a.cast h.1.symm)).val * strides a + (w a).val ∧ (j (a.cast h.1.symm)).val * strides a + (w a).val - lo a < s.size a then
    x (fun a => ⟨(j (a.cast h.1.symm)).val * strides a + (w a).val - lo a, (hin a).2⟩) else v

theorem window_sum {s t u : Shape} (window strides lo hi : Fin s.rank → ℕ) (x : FVec Ideal s .f32) (init : u.Idx → Ideal .f32)
    (h : s.ReduceWindows window strides lo hi t) (hu : 0 < u.numel) (j : t.Idx) :
    Host.reduceWindowAdd (F := Ideal) window strides lo hi x init h hu j
      = init (Shape.Idx.first hu) + ∑ w : (⟨s.rank, window⟩ : Shape).Idx, term window strides lo hi h x (init (Shape.Idx.first hu)) j w := by
  have e : Host.reduceWindowAdd (F := Ideal) window strides lo hi x init h hu j
      = (List.finRange (⟨s.rank, window⟩ : Shape).numel).foldl
          (fun r n => r + term window strides lo hi h x (init (Shape.Idx.first hu)) j ((⟨s.rank, window⟩ : Shape).rowMajor.symm n)) (init (Shape.Idx.first hu)) := by
    simp only [Host.reduceWindowAdd]
    show Ideal.hostReduceWindowAdd window strides lo hi h x (init (Shape.Idx.first hu)) j = _
    simp only [Ideal.hostReduceWindowAdd, Host.reduceWindow]
    rfl
  rw [e, foldl_add]
  rw [← Equiv.sum_comp (⟨s.rank, window⟩ : Shape).rowMajor.symm, Fin.sum_univ_def]

/-- A window along the last of three axes. -/
theorem sum_last {n : ℕ} (f : (⟨3, ![1, 1, n]⟩ : Shape).Idx → EReal) : ∑ w, f w = ∑ k : Fin n, f (ix3 (0 : Fin 1) (0 : Fin 1) k) := by
  refine (Fintype.sum_bijective (fun k : Fin n => (ix3 (0 : Fin 1) (0 : Fin 1) k : (⟨3, ![1, 1, n]⟩ : Shape).Idx)) ⟨fun a b e => congrFun e 2, fun w => ⟨w 2, ?_⟩⟩ _ _
    fun _ => rfl).symm
  funext a
  match a with
  | ⟨0, _⟩ => exact Subsingleton.elim (α := Fin 1) _ _
  | ⟨1, _⟩ => exact Subsingleton.elim (α := Fin 1) _ _
  | ⟨2, _⟩ => rfl

theorem sum_tail (f : ℕ → ℝ) {p n : ℕ} (h : p < n) :
    ∑ k ∈ Finset.range n, (if p + k < n then f (p + k) else 0) = ∑ j ∈ Finset.range n, f j - ∑ j ∈ Finset.range p, f j := by
  obtain ⟨d, rfl⟩ := Nat.exists_eq_add_of_le h.le
  rw [Finset.sum_range_add f, add_sub_cancel_left, Nat.add_comm p d, Finset.sum_range_add, Finset.sum_eq_zero (s := Finset.range p), add_zero]
  · exact Finset.sum_congr rfl fun k hk => if_pos (by have := Finset.mem_range.mp hk; omega)
  · exact fun k _ => if_neg (by omega)

variable {a b n e : ℕ} {u : Shape} {x : FVec Ideal ⟨3, ![a, b, n]⟩ .f32} {init : u.Idx → Ideal .f32} {φ : ℕ → ℕ → ℕ → ℝ}

/-- The running sum from the right, of real entries. -/
theorem sum_right (hx : ∀ i, x i = ((φ (i 0).val (i 1).val (i 2).val : ℝ) : EReal)) (hu : 0 < u.numel) (hi : init (Shape.Idx.first hu) = (0 : EReal))
    (h : (⟨3, ![a, b, n]⟩ : Shape).ReduceWindows ![1, 1, n] ![1, 1, 1] ![0, 0, 0] ![0, 0, e] ⟨3, ![a, b, n]⟩) (i : (⟨3, ![a, b, n]⟩ : Shape).Idx) :
    Host.reduceWindowAdd (F := Ideal) ![1, 1, n] ![1, 1, 1] ![0, 0, 0] ![0, 0, e] x init h hu i
      = ((∑ j ∈ Finset.range n, φ (i 0).val (i 1).val j - ∑ j ∈ Finset.range (i 2).val, φ (i 0).val (i 1).val j : ℝ) : EReal) := by
  have h2 : (i 2).val < n := (i 2).isLt
  rw [window_sum, hi, zero_add]
  refine (sum_last _).trans ?_
  have key : ∀ k : Fin n, term ![1, 1, n] ![1, 1, 1] ![0, 0, 0] ![0, 0, e] h x 0 i (ix3 (0 : Fin 1) (0 : Fin 1) k)
      = (((fun k => if (i 2).val + k < n then φ (i 0).val (i 1).val ((i 2).val + k) else 0) k.val : ℝ) : EReal) := fun k => by
    unfold term
    split
    · next hin =>
      have := (hin 2).2
      change (i 2).val * 1 + k.val - 0 < n at this
      dsimp only
      rw [if_pos (by omega)]
      refine (hx _).trans ?_
      show ((φ ((i 0).val * 1 + 0 - 0) ((i 1).val * 1 + 0 - 0) ((i 2).val * 1 + k.val - 0) : ℝ) : EReal) = _
      simp only [Nat.mul_one, Nat.add_zero, Nat.sub_zero]
    · next hin =>
      dsimp only
      rw [if_neg (fun hle => hin fun c => ?_), EReal.coe_zero]
      match c with
      | ⟨0, _⟩ => exact ⟨Nat.zero_le _, show (i 0).val * 1 + 0 - 0 < a by have : (i 0).val < a := (i 0).isLt; omega⟩
      | ⟨1, _⟩ => exact ⟨Nat.zero_le _, show (i 1).val * 1 + 0 - 0 < b by have : (i 1).val < b := (i 1).isLt; omega⟩
      | ⟨2, _⟩ => exact ⟨Nat.zero_le _, show (i 2).val * 1 + k.val - 0 < n by omega⟩
  refine (Finset.sum_congr rfl fun k _ => key k).trans ((RealLift.coe_sum _).trans (congrArg _ ?_))
  rw [Fin.sum_univ_eq_sum_range (fun k => if (i 2).val + k < n then φ (i 0).val (i 1).val ((i 2).val + k) else 0)]
  exact sum_tail _ h2

/-- The running sum from the left, of real entries. -/
theorem sum_left (hx : ∀ i, x i = ((φ (i 0).val (i 1).val (i 2).val : ℝ) : EReal)) (hu : 0 < u.numel) (hi : init (Shape.Idx.first hu) = (0 : EReal)) (he : e + 1 = n)
    (h : (⟨3, ![a, b, n]⟩ : Shape).ReduceWindows ![1, 1, n] ![1, 1, 1] ![0, 0, e] ![0, 0, 0] ⟨3, ![a, b, n]⟩) (i : (⟨3, ![a, b, n]⟩ : Shape).Idx) :
    Host.reduceWindowAdd (F := Ideal) ![1, 1, n] ![1, 1, 1] ![0, 0, e] ![0, 0, 0] x init h hu i
      = ((∑ j ∈ Finset.range ((i 2).val + 1), φ (i 0).val (i 1).val j : ℝ) : EReal) := by
  have h2 : (i 2).val < n := (i 2).isLt
  rw [window_sum, hi, zero_add]
  refine (sum_last _).trans ?_
  have key : ∀ k : Fin n, term ![1, 1, n] ![1, 1, 1] ![0, 0, e] ![0, 0, 0] h x 0 i (ix3 (0 : Fin 1) (0 : Fin 1) k)
      = (((fun k => if e ≤ (i 2).val + k then φ (i 0).val (i 1).val ((i 2).val + k - e) else 0) k.val : ℝ) : EReal) := fun k => by
    unfold term
    split
    · next hin =>
      have := (hin 2).1
      change e ≤ (i 2).val * 1 + k.val at this
      dsimp only
      rw [if_pos (by omega)]
      refine (hx _).trans ?_
      show ((φ ((i 0).val * 1 + 0 - 0) ((i 1).val * 1 + 0 - 0) ((i 2).val * 1 + k.val - e) : ℝ) : EReal) = _
      simp only [Nat.mul_one, Nat.add_zero, Nat.sub_zero]
    · next hin =>
      dsimp only
      rw [if_neg (fun hle => hin fun c => ?_), EReal.coe_zero]
      match c with
      | ⟨0, _⟩ => exact ⟨Nat.zero_le _, show (i 0).val * 1 + 0 - 0 < a by have : (i 0).val < a := (i 0).isLt; omega⟩
      | ⟨1, _⟩ => exact ⟨Nat.zero_le _, show (i 1).val * 1 + 0 - 0 < b by have : (i 1).val < b := (i 1).isLt; omega⟩
      | ⟨2, _⟩ => exact ⟨show e ≤ (i 2).val * 1 + k.val by omega, show (i 2).val * 1 + k.val - e < n by have := k.isLt; omega⟩
  refine (Finset.sum_congr rfl fun k _ => key k).trans ((RealLift.coe_sum _).trans (congrArg _ ?_))
  rw [Fin.sum_univ_eq_sum_range (fun k => if e ≤ (i 2).val + k then φ (i 0).val (i 1).val ((i 2).val + k - e) else 0),
    show Finset.range n = Finset.range ((n - 1 - (i 2).val) + ((i 2).val + 1)) by congr 1; omega, Finset.sum_range_add, Finset.sum_eq_zero, zero_add]
  · exact Finset.sum_congr rfl fun k hk => by rw [if_pos (by omega)]; congr 1; omega
  · exact fun k hk => if_neg (by have := Finset.mem_range.mp hk; omega)

end Cert.WindowSum
end
-- ==== Proof.AttnRef.lean ====
/- What the reference computes of the attention's gradients, over real arguments. -/
module

public import proofs.«01_k».proof.Proof.WindowSum
public import proofs.«01_k».proof.Proof.AttnMath
public import proofs.«01_k».proof.Proof.Gen.ReferenceAttnIdeal.Read
public import Idealize.ShloMosaic.Lib.Claim
public import Idealize.ShloMosaic.Lib.WordCmp
public import Idealize.ShloMosaic.Lib.Pipeline.ValueKit

@[expose] public section

set_option maxRecDepth 16384

noncomputable section

namespace Cert.Attn

open Cert.ReferenceAttnIdeal Cert.ReferenceAttnIdeal.Read Idealize.ShloMosaic Idealize.ShloMosaic.TcCoe Idealize.SL.Sem Cert.RealLift

/-- Column `k` of the third `g` of the columns. -/
def col (g : Fin 3) (k : Fin 512) : Fin 1536 := ⟨g.val * 512 + k.val, by omega⟩
/-- Column `k` of the cotangent's first half. -/
def low (k : Fin 512) : Fin 1024 := ⟨k.val, by omega⟩

/-- The real arrays that the arguments hold. -/
structure Holds (X : Inp) (x0 : FVec Ideal ⟨2, ![2048, 1536]⟩ .f32) (x1 : FVec Ideal ⟨2, ![2048, 1024]⟩ .f32) : Prop where
  q : ∀ (t : Fin 2048) (e : Fin 512), x0 (ix2 t (col 0 e)) = ((X.q t.val e.val : ℝ) : EReal)
  k : ∀ (t : Fin 2048) (e : Fin 512), x0 (ix2 t (col 1 e)) = ((X.k t.val e.val : ℝ) : EReal)
  v : ∀ (t : Fin 2048) (e : Fin 512), x0 (ix2 t (col 2 e)) = ((X.v t.val e.val : ℝ) : EReal)
  d : ∀ (t : Fin 2048) (e : Fin 512), x1 (ix2 t (low e)) = ((X.d t.val e.val : ℝ) : EReal)

variable {X : Inp} {x0 : FVec Ideal ⟨2, ![2048, 1536]⟩ .f32} {x1 : FVec Ideal ⟨2, ![2048, 1024]⟩ .f32} (hX : Holds X x0 x1)

/-- Column `e` of head `h`. -/
def hcol (h : Fin 8) (e : Fin 64) : Fin 512 := ⟨64 * h.val + e.val, by omega⟩

include hX

theorem head_q (i : S2048x8x64.Idx) : val_main_v1 (F := Ideal) x0 i = ((X.q (i 0).val (64 * (i 1).val + (i 2).val) : ℝ) : EReal) := by
  rw [val_main_v1_apply, val_main_v0_apply]
  refine (congrArg x0 (show _ = ix2 (i 0) (col 0 (hcol (i 1) (i 2))) by blk_ext [col, hcol])).trans (hX.q _ _)
theorem head_k (i : S2048x8x64.Idx) : val_main_v3 (F := Ideal) x0 i = ((X.k (i 0).val (64 * (i 1).val + (i 2).val) : ℝ) : EReal) := by
  rw [val_main_v3_apply, val_main_v2_apply]
  refine (congrArg x0 (show _ = ix2 (i 0) (col 1 (hcol (i 1) (i 2))) by blk_ext [col, hcol])).trans (hX.k _ _)
theorem head_v (i : S2048x8x64.Idx) : val_main_v5 (F := Ideal) x0 i = ((X.v (i 0).val (64 * (i 1).val + (i 2).val) : ℝ) : EReal) := by
  rw [val_main_v5_apply, val_main_v4_apply]
  refine (congrArg x0 (show _ = ix2 (i 0) (col 2 (hcol (i 1) (i 2))) by blk_ext [col, hcol])).trans (hX.v _ _)
theorem head_d (i : S8x64x2048.Idx) : val_main_v28 (F := Ideal) x1 i = ((X.d (i 2).val (64 * (i 0).val + (i 1).val) : ℝ) : EReal) := by
  rw [val_main_v28_apply, val_main_v27_apply, val_main_v26_apply]
  refine (congrArg x1 (show _ = ix2 (i 2) (low (hcol (i 0) (i 1))) by blk_ext [low, hcol])).trans (hX.d _ _)

omit hX in
theorem sum_real {n : ℕ} {f g : Fin n → EReal} {u v : Fin n → ℝ} (hf : ∀ k, f k = (u k : EReal)) (hg : ∀ k, g k = (v k : EReal)) :
    ∑ k, f k * g k = ((∑ k, u k * v k : ℝ) : EReal) := by
  rw [← coe_sum]
  exact Finset.sum_congr rfl fun k _ => by rw [hf, hg, ← EReal.coe_mul]

theorem score (i : S8x2048x2048.Idx) : val_main_v8 (F := Ideal) x0 i = ((X.Z (i 0).val (i 1).val (i 2).val : ℝ) : EReal) := by
  rw [val_main_v8_apply, val_main_v7_apply, val_main_cst_apply]
  exact (congrArg₂ (· * ·) ((val_main_v6_apply x0 i).trans (sum_real (fun k => head_q hX _) (fun k => head_k hX _))) ofBits_eighth).trans
    (EReal.coe_mul _ _).symm

omit hX in
/-- The mask below the diagonal. -/
theorem mask (i : S2048x2048.Idx) : val_main_v14 (F := Ideal) i = BitVec.ofBool (decide ((i 1).val < (i 0).val)) := by
  have h0 : (i 0).val < 2048 := (i 0).isLt
  have h1 : (i 1).val < 2048 := (i 1).isLt
  rw [val_main_v14_apply, val_main_v12_apply, val_main_v13_apply, val_main_v10_apply, val_main_v11_apply, val_main_v9_apply, val_main_v9_apply]
  exact WordCmp.cmpi_slt_ofNat (by norm_num; omega) (by norm_num; omega)

omit hX in
theorem masked (i : S8x2048x2048.Idx) {b : BitVec 1} (hb : b = BitVec.ofBool (decide ((i 2).val < (i 1).val))) {x y : EReal} {r : ℝ}
    (hx : x = (r : EReal)) (hy : y = 0) : Scalar.select b x y = ((if (i 2).val < (i 1).val then r else 0 : ℝ) : EReal) := by
  subst hb hx hy
  by_cases h : (i 2).val < (i 1).val
  · simp [h, Scalar.select]
  · simp [h, Scalar.select]

omit hX in
theorem zero_word : (FloatOps.ofBits .f32 0x00000000#32 : Ideal .f32) = (0 : EReal) := by
  pointwise

omit hX in
/-- The softplus, as it is written with a guard that never fires. -/
theorem soft {a u v w : Ideal .f32} {z : ℝ} (ha : a = (z : EReal)) (hu : u = (0 : EReal)) (hv : v = (0 : EReal)) (hw : w = (0 : EReal)) :
    Scalar.select (FloatOps.cmpf .une (FloatOps.subf a v) (FloatOps.subf a v)) (FloatOps.addf a w)
      (FloatOps.addf (FloatOps.maximumf a u)
        (FloatOps.hostUnary .log1p (FloatOps.hostUnary .exp (FloatOps.hostNegf (FloatOps.hostAbsf (FloatOps.subf a v)))))) = ((sp z : ℝ) : EReal) := by
  subst ha hu hv hw
  pointwise
  have h : -(FloatOps.absf (z : EReal) : Ideal .f32) = ((-|z| : ℝ) : EReal) := by
    rw [Ideal.absf_def, EReal.coe_neg]; exact congrArg _ (EReal.coe_strictMono.monotone.map_max.symm)
  rw [if_neg (fun e => e rfl), h, Ideal.exp_coe, show ∀ x : EReal, Ideal.log1p x = Ideal.log (1 + x) from fun _ => rfl, ← EReal.coe_one, ← EReal.coe_add, Ideal.log_coe,
    if_neg (by have := Real.exp_pos (-|z|); linarith), ← EReal.coe_zero]
  exact (congrArg (· + _) EReal.coe_strictMono.monotone.map_max.symm).trans (EReal.coe_add _ _).symm

omit hX in
/-- The derivative's factor, as it is written with guards that never fire. -/
theorem factor {a b u v w x : Ideal .f32} {z s : ℝ} (ha : a = (z : EReal)) (hb : b = (s : EReal)) (hu : u = (⊤ : EReal)) (hv : v = (⊤ : EReal)) :
    FloatOps.hostUnary .exp (FloatOps.subf (Scalar.select (FloatOps.cmpf .oeq a u) w a) (Scalar.select (FloatOps.cmpf .oeq b v) x b))
      = ((Real.exp (z - s) : ℝ) : EReal) := by
  subst ha hb hu hv
  pointwise
  rw [if_neg (EReal.coe_ne_top _), if_neg (EReal.coe_ne_top _), ← EReal.coe_sub, Ideal.exp_coe]

theorem neg_score (i : S8x2048x2048.Idx) : val_main_v15 (F := Ideal) x0 i = ((-X.Z (i 0).val (i 1).val (i 2).val : ℝ) : EReal) := by
  rw [val_main_v15_apply, EReal.coe_neg]
  exact congrArg (fun x : EReal => -x) (score hX i)

theorem score' (i : S8x2048x2048.Idx) : val_main_call0_v0 (F := Ideal) x0 i = ((X.Z (i 0).val (i 1).val (i 2).val : ℝ) : EReal) := by
  rw [val_main_call0_v0_apply]
  refine (congrArg (fun x : EReal => -x) (neg_score hX i)).trans ?_
  rw [EReal.coe_neg, neg_neg]

theorem soft_score (i : S8x2048x2048.Idx) : val_main_call0_v1_0 (F := Ideal) x0 i = ((sp (X.Z (i 0).val (i 1).val (i 2).val) : ℝ) : EReal) := by
  rw [val_main_call0_v1_0_apply]
  exact soft (score' hX i) zero_word zero_word zero_word

theorem neg_score' (i : S8x2048x2048.Idx) : val_main_call3_v0 (F := Ideal) x0 i = ((-X.Z (i 0).val (i 1).val (i 2).val : ℝ) : EReal) := by
  rw [val_main_call3_v0_apply, EReal.coe_neg]
  exact congrArg (fun x : EReal => -x) (score hX i)

theorem soft_neg (i : S8x2048x2048.Idx) : val_main_call3_v1_0 (F := Ideal) x0 i = ((sp (-X.Z (i 0).val (i 1).val (i 2).val) : ℝ) : EReal) := by
  rw [val_main_call3_v1_0_apply]
  exact soft (neg_score' hX i) zero_word zero_word zero_word

omit hX in
theorem top_word : (FloatOps.ofBits .f32 0x7F800000#32 : Ideal .f32) = (⊤ : EReal) := by
  exact ofBits_inf

/-- The slope of the log-sigmoid at the score, as the factor of the mass taken off. -/
theorem slope_off (i : S8x2048x2048.Idx) :
    val_main_v16_1 (F := Ideal) x0 i = ((Real.exp (X.A (i 0).val (i 1).val (i 2).val) : ℝ) : EReal) := by
  rw [val_main_v16_1_apply, val_main_call0_call0_v21_apply, val_main_call0_call0_v16_apply, val_main_call0_call0_v20_apply]
  exact factor (score' hX i) (soft_score hX i) top_word top_word

theorem slope_on (i : S8x2048x2048.Idx) :
    val_main_v20_1 (F := Ideal) x0 i = ((1 - Real.exp (X.A (i 0).val (i 1).val (i 2).val) : ℝ) : EReal) := by
  rw [val_main_v20_1_apply, val_main_call3_call0_v21_apply, val_main_call3_call0_v16_apply, val_main_call3_call0_v20_apply]
  refine (factor (neg_score' hX i) (soft_neg hX i) top_word top_word).trans (congrArg _ ?_)
  rw [Inp.A, ← slopes, sp_neg]
  congr 1
  ring

/-- The terms of the stick's logarithm. -/
theorem keep (i : S8x2048x2048.Idx) : val_main_v17_0 (F := Ideal) x0 i = ((-X.L (i 0).val (i 1).val (i 2).val : ℝ) : EReal) := by
  rw [val_main_v17_0_apply, val_main_v17_1_apply, val_main_v16_0_apply]
  refine (masked i (r := -sp (X.Z (i 0).val (i 1).val (i 2).val)) (mask _) ?_ zero_word).trans (congrArg _ ?_)
  · rw [EReal.coe_neg]; exact congrArg (fun x : EReal => -x) (soft_score hX i)
  · rw [Inp.L]; split <;> simp

theorem stick (i : S8x2048x2048.Idx) : val_main_v19 (F := Ideal) x0 i
    = ((-(X.T (i 0).val (i 1).val - ∑ j ∈ Finset.range ((i 2).val + 1), X.L (i 0).val (i 1).val j) : ℝ) : EReal) := by
  rw [val_main_v19_apply]
  refine (congrArg₂ (fun a b : EReal => a - b) (WindowSum.sum_right (φ := fun h t s => -X.L h t s) (fun i => keep hX i) (by decide) zero_word _ i) (keep hX i)).trans ?_
  rw [← EReal.coe_sub, Inp.T, Finset.sum_range_succ _ (i 2).val]
  simp only [Finset.sum_neg_distrib]
  congr 1
  ring

theorem weight_all (i : S8x2048x2048.Idx) : val_main_v22 (F := Ideal) x0 i = ((Real.exp (X.A (i 0).val (i 1).val (i 2).val
    - (X.T (i 0).val (i 1).val - ∑ j ∈ Finset.range ((i 2).val + 1), X.L (i 0).val (i 1).val j)) : ℝ) : EReal) := by
  rw [val_main_v22_apply, val_main_v21_apply, val_main_v20_0_apply]
  have h : (FloatOps.hostNegf (val_main_call3_v1_0 (F := Ideal) x0 i) : Ideal .f32) = ((X.A (i 0).val (i 1).val (i 2).val : ℝ) : EReal) := by
    refine (congrArg (fun x : EReal => -x) (soft_neg hX i)).trans ?_
    rw [← EReal.coe_neg, sp_neg, Inp.A]; congr 1; ring
  refine (congrArg Ideal.exp ((congrArg₂ (fun a b : EReal => a + b) h (stick hX i)).trans (EReal.coe_add _ _).symm)).trans ?_
  rw [Ideal.exp_coe, ← sub_eq_add_neg]

theorem weight (i : S8x2048x2048.Idx) : val_main_v23_0 (F := Ideal) x0 i = ((X.W (i 0).val (i 1).val (i 2).val : ℝ) : EReal) := by
  rw [val_main_v23_0_apply, val_main_v23_1_apply]
  exact masked i (mask _) (weight_all hX i) zero_word

theorem grad_weight (i : S8x2048x2048.Idx) : val_main_v29 (F := Ideal) x0 x1 i = ((X.DW (i 0).val (i 1).val (i 2).val : ℝ) : EReal) := by
  exact (val_main_v29_apply x0 x1 i).trans (sum_real (fun k => head_d hX _) (fun k => head_v hX _))

theorem grad_log (i : S8x2048x2048.Idx) : val_main_v33 (F := Ideal) x0 x1 i = ((X.G (i 0).val (i 1).val (i 2).val : ℝ) : EReal) := by
  rw [val_main_v33_apply, val_main_v32_apply, val_main_v23_1_apply]
  refine (congrArg₂ (fun a b : EReal => a * b) (masked i (mask _) (grad_weight hX i) zero_word) (weight_all hX i)).trans ?_
  rw [← EReal.coe_mul, Inp.G, Inp.W]
  split <;> simp

theorem grad_off (i : S8x2048x2048.Idx) : val_main_v37 (F := Ideal) x0 x1 i
    = ((∑ j ∈ Finset.range (i 2).val, X.G (i 0).val (i 1).val j : ℝ) : EReal) := by
  rw [val_main_v37_apply, val_main_v35_apply]
  refine (congrArg₂ (fun a b : EReal => -a + b) (grad_log hX i)
    (WindowSum.sum_left (φ := X.G) (fun i => grad_log hX i) (by decide) zero_word rfl _ i)).trans ?_
  rw [← EReal.coe_neg, ← EReal.coe_add, Finset.sum_range_succ _ (i 2).val]
  congr 1
  ring

theorem grad_score (i : S8x2048x2048.Idx) : val_main_v43 (F := Ideal) x0 x1 i
    = ((X.DZ (i 0).val (i 1).val (i 2).val * (1 / 8) : ℝ) : EReal) := by
  rw [val_main_v43_apply, val_main_v41_apply, val_main_v34_apply, val_main_v40_apply, val_main_v39_apply, val_main_call6_v1_apply, val_main_call6_v0_apply,
    val_main_call9_v1_apply, val_main_call9_v0_apply, val_main_v38_apply, val_main_v17_1_apply]
  refine (congrArg₂ (fun a b : EReal => a * b) (congrArg₂ (fun a b : EReal => a + b)
    (congrArg₂ (fun a b : EReal => -(-a * b)) (grad_log hX i) (slope_on hX i))
    (congrArg₂ (fun a b : EReal => -(-(-a * b))) (masked i (mask _) (grad_off hX i) zero_word) (slope_off hX i))) ofBits_eighth).trans ?_
  simp only [← EReal.coe_neg, ← EReal.coe_mul, ← EReal.coe_add]
  congr 2
  by_cases h : (i 2).val < (i 1).val
  · rw [Inp.DZ, if_pos h, if_pos h]; ring
  · rw [Inp.DZ, if_neg h, if_neg h, Inp.G, Inp.W, if_neg h]; ring

/-! ### The results -/

omit hX in
theorem sum_rows (f : ℕ → ℝ) : ∑ k : Fin 2048, f k.val = ∑ k ∈ Finset.range 2048, f k := Fin.sum_univ_eq_sum_range f 2048

theorem ref_q (i : S2048x512.Idx) : val_main_v49 (F := Ideal) x0 x1 i
    = ((∑ s ∈ Finset.range 2048, X.DZ ((i 1).val / 64) (i 0).val s * (1 / 8) * X.k s (i 1).val : ℝ) : EReal) := by
  have h1 : (i 1).val < 512 := (i 1).isLt
  rw [val_main_v49_apply, val_main_v48_apply, val_main_v47_apply]
  refine ((val_main_v46_apply x0 x1 _).trans (sum_real (fun k => grad_score hX _) (fun k => head_k hX _))).trans (congrArg _ ?_)
  rw [← sum_rows]
  refine Finset.sum_congr rfl fun k _ => ?_
  have a : ((i 0).val * 512 + (i 1).val) / 64 % 8 = (i 1).val / 64 := by omega
  have b : ((i 0).val * 512 + (i 1).val) / 512 = (i 0).val := by omega
  have c : 64 * (((i 0).val * 512 + (i 1).val) / 64 % 8) + ((i 0).val * 512 + (i 1).val) % 64 = (i 1).val := by omega
  show X.DZ (((i 0).val * 512 + (i 1).val) / 64 % 8) (((i 0).val * 512 + (i 1).val) / 512) k.val * (1 / 8)
    * X.k k.val (64 * (((i 0).val * 512 + (i 1).val) / 64 % 8) + ((i 0).val * 512 + (i 1).val) % 64) = _
  rw [c, a, b]

theorem ref_k (i : S2048x512.Idx) : val_main_v51 (F := Ideal) x0 x1 i
    = ((∑ t ∈ Finset.range 2048, X.DZ ((i 1).val / 64) t (i 0).val * (1 / 8) * X.q t (i 1).val : ℝ) : EReal) := by
  have h1 : (i 1).val < 512 := (i 1).isLt
  rw [val_main_v51_apply, val_main_v50_apply, val_main_v45_apply]
  refine ((val_main_v44_apply x0 x1 _).trans (sum_real (fun k => grad_score hX _) (fun k => head_q hX _))).trans (congrArg _ ?_)
  rw [← sum_rows]
  refine Finset.sum_congr rfl fun k _ => ?_
  have a : ((i 0).val * 512 + (i 1).val) / 64 % 8 = (i 1).val / 64 := by omega
  have b : ((i 0).val * 512 + (i 1).val) / 512 = (i 0).val := by omega
  have c : 64 * (((i 0).val * 512 + (i 1).val) / 64 % 8) + ((i 0).val * 512 + (i 1).val) % 64 = (i 1).val := by omega
  show X.DZ (((i 0).val * 512 + (i 1).val) / 64 % 8) k.val (((i 0).val * 512 + (i 1).val) / 512) * (1 / 8)
    * X.q k.val (64 * (((i 0).val * 512 + (i 1).val) / 64 % 8) + ((i 0).val * 512 + (i 1).val) % 64) = _
  rw [c, a, b]

theorem ref_v (i : S2048x512.Idx) : val_main_v53 (F := Ideal) x0 x1 i
    = ((∑ t ∈ Finset.range 2048, X.d t (i 1).val * X.W ((i 1).val / 64) t (i 0).val : ℝ) : EReal) := by
  have h1 : (i 1).val < 512 := (i 1).isLt
  rw [val_main_v53_apply, val_main_v52_apply, val_main_v31_apply]
  refine ((val_main_v30_apply x0 x1 _).trans (sum_real (fun k => head_d hX _) (fun k => weight hX _))).trans (congrArg _ ?_)
  rw [← sum_rows]
  refine Finset.sum_congr rfl fun k _ => ?_
  have a : ((i 0).val * 512 + (i 1).val) / 64 % 8 = (i 1).val / 64 := by omega
  have b : ((i 0).val * 512 + (i 1).val) / 512 = (i 0).val := by omega
  have c : 64 * (((i 0).val * 512 + (i 1).val) / 64 % 8) + ((i 0).val * 512 + (i 1).val) % 64 = (i 1).val := by omega
  show X.d k.val (64 * (((i 0).val * 512 + (i 1).val) / 64 % 8) + ((i 0).val * 512 + (i 1).val) % 64)
    * X.W (((i 0).val * 512 + (i 1).val) / 64 % 8) k.val (((i 0).val * 512 + (i 1).val) / 512) = _
  rw [c, a, b]

end Cert.Attn
end
-- ==== Proof.AttnHost.lean ====
/- The arrays that the attention's backward call reads, and its blocks of them. -/
module

public import proofs.«01_k».proof.Proof.AttnPoint
public import proofs.«01_k».proof.Proof.AttnRef
public import proofs.«01_k».proof.Proof.Gen.KernelAttnIdeal.Value
public import Idealize.ShloMosaic.Lib.Pipeline.ValueKit
public import Idealize.ShloMosaic.Lib.Claim

@[expose] public section

set_option maxRecDepth 16384

noncomputable section

namespace Cert.Attn

open Cert.KernelAttnIdeal Cert.KernelAttnIdeal.Gen Idealize.ShloMosaic Idealize.ShloMosaic.TcCoe Idealize.SL.Sem Cert.RealLift
open Idealize.ShloMosaic.Pipeline (Dat)

variable (m : (ℓ : Loc nD τ sig) → Buf (Elt Ideal) ℓ)

theorem idx : ∀ t : Fin cfg0.N, win0_0.index t = ![t.val, 0] ∧ win0_1.index t = ![0, 1] ∧ win0_2.index t = ![0, 2]
    ∧ win0_3.index t = ![t.val, 0] ∧ win0_4.index t = ![0, t.val, 0] ∧ win0_5.index t = ![t.val, 0] ∧ win0_6.index t = ![0, 0]
    ∧ win0_7.index t = ![0, 0] :=
  (by decide +kernel : ∀ t : Fin grid0.N, _)

/-- Row `k` of grid point `t`'s block of rows. -/
def row (t : Fin cfg0.N) (k : Fin 256) : Fin 2048 := ⟨256 * t.val + k.val, by have h : t.val < 8 := t.isLt; omega⟩

theorem blk0 (c : Dev nD) (t : Fin cfg0.N) (y) : iblk m c 0 t y = V m c main_v20 (ix2 (row t (y 0)) (col 0 (y 1))) := by
  blk_point [iblk, idx t, row, col]
theorem blk1 (c : Dev nD) (t : Fin cfg0.N) (y) : iblk m c 1 t y = V m c main_v20 (ix2 (y 0) (col 1 (y 1))) := by
  blk_point [iblk, idx t, row, col]
theorem blk2 (c : Dev nD) (t : Fin cfg0.N) (y) : iblk m c 2 t y = V m c main_v20 (ix2 (y 0) (col 2 (y 1))) := by
  blk_point [iblk, idx t, row, col]
theorem blk3 (c : Dev nD) (t : Fin cfg0.N) (y) : iblk m c 3 t y = V m c main_arg1 (ix2 (row t (y 0)) (low (y 1))) := by
  blk_point [iblk, idx t, row, low]
theorem blk4 (c : Dev nD) (t : Fin cfg0.N) (y) : iblk m c 4 t y = V m c main_v19 (ix3 (y 0) (row t (y 1)) (y 2)) := by
  blk_point [iblk, idx t, row]

theorem v20_at (c : Dev nD) (i j) : (V m c main_v20 : FVec Ideal S2048x1536 .bf16) (ix2 i j) = m (c, Proc.tc.devRef main_arg0) (ix2 i j) := by
  simp only [V, hostOps0, hostOps0_1, hostOps0_2, hostOps0_3, hostOps0_4, List.flatten_cons, List.flatten_nil, List.append_nil, List.cons_append, List.nil_append]
  entry_read
  pointwise

/-- The terms of the stick's logarithm, as the reference writes them. -/
def keepOf (c : Dev nD) : FVec Ideal S8x2048x2048 .f32 := Cert.ReferenceAttnIdeal.Read.val_main_v17_0 (F := Ideal) (m (c, Proc.tc.devRef main_arg0))

/-- The row's total, less its sign. -/
theorem v19_at (c : Dev nD) (h t l) : (V m c main_v19 : FVec Ideal S8x2048x128 .f32) (ix3 h t l)
    = -(∑ s : Fin 2048, keepOf m c (ix3 h t s)) := by
  simp only [V, hostOps0, hostOps0_1, hostOps0_2, hostOps0_3, hostOps0_4, List.flatten_cons, List.flatten_nil, List.append_nil, List.cons_append, List.nil_append]
  entry_read
  simp only [StableHlo.TRef.ofBuf_toBuf]
  change broadcastInDim S8x2048x128 ![0, 1, 2] bcast_S8x2048x1_S8x2048x128_0_1_2 (Host.negf (broadcastInDim S8x2048x1 ![0, 1] bcast_S8x2048_S8x2048x1_0_1
    (Host.reduceAdd (keepOf m c) (constant S_ .f32 0x00000000#32)
      reducesTo_S8x2048x2048_S8x2048_d2 h_S_))) (ix3 h t l) = _
  generalize keepOf m c = u
  pointwise

variable {m} {X : Inp} {c : Dev nD} (hX : Holds X (m (c, Proc.tc.devRef main_arg0)) (m (c, Proc.tc.devRef main_arg1)))

include hX

/-- What grid point `t` reads is row block `t` of real arrays. -/
theorem blocks (t : Fin cfg0.N) : Blk X t.val (iblk m c 0 t) (iblk m c 1 t) (iblk m c 2 t) (iblk m c 3 t) (iblk m c 4 t) where
  q y := (blk0 m c t y).trans ((v20_at m c _ _).trans (hX.q _ _))
  k y := (blk1 m c t y).trans ((v20_at m c _ _).trans (hX.k _ _))
  v y := (blk2 m c t y).trans ((v20_at m c _ _).trans (hX.v _ _))
  d y := (blk3 m c t y).trans ((congrFun (V_main_arg1 m c) _).trans (hX.d _ _))
  t y := by
    refine (blk4 m c t y).trans ((v19_at m c _ _ _).trans ?_)
    have h : ∀ s : Fin 2048, keepOf m c (ix3 (y 0) (row t (y 1)) s) = ((-X.L (y 0).val (256 * t.val + (y 1).val) s.val : ℝ) : EReal) := fun s => keep hX _
    rw [Finset.sum_congr rfl fun s _ => h s, coe_sum, ← EReal.coe_neg, Inp.T, ← sum_rows, Finset.sum_neg_distrib, neg_neg]

end Cert.Attn
end
-- ==== Proof.AttnFinal.lean ====
/- The arrays that the attention's backward call leaves. -/
module

public import proofs.«01_k».proof.Proof.AttnHost

@[expose] public section

set_option maxRecDepth 16384

noncomputable section

namespace Cert.Attn

open Cert.KernelAttnIdeal Cert.KernelAttnIdeal.Gen Idealize.ShloMosaic Idealize.ShloMosaic.TcCoe Idealize.SL.Sem Cert.RealLift
open Idealize.ShloMosaic.Pipeline (Dat)

/-- Rows below a row block take nothing from it, so a finished row block is a gathered one. -/
theorem gathered (f : ℕ → ℕ → ℝ) (hf : ∀ t s, ¬s < t → f t s = 0) (i s : ℕ) :
    (∑ t ∈ Finset.range (256 * i), f t s + if s < 256 * (i + 1) then ∑ r : Fin 256, f (256 * i + r) s else 0)
      = ∑ t ∈ Finset.range (256 * (i + 1)), f t s := by
  rw [← sum_block (fun t => f t s) i]
  split
  · rfl
  · congr 1
    exact (Finset.sum_eq_zero fun r _ => hf _ _ (by have := r.isLt; omega)).symm

theorem KA_done (X : Inp) (i s c : ℕ) :
    KA X i (i + 1) s c = ∑ t ∈ Finset.range (256 * (i + 1)), X.DZ (c / 64) t s * (X.q t c * (1 / 8)) :=
  gathered (fun t s => X.DZ (c / 64) t s * (X.q t c * (1 / 8))) (fun t s h => by rw [Inp.DZ, if_neg h, zero_mul]) i s

theorem VA_done (X : Inp) (i s c : ℕ) : VA X i (i + 1) s c = ∑ t ∈ Finset.range (256 * (i + 1)), X.W (c / 64) t s * X.d t c :=
  gathered (fun t s => X.W (c / 64) t s * X.d t c) (fun t s h => by rw [Inp.W, if_neg h, zero_mul]) i s

theorem KA_next (X : Inp) (i s c : ℕ) : KA X i (i + 1) s c = KA X (i + 1) 0 s c := by
  rw [KA_done, KA, if_neg (by omega), add_zero]

theorem VA_next (X : Inp) (i s c : ℕ) : VA X i (i + 1) s c = VA X (i + 1) 0 s c := by
  rw [VA_done, VA, if_neg (by omega), add_zero]

theorem QA_done (X : Inp) (i r c : ℕ) (hi : i < 8) (hr : r < 256) :
    QA X i (i + 1) r c * (1 / 8) = ∑ s ∈ Finset.range 2048, X.DZ (c / 64) (256 * i + r) s * (1 / 8) * X.k s c := by
  have e : ∑ s ∈ Finset.range 2048, X.DZ (c / 64) (256 * i + r) s * (1 / 8) * X.k s c
      = ∑ s ∈ Finset.range (256 * (i + 1)), X.DZ (c / 64) (256 * i + r) s * (1 / 8) * X.k s c :=
    (Finset.sum_subset (Finset.range_subset_range.2 (by omega)) fun s _ hs => by
      rw [Finset.mem_range] at hs
      rw [Inp.DZ, if_neg (by omega), zero_mul, zero_mul]).symm
  rw [e, QA, Finset.sum_mul]
  exact Finset.sum_congr rfl fun s _ => by ring

variable {m : (ℓ : Loc nD τ sig) → Buf (Elt Ideal) ℓ} {X : Inp} {c : Dev nD}
  (hX : Holds X (m (c, Proc.tc.devRef main_arg0)) (m (c, Proc.tc.devRef main_arg1)))

include hX

omit hX in
/-- What grid point `n` leaves: its row block of the queries' gradient, and the two gathered gradients. -/
structure LeftBy (X : Inp) (n : ℕ) (o : Vec Ideal S256x512 .bf16 × Vec Ideal S2048x512 .bf16 × Vec Ideal S2048x512 .bf16 × Vec Ideal S2048x512 .f32
    × Vec Ideal S2048x512 .f32) : Prop where
  q : ∀ y, o.1 y = ((QA X n (n + 1) (y 0).val (y 1).val * (1 / 8) : ℝ) : EReal)
  k : ∀ y, o.2.2.2.1 y = ((KA X n (n + 1) (y 0).val (y 1).val : ℝ) : EReal)
  v : ∀ y, o.2.2.2.2 y = ((VA X n (n + 1) (y 0).val (y 1).val : ℝ) : EReal)
  last : n = 7 → (∀ y, o.2.1 y = ((KA X n (n + 1) (y 0).val (y 1).val : ℝ) : EReal)) ∧ ∀ y, o.2.2.1 y = ((VA X n (n + 1) (y 0).val (y 1).val : ℝ) : EReal)

omit hX in
theorem LeftBy.mid {n : ℕ} (hn : n ≠ 7) {a : Vec Ideal S256x512 .bf16} {b d : Vec Ideal S2048x512 .bf16} {e f : Vec Ideal S2048x512 .f32}
    (h : (∀ y, a y = ((QA X n (n + 1) (y 0).val (y 1).val * (1 / 8) : ℝ) : EReal)) ∧ (∀ y, e y = ((KA X n (n + 1) (y 0).val (y 1).val : ℝ) : EReal))
      ∧ ∀ y, f y = ((VA X n (n + 1) (y 0).val (y 1).val : ℝ) : EReal)) : LeftBy X n (a, b, d, e, f) :=
  ⟨h.1, h.2.1, h.2.2, fun e => absurd e hn⟩

omit hX in
theorem LeftBy.end {n : ℕ} {a : Vec Ideal S256x512 .bf16} {b d : Vec Ideal S2048x512 .bf16} {e f : Vec Ideal S2048x512 .f32}
    (h : (∀ y, a y = ((QA X n (n + 1) (y 0).val (y 1).val * (1 / 8) : ℝ) : EReal)) ∧ (∀ y, e y = ((KA X n (n + 1) (y 0).val (y 1).val : ℝ) : EReal))
      ∧ (∀ y, f y = ((VA X n (n + 1) (y 0).val (y 1).val : ℝ) : EReal)) ∧ (∀ y, b y = ((KA X n (n + 1) (y 0).val (y 1).val : ℝ) : EReal))
      ∧ ∀ y, d y = ((VA X n (n + 1) (y 0).val (y 1).val : ℝ) : EReal)) : LeftBy X n (a, b, d, e, f) :=
  ⟨h.1, h.2.1, h.2.2.1, fun _ => h.2.2.2⟩

theorem left_A (t : Fin cfg0.N) (h0 : t.val % 8 = 0) : LeftBy X t.val (outsAt0 m c t.val t.isLt) := by
  have hN : t.val < 8 := t.isLt
  rw [outsAt0_A m c t h0 (by omega)]
  exact LeftBy.mid (by omega) (point_A (hX := blocks hX t) (ht := by omega) ..)

variable {t : Fin cfg0.N}
  (hk : ∀ y, (outsAt0 m c (t.val - 1) (Nat.lt_of_le_of_lt (Nat.sub_le _ _) t.isLt)).2.2.2.1 y = ((KA X t.val 0 (y 0).val (y 1).val : ℝ) : EReal))
  (hv : ∀ y, (outsAt0 m c (t.val - 1) (Nat.lt_of_le_of_lt (Nat.sub_le _ _) t.isLt)).2.2.2.2 y = ((VA X t.val 0 (y 0).val (y 1).val : ℝ) : EReal))

include hk hv

theorem left_B (h0 : ¬t.val % 8 = 0) (h7 : ¬t.val % 8 = 7) : LeftBy X t.val (outsAt0 m c t.val t.isLt) := by
  have hN : t.val < 8 := t.isLt
  rw [outsAt0_B m c t h0 h7]
  exact LeftBy.mid (by omega) (point_B (hX := blocks hX t) (h9 := hk) (h10 := hv) ..)

theorem left_C (h0 : ¬t.val % 8 = 0) (h7 : t.val % 8 = 7) : LeftBy X t.val (outsAt0 m c t.val t.isLt) := by
  rw [outsAt0_C m c t h0 h7]
  exact LeftBy.end (point_C (hX := blocks hX t) (h9 := hk) (h10 := hv) ..)

omit hk hv

theorem left_by (n : ℕ) (h : n < cfg0.N) : LeftBy X n (outsAt0 m c n h) := by
  have hN : n < 8 := h
  induction n with
  | zero => exact left_A hX ⟨0, h⟩ rfl
  | succ n ih =>
    have i := ih (by omega) (by omega)
    have h0 : ¬(n + 1) % 8 = 0 := by omega
    have hk : ∀ y, (outsAt0 m c n (by omega)).2.2.2.1 y = ((KA X (n + 1) 0 (y 0).val (y 1).val : ℝ) : EReal) :=
      fun y => (i.k y).trans (congrArg _ (KA_next X n _ _))
    have hv : ∀ y, (outsAt0 m c n (by omega)).2.2.2.2 y = ((VA X (n + 1) 0 (y 0).val (y 1).val : ℝ) : EReal) :=
      fun y => (i.v y).trans (congrArg _ (VA_next X n _ _))
    by_cases h7 : (n + 1) % 8 = 7
    · exact left_C hX (t := ⟨n + 1, h⟩) hk hv h0 h7
    · exact left_B hX (t := ⟨n + 1, h⟩) hk hv h0 h7

/-- The queries' gradient. -/
theorem final_q : (dats m 0 c).arrAt 5 (cfgs 0).N
    = fun j => ((∑ s ∈ Finset.range 2048, X.DZ ((j 1).val / 64) (j 0).val s * (1 / 8) * X.k s (j 1).val : ℝ) : EReal) := by
  refine (dats m 0 c).arrAt_eq_of_covers 5 _ (by decide +kernel) fun t hf y => ?_
  have hN : t.val < 8 := t.isLt
  blk_simp
  rw [after0_5]
  refine ((left_by hX t.val t.isLt).q y).trans (congrArg _ ?_)
  have e0 : win0_5.index t 0 * 256 + (y 0).val = 256 * t.val + (y 0).val := by simp [idx t]; omega
  have e1 : win0_5.index t 1 * 512 + (y 1).val = (y 1).val := by simp [idx t]
  rw [e0, e1]
  exact QA_done X _ _ _ hN (y 0).isLt

/-- The keys' gradient. -/
theorem final_k : (dats m 0 c).arrAt 6 (cfgs 0).N
    = fun j => ((∑ t ∈ Finset.range 2048, X.DZ ((j 1).val / 64) t (j 0).val * (1 / 8) * X.q t (j 1).val : ℝ) : EReal) := by
  refine (dats m 0 c).arrAt_eq_of_after_last 6 t0_7 (by decide +kernel) _ fun j => ?_
  blk_simp
  rw [after0_6]
  refine (((left_by hX t0_7.val t0_7.isLt).last rfl).1 j).trans (congrArg _ ?_)
  rw [KA_done]
  exact Finset.sum_congr rfl fun t _ => by ring

/-- The values' gradient. -/
theorem final_v : (dats m 0 c).arrAt 7 (cfgs 0).N
    = fun j => ((∑ t ∈ Finset.range 2048, X.d t (j 1).val * X.W ((j 1).val / 64) t (j 0).val : ℝ) : EReal) := by
  refine (dats m 0 c).arrAt_eq_of_after_last 7 t0_7 (by decide +kernel) _ fun j => ?_
  blk_simp
  rw [after0_7]
  refine (((left_by hX t0_7.val t0_7.isLt).last rfl).2 j).trans (congrArg _ ?_)
  rw [VA_done]
  exact Finset.sum_congr rfl fun t _ => by ring

end Cert.Attn
end
-- ==== Proof.AttnClaim.lean ====
/- The attention's backward call against its reference. -/
module

public import proofs.«01_k».proof.Proof.AttnFinal
public import proofs.«01_k».proof.Proof.FiniteArray
public import proofs.«01_k».proof.Defs
public import Idealize.ShloMosaic.Lib.Claim

@[expose] public section

set_option maxRecDepth 16384

noncomputable section

namespace Cert.Attn

open Cert.KernelAttnIdeal Cert.KernelAttnIdeal.Gen Idealize.ShloMosaic Idealize.ShloMosaic.TcCoe Idealize.SL.Sem Cert.RealLift
open Cert.ReferenceAttnIdeal.Read

instance preFacts : Cert.Pre_finite_attn.Facts := ⟨by decide, by decide, by decide⟩

/-- The entry of a matrix as a real number, zero outside of it. -/
def entry {a b : ℕ} (x : (⟨2, ![a, b]⟩ : Shape).Idx → EReal) (t e : ℕ) : ℝ := if h : t < a ∧ e < b then (x (ix2 ⟨t, h.1⟩ ⟨e, h.2⟩)).toReal else 0

theorem coe_entry {a b : ℕ} (x : (⟨2, ![a, b]⟩ : Shape).Idx → EReal) (hx : ∀ i, IsReal (x i)) (t : Fin a) (e : Fin b) :
    x (ix2 t e) = ((entry x t.val e.val : ℝ) : EReal) := by
  rw [entry, dif_pos ⟨t.isLt, e.isLt⟩]
  obtain ⟨r, hr⟩ := hx (ix2 t e)
  exact hr.trans (congrArg EReal.toReal hr ▸ rfl)

/-- The real arrays of the two arguments. -/
def inp (x0 : FVec Ideal ⟨2, ![2048, 1536]⟩ .f32) (x1 : FVec Ideal ⟨2, ![2048, 1024]⟩ .f32) : Inp where
  q t e := entry x0 t (0 * 512 + e)
  k t e := entry x0 t (1 * 512 + e)
  v t e := entry x0 t (2 * 512 + e)
  d t e := entry x1 t e

theorem holds (x0 : FVec Ideal ⟨2, ![2048, 1536]⟩ .f32) (x1 : FVec Ideal ⟨2, ![2048, 1024]⟩ .f32) (h0 : ∀ i, IsReal (x0 i)) (h1 : ∀ i, IsReal (x1 i)) :
    Holds (inp x0 x1) x0 x1 where
  q t e := coe_entry x0 h0 t (col 0 e)
  k t e := coe_entry x0 h0 t (col 1 e)
  v t e := coe_entry x0 h0 t (col 2 e)
  d t e := coe_entry x1 h1 t (low e)

variable (m : (ℓ : Loc nD τ sig) → Buf (Elt Ideal) ℓ) (h : Cert.Pre_KernelAttnIdeal_finite_attn m)

include h

theorem holds_mem (c : Dev nD) : Holds (inp (m (c, Proc.tc.devRef main_arg0)) (m (c, Proc.tc.devRef main_arg1))) (m (c, Proc.tc.devRef main_arg0))
    (m (c, Proc.tc.devRef main_arg1)) :=
  holds _ _ (fun i => isReal_of_finite _ _ (h c).1 i) (fun i => isReal_of_finite _ _ (h c).2 i)

theorem res_q (c : Dev nD) : val_main_v49 (F := Ideal) (m (c, Proc.tc.devRef main_arg0)) (m (c, Proc.tc.devRef main_arg1)) = (dats m 0 c).arrAt 5 (cfgs 0).N :=
  (funext fun i => ref_q (holds_mem m h c) i).trans (final_q (holds_mem m h c)).symm
theorem res_k (c : Dev nD) : val_main_v51 (F := Ideal) (m (c, Proc.tc.devRef main_arg0)) (m (c, Proc.tc.devRef main_arg1)) = (dats m 0 c).arrAt 6 (cfgs 0).N :=
  (funext fun i => ref_k (holds_mem m h c) i).trans (final_k (holds_mem m h c)).symm
theorem res_v (c : Dev nD) : val_main_v53 (F := Ideal) (m (c, Proc.tc.devRef main_arg0)) (m (c, Proc.tc.devRef main_arg1)) = (dats m 0 c).arrAt 7 (cfgs 0).N :=
  (funext fun i => ref_v (holds_mem m h c) i).trans (final_v (holds_mem m h c)).symm

omit h

set_option maxHeartbeats 3200000 in
/-- Kernel and reference compute the same three gradients. -/
theorem algebraic : Cert.algebraic_KernelAttnIdeal_ReferenceAttnIdeal_pre_finite_attn := by
  pair_intro
  · exact Cert.KernelAttnIdeal.Value.run_blocks m g
  · refine (θ_run Cert.ReferenceAttnIdeal.defs _ _).mono (fun r hr c => ?_) (Cert.ReferenceAttnIdeal.Value.run m' g')
    obtain ⟨h0, h1⟩ := hagree c
    obtain ⟨k0, k1, k2, k⟩ := hr c
    refine ⟨k0.trans ?_, k1.trans ?_, k2.trans ?_, k⟩
    · rw [val_main_v49_eq, h0, h1]; exact res_q m hpre c
    · rw [val_main_v51_eq, h0, h1]; exact res_k m hpre c
    · rw [val_main_v53_eq, h0, h1]; exact res_v m hpre c

end Cert.Attn
end
-- ==== Proof.PleValue.lean ====
/- What the backward call of the channel mixer's norm and the per-layer embedding's gate computes at one grid point. -/
module

public import proofs.«01_k».proof.Proof.Gen.KernelPleIdeal.Value
public import proofs.«01_k».proof.Proof.LayerNorm
public import Idealize.ShloMosaic.Lib.Pipeline.ValueKit
public import Idealize.ShloMosaic.Lib.Pipeline.ReadBack
public import Idealize.ShloMosaic.Lib.Claim

@[expose] public section

set_option maxRecDepth 16384

noncomputable section

namespace Cert.Ple

open Cert.KernelPleIdeal Cert.KernelPleIdeal.Gen Idealize.ShloMosaic Idealize.ShloMosaic.TcCoe Idealize.SL.Sem Cert.LayerNorm
open Idealize.ShloMosaic.Pipeline (Dat)

variable (m : (ℓ : Loc nD τ sig) → Buf (Elt Ideal) ℓ)

/-- The row length as the program's literal. -/
abbrev N : EReal := Ideal.ofBits .f32 0x44800000#32
/-- One, as the program's literal. -/
abbrev one : EReal := Ideal.ofBits .f32 0x3F800000#32

/-- The gradient of the gate's logits. -/
def DG (d s p : FVec Ideal S2048x1024 .f32) (i : Fin 2048) (j : Fin 1024) : EReal :=
  d (ix2 i j) * p (ix2 i j) * s (ix2 i j) * (one - s (ix2 i j))
/-- The cotangent of the layer norm's result. -/
def D2 (d s p : FVec Ideal S2048x1024 .f32) (w : FVec Ideal S1024x1024 .f32) (i : Fin 2048) (j : Fin 1024) : EReal :=
  d (ix2 i j) + ∑ k : Fin 1024, DG d s p i k * w (ix2 j k)
/-- The gradient of the layer norm's input. -/
def DR (d s p xh : FVec Ideal S2048x1024 .f32) (rs : FVec Ideal S2048x1 .f32) (w : FVec Ideal S1024x1024 .f32) (g : FVec Ideal S1x1024 .f32)
    (i : Fin 2048) (j : Fin 1024) : EReal :=
  back N (rs (ix2 i 0)) (fun k => D2 d s p w i k * g (ix2 0 k)) (fun k => xh (ix2 i k)) j

/-- The same of the arrays that the region finds. -/
def dg (c : Dev nD) : Fin 2048 → Fin 1024 → EReal := DG (V m c main_arg0) (V m c main_v50) (V m c main_v51)
def d2 (c : Dev nD) : Fin 2048 → Fin 1024 → EReal := D2 (V m c main_arg0) (V m c main_v50) (V m c main_v51) (V m c main_v54)
def dr (c : Dev nD) : Fin 2048 → Fin 1024 → EReal :=
  DR (V m c main_arg0) (V m c main_v50) (V m c main_v51) (V m c main_v17) (V m c main_v13) (V m c main_v54) (V m c main_arg6)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0] :=
  (by decide +kernel : ∀ t : Fin grid0.N, _)

/-- Row `k` of grid point `t`'s block of rows. -/
def row (t : Fin cfg0.N) (k : Fin 512) : Fin 2048 := ⟨t.val * 512 + k.val, by have h : t.val < 4 := t.isLt; omega⟩

theorem blk0 (c : Dev nD) (t : Fin cfg0.N) (y) : iblk m c 0 t y = V m c main_arg0 (ix2 (row t (y 0)) (y 1)) := by
  blk_point [iblk, idx t, row]
theorem blk1 (c : Dev nD) (t : Fin cfg0.N) (y) : iblk m c 1 t y = V m c main_v50 (ix2 (row t (y 0)) (y 1)) := by
  blk_point [iblk, idx t, row]
theorem blk2 (c : Dev nD) (t : Fin cfg0.N) (y) : iblk m c 2 t y = V m c main_v51 (ix2 (row t (y 0)) (y 1)) := by
  blk_point [iblk, idx t, row]
theorem blk3 (c : Dev nD) (t : Fin cfg0.N) (y) : iblk m c 3 t y = V m c main_v52 (ix2 (row t (y 0)) (y 1)) := by
  blk_point [iblk, idx t, row]
theorem blk4 (c : Dev nD) (t : Fin cfg0.N) (y) : iblk m c 4 t y = V m c main_v53 (ix2 (row t (y 0)) (y 1)) := by
  blk_point [iblk, idx t, row]
theorem blk5 (c : Dev nD) (t : Fin cfg0.N) (y) : iblk m c 5 t y = V m c main_v17 (ix2 (row t (y 0)) (y 1)) := by
  blk_point [iblk, idx t, row]
theorem blk6 (c : Dev nD) (t : Fin cfg0.N) (y) : iblk m c 6 t y = V m c main_v13 (ix2 (row t (y 0)) (y 1)) := by
  blk_point [iblk, idx t, row]
theorem blk7 (c : Dev nD) (t : Fin cfg0.N) (y) : iblk m c 7 t y = V m c main_v54 (ix2 (y 0) (y 1)) := by
  blk_point [iblk, idx t, row]
theorem blk8 (c : Dev nD) (t : Fin cfg0.N) (y) : iblk m c 8 t y = V m c main_arg6 (ix2 (y 0) (y 1)) := by
  blk_point [iblk, idx t, row]
theorem ix2_0 {n k : ℕ} (a : Fin n) (b : Fin k) : (ix2 a b) 0 = a := rfl
theorem ix2_1 {n k : ℕ} (a : Fin n) (b : Fin k) : (ix2 a b) 1 = b := rfl

/-- The gradient of the gate's logits at one point. -/
theorem gate (c : Dev nD) (t : Fin cfg0.N) (y) :
    k0_pay12 (iblk m c 0 t) (iblk m c 1 t) (iblk m c 2 t) y = dg m c (row t (y 0)) (y 1) := by
  pointwise [k0_pay12, k0_pay11, dg, DG]
  simp only [blk0, blk1, blk2]
theorem gate13 (c : Dev nD) (t : Fin cfg0.N) (y) :
    (k0_pay13 (iblk m c 0 t) (iblk m c 1 t) (iblk m c 2 t) y : EReal) = dg m c (row t (y 0)) (y 1) := gate m c t y
/-- The cotangent of the layer norm's result at one point. -/
theorem cot (c : Dev nD) (t : Fin cfg0.N) (y) :
    k0_pay19 (iblk m c 0 t) (k0_pay13 (iblk m c 0 t) (iblk m c 1 t) (iblk m c 2 t)) (iblk m c 7 t) y = d2 m c (row t (y 0)) (y 1) := by
  pointwise [k0_pay19, d2, D2]
  refine congrArg₂ (fun a b : EReal => a + b) (blk0 m c t y) (Fin.sum_fin_congr fun k => congrArg₂ (fun a b : EReal => a * b) (gate13 m c t _) (blk7 m c t _))
/-- The gradient of the layer norm's input at one point. -/
theorem inp (c : Dev nD) (t : Fin cfg0.N) (y) :
    k0_pay1 (k0_pay21 (iblk m c 6 t)) (k0_pay22 (iblk m c 0 t) (k0_pay13 (iblk m c 0 t) (iblk m c 1 t) (iblk m c 2 t)) (iblk m c 7 t)
      (iblk m c 5 t) (iblk m c 8 t)) y = dr m c (row t (y 0)) (y 1) := by
  pointwise [k0_pay1, k0_pay21, k0_pay22, k0_pay20, dr, DR, back]
  simp only [cot, blk5, blk6, blk8, ix2_0, ix2_1]
  rfl

end Cert.Ple
end
-- ==== Proof.PleAcc.lean ====
/- What the backward call of the channel mixer's norm and the per-layer embedding's gate leaves in its seven results. -/
module

public import proofs.«01_k».proof.Proof.PleValue

@[expose] public section

set_option maxRecDepth 16384

noncomputable section

namespace Cert.Ple

open Cert.KernelPleIdeal Cert.KernelPleIdeal.Gen Idealize.ShloMosaic Idealize.ShloMosaic.TcCoe Idealize.SL.Sem Cert.LayerNorm
open Idealize.ShloMosaic.Pipeline (Dat)

variable (m : (ℓ : Loc nD τ sig) → Buf (Elt Ideal) ℓ)

/-- An entry of a matrix. -/
abbrev el {a b : ℕ} (x : FVec Ideal ⟨2, ![a, b]⟩ .f32) (i : Fin a) (j : Fin b) : EReal := x (ix2 i j)
/-- What one row adds to each of the five sums. -/
def tGate (c : Dev nD) (j : S1x1024.Idx) (i : Fin 2048) : EReal := dg m c i (j 1)
def tScale (c : Dev nD) (j : S1x1024.Idx) (i : Fin 2048) : EReal := d2 m c i (j 1) * V m c main_v17 (ix2 i (j 1))
def tShift (c : Dev nD) (j : S1x1024.Idx) (i : Fin 2048) : EReal := d2 m c i (j 1)
def tWg (c : Dev nD) (j : S1024x1024.Idx) (i : Fin 2048) : EReal := el (V m c main_v52) i (j 0) * dg m c i (j 1)
def tWp (c : Dev nD) (j : S256x1024.Idx) (i : Fin 2048) : EReal :=
  el (V m c main_v53) i (j 0) * (el (V m c main_arg0) i (j 1) * el (V m c main_v50) i (j 1))

/-- The sum of a block's rows. -/
def part {s : Shape} (f : s.Idx → Fin 2048 → EReal) (t : Fin cfg0.N) (j : s.Idx) : EReal := ∑ k : Fin 512, f j (row t k)

theorem sumGate (c : Dev nD) (t : Fin cfg0.N) (y) : k0_pay17 (k0_pay12 (iblk m c 0 t) (iblk m c 1 t) (iblk m c 2 t)) y = part (tGate m c) t y := by
  pointwise [k0_pay17]
  exact Fin.sum_fin_congr fun k => gate m c t _
theorem sumScale (c : Dev nD) (t : Fin cfg0.N) (y) :
    k0_pay3 (k0_pay19 (iblk m c 0 t) (k0_pay13 (iblk m c 0 t) (iblk m c 1 t) (iblk m c 2 t)) (iblk m c 7 t)) (k0_pay20 (iblk m c 5 t)) y
      = part (tScale m c) t y := by
  pointwise [k0_pay3, k0_pay20]
  exact Fin.sum_fin_congr fun k => congrArg₂ (fun a b : EReal => a * b) (cot m c t _) (blk5 m c t _)
theorem sumShift (c : Dev nD) (t : Fin cfg0.N) (y) :
    k0_pay5 (k0_pay19 (iblk m c 0 t) (k0_pay13 (iblk m c 0 t) (iblk m c 1 t) (iblk m c 2 t)) (iblk m c 7 t)) y = part (tShift m c) t y := by
  pointwise [k0_pay5]
  exact Fin.sum_fin_congr fun k => cot m c t _
theorem sumWg (c : Dev nD) (t : Fin cfg0.N) (z) (y) :
    k0_pay14 (iblk m c 0 t) (iblk m c 1 t) (iblk m c 2 t) z (iblk m c 3 t) y = z y + part (tWg m c) t y := by
  pointwise [k0_pay14]
  exact congrArg (z y + ·) (Fin.sum_fin_congr fun k => congrArg₂ (fun a b : EReal => a * b) (blk3 m c t _) (gate13 m c t _))
theorem sumWp (c : Dev nD) (t : Fin cfg0.N) (z) (y) :
    k0_pay16 z (k0_pay15 (iblk m c 0 t) (iblk m c 1 t) (iblk m c 4 t)) y = z y + part (tWp m c) t y := by
  pointwise [k0_pay16, k0_pay15, k0_pay11]
  exact congrArg _ (Fin.sum_fin_congr fun k => congrArg₂ (fun a b : EReal => a * b) (blk4 m c t _)
    (congrArg₂ (fun a b : EReal => a * b) (blk0 m c t _) (blk1 m c t _)))

/-- What a point leaves, over what stood in the sums before it. -/
structure Step (c : Dev nD) (t : Fin cfg0.N) (z2 z3 z4 : S1x1024.Idx → EReal) (z7 : S1024x1024.Idx → EReal) (z8 : S256x1024.Idx → EReal)
    (o : FVec Ideal S512x1024 .f32 × FVec Ideal S512x1024 .bf16 × FVec Ideal S1x1024 .f32 × FVec Ideal S1x1024 .f32 × FVec Ideal S1x1024 .f32
      × FVec Ideal S1024x1024 .bf16 × FVec Ideal S256x1024 .bf16 × FVec Ideal S1024x1024 .f32 × FVec Ideal S256x1024 .f32) : Prop where
  inp : ∀ y, o.1 y = dr m c (row t (y 0)) (y 1)
  inp' : ∀ y, (o.2.1 y : EReal) = dr m c (row t (y 0)) (y 1)
  gate : ∀ y, o.2.2.1 y = z2 y + part (tGate m c) t y
  scale : ∀ y, o.2.2.2.1 y = z3 y + part (tScale m c) t y
  shift : ∀ y, o.2.2.2.2.1 y = z4 y + part (tShift m c) t y
  wg : ∀ y, o.2.2.2.2.2.2.2.1 y = z7 y + part (tWg m c) t y
  wp : ∀ y, o.2.2.2.2.2.2.2.2 y = z8 y + part (tWp m c) t y
  outg : t.val % 4 = 3 → ∀ y, (o.2.2.2.2.2.1 y : EReal) = o.2.2.2.2.2.2.2.1 y
  outp : t.val % 4 = 3 → ∀ y, (o.2.2.2.2.2.2.1 y : EReal) = o.2.2.2.2.2.2.2.2 y

theorem step_A (c : Dev nD) (t : Fin cfg0.N) (h : t.val % 4 = 0) :
    Step m c t (fun _ => 0) (fun _ => 0) (fun _ => 0) (fun _ => 0) (fun _ => 0) (outsAt0 m c t.val t.isLt) := by
  have h4 : t.val < 4 := t.isLt
  rw [outsAt0_A m c t h h h (by omega) h (by omega) h (by omega) (by omega) (by omega)]
  frame_open
  simp (disch := decide) only [↓ View.readCov_skip, ↓ View.readCov_cons_toLoadRect, ↓ View.readCov_fill]
  frame_out
  exact ⟨inp m c t, inp m c t, fun y => (sumGate m c t y).trans (zero_add _).symm, fun y => (sumScale m c t y).trans (zero_add _).symm,
    fun y => (sumShift m c t y).trans (zero_add _).symm,
    fun y => (sumWg m c t _ y).trans (congrArg (· + _) (by pointwise [k0_pay9])),
    fun y => (sumWp m c t _ y).trans (congrArg (· + _) (by pointwise [k0_pay10])), fun h => absurd h (by omega), fun h => absurd h (by omega)⟩

theorem step_B (c : Dev nD) (t : Fin cfg0.N) (h : ¬ t.val % 4 = 0) (o) (ho : outsAt0 m c (t.val - 1) (Nat.lt_of_le_of_lt (Nat.sub_le _ _) t.isLt) = o) :
    Step m c t o.2.2.1 o.2.2.2.1 o.2.2.2.2.1 o.2.2.2.2.2.2.2.1 o.2.2.2.2.2.2.2.2 (outsAt0 m c t.val t.isLt) := by
  have h4 : t.val < 4 := t.isLt
  have s2 : ∀ z y, k0_pay18 (k0_pay12 (iblk m c 0 t) (iblk m c 1 t) (iblk m c 2 t)) z y = z y + part (tGate m c) t y := fun z y => by
    rw [← sumGate]; pointwise [k0_pay18]
  have s3 : ∀ z y, k0_pay4 (k0_pay19 (iblk m c 0 t) (k0_pay13 (iblk m c 0 t) (iblk m c 1 t) (iblk m c 2 t)) (iblk m c 7 t))
      (k0_pay20 (iblk m c 5 t)) z y = z y + part (tScale m c) t y := fun z y => by
    rw [← sumScale]; pointwise [k0_pay4]
  have s4 : ∀ z y, k0_pay6 (k0_pay19 (iblk m c 0 t) (k0_pay13 (iblk m c 0 t) (iblk m c 1 t) (iblk m c 2 t)) (iblk m c 7 t)) z y
      = z y + part (tShift m c) t y := fun z y => by
    rw [← sumShift]; pointwise [k0_pay6]
  by_cases h3 : t.val % 4 = 3
  · rw [outsAt0_C m c t h h h (by omega) h (by omega) h (by omega) h3 h3, ho]
    frame_open
    simp (disch := decide) only [↓ View.readCov_skip, ↓ View.readCov_cons_toLoadRect, ↓ View.readCov_fill]
    frame_out
    simp only [read_unread_whole]
    exact ⟨inp m c t, inp m c t, s2 _, s3 _, s4 _, sumWg m c t _, sumWp m c t _, fun _ _ => rfl, fun _ _ => rfl⟩
  · rw [outsAt0_B m c t h h h (by omega) h (by omega) h (by omega) h3 h3, ho]
    frame_open
    simp (disch := decide) only [↓ View.readCov_skip, ↓ View.readCov_cons_toLoadRect, ↓ View.readCov_fill]
    frame_out
    simp only [read_unread_whole]
    exact ⟨inp m c t, inp m c t, s2 _, s3 _, s4 _, sumWg m c t _, sumWp m c t _, fun h => absurd h h3, fun h => absurd h h3⟩

/-- A sum over the points and the rows of a point's block is a sum over all rows. -/
theorem sum_part {s : Shape} (f : s.Idx → Fin 2048 → EReal) (j : s.Idx) : (0 : EReal) + ∑ t : Fin cfg0.N, part f t j = ∑ i : Fin 2048, f j i :=
  (zero_add _).trans (Fin.sum_mul_add_congr (fun _ _ _ => rfl))

theorem dr_at (c : Dev nD) (t : Fin cfg0.N) (y : S512x1024.Idx) : dr m c (row t (y 0)) (y 1)
    = (fun i : S2048x1024.Idx => dr m c (i 0) (i 1)) (((cfg0.win 9).blk t).view.emb y) := by
  have e0 : (((cfg0.win 9).blk t).view.emb y) 0 = row t (y 0) := Fin.ext (by blk_simp; simp [idx t, row])
  have e1 : (((cfg0.win 9).blk t).view.emb y) 1 = y 1 := Fin.ext (by blk_simp; simp [idx t, row])
  simp only [e0, e1]

theorem step_inp (c : Dev nD) (t : Fin cfg0.N) : (∀ y, (outsAt0 m c t.val t.isLt).1 y = dr m c (row t (y 0)) (y 1))
    ∧ ∀ y, ((outsAt0 m c t.val t.isLt).2.1 y : EReal) = dr m c (row t (y 0)) (y 1) := by
  by_cases h : t.val % 4 = 0
  · exact ⟨(step_A m c t h).inp, (step_A m c t h).inp'⟩
  · exact ⟨(step_B m c t h _ rfl).inp, (step_B m c t h _ rfl).inp'⟩

theorem final9 (c : Dev nD) : (dats m 0 c).arrAt 9 cfg0.N = fun i => dr m c (i 0) (i 1) := by
  refine (dats m 0 c).arrAt_eq_of_covers 9 _ (by decide +kernel) fun t hf y => ?_
  blk_simp
  rw [after0_9, (step_inp m c t).1]
  exact dr_at m c t y
theorem final10 (c : Dev nD) : (dats m 0 c).arrAt 10 cfg0.N = fun i => dr m c (i 0) (i 1) := by
  refine (dats m 0 c).arrAt_eq_of_covers 10 _ (by decide +kernel) fun t hf y => ?_
  blk_simp
  rw [after0_10]
  exact ((step_inp m c t).2 y).trans (dr_at m c t y)
theorem final11 (c : Dev nD) : (dats m 0 c).arrAt 11 cfg0.N = fun j => ∑ i : Fin 2048, tGate m c j i := by
  refine (dats m 0 c).arrAt_eq_of_after_last 11 t0_3 (by decide +kernel) _ fun j => ?_
  blk_simp
  rw [after0_11, Pipeline.eq_sum_fin_of_reset_step_apply_last (fun n h => (outsAt0 m c n h).2.2.1) 4 (fun _ => 0) (part (tGate m c))
    (fun t h => (step_A m c t h).gate) (fun t h => (step_B m c t h _ rfl).gate) (le_of_eq N_0) t0_3 rfl j]
  exact sum_part _ j
theorem final12 (c : Dev nD) : (dats m 0 c).arrAt 12 cfg0.N = fun j => ∑ i : Fin 2048, tScale m c j i := by
  refine (dats m 0 c).arrAt_eq_of_after_last 12 t0_3 (by decide +kernel) _ fun j => ?_
  blk_simp
  rw [after0_12, Pipeline.eq_sum_fin_of_reset_step_apply_last (fun n h => (outsAt0 m c n h).2.2.2.1) 4 (fun _ => 0) (part (tScale m c))
    (fun t h => (step_A m c t h).scale) (fun t h => (step_B m c t h _ rfl).scale) (le_of_eq N_0) t0_3 rfl j]
  exact sum_part _ j
theorem final13 (c : Dev nD) : (dats m 0 c).arrAt 13 cfg0.N = fun j => ∑ i : Fin 2048, tShift m c j i := by
  refine (dats m 0 c).arrAt_eq_of_after_last 13 t0_3 (by decide +kernel) _ fun j => ?_
  blk_simp
  rw [after0_13, Pipeline.eq_sum_fin_of_reset_step_apply_last (fun n h => (outsAt0 m c n h).2.2.2.2.1) 4 (fun _ => 0) (part (tShift m c))
    (fun t h => (step_A m c t h).shift) (fun t h => (step_B m c t h _ rfl).shift) (le_of_eq N_0) t0_3 rfl j]
  exact sum_part _ j
theorem final14 (c : Dev nD) : (dats m 0 c).arrAt 14 cfg0.N = fun j => ∑ i : Fin 2048, tWg m c j i := by
  refine (dats m 0 c).arrAt_eq_of_after_last 14 t0_3 (by decide +kernel) _ fun j => ?_
  blk_simp
  rw [after0_14]
  refine ((step_B m c t0_3 (by decide) _ rfl).outg rfl j).trans ?_
  rw [Pipeline.eq_sum_fin_of_reset_step_apply_last (fun n h => (outsAt0 m c n h).2.2.2.2.2.2.2.1) 4 (fun _ => 0) (part (tWg m c))
    (fun t h => (step_A m c t h).wg) (fun t h => (step_B m c t h _ rfl).wg) (le_of_eq N_0) t0_3 rfl j]
  exact sum_part _ j
theorem final15 (c : Dev nD) : (dats m 0 c).arrAt 15 cfg0.N = fun j => ∑ i : Fin 2048, tWp m c j i := by
  refine (dats m 0 c).arrAt_eq_of_after_last 15 t0_3 (by decide +kernel) _ fun j => ?_
  blk_simp
  rw [after0_15]
  refine ((step_B m c t0_3 (by decide) _ rfl).outp rfl j).trans ?_
  rw [Pipeline.eq_sum_fin_of_reset_step_apply_last (fun n h => (outsAt0 m c n h).2.2.2.2.2.2.2.2) 4 (fun _ => 0) (part (tWp m c))
    (fun t h => (step_A m c t h).wp) (fun t h => (step_B m c t h _ rfl).wp) (le_of_eq N_0) t0_3 rfl j]
  exact sum_part _ j

end Cert.Ple
end
-- ==== Proof.Sigmoid.lean ====
/- The logistic function over the extended reals: its value is always a real number. -/
module

public import proofs.«01_k».proof.Proof.RealLift
public import Mathlib.Tactic.Ring

@[expose] public section

noncomputable section

namespace Cert.RealLift

open Idealize.ShloMosaic

theorem ofBits_one : Ideal.ofBits .f32 0x3F800000#32 = ((1 : ℝ) : EReal) := by
  simp [Ideal.ofBits, Ideal.ieee, -EReal.coe_mul]; norm_num

/-- The logistic function, as the programs evaluate it. -/
def sigmoid (z : EReal) : EReal := Ideal.div (Ideal.ofBits .f32 0x3F800000#32) (Ideal.ofBits .f32 0x3F800000#32 + Ideal.exp (-z))

theorem sigmoid_coe (z : ℝ) : sigmoid (z : EReal) = ((1 / (1 + Real.exp (-z)) : ℝ) : EReal) := by
  rw [sigmoid, ofBits_one, ← EReal.coe_neg, Ideal.exp_coe, ← EReal.coe_add, coe_div _ (by positivity)]

theorem sigmoid_real (z : EReal) : IsReal (sigmoid z) := by
  induction z using EReal.rec with
  | bot => exact ⟨0, by rw [sigmoid, ofBits_one, EReal.neg_bot, Ideal.exp_top, EReal.coe_add_top]; simp [Ideal.div]⟩
  | coe r => exact ⟨_, sigmoid_coe r⟩
  | top => exact ⟨1, by rw [sigmoid, ofBits_one, EReal.neg_top, Ideal.exp_bot, add_zero, coe_div _ one_ne_zero, div_one]⟩

/-- The swish's gradient by the chain rule. -/
theorem swish_eq {g x : EReal} (hg : IsReal g) (hx : IsReal x) :
    g * sigmoid x + x * g * (sigmoid x * (Ideal.ofBits .f32 0x3F800000#32 - sigmoid x))
      = g * sigmoid x * (Ideal.ofBits .f32 0x3F800000#32 + x * (Ideal.ofBits .f32 0x3F800000#32 - sigmoid x)) := by
  obtain ⟨s, hs⟩ := sigmoid_real x
  obtain ⟨x, rfl⟩ := hx
  obtain ⟨g, rfl⟩ := hg
  rw [hs, ofBits_one]
  simp only [← EReal.coe_mul, ← EReal.coe_add, ← EReal.coe_sub]
  exact congrArg _ (by ring)

end Cert.RealLift
end
-- ==== Proof.PleRef.lean ====
/- What the reference of the channel mixer's norm and the per-layer embedding's gate computes, in the kernel's terms. -/
module

public import proofs.«01_k».proof.Proof.PleAcc
public import proofs.«01_k».proof.Proof.Sigmoid
public import proofs.«01_k».proof.Proof.Gen.ReferencePleIdeal.Read

@[expose] public section

set_option maxRecDepth 16384

noncomputable section

namespace Cert.Ple

open Cert.KernelPleIdeal Cert.KernelPleIdeal.Gen Idealize.ShloMosaic Idealize.ShloMosaic.TcCoe Idealize.SL.Sem Cert.LayerNorm Cert.RealLift
open Cert.ReferencePleIdeal.Read

/-- The small literal under the root. -/
abbrev E : EReal := Ideal.ofBits .f32 0x3727C5AC#32

section Ref
variable (d r : FVec Ideal S2048x1024 .f32) (p : FVec Ideal S2048x256 .f32) (wg : FVec Ideal S1024x1024 .f32) (wp : FVec Ideal S256x1024 .f32)
  (bg g b : FVec Ideal S1x1024 .f32)

/-- Row `i` of the layer norm's input. -/
def X (i : Fin 2048) (j : Fin 1024) : EReal := r (ix2 i j)
/-- The gate and the projected embedding. -/
abbrev SG : FVec Ideal S2048x1024 .f32 := val_main_v35 (F := Ideal) r wg bg g b
abbrev PP : FVec Ideal S2048x1024 .f32 := val_main_v39 (F := Ideal) p wp
/-- The cotangent of the normalised rows. -/
def DH (i : Fin 2048) (j : Fin 1024) : EReal := D2 d (SG r wg bg g b) (PP p wp) wg i j * g (ix2 0 j)

theorem eta (i : S2048x1024.Idx) : ix2 (i 0) (i 1) = i := by blk_ext
theorem r3 (i) : val_main_v3 (F := Ideal) r i = mean N (X r (i 0)) := by
  rw [val_main_v3_apply, val_main_v1_apply, val_main_v0_apply]
  pointwise [val_main_v2, val_main_cst, val_main_cst_0, X]
  refine congrArg (Ideal.div · N) (Fin.sum_fin_congr fun k => congrArg r ?_)
  blk_ext
theorem r5 (i) : val_main_v5 (F := Ideal) r i = X r (i 0) (i 1) - mean N (X r (i 0)) := by
  rw [val_main_v5_apply, val_main_v4_apply, r3]; exact congrArg (fun e => r e - mean N (X r (i 0))) (eta i).symm
theorem r14 (i) : val_main_v14 (F := Ideal) r i = X r (i 0) (i 1) - mean N (X r (i 0)) := by
  rw [val_main_v14_apply, val_main_v13_apply, r3]; exact congrArg (fun e => r e - mean N (X r (i 0))) (eta i).symm
theorem r16 (i) : val_main_v16 (F := Ideal) r i = var N (X r (i 0)) + E := by
  rw [val_main_v16_apply, val_main_v12_apply, val_main_v10_apply, val_main_v9_apply]
  simp only [val_main_v6_apply, r5]
  pointwise [val_main_v15, val_main_v11, val_main_cst_2, val_main_cst_3, val_main_cst_4]; rfl
theorem r17 (i) : val_main_v17 (F := Ideal) r i = rstd N E (X r (i 0)) := by
  rw [val_main_v17_apply, r16]; rfl
theorem r22 (i) : val_main_v22 (F := Ideal) r i = hat N E (X r (i 0)) (i 1) := by
  rw [val_main_v22_apply, val_main_v21_apply, r17, r14]; rfl
theorem r35 (i) : SG r wg bg g b i = sigmoid (val_main_v29 (F := Ideal) r wg bg g b i) := by
  refine (val_main_v35_apply ..).trans ?_
  rw [val_main_v33_apply, val_main_v31_apply, val_main_v30_apply]
  rfl
theorem r43 (i) : val_main_v43 (F := Ideal) d i = d i := by
  rw [val_main_v43_apply]; exact congrArg d (by blk_ext)
theorem r42 (i) : val_main_v42 (F := Ideal) d i = d i := by
  rw [val_main_v42_apply]; exact congrArg d (by blk_ext)
theorem r49 (i) : val_main_v49 (F := Ideal) d r p wg wp bg g b i = DG d (SG r wg bg g b) (PP p wp) (i 0) (i 1) := by
  rw [val_main_v49_apply, val_main_v45_apply, val_main_v38_apply, val_main_v37_apply, r43]
  refine (mul_assoc _ _ _).symm.trans ?_
  exact congrArg (fun e => d e * PP p wp e * SG r wg bg g b e * (one - SG r wg bg g b e)) (eta i).symm
theorem r55 (i) : val_main_v55 (F := Ideal) d r p wg wp bg g b i = D2 d (SG r wg bg g b) (PP p wp) wg (i 0) (i 1) := by
  rw [val_main_v55_apply, val_main_v54_apply, r42]
  refine congrArg₂ (fun a b : EReal => a + b) (congrArg d (eta i).symm) (Fin.sum_fin_congr fun k => congrArg₂ (fun a b : EReal => a * b) (r49 ..) (congrArg wg ?_))
  blk_ext
theorem r62 (i) : val_main_v62 (F := Ideal) d r p wg wp bg g b i = DH d r p wg wp bg g b (i 0) (i 1) := by
  rw [val_main_v62_apply, val_main_v61_apply, r55]
  exact congrArg (D2 d (SG r wg bg g b) (PP p wp) wg (i 0) (i 1) * g ·) (by blk_ext)
theorem r67 (i) : val_main_v67 (F := Ideal) d r p wg wp bg g b i = DH d r p wg wp bg g b (i 0) (i 1) * rstd N E (X r (i 0)) := by
  rw [val_main_v67_apply, val_main_v66_apply, r62, r17]; rfl
/-- The gradient of the input by the chain rule. -/
theorem r86 (i) : val_main_v86 (F := Ideal) d r p wg wp bg g b i
    = chain N E (Ideal.ofBits .f32 0xBF000000#32) (Ideal.ofBits .f32 0x40000000#32) (X r (i 0)) (DH d r p wg wp bg g b (i 0)) (i 1) := by
  have i64 (i : S2048x1.Idx) (k) : idx_main_v64 (idx_main_v65 i) k 0 = i 0 :=
    congrFun (show idx_main_v64 (idx_main_v65 i) k = ix2 (i 0) k by blk_ext) 0
  have i70 (i : S2048x1.Idx) (k) : idx_main_v70 (idx_main_v71 i) k 0 = i 0 :=
    congrFun (show idx_main_v70 (idx_main_v71 i) k = ix2 (i 0) k by blk_ext) 0
  have i78 (i : S2048x1.Idx) (k) : idx_main_v78 (idx_main_v79 i) k 0 = i 0 :=
    congrFun (show idx_main_v78 (idx_main_v79 i) k = ix2 (i 0) k by blk_ext) 0
  have hv (i) : val_main_v73 (F := Ideal) d r p wg wp bg g b i = dvar N E (Ideal.ofBits .f32 0xBF000000#32) (X r (i 0)) (DH d r p wg wp bg g b (i 0)) := by
    rw [val_main_v73_apply, val_main_v68_apply, val_main_v20_apply, val_main_v18_apply, r17, r16, val_main_v65_apply, val_main_v64_apply]
    simp only [val_main_v63_apply, r14, r62, i64]
    pointwise [val_main_v19, val_main_v72, val_main_cst_5, val_main_cst_12, val_main_cst_14]; rfl
  have h76 (i) : val_main_v76 (F := Ideal) d r p wg wp bg g b i = dvar N E (Ideal.ofBits .f32 0xBF000000#32) (X r (i 0)) (DH d r p wg wp bg g b (i 0))
      * (Ideal.ofBits .f32 0x40000000#32 * (X r (i 0) (i 1) - mean N (X r (i 0)))) := by
    rw [val_main_v76_apply, val_main_v75_apply, val_main_v74_apply, val_main_v8_apply, r5]
    simp only [hv]
    pointwise [val_main_v7, val_main_cst_1, val_main_cst_15]
    exact congrArg (· * _) (Fin.sum_univ_one _)
  rw [val_main_v86_apply, val_main_v80_apply, val_main_v85_apply, val_main_v84_apply, r67, h76]
  simp only [val_main_v83_apply, val_main_v81_apply, val_main_v79_apply, val_main_v78_apply, val_main_v77_apply, val_main_v71_apply, val_main_v70_apply, val_main_v69_apply, r67, h76, i70, i78]
  pointwise [val_main_v82, val_main_cst_13, val_main_cst_16, val_main_cst_17, val_main_cst_18]
  exact (congrArg₂ (· + ·) rfl (Fin.sum_univ_one _)).trans rfl
theorem r86_eq (hx : ∀ i j, IsReal (X r i j)) (hd : ∀ i j, IsReal (DH d r p wg wp bg g b i j)) (i : S2048x1024.Idx) :
    val_main_v86 (F := Ideal) d r p wg wp bg g b i
      = DR d (SG r wg bg g b) (PP p wp) (val_main_v22 (F := Ideal) r) (val_main_v17 (F := Ideal) r) wg g (i 0) (i 1) := by
  refine (r86 d r p wg wp bg g b i).trans ((chain_eq_back (hx (i 0)) (hd (i 0)) (by rw [N, ofBits_1024]; norm_num) (by decide) ofBits_eps ofBits_neg_half ofBits_two _).trans ?_)
  exact congrArg₂ (fun s h => back N s _ h (i 1)) (r17 r (ix2 (i 0) 0)).symm (funext fun k => (r22 r (ix2 (i 0) k)).symm)

theorem r51 (i) : val_main_v51 (F := Ideal) d r p wg wp bg g b i = ∑ k : Fin 2048, DG d (SG r wg bg g b) (PP p wp) k (i 1) := by
  have e (k) : idx_main_v50 (idx_main_v51 i) k 1 = i 1 := congrFun (show idx_main_v50 (idx_main_v51 i) k = ix2 k (i 1) by blk_ext) 1
  rw [val_main_v51_apply, val_main_v50_apply]
  simp only [r49, e]
  pointwise [val_main_cst_9]; rfl
theorem r57 (i) : val_main_v57 (F := Ideal) d r p wg wp bg g b i = ∑ k : Fin 2048, D2 d (SG r wg bg g b) (PP p wp) wg k (i 1) := by
  have e (k) : idx_main_v56 (idx_main_v57 i) k 1 = i 1 := congrFun (show idx_main_v56 (idx_main_v57 i) k = ix2 k (i 1) by blk_ext) 1
  rw [val_main_v57_apply, val_main_v56_apply]
  simp only [r55, e]
  pointwise [val_main_cst_10]; rfl
theorem r60 (i) : val_main_v60 (F := Ideal) d r p wg wp bg g b i
    = ∑ k : Fin 2048, D2 d (SG r wg bg g b) (PP p wp) wg k (i 1) * val_main_v22 (F := Ideal) r (ix2 k (i 1)) := by
  have e (k) : idx_main_v59 (idx_main_v60 i) k = ix2 k (i 1) := by blk_ext
  rw [val_main_v60_apply, val_main_v59_apply]
  simp only [e]
  pointwise [val_main_cst_11]
  refine Fin.sum_fin_congr fun k => (val_main_v58_apply ..).trans ((mul_comm _ _).trans (congrArg (· * _) (r55 ..)))
theorem r88 (i) : (val_main_v88 (F := Ideal) d r p wg wp bg g b i : EReal)
    = ∑ k : Fin 2048, val_main_v26 (F := Ideal) r g b (ix2 k (i 0)) * DG d (SG r wg bg g b) (PP p wp) k (i 1) := by
  rw [val_main_v88_apply, val_main_v53_apply]
  refine (val_main_v52_apply ..).trans ?_
  refine Fin.sum_fin_congr fun k => (mul_comm _ _).trans (congrArg₂ (fun a b : EReal => a * b) (congrArg _ ?_) (r49 ..))
  blk_ext
theorem r89 (i) : (val_main_v89 (F := Ideal) d r p wg bg g b i : EReal)
    = ∑ k : Fin 2048, p (ix2 k (i 0)) * (d (ix2 k (i 1)) * SG r wg bg g b (ix2 k (i 1))) := by
  have e (k) : lidx_main_v46 (idx_main_v47 i) k = ix2 k (i 1) := by blk_ext
  rw [val_main_v89_apply, val_main_v47_apply]
  refine (val_main_v46_apply ..).trans ?_
  simp only [e]
  refine Fin.sum_fin_congr fun k => (mul_comm _ _).trans (congrArg₂ (fun a b : EReal => a * b) (congrArg _ ?_) ?_)
  · blk_ext
  · exact (val_main_v44_apply ..).trans ((mul_comm _ _).trans (congrArg (· * _) (r43 ..)))
end Ref
end Cert.Ple
end
-- ==== Proof.PleClaim.lean ====
/- The backward call of the channel mixer's norm and the per-layer embedding's gate against its reference. -/
module

public import proofs.«01_k».proof.Proof.PleRef
public import proofs.«01_k».proof.Proof.FiniteArray
public import proofs.«01_k».proof.Defs
public import Idealize.ShloMosaic.Lib.Claim

@[expose] public section

set_option maxRecDepth 16384

noncomputable section

namespace Cert.Ple

open Cert.KernelPleIdeal Cert.KernelPleIdeal.Gen Idealize.ShloMosaic Idealize.ShloMosaic.TcCoe Idealize.SL.Sem Cert.LayerNorm Cert.RealLift
open Cert.ReferencePleIdeal.Read

variable (m : (ℓ : Loc nD τ sig) → Buf (Elt Ideal) ℓ)

instance preFacts : Cert.Pre_finite_ple.Facts := ⟨by decide, by decide, by decide, by decide, by decide⟩

/-- The arguments in memory: cotangent, input, embedding, two weights, bias, scale, shift. -/
abbrev a0 (c : Dev nD) : FVec Ideal S2048x1024 .f32 := m (c, Proc.tc.devRef main_arg0)
abbrev a1 (c : Dev nD) : FVec Ideal S2048x1024 .f32 := m (c, Proc.tc.devRef main_arg1)
abbrev a2 (c : Dev nD) : FVec Ideal S2048x256 .f32 := m (c, Proc.tc.devRef main_arg2)
abbrev a3 (c : Dev nD) : FVec Ideal S1024x1024 .f32 := m (c, Proc.tc.devRef main_arg3)
abbrev a4 (c : Dev nD) : FVec Ideal S256x1024 .f32 := m (c, Proc.tc.devRef main_arg4)
abbrev a5 (c : Dev nD) : FVec Ideal S1x1024 .f32 := m (c, Proc.tc.devRef main_arg5)
abbrev a6 (c : Dev nD) : FVec Ideal S1x1024 .f32 := m (c, Proc.tc.devRef main_arg6)
abbrev a7 (c : Dev nD) : FVec Ideal S1x1024 .f32 := m (c, Proc.tc.devRef main_arg7)

/-- The host lines before the launch are the reference's forward lines. -/
theorem v13_eq (c : Dev nD) : (V m c main_v13 : FVec Ideal S2048x1 .f32) = val_main_v17 (F := Ideal) (a1 m c) := by
  funext i; entry_read; rfl
theorem v17_eq (c : Dev nD) : (V m c main_v17 : FVec Ideal S2048x1024 .f32) = val_main_v22 (F := Ideal) (a1 m c) := by
  funext i; entry_read; rfl
theorem v50_eq (c : Dev nD) : (V m c main_v50 : FVec Ideal S2048x1024 .f32) = SG (a1 m c) (a3 m c) (a5 m c) (a6 m c) (a7 m c) := by
  funext i; entry_read; rfl
theorem v51_eq (c : Dev nD) : (V m c main_v51 : FVec Ideal S2048x1024 .f32) = PP (a2 m c) (a4 m c) := by
  funext i; entry_read; rfl
theorem v52_eq (c : Dev nD) : (V m c main_v52 : FVec Ideal S2048x1024 .f32) = val_main_v26 (F := Ideal) (a1 m c) (a6 m c) (a7 m c) := by
  funext i; entry_read; rfl
theorem v53_eq (c : Dev nD) : (V m c main_v53 : FVec Ideal S2048x256 .f32) = a2 m c := by
  funext i; entry_read; rfl
theorem v54_eq (c : Dev nD) : (V m c main_v54 : FVec Ideal S1024x1024 .f32) = a3 m c := by
  funext i; entry_read; rfl

theorem dg_eq (c : Dev nD) : dg m c = DG (a0 m c) (SG (a1 m c) (a3 m c) (a5 m c) (a6 m c) (a7 m c)) (PP (a2 m c) (a4 m c)) := by
  rw [dg, V_main_arg0, v50_eq, v51_eq]
theorem d2_eq (c : Dev nD) : d2 m c = D2 (a0 m c) (SG (a1 m c) (a3 m c) (a5 m c) (a6 m c) (a7 m c)) (PP (a2 m c) (a4 m c)) (a3 m c) := by
  rw [d2, V_main_arg0, v50_eq, v51_eq, v54_eq]
theorem dr_eq (c : Dev nD) : dr m c = DR (a0 m c) (SG (a1 m c) (a3 m c) (a5 m c) (a6 m c) (a7 m c)) (PP (a2 m c) (a4 m c))
    (val_main_v22 (F := Ideal) (a1 m c)) (val_main_v17 (F := Ideal) (a1 m c)) (a3 m c) (a6 m c) := by
  rw [dr, V_main_arg0, V_main_arg6, v50_eq, v51_eq, v54_eq, v17_eq, v13_eq]

section Finite
variable (h : Cert.Pre_KernelPleIdeal_finite_ple m)
include h

theorem dh_real (c : Dev nD) (i j) : IsReal (DH (a0 m c) (a1 m c) (a2 m c) (a3 m c) (a4 m c) (a5 m c) (a6 m c) (a7 m c) i j) := by
  have hs (i) : IsReal (SG (a1 m c) (a3 m c) (a5 m c) (a6 m c) (a7 m c) i) := by rw [r35]; exact sigmoid_real _
  have hp (i) : IsReal (PP (a2 m c) (a4 m c) i) := by
    have e : PP (a2 m c) (a4 m c) i = ∑ k : Fin 256, a2 m c (lidx_main_v39 i k) * a4 m c (ridx_main_v39 i k) := val_main_v39_apply ..
    rw [e]
    exact IsReal.sum fun k => (isReal_of_finite _ _ (h c).2.2.1 _).mul (isReal_of_finite _ _ (h c).2.2.2.2.1 _)
  have h0 (i) : IsReal (a0 m c i) := isReal_of_finite _ _ (h c).1 i
  have h1 : IsReal one := ⟨1, ofBits_one⟩
  exact ((h0 _).add (IsReal.sum fun k => ((((h0 _).mul (hp _)).mul (hs _)).mul (h1.sub (hs _))).mul
    (isReal_of_finite _ _ (h c).2.2.2.1 _))).mul (isReal_of_finite _ _ (h c).2.2.2.2.2 _)

theorem res86 (c : Dev nD) : val_main_v86 (F := Ideal) (a0 m c) (a1 m c) (a2 m c) (a3 m c) (a4 m c) (a5 m c) (a6 m c) (a7 m c)
    = (dats m 0 c).arrAt 9 (cfgs 0).N := by
  refine (funext fun i => ?_).trans (final9 m c).symm
  rw [dr_eq]
  exact r86_eq _ _ _ _ _ _ _ _ (fun _ _ => isReal_of_finite _ _ (h c).2.1 _) (dh_real m h c) i
theorem res87 (c : Dev nD) : val_main_v87 (F := Ideal) (a0 m c) (a1 m c) (a2 m c) (a3 m c) (a4 m c) (a5 m c) (a6 m c) (a7 m c)
    = (dats m 0 c).arrAt 10 (cfgs 0).N := by
  refine (funext fun i => ?_).trans (final10 m c).symm
  exact congrFun ((res86 m h c).trans (final9 m c)) i
end Finite

theorem res51 (c : Dev nD) : val_main_v51 (F := Ideal) (a0 m c) (a1 m c) (a2 m c) (a3 m c) (a4 m c) (a5 m c) (a6 m c) (a7 m c)
    = (dats m 0 c).arrAt 11 (cfgs 0).N := by
  refine (funext fun i => (r51 ..).trans ?_).trans (final11 m c).symm
  simp only [tGate, dg_eq]
theorem res60 (c : Dev nD) : val_main_v60 (F := Ideal) (a0 m c) (a1 m c) (a2 m c) (a3 m c) (a4 m c) (a5 m c) (a6 m c) (a7 m c)
    = (dats m 0 c).arrAt 12 (cfgs 0).N := by
  refine (funext fun i => (r60 ..).trans ?_).trans (final12 m c).symm
  simp only [tScale, d2_eq]
  exact Fin.sum_fin_congr fun k => congrArg (_ * ·) (congrFun (v17_eq m c) _).symm
theorem res57 (c : Dev nD) : val_main_v57 (F := Ideal) (a0 m c) (a1 m c) (a2 m c) (a3 m c) (a4 m c) (a5 m c) (a6 m c) (a7 m c)
    = (dats m 0 c).arrAt 13 (cfgs 0).N := by
  refine (funext fun i => (r57 ..).trans ?_).trans (final13 m c).symm
  simp only [tShift, d2_eq]
theorem res88 (c : Dev nD) : val_main_v88 (F := Ideal) (a0 m c) (a1 m c) (a2 m c) (a3 m c) (a4 m c) (a5 m c) (a6 m c) (a7 m c)
    = (dats m 0 c).arrAt 14 (cfgs 0).N := by
  refine (funext fun i => (r88 ..).trans ?_).trans (final14 m c).symm
  simp only [tWg, dg_eq]
  exact Fin.sum_fin_congr fun k => congrArg (· * _) (congrFun (v52_eq m c) _).symm
theorem res89 (c : Dev nD) : val_main_v89 (F := Ideal) (a0 m c) (a1 m c) (a2 m c) (a3 m c) (a5 m c) (a6 m c) (a7 m c)
    = (dats m 0 c).arrAt 15 (cfgs 0).N := by
  refine (funext fun i => (r89 ..).trans ?_).trans (final15 m c).symm
  exact Fin.sum_fin_congr fun k => congrArg₂ (fun a b : EReal => a * b) (congrFun (v53_eq m c) _).symm
    (congrArg₂ (fun a b : EReal => a * b) (congrFun (V_main_arg0 m c) _).symm (congrFun (v50_eq m c) _).symm)

set_option maxHeartbeats 3200000 in
/-- Kernel and reference compute the same seven arrays. -/
theorem algebraic : Cert.algebraic_KernelPleIdeal_ReferencePleIdeal_pre_finite_ple := by
  pair_intro
  · exact Cert.KernelPleIdeal.Value.run_blocks m g
  · refine (θ_run Cert.ReferencePleIdeal.defs _ _).mono (fun r hr c => ?_) (Cert.ReferencePleIdeal.Value.run m' g')
    obtain ⟨h0, h1, h2, h3, h4, h5, h6, h7⟩ := hagree c
    obtain ⟨k0, k1, k2, k3, k4, k5, k6, k⟩ := hr c
    refine ⟨k0.trans ?_, k1.trans ?_, k2.trans ?_, k3.trans ?_, k4.trans ?_, k5.trans ?_, k6.trans ?_, k⟩
    · rw [val_main_v86_eq, h0, h1, h2, h3, h4, h5, h6, h7]; exact res86 m hpre c
    · rw [val_main_v87_eq, h0, h1, h2, h3, h4, h5, h6, h7]; exact res87 m hpre c
    · rw [val_main_v51_eq, h0, h1, h2, h3, h4, h5, h6, h7]; exact res51 m c
    · rw [val_main_v60_eq, h0, h1, h2, h3, h4, h5, h6, h7]; exact res60 m c
    · rw [val_main_v57_eq, h0, h1, h2, h3, h4, h5, h6, h7]; exact res57 m c
    · rw [val_main_v88_eq, h0, h1, h2, h3, h4, h5, h6, h7]; exact res88 m c
    · rw [val_main_v89_eq, h0, h1, h2, h3, h5, h6, h7]; exact res89 m c

end Cert.Ple
end
-- ==== Proof.GatesValue.lean ====
/- What the backward call of the convolution's norm and swish and of the spatial gating computes at one grid point. -/
module

public import proofs.«01_k».proof.Proof.Gen.KernelGatesIdeal.Value
public import proofs.«01_k».proof.Proof.LayerNorm
public import proofs.«01_k».proof.Proof.Sigmoid
public import Idealize.ShloMosaic.Lib.Pipeline.ValueKit
public import Idealize.ShloMosaic.Lib.Pipeline.ReadBack
public import Idealize.ShloMosaic.Lib.Claim

@[expose] public section

set_option maxRecDepth 16384

noncomputable section

namespace Cert.Gates

open Cert.KernelGatesIdeal Cert.KernelGatesIdeal.Gen Idealize.ShloMosaic Idealize.ShloMosaic.TcCoe Idealize.SL.Sem Cert.LayerNorm Cert.RealLift
open Idealize.ShloMosaic.Pipeline (Dat)

variable (m : (ℓ : Loc nD τ sig) → Buf (Elt Ideal) ℓ)

/-- The row length, one and a half as the program's literals. -/
abbrev N : EReal := Ideal.ofBits .f32 0x44000000#32
abbrev one : EReal := Ideal.ofBits .f32 0x3F800000#32
abbrev half : EReal := Ideal.ofBits .f32 0x3F000000#32
/-- The root of two over pi, the factor of the cubic and three, as the program's literals. -/
abbrev C : EReal := Ideal.ofBits .f32 0x3F4C422A#32
abbrev K1 : EReal := Ideal.ofBits .f32 0x3D372713#32
abbrev three : EReal := Ideal.ofBits .f32 0x40400000#32

/-- The hyperbolic tangent inside the gate's activation, the activation and its derivative. -/
def T (x : EReal) : EReal := Ideal.tanh (C * (x + K1 * x * x * x))
def gelu (x : EReal) : EReal := half * x * (one + T x)
def dgelu (x : EReal) : EReal := half * (one + T x) + half * x * (one - T x * T x) * C * (one + three * (K1 * x * x))

/-- An entry of a matrix. -/
abbrev el {a b : ℕ} (x : FVec Ideal ⟨2, ![a, b]⟩ .f32) (i : Fin a) (j : Fin b) : EReal := x (ix2 i j)
/-- The left and the right half of the columns. -/
abbrev lo (j : Fin 512) : Fin 1024 := ⟨j.val, by omega⟩
abbrev hi (j : Fin 512) : Fin 1024 := ⟨512 + j.val, by omega⟩
/-- Row `r` of the run of 128 rows that row `i` lies in. -/
def mate {n : ℕ} (i : Fin (n * 128)) (r : Fin 128) : Fin (n * 128) := ⟨i.val / 128 * 128 + r.val, by omega⟩
/-- Where row `i` stands in its run. -/
def pos (i : ℕ) : Fin 128 := ⟨i % 128, Nat.mod_lt _ (by norm_num)⟩
/-- The group of column `j`. -/
def grp (j : Fin 512) : Fin 4 := ⟨j.val / 128, by omega⟩

section Math
variable (dl : FVec Ideal S2048x1024 .f32) (z : Fin 2048 → Fin 1024 → EReal) (xc xv sv : FVec Ideal S2048x512 .f32) (rc rv : FVec Ideal S2048x1 .f32)
  (cg cb vg vb : FVec Ideal S1x512 .f32) (w : FVec Ideal S4x128x128 .f32)

/-- The convolution's normalised row, scaled and shifted, and its cotangent through the swish. -/
def LC (i : Fin 2048) (j : Fin 512) : EReal := el xc i j * el cg 0 j + el cb 0 j
def DC (i : Fin 2048) (j : Fin 512) : EReal :=
  el dl i (lo j) * sigmoid (LC xc cg cb i j) * (one + LC xc cg cb i j * (one - sigmoid (LC xc cg cb i j)))
/-- The gradient of the convolution's norm. -/
def DY (i : Fin 2048) (j : Fin 512) : EReal := back N (el rc i 0) (fun k => DC dl xc cg cb i k * el cg 0 k) (el xc i) j
/-- The cotangent of the gating's mixed rows, and the rows before mixing. -/
def DS (i : Fin 2048) (j : Fin 512) : EReal := el dl i (hi j) * gelu (z i (lo j))
def VN (i : Fin 2048) (j : Fin 512) : EReal := el xv i j * el vg 0 j + el vb 0 j
/-- The mixing weights below the diagonal. -/
def WM (g : Fin 4) (r c : Fin 128) : EReal := if c ≤ r then w (ix3 g r c) else 0
/-- The cotangent of the rows before mixing. -/
def DN (i : Fin 2048) (j : Fin 512) : EReal := ∑ k : Fin 128, WM w (grp j) k (pos i.val) * DS dl z (mate (n := 16) i k) j
/-- The gradient of the gating's norm. -/
def DV (i : Fin 2048) (j : Fin 512) : EReal := back N (el rv i 0) (fun k => DN dl z w i k * el vg 0 k) (el xv i) j
end Math

/-- The gate's preactivation. -/
def z (c : Dev nD) (i : Fin 2048) (j : Fin 1024) : EReal := el (V m c main_arg2) i ⟨1024 + j.val, by omega⟩
/-- The same of the arrays that the region finds. -/
def dc (c : Dev nD) := DC (V m c main_arg0) (V m c main_v17) (V m c main_arg3) (V m c main_arg4)
def dy (c : Dev nD) := DY (V m c main_arg0) (V m c main_v17) (V m c main_v13) (V m c main_arg3) (V m c main_arg4)
def ds (c : Dev nD) := DS (V m c main_arg0) (z m c)
def vn (c : Dev nD) := VN (V m c main_v88) (V m c main_arg5) (V m c main_arg6)
def dn (c : Dev nD) := DN (V m c main_arg0) (z m c) (V m c main_arg7)
def dv (c : Dev nD) := DV (V m c main_arg0) (z m c) (V m c main_v88) (V m c main_v84) (V m c main_arg5) (V m c main_arg7)

theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![0, 0, 0] ∧ win0_12.index t = ![t.val, 0] ∧ win0_13.index t = ![t.val, 0] :=
  (by decide +kernel : ∀ t : Fin grid0.N, _)

/-- Row `k` of grid point `t`'s block of rows. -/
def row (t : Fin cfg0.N) (k : Fin 512) : Fin 2048 := ⟨t.val * 512 + k.val, by have h : t.val < 4 := t.isLt; omega⟩

theorem blk0 (c : Dev nD) (t : Fin cfg0.N) (y) : iblk m c 0 t y = el (V m c main_arg0) (row t (y 0)) (y 1) := by
  blk_point [iblk, idx t, row]
theorem blk1 (c : Dev nD) (t : Fin cfg0.N) (y) : iblk m c 1 t y = z m c (row t (y 0)) (y 1) := by
  blk_point [iblk, idx t, row, z]
theorem blk2 (c : Dev nD) (t : Fin cfg0.N) (y) : iblk m c 2 t y = el (V m c main_v17) (row t (y 0)) (y 1) := by
  blk_point [iblk, idx t, row]
theorem blk3 (c : Dev nD) (t : Fin cfg0.N) (y) : iblk m c 3 t y = el (V m c main_v13) (row t (y 0)) 0 := by
  blk_point [iblk, idx t, row]
theorem blk4 (c : Dev nD) (t : Fin cfg0.N) (y) : iblk m c 4 t y = el (V m c main_v88) (row t (y 0)) (y 1) := by
  blk_point [iblk, idx t, row]
theorem blk5 (c : Dev nD) (t : Fin cfg0.N) (y) : iblk m c 5 t y = el (V m c main_v84) (row t (y 0)) 0 := by
  blk_point [iblk, idx t, row]
theorem blk6 (c : Dev nD) (t : Fin cfg0.N) (y) : iblk m c 6 t y = el (V m c main_v70) (row t (y 0)) (y 1) := by
  blk_point [iblk, idx t, row]
theorem blk7 (c : Dev nD) (t : Fin cfg0.N) (y) : iblk m c 7 t y = el (V m c main_arg3) 0 (y 1) := by
  blk_point [iblk, idx t]
theorem blk8 (c : Dev nD) (t : Fin cfg0.N) (y) : iblk m c 8 t y = el (V m c main_arg4) 0 (y 1) := by
  blk_point [iblk, idx t]
theorem blk9 (c : Dev nD) (t : Fin cfg0.N) (y) : iblk m c 9 t y = el (V m c main_arg5) 0 (y 1) := by
  blk_point [iblk, idx t]
theorem blk10 (c : Dev nD) (t : Fin cfg0.N) (y) : iblk m c 10 t y = el (V m c main_arg6) 0 (y 1) := by
  blk_point [iblk, idx t]
theorem blk11 (c : Dev nD) (t : Fin cfg0.N) (y) : iblk m c 11 t y = V m c main_arg7 (ix3 (y 0) (y 1) (y 2)) := by
  blk_point [iblk, idx t]

end Cert.Gates

end
-- ==== Proof.GatesBlock.lean ====
/- The tiles of the spatial gating's backward pass: the mixing weights' products and sums over one block of rows. -/
module

public import proofs.«01_k».proof.Proof.GatesValue
public import Idealize.ShloMosaic.Lib.WordCmp

@[expose] public section

set_option maxRecDepth 16384

noncomputable section

namespace Cert.Gates

open Cert.KernelGatesIdeal Cert.KernelGatesIdeal.Gen Idealize.ShloMosaic Idealize.ShloMosaic.TcCoe Idealize.SL.Sem Cert.LayerNorm

/-- Row or column `k` of the tile number `p`. -/
def cr (p : Fin 4) (k : Fin 128) : Fin 512 := ⟨p.val * 128 + k.val, by omega⟩

theorem low (r c : Fin 128) (a b : EReal) :
    Scalar.select (IntOp.cmpi .sge (BitVec.ofNat 32 r.val) (BitVec.ofNat 32 c.val)) a b = if c ≤ r then a else b := by
  rw [WordCmp.cmpi_sge_ofNat (by norm_num; omega) (by norm_num; omega)]
  by_cases h : c ≤ r
  · simp [h, Scalar.select]
  · simp [h, Scalar.select]

/-- The mixing weights of one group below the diagonal. -/
def wm (w : Vec Ideal S1x128x128 .f32) (r c : Fin 128) : EReal := if c ≤ r then w (ix3 0 r c) else 0
/-- A tile of the masked product, of the weights' gradient and of the bias's. -/
def TN (D : FVec Ideal S512x512 .bf16) (w : Fin 128 → Fin 128 → EReal) (p g : Fin 4) (x : S128x128.Idx) : EReal :=
  ∑ k : Fin 128, w k (x 0) * (D (ix2 (cr p k) (cr g (x 1))) : EReal)
def PW (D V : FVec Ideal S512x512 .bf16) (g : Fin 4) (r s : Fin 128) : EReal :=
  ∑ p : Fin 4, ∑ d : Fin 128, (D (ix2 (cr p r) (cr g d)) : EReal) * (V (ix2 (cr p s) (cr g d)) : EReal)
def PB (E : FVec Ideal S512x512 .f32) (g : Fin 4) (r s : Fin 128) : EReal := ∑ p : Fin 4, (E (ix2 (cr p r) (cr g s)) : EReal)

theorem add_four (x : EReal) (f : Fin 4 → EReal) : x + ∑ p, f p = x + f 0 + f 1 + f 2 + f 3 := by
  rw [Fin.sum_univ_four, ← add_assoc, ← add_assoc, ← add_assoc]

variable (D V : FVec Ideal S512x512 .bf16) (E d : FVec Ideal S512x512 .f32) (u v : FVec Ideal S512x1024 .f32) (f : FVec Ideal S512x512 .f32)
  (q b : FVec Ideal S1x512 .f32) (w : Vec Ideal S1x128x128 .f32) (m : FVec Ideal S128x128 .bf16) (x : S128x128.Idx) (y : S1x128x128.Idx)

theorem mask28 (y : S128x128.Idx) : (k0_pay29 w y : EReal) = wm w (y 0) (y 1) := by
  refine Eq.trans ?_ (low _ _ _ _)
  pointwise [k0_pay29]
theorem mask44 (y : S128x128.Idx) : (k0_pay45 w y : EReal) = wm w (y 0) (y 1) := by
  refine Eq.trans ?_ (low _ _ _ _)
  pointwise [k0_pay45]
theorem mask59 (y : S128x128.Idx) : (k0_pay60 w y : EReal) = wm w (y 0) (y 1) := by
  refine Eq.trans ?_ (low _ _ _ _)
  pointwise [k0_pay60]
theorem mask75 (y : S128x128.Idx) : (k0_pay76 w y : EReal) = wm w (y 0) (y 1) := by
  refine Eq.trans ?_ (low _ _ _ _)
  pointwise [k0_pay76]
/-- The product of one tile, from its masked weights. -/
theorem tile (p g : Fin 4) {z : EReal} (h : z = ∑ k : Fin 128, (m (ix2 k (x 0)) : EReal) * (D (ix2 (cr p k) (cr g (x 1))) : EReal))
    (hm : ∀ y : S128x128.Idx, (m y : EReal) = wm w (y 0) (y 1)) : z = TN D (wm w) p g x :=
  h.trans (Fin.sum_fin_congr fun _ => congrArg (· * _) (hm _))
theorem tile33 : k0_pay88 D (k0_pay76 w) x = TN D (wm w) 3 3 x :=
  tile D w (k0_pay76 w) x 3 3 (by pointwise [k0_pay88, cr]) (mask75 w)
theorem tile23 : k0_pay85 (k0_pay84 D (k0_pay76 w)) x = TN D (wm w) 2 3 x :=
  tile D w (k0_pay76 w) x 2 3 (by pointwise [k0_pay85, k0_pay84, cr]) (mask75 w)
theorem tile13 : k0_pay81 D (k0_pay76 w) x = TN D (wm w) 1 3 x :=
  tile D w (k0_pay76 w) x 1 3 (by pointwise [k0_pay81, cr]) (mask75 w)
theorem tile03 : k0_pay78 D w x = TN D (wm w) 0 3 x :=
  tile D w (k0_pay76 w) x 0 3 (by pointwise [k0_pay78, cr]) (mask75 w)
theorem tile32 : k0_pay73 D (k0_pay60 w) x = TN D (wm w) 3 2 x :=
  tile D w (k0_pay60 w) x 3 2 (by pointwise [k0_pay73, cr]) (mask59 w)
theorem tile22 : k0_pay70 D (k0_pay60 w) x = TN D (wm w) 2 2 x :=
  tile D w (k0_pay60 w) x 2 2 (by pointwise [k0_pay70, cr]) (mask59 w)
theorem tile12 : k0_pay66 D (k0_pay60 w) x = TN D (wm w) 1 2 x :=
  tile D w (k0_pay60 w) x 1 2 (by pointwise [k0_pay66, cr]) (mask59 w)
theorem tile02 : k0_pay62 D w x = TN D (wm w) 0 2 x :=
  tile D w (k0_pay60 w) x 0 2 (by pointwise [k0_pay62, cr]) (mask59 w)
theorem tile31 : k0_pay58 D (k0_pay45 w) x = TN D (wm w) 3 1 x :=
  tile D w (k0_pay45 w) x 3 1 (by pointwise [k0_pay58, cr]) (mask44 w)
theorem tile21 : k0_pay55 D (k0_pay45 w) x = TN D (wm w) 2 1 x :=
  tile D w (k0_pay45 w) x 2 1 (by pointwise [k0_pay55, cr]) (mask44 w)
theorem tile11 : k0_pay50 D (k0_pay45 w) x = TN D (wm w) 1 1 x :=
  tile D w (k0_pay45 w) x 1 1 (by pointwise [k0_pay50, cr]) (mask44 w)
theorem tile01 : k0_pay47 D w x = TN D (wm w) 0 1 x :=
  tile D w (k0_pay45 w) x 0 1 (by pointwise [k0_pay47, cr]) (mask44 w)
theorem tile30 : k0_pay43 (k0_pay29 w) (k0_pay42 D) x = TN D (wm w) 3 0 x :=
  tile D w (k0_pay29 w) x 3 0 (by pointwise [k0_pay43, k0_pay42, cr]) (mask28 w)
theorem tile20 : k0_pay39 D (k0_pay29 w) x = TN D (wm w) 2 0 x :=
  tile D w (k0_pay29 w) x 2 0 (by pointwise [k0_pay39, cr]) (mask28 w)
theorem tile10 : k0_pay35 D (k0_pay29 w) x = TN D (wm w) 1 0 x :=
  tile D w (k0_pay29 w) x 1 0 (by pointwise [k0_pay35, cr]) (mask28 w)
theorem tile00 : k0_pay32 (k0_pay29 w) (k0_pay31 d u v) x = TN (k0_pay24 d u v) (wm w) 0 0 x :=
  tile (k0_pay24 d u v) w (k0_pay29 w) x 0 0 (by pointwise [k0_pay32, k0_pay31, cr]) (mask28 w)
theorem weights3 : k0_pay87 D V (k0_pay83 D V (k0_pay80 D V (k0_pay77 D V w))) y = w y + PW D V 3 (y 1) (y 2) := by
  refine Eq.trans ?_ (add_four _ _).symm
  pointwise [k0_pay77, k0_pay80, k0_pay83, k0_pay87, cr]
theorem weights2 : k0_pay72 D V (k0_pay69 (k0_pay68 D V (k0_pay65 D V (k0_pay61 D V w)))) y = w y + PW D V 2 (y 1) (y 2) := by
  refine Eq.trans ?_ (add_four _ _).symm
  pointwise [k0_pay61, k0_pay65, k0_pay68, k0_pay69, k0_pay72, cr]
theorem weights1 : k0_pay57 D V (k0_pay54 V (k0_pay52 (k0_pay49 D V (k0_pay46 D V w))) (k0_pay53 D)) y = w y + PW D V 1 (y 1) (y 2) := by
  refine Eq.trans ?_ (add_four _ _).symm
  pointwise [k0_pay46, k0_pay49, k0_pay52, k0_pay53, k0_pay54, k0_pay57, cr]
theorem weights0 : k0_pay41 (k0_pay24 d u v) (k0_pay26 f q b) (k0_pay38 (k0_pay24 d u v) (k0_pay26 f q b) (k0_pay34 (k0_pay24 d u v) (k0_pay26 f q b) (k0_pay30 d u v f q b w))) y = w y + PW (k0_pay24 d u v) (k0_pay26 f q b) 0 (y 1) (y 2) := by
  refine Eq.trans ?_ (add_four _ _).symm
  pointwise [k0_pay30, k0_pay34, k0_pay38, k0_pay41, cr]
theorem bias3 : k0_pay89 E (k0_pay86 E (k0_pay82 E (k0_pay79 E w))) y = w y + PB E 3 (y 1) (y 2) := by
  refine Eq.trans ?_ (add_four _ _).symm
  pointwise [k0_pay79, k0_pay82, k0_pay86, k0_pay89, cr]
theorem bias2 : k0_pay75 (k0_pay74 E (k0_pay71 E (k0_pay67 E (k0_pay64 (k0_pay63 E w))))) y = w y + PB E 2 (y 1) (y 2) := by
  refine Eq.trans ?_ (add_four _ _).symm
  pointwise [k0_pay63, k0_pay64, k0_pay67, k0_pay71, k0_pay74, k0_pay75, cr]
theorem bias1 : k0_pay59 E (k0_pay56 E (k0_pay51 E (k0_pay48 E w))) y = w y + PB E 1 (y 1) (y 2) := by
  refine Eq.trans ?_ (add_four _ _).symm
  pointwise [k0_pay48, k0_pay51, k0_pay56, k0_pay59, cr]
theorem bias0 : k0_pay44 E (k0_pay40 E (k0_pay37 (k0_pay36 E (k0_pay33 E w)))) y = w y + PB E 0 (y 1) (y 2) := by
  refine Eq.trans ?_ (add_four _ _).symm
  pointwise [k0_pay33, k0_pay36, k0_pay37, k0_pay40, k0_pay44, cr]

end Cert.Gates

end
-- ==== Proof.GatesPoint.lean ====
/- What one grid point of the backward call of the convolution's norm and the spatial gating computes from its blocks. -/
module

public import proofs.«01_k».proof.Proof.GatesBlock
public import proofs.«01_k».proof.Proof.Canon

@[expose] public section

set_option maxRecDepth 16384

noncomputable section

namespace Cert.Gates

open Cert.KernelGatesIdeal Cert.KernelGatesIdeal.Gen Idealize.ShloMosaic Idealize.ShloMosaic.TcCoe Idealize.SL.Sem Cert.LayerNorm Cert.RealLift

/-- One group's slice of a four group array. -/
theorem ld3 {e : EltTy} (W : S4x128x128.Idx → Elt Ideal e) (g : Fin 4) (inb) (r s : Fin 128) :
    View.ld W (Rect.unit (s := S4x128x128) ![g.val, 0, 0] ![1, 128, 128] inb) (ix3 0 r s) = W (ix3 g r s) :=
  View.ld_unit_apply_of _ _ _ _ _ _ fun a => match a with
    | 0 => rfl
    | 1 => (Nat.zero_add _).symm
    | 2 => (Nat.zero_add _).symm

/-- The rows' cotangent before mixing, of one block of rows. -/
def Mixed (D : FVec Ideal S512x512 .bf16) (W : Vec Ideal S4x128x128 .f32) (y : S512x512.Idx) : EReal :=
  ∑ k : Fin 128, WM W (grp (y 1)) k (pos (y 0).val) * (D (ix2 (cr (grp (y 0)) k) (y 1)) : EReal)

theorem place (D : FVec Ideal S512x512 .bf16) (W : Vec Ideal S4x128x128 .f32) (p g : Fin 4) (x : S128x128.Idx) (y : S512x512.Idx)
    {w : Vec Ideal S1x128x128 .f32} (h0 : (y 0 : ℕ) = 128 * p.val + (x 0).val) (h1 : (y 1 : ℕ) = 128 * g.val + (x 1).val)
    (hw : ∀ r s, w (ix3 0 r s) = W (ix3 g r s)) : TN D (wm w) p g x = Mixed D W y := by
  have l0 : (x 0).val < 128 := (x 0).isLt
  have l1 : (x 1).val < 128 := (x 1).isLt
  have e0 : grp (y 0) = p := Fin.ext (by show (y 0).val / 128 = _; omega)
  have e1 : grp (y 1) = g := Fin.ext (by show (y 1).val / 128 = _; omega)
  have e2 : pos (y 0).val = x 0 := Fin.ext (by show (y 0).val % 128 = (x 0).val; omega)
  have e3 : cr g (x 1) = y 1 := Fin.ext (by show g.val * 128 + (x 1).val = (y 1).val; omega)
  exact Fin.sum_fin_congr fun k => congrArg₂ (fun a b : EReal => a * b)
    (by rw [e1, e2]; exact congrArg (fun z : EReal => if x 0 ≤ k then z else 0) (hw k (x 0))) (by rw [e0, ← e3])

/-- The sixteen stores into the scratch array, last first. -/
def tiles (d : FVec Ideal S512x512 .f32) (u v : FVec Ideal S512x1024 .f32) (W : Vec Ideal S4x128x128 .f32) : List (View.Piece (Elt Ideal) S512x512 .f32) :=
  [⟨Rect.unit (s := S512x512) ![384, 384] ![128, 128] inb_S512x512_S128x128_384_384, k0_pay88 (k0_pay24 d u v) (k0_pay76 (View.ld W (Rect.unit (s := S4x128x128) ![3, 0, 0] ![1, 128, 128] inb_S4x128x128_S1x128x128_3_0_0)))⟩,
   ⟨Rect.unit (s := S512x512) ![256, 384] ![128, 128] inb_S512x512_S128x128_256_384, k0_pay85 (k0_pay84 (k0_pay24 d u v) (k0_pay76 (View.ld W (Rect.unit (s := S4x128x128) ![3, 0, 0] ![1, 128, 128] inb_S4x128x128_S1x128x128_3_0_0))))⟩,
   ⟨Rect.unit (s := S512x512) ![128, 384] ![128, 128] inb_S512x512_S128x128_128_384, k0_pay81 (k0_pay24 d u v) (k0_pay76 (View.ld W (Rect.unit (s := S4x128x128) ![3, 0, 0] ![1, 128, 128] inb_S4x128x128_S1x128x128_3_0_0)))⟩,
   ⟨Rect.unit (s := S512x512) ![0, 384] ![128, 128] inb_S512x512_S128x128_0_384, k0_pay78 (k0_pay24 d u v) (View.ld W (Rect.unit (s := S4x128x128) ![3, 0, 0] ![1, 128, 128] inb_S4x128x128_S1x128x128_3_0_0))⟩,
   ⟨Rect.unit (s := S512x512) ![384, 256] ![128, 128] inb_S512x512_S128x128_384_256, k0_pay73 (k0_pay24 d u v) (k0_pay60 (View.ld W (Rect.unit (s := S4x128x128) ![2, 0, 0] ![1, 128, 128] inb_S4x128x128_S1x128x128_2_0_0)))⟩,
   ⟨Rect.unit (s := S512x512) ![256, 256] ![128, 128] inb_S512x512_S128x128_256_256, k0_pay70 (k0_pay24 d u v) (k0_pay60 (View.ld W (Rect.unit (s := S4x128x128) ![2, 0, 0] ![1, 128, 128] inb_S4x128x128_S1x128x128_2_0_0)))⟩,
   ⟨Rect.unit (s := S512x512) ![128, 256] ![128, 128] inb_S512x512_S128x128_128_256, k0_pay66 (k0_pay24 d u v) (k0_pay60 (View.ld W (Rect.unit (s := S4x128x128) ![2, 0, 0] ![1, 128, 128] inb_S4x128x128_S1x128x128_2_0_0)))⟩,
   ⟨Rect.unit (s := S512x512) ![0, 256] ![128, 128] inb_S512x512_S128x128_0_256, k0_pay62 (k0_pay24 d u v) (View.ld W (Rect.unit (s := S4x128x128) ![2, 0, 0] ![1, 128, 128] inb_S4x128x128_S1x128x128_2_0_0))⟩,
   ⟨Rect.unit (s := S512x512) ![384, 128] ![128, 128] inb_S512x512_S128x128_384_128, k0_pay58 (k0_pay24 d u v) (k0_pay45 (View.ld W (Rect.unit (s := S4x128x128) ![1, 0, 0] ![1, 128, 128] inb_S4x128x128_S1x128x128_1_0_0)))⟩,
   ⟨Rect.unit (s := S512x512) ![256, 128] ![128, 128] inb_S512x512_S128x128_256_128, k0_pay55 (k0_pay24 d u v) (k0_pay45 (View.ld W (Rect.unit (s := S4x128x128) ![1, 0, 0] ![1, 128, 128] inb_S4x128x128_S1x128x128_1_0_0)))⟩,
   ⟨Rect.unit (s := S512x512) ![128, 128] ![128, 128] inb_S512x512_S128x128_128_128, k0_pay50 (k0_pay24 d u v) (k0_pay45 (View.ld W (Rect.unit (s := S4x128x128) ![1, 0, 0] ![1, 128, 128] inb_S4x128x128_S1x128x128_1_0_0)))⟩,
   ⟨Rect.unit (s := S512x512) ![0, 128] ![128, 128] inb_S512x512_S128x128_0_128, k0_pay47 (k0_pay24 d u v) (View.ld W (Rect.unit (s := S4x128x128) ![1, 0, 0] ![1, 128, 128] inb_S4x128x128_S1x128x128_1_0_0))⟩,
   ⟨Rect.unit (s := S512x512) ![384, 0] ![128, 128] inb_S512x512_S128x128_384_0, k0_pay43 (k0_pay29 (View.ld W (Rect.unit (s := S4x128x128) ![0, 0, 0] ![1, 128, 128] inb_S4x128x128_S1x128x128_0_0_0))) (k0_pay42 (k0_pay24 d u v))⟩,
   ⟨Rect.unit (s := S512x512) ![256, 0] ![128, 128] inb_S512x512_S128x128_256_0, k0_pay39 (k0_pay24 d u v) (k0_pay29 (View.ld W (Rect.unit (s := S4x128x128) ![0, 0, 0] ![1, 128, 128] inb_S4x128x128_S1x128x128_0_0_0)))⟩,
   ⟨Rect.unit (s := S512x512) ![128, 0] ![128, 128] inb_S512x512_S128x128_128_0, k0_pay35 (k0_pay24 d u v) (k0_pay29 (View.ld W (Rect.unit (s := S4x128x128) ![0, 0, 0] ![1, 128, 128] inb_S4x128x128_S1x128x128_0_0_0)))⟩,
   ⟨Rect.unit (s := S512x512) ![0, 0] ![128, 128] inb_S512x512_S128x128_0_0, k0_pay32 (k0_pay29 (View.ld W (Rect.unit (s := S4x128x128) ![0, 0, 0] ![1, 128, 128] inb_S4x128x128_S1x128x128_0_0_0))) (k0_pay31 d u v)⟩]

theorem scratch_at (d : FVec Ideal S512x512 .f32) (u v : FVec Ideal S512x1024 .f32) (W : Vec Ideal S4x128x128 .f32) (y : S512x512.Idx) :
    View.canon (tiles d u v W) y = Mixed (k0_pay24 d u v) W y := by
  have h : View.PiecesOf (Val := Elt Ideal) (s := S512x512) (e := .f32) (fun y => Mixed (k0_pay24 d u v) W y) (tiles d u v W) :=
   ⟨fun x => (tile33 _ _ x).trans (place _ W 3 3 x _ (ValueKit.rect_emb_unit_val _ _ inb_S512x512_S128x128_384_384 x 0) (ValueKit.rect_emb_unit_val _ _ inb_S512x512_S128x128_384_384 x 1) fun r s => ld3 W 3 _ r s),
    fun x => (tile23 _ _ x).trans (place _ W 2 3 x _ (ValueKit.rect_emb_unit_val _ _ inb_S512x512_S128x128_256_384 x 0) (ValueKit.rect_emb_unit_val _ _ inb_S512x512_S128x128_256_384 x 1) fun r s => ld3 W 3 _ r s),
    fun x => (tile13 _ _ x).trans (place _ W 1 3 x _ (ValueKit.rect_emb_unit_val _ _ inb_S512x512_S128x128_128_384 x 0) (ValueKit.rect_emb_unit_val _ _ inb_S512x512_S128x128_128_384 x 1) fun r s => ld3 W 3 _ r s),
    fun x => (tile03 _ _ x).trans (place _ W 0 3 x _ (ValueKit.rect_emb_unit_val _ _ inb_S512x512_S128x128_0_384 x 0) (ValueKit.rect_emb_unit_val _ _ inb_S512x512_S128x128_0_384 x 1) fun r s => ld3 W 3 _ r s),
    fun x => (tile32 _ _ x).trans (place _ W 3 2 x _ (ValueKit.rect_emb_unit_val _ _ inb_S512x512_S128x128_384_256 x 0) (ValueKit.rect_emb_unit_val _ _ inb_S512x512_S128x128_384_256 x 1) fun r s => ld3 W 2 _ r s),
    fun x => (tile22 _ _ x).trans (place _ W 2 2 x _ (ValueKit.rect_emb_unit_val _ _ inb_S512x512_S128x128_256_256 x 0) (ValueKit.rect_emb_unit_val _ _ inb_S512x512_S128x128_256_256 x 1) fun r s => ld3 W 2 _ r s),
    fun x => (tile12 _ _ x).trans (place _ W 1 2 x _ (ValueKit.rect_emb_unit_val _ _ inb_S512x512_S128x128_128_256 x 0) (ValueKit.rect_emb_unit_val _ _ inb_S512x512_S128x128_128_256 x 1) fun r s => ld3 W 2 _ r s),
    fun x => (tile02 _ _ x).trans (place _ W 0 2 x _ (ValueKit.rect_emb_unit_val _ _ inb_S512x512_S128x128_0_256 x 0) (ValueKit.rect_emb_unit_val _ _ inb_S512x512_S128x128_0_256 x 1) fun r s => ld3 W 2 _ r s),
    fun x => (tile31 _ _ x).trans (place _ W 3 1 x _ (ValueKit.rect_emb_unit_val _ _ inb_S512x512_S128x128_384_128 x 0) (ValueKit.rect_emb_unit_val _ _ inb_S512x512_S128x128_384_128 x 1) fun r s => ld3 W 1 _ r s),
    fun x => (tile21 _ _ x).trans (place _ W 2 1 x _ (ValueKit.rect_emb_unit_val _ _ inb_S512x512_S128x128_256_128 x 0) (ValueKit.rect_emb_unit_val _ _ inb_S512x512_S128x128_256_128 x 1) fun r s => ld3 W 1 _ r s),
    fun x => (tile11 _ _ x).trans (place _ W 1 1 x _ (ValueKit.rect_emb_unit_val _ _ inb_S512x512_S128x128_128_128 x 0) (ValueKit.rect_emb_unit_val _ _ inb_S512x512_S128x128_128_128 x 1) fun r s => ld3 W 1 _ r s),
    fun x => (tile01 _ _ x).trans (place _ W 0 1 x _ (ValueKit.rect_emb_unit_val _ _ inb_S512x512_S128x128_0_128 x 0) (ValueKit.rect_emb_unit_val _ _ inb_S512x512_S128x128_0_128 x 1) fun r s => ld3 W 1 _ r s),
    fun x => (tile30 _ _ x).trans (place _ W 3 0 x _ (ValueKit.rect_emb_unit_val _ _ inb_S512x512_S128x128_384_0 x 0) (ValueKit.rect_emb_unit_val _ _ inb_S512x512_S128x128_384_0 x 1) fun r s => ld3 W 0 _ r s),
    fun x => (tile20 _ _ x).trans (place _ W 2 0 x _ (ValueKit.rect_emb_unit_val _ _ inb_S512x512_S128x128_256_0 x 0) (ValueKit.rect_emb_unit_val _ _ inb_S512x512_S128x128_256_0 x 1) fun r s => ld3 W 0 _ r s),
    fun x => (tile10 _ _ x).trans (place _ W 1 0 x _ (ValueKit.rect_emb_unit_val _ _ inb_S512x512_S128x128_128_0 x 0) (ValueKit.rect_emb_unit_val _ _ inb_S512x512_S128x128_128_0 x 1) fun r s => ld3 W 0 _ r s),
    fun x => (tile00 d u v _ x).trans (place _ W 0 0 x _ (ValueKit.rect_emb_unit_val _ _ inb_S512x512_S128x128_0_0 x 0) (ValueKit.rect_emb_unit_val _ _ inb_S512x512_S128x128_0_0 x 1) fun r s => ld3 W 0 _ r s), trivial⟩
  exact View.canon_apply_of_pieces (S := S512x512) (Val := Elt Ideal) (e := .f32) (fun y => Mixed (k0_pay24 d u v) W y) _ h.mem y
    (View.cover_of_tiled (tiles d u v W) ![128, 128] rfl y)

theorem scratch_read (d : FVec Ideal S512x512 .f32) (u v : FVec Ideal S512x1024 .f32) (W : Vec Ideal S4x128x128 .f32) :
    (View.whole cc0_scratch0).readCov (Val := Elt Ideal) (tiles d u v W)
      (Rect.unit (s := S512x512) ![0, 0] S512x512.size inb_S512x512_S512x512_0_0).toLoadRect = fun y : S512x512.Idx => Mixed (k0_pay24 d u v) W y := by
  rw [View.readCov_eq_canon']
  funext y
  refine (scratch_at d u v W _).trans (congrArg _ (funext fun a => Fin.ext ((Rect.idx_unit_val _ _ _ y a).trans ?_)))
  match a with
  | 0 => exact Nat.zero_add _
  | 1 => exact Nat.zero_add _

variable (m : (ℓ : Loc nD τ sig) → Buf (Elt Ideal) ℓ)

/-- The two halves of the cotangent's block. -/
abbrev dcB (c : Dev nD) (t : Fin cfg0.N) : Vec Ideal S512x512 .f32 :=
  View.ld (iblk m c 0 t) (Rect.unit (s := S512x1024) ![0, 0] S512x512.size inb_S512x1024_S512x512_0_0)
abbrev ddB (c : Dev nD) (t : Fin cfg0.N) : Vec Ideal S512x512 .f32 :=
  View.ld (iblk m c 0 t) (Rect.unit (s := S512x1024) ![0, 512] S512x512.size inb_S512x1024_S512x512_0_512)

theorem dc_blk (c : Dev nD) (t : Fin cfg0.N) (y : S512x512.Idx) : dcB m c t y = el (V m c main_arg0) (row t (y 0)) (lo (y 1)) :=
  (View.ld_unit_apply_of (iblk m c 0 t) _ _ _ y (ix2 (y 0) (lo (y 1))) fun a => match a with
    | 0 => (Nat.zero_add _).symm
    | 1 => (Nat.zero_add _).symm).trans (blk0 m c t _)
theorem dd_blk (c : Dev nD) (t : Fin cfg0.N) (y : S512x512.Idx) : ddB m c t y = el (V m c main_arg0) (row t (y 0)) (hi (y 1)) :=
  (View.ld_unit_apply_of (iblk m c 0 t) _ _ _ y (ix2 (y 0) (hi (y 1))) fun a => match a with
    | 0 => (Nat.zero_add _).symm
    | 1 => rfl).trans (blk0 m c t _)

theorem ds_blk (c : Dev nD) (t : Fin cfg0.N) (y : S512x512.Idx) :
    k0_pay23 (ddB m c t) (k0_pay21 (iblk m c 1 t)) (k0_pay22 (iblk m c 1 t)) y = ds m c (row t (y 0)) (y 1) := by
  have e : ∀ a x : EReal, a * (half * x * (one + Ideal.tanh (C * (x + K1 * x * x * x))))
    = a * gelu x := fun a x => rfl
  refine Eq.trans ?_ (e _ _)
  pointwise [k0_pay23, k0_pay21, k0_pay22]
  simp only [blk1, dd_blk, ix2_0, ix2_1]
  rfl

theorem vn_blk (c : Dev nD) (t : Fin cfg0.N) (y : S512x512.Idx) :
    (k0_pay26 (iblk m c 4 t) (iblk m c 9 t) (iblk m c 10 t) y : EReal) = vn m c (row t (y 0)) (y 1) := by
  pointwise [k0_pay26, k0_pay25, vn, VN]
  simp only [blk4, blk9, blk10, ix2_0, ix2_1]
  rfl

theorem dlnc_blk (c : Dev nD) (t : Fin cfg0.N) (y : S512x512.Idx) :
    k0_pay11 (dcB m c t) (iblk m c 2 t) (iblk m c 7 t) (iblk m c 8 t) y = dc m c (row t (y 0)) (y 1) := by
  pointwise [k0_pay11, k0_pay10, dc, DC]
  simp only [blk2, blk7, blk8, dc_blk, ix2_0, ix2_1]
  have e : ∀ a l : EReal, a * Ideal.div 1 (1 + Ideal.exp (0 - l)) * (1 + l * (1 - Ideal.div 1 (1 + Ideal.exp (0 - l))))
      = a * sigmoid l * (1 + l * (1 - sigmoid l)) := fun a l => by
    rw [zero_sub, sigmoid, ofBits_one, EReal.coe_one]
  exact e _ _

/-- The gradient of the convolution's norm, over one block of rows. -/
theorem dy_blk (c : Dev nD) (t : Fin cfg0.N) (y : S512x512.Idx) :
    k0_pay16 (k0_pay10 (iblk m c 2 t)) (k0_pay12 (iblk m c 3 t)) (k0_pay13 (dcB m c t) (iblk m c 2 t) (iblk m c 7 t) (iblk m c 8 t) (iblk m c 7 t))
      (k0_pay14 (dcB m c t) (iblk m c 2 t) (iblk m c 7 t) (iblk m c 8 t) (iblk m c 7 t))
      (k0_pay15 (dcB m c t) (iblk m c 2 t) (iblk m c 7 t) (iblk m c 8 t) (iblk m c 7 t)) y = dy m c (row t (y 0)) (y 1) := by
  pointwise [k0_pay16, k0_pay10, k0_pay12, k0_pay13, k0_pay14, k0_pay15, dy, DY, back]
  simp only [blk2, blk3, blk7, dlnc_blk, ix2_0, ix2_1]
  rfl

/-- The scratch array after its stores holds the block's rows' cotangent before mixing. -/
theorem mixed_blk (c : Dev nD) (t : Fin cfg0.N) (y : S512x512.Idx) :
    Mixed (k0_pay24 (ddB m c t) (k0_pay21 (iblk m c 1 t)) (k0_pay22 (iblk m c 1 t))) (iblk m c 11 t) y = dn m c (row t (y 0)) (y 1) := by
  have h0 : (y 0).val < 512 := (y 0).isLt
  have e (k : Fin 128) : row t (cr (grp (y 0)) k) = mate (n := 16) (row t (y 0)) k := Fin.ext (by
    show t.val * 512 + ((y 0).val / 128 * 128 + k.val) = (t.val * 512 + (y 0).val) / 128 * 128 + k.val; omega)
  have e' : pos (y 0).val = pos (row t (y 0)).val := Fin.ext (by
    show (y 0).val % 128 = (t.val * 512 + (y 0).val) % 128; omega)
  have w (g : Fin 4) (k s : Fin 128) : WM (iblk m c 11 t) g k s = WM (V m c main_arg7) g k s :=
    congrArg (fun z : EReal => if s ≤ k then z else 0) (blk11 m c t (ix3 g k s))
  have d (k : Fin 128) : (k0_pay24 (ddB m c t) (k0_pay21 (iblk m c 1 t)) (k0_pay22 (iblk m c 1 t)) (ix2 (cr (grp (y 0)) k) (y 1)) : EReal)
      = ds m c (mate (n := 16) (row t (y 0)) k) (y 1) := (ds_blk m c t _).trans (congrArg (fun i => ds m c i (y 1)) (e k))
  exact Fin.sum_fin_congr fun k => congrArg₂ (fun a b : EReal => a * b) ((w _ _ _).trans (congrArg _ e')) (d k)

def scr (c : Dev nD) (t : Fin cfg0.N) : Vec Ideal S512x512 .f32 := fun y => dn m c (row t (y 0)) (y 1)

theorem dv_blk (c : Dev nD) (t : Fin cfg0.N) (y : S512x512.Idx) :
    k0_pay90 (k0_pay25 (iblk m c 4 t)) (scr m c t) (iblk m c 5 t) (iblk m c 9 t) y = dv m c (row t (y 0)) (y 1) := by
  pointwise [k0_pay90, k0_pay25, dv, DV, back, scr]
  simp only [blk4, blk5, blk9, ix2_0, ix2_1]
  rfl

theorem dzlo_blk (c : Dev nD) (t : Fin cfg0.N) (y : S512x512.Idx) :
    (k0_pay96 (ddB m c t) (iblk m c 1 t) (iblk m c 6 t) y : EReal)
      = el (V m c main_arg0) (row t (y 0)) (hi (y 1)) * el (V m c main_v70) (row t (y 0)) (y 1) * dgelu (z m c (row t (y 0)) (lo (y 1))) := by
  pointwise [k0_pay96, k0_pay95, dgelu, T]
  simp only [blk1, blk6, dd_blk, ix2_0, ix2_1]
  rfl
theorem dzhi_blk (c : Dev nD) (t : Fin cfg0.N) (X : FVec Ideal S512x512 .f32) (y : S512x512.Idx) :
    (k0_pay97 (iblk m c 1 t) X y : EReal) = X y * dgelu (z m c (row t (y 0)) (hi (y 1))) := by
  pointwise [k0_pay97, k0_pay95, dgelu, T]
  simp only [blk1, ix2_0, ix2_1]
  rfl

/-- The terms of the four sums over rows. -/
def tCg (c : Dev nD) (j : S1x512.Idx) (i : Fin 2048) : EReal := dc m c i (j 1) * el (V m c main_v17) i (j 1)
def tCb (c : Dev nD) (j : S1x512.Idx) (i : Fin 2048) : EReal := dc m c i (j 1)
def tVg (c : Dev nD) (j : S1x512.Idx) (i : Fin 2048) : EReal := dn m c i (j 1) * el (V m c main_v88) i (j 1)
def tVb (c : Dev nD) (j : S1x512.Idx) (i : Fin 2048) : EReal := dn m c i (j 1)
/-- A sum over the rows of one block. -/
def part {s : Shape} (f : s.Idx → Fin 2048 → EReal) (t : Fin cfg0.N) (j : s.Idx) : EReal := ∑ k : Fin 512, f j (row t k)

abbrev dcP (c : Dev nD) (t : Fin cfg0.N) : FVec Ideal S512x512 .f32 := k0_pay11 (dcB m c t) (iblk m c 2 t) (iblk m c 7 t) (iblk m c 8 t)

theorem sumCg (c : Dev nD) (t : Fin cfg0.N) (y : S1x512.Idx) : k0_pay17 (k0_pay10 (iblk m c 2 t)) (dcP m c t) y = part (tCg m c) t y := by
  pointwise [k0_pay17, k0_pay10, part, tCg]
  simp only [blk2, dcP, dlnc_blk, ix2_0, ix2_1]
  rfl
theorem sumCb (c : Dev nD) (t : Fin cfg0.N) (y : S1x512.Idx) : k0_pay19 (dcP m c t) y = part (tCb m c) t y := by
  pointwise [k0_pay19, part, tCb]
  simp only [dcP, dlnc_blk, ix2_0, ix2_1]
  rfl
theorem sumVg (c : Dev nD) (t : Fin cfg0.N) (y : S1x512.Idx) : k0_pay91 (k0_pay25 (iblk m c 4 t)) (scr m c t) y = part (tVg m c) t y := by
  pointwise [k0_pay91, k0_pay25, part, tVg, scr]
  simp only [blk4, ix2_0, ix2_1]
  rfl
theorem sumVb (c : Dev nD) (t : Fin cfg0.N) (y : S1x512.Idx) : k0_pay93 (scr m c t) y = part (tVb m c) t y := by
  pointwise [k0_pay93, part, tVb, scr]

/-- One block's share of the weights' and of the bias's gradient. -/
def pW (c : Dev nD) (t : Fin cfg0.N) (y : S4x128x128.Idx) : EReal :=
  ∑ p : Fin 4, ∑ d : Fin 128, ds m c (row t (cr p (y 1))) (cr (y 0) d) * vn m c (row t (cr p (y 2))) (cr (y 0) d)
def pB (c : Dev nD) (t : Fin cfg0.N) (y : S4x128x128.Idx) : EReal := ∑ p : Fin 4, ds m c (row t (cr p (y 1))) (cr (y 0) (y 2))

theorem pW_blk (c : Dev nD) (t : Fin cfg0.N) (g : Fin 4) (r s : Fin 128) :
    PW (k0_pay24 (ddB m c t) (k0_pay21 (iblk m c 1 t)) (k0_pay22 (iblk m c 1 t))) (k0_pay26 (iblk m c 4 t) (iblk m c 9 t) (iblk m c 10 t)) g r s
      = pW m c t (ix3 g r s) :=
  Fin.sum_fin_congr fun _ => Fin.sum_fin_congr fun _ => congrArg₂ (fun a b : EReal => a * b) (ds_blk m c t _) (vn_blk m c t _)
theorem pB_blk (c : Dev nD) (t : Fin cfg0.N) (g : Fin 4) (r s : Fin 128) :
    PB (k0_pay23 (ddB m c t) (k0_pay21 (iblk m c 1 t)) (k0_pay22 (iblk m c 1 t))) g r s = pB m c t (ix3 g r s) :=
  Fin.sum_fin_congr fun _ => ds_blk m c t _

end Cert.Gates

end
-- ==== Proof.GatesStores.lean ====
/- The stores into the two four group results at one grid point, read back. -/
module

public import proofs.«01_k».proof.Proof.GatesPoint

@[expose] public section

set_option maxRecDepth 16384

noncomputable section

namespace Cert.Gates

open Cert.KernelGatesIdeal Cert.KernelGatesIdeal.Gen Idealize.ShloMosaic Idealize.ShloMosaic.TcCoe Idealize.SL.Sem

/-- A store into one of four groups. -/
abbrev Store := View.Piece (Elt Ideal) S4x128x128 .f32

theorem hit3 (k : ℕ) (inb) (w : S1x128x128.Idx → EReal) (L : List Store) (g : Fin 4) (r s : Fin 128) (h : g.val = k) :
    View.canon ((⟨Rect.unit (s := S4x128x128) ![k, 0, 0] ![1, 128, 128] inb, w⟩ : Store) :: L) (ix3 g r s) = w (ix3 0 r s) :=
  Canon.hit (s := S4x128x128) (Val := Elt Ideal) (e := .f32) _ _ _ w L _ (ix3 0 r s) fun a => match a with
    | 0 => h
    | 1 => (Nat.zero_add _).symm
    | 2 => (Nat.zero_add _).symm
theorem miss3 (k : ℕ) (inb) (w : S1x128x128.Idx → EReal) (L : List Store) (g : Fin 4) (r s : Fin 128) (h : g.val ≠ k) :
    View.canon ((⟨Rect.unit (s := S4x128x128) ![k, 0, 0] ![1, 128, 128] inb, w⟩ : Store) :: L) (ix3 g r s) = View.canon L (ix3 g r s) :=
  Canon.miss (s := S4x128x128) (Val := Elt Ideal) (e := .f32) _ _ _ w L _ 0 (by show g.val < k ∨ k + 1 ≤ g.val; omega)

/-- The last grid point's mask and row sums. -/
theorem mask_at (x : Vec Ideal S1x128x128 .f32) (r s : Fin 128) : k0_pay2 x (ix3 0 r s) = if s ≤ r then x (ix3 0 r s) else 0 := by
  refine Eq.trans ?_ (low _ _ _ _)
  pointwise [k0_pay2]
theorem rowsum_at (x : Vec Ideal S1x128x128 .f32) (r s : Fin 128) : k0_pay3 x (ix3 0 r s) = ∑ k : Fin 128, x (ix3 0 r k) := by
  pointwise [k0_pay3]

section
variable (d : FVec Ideal S512x512 .f32) (u v : FVec Ideal S512x1024 .f32) (f : FVec Ideal S512x512 .f32) (q b : FVec Ideal S1x512 .f32) (E : FVec Ideal S512x512 .f32)
  (W : S4x128x128.Idx → EReal) (L : List Store) (r s : Fin 128)

/-- The sixteen stores of a point into the weights' gradient and into the bias's, last first. -/
def storesW : List Store :=
  ⟨Rect.unit (s := S4x128x128) ![3, 0, 0] S1x128x128.size inb_S4x128x128_S1x128x128_3_0_0, k0_pay87 (k0_pay24 d u v) (k0_pay26 f q b) (k0_pay83 (k0_pay24 d u v) (k0_pay26 f q b) (k0_pay80 (k0_pay24 d u v) (k0_pay26 f q b) (k0_pay77 (k0_pay24 d u v) (k0_pay26 f q b) (View.ld W (Rect.unit (s := S4x128x128) ![3, 0, 0] S1x128x128.size inb_S4x128x128_S1x128x128_3_0_0)))))⟩ ::
  ⟨Rect.unit (s := S4x128x128) ![3, 0, 0] S1x128x128.size inb_S4x128x128_S1x128x128_3_0_0, k0_pay83 (k0_pay24 d u v) (k0_pay26 f q b) (k0_pay80 (k0_pay24 d u v) (k0_pay26 f q b) (k0_pay77 (k0_pay24 d u v) (k0_pay26 f q b) (View.ld W (Rect.unit (s := S4x128x128) ![3, 0, 0] S1x128x128.size inb_S4x128x128_S1x128x128_3_0_0))))⟩ ::
  ⟨Rect.unit (s := S4x128x128) ![3, 0, 0] S1x128x128.size inb_S4x128x128_S1x128x128_3_0_0, k0_pay80 (k0_pay24 d u v) (k0_pay26 f q b) (k0_pay77 (k0_pay24 d u v) (k0_pay26 f q b) (View.ld W (Rect.unit (s := S4x128x128) ![3, 0, 0] S1x128x128.size inb_S4x128x128_S1x128x128_3_0_0)))⟩ ::
  ⟨Rect.unit (s := S4x128x128) ![3, 0, 0] S1x128x128.size inb_S4x128x128_S1x128x128_3_0_0, k0_pay77 (k0_pay24 d u v) (k0_pay26 f q b) (View.ld W (Rect.unit (s := S4x128x128) ![3, 0, 0] S1x128x128.size inb_S4x128x128_S1x128x128_3_0_0))⟩ ::
  ⟨Rect.unit (s := S4x128x128) ![2, 0, 0] S1x128x128.size inb_S4x128x128_S1x128x128_2_0_0, k0_pay72 (k0_pay24 d u v) (k0_pay26 f q b) (k0_pay69 (k0_pay68 (k0_pay24 d u v) (k0_pay26 f q b) (k0_pay65 (k0_pay24 d u v) (k0_pay26 f q b) (k0_pay61 (k0_pay24 d u v) (k0_pay26 f q b) (View.ld W (Rect.unit (s := S4x128x128) ![2, 0, 0] S1x128x128.size inb_S4x128x128_S1x128x128_2_0_0))))))⟩ ::
  ⟨Rect.unit (s := S4x128x128) ![2, 0, 0] S1x128x128.size inb_S4x128x128_S1x128x128_2_0_0, k0_pay69 (k0_pay68 (k0_pay24 d u v) (k0_pay26 f q b) (k0_pay65 (k0_pay24 d u v) (k0_pay26 f q b) (k0_pay61 (k0_pay24 d u v) (k0_pay26 f q b) (View.ld W (Rect.unit (s := S4x128x128) ![2, 0, 0] S1x128x128.size inb_S4x128x128_S1x128x128_2_0_0)))))⟩ ::
  ⟨Rect.unit (s := S4x128x128) ![2, 0, 0] S1x128x128.size inb_S4x128x128_S1x128x128_2_0_0, k0_pay65 (k0_pay24 d u v) (k0_pay26 f q b) (k0_pay61 (k0_pay24 d u v) (k0_pay26 f q b) (View.ld W (Rect.unit (s := S4x128x128) ![2, 0, 0] S1x128x128.size inb_S4x128x128_S1x128x128_2_0_0)))⟩ ::
  ⟨Rect.unit (s := S4x128x128) ![2, 0, 0] S1x128x128.size inb_S4x128x128_S1x128x128_2_0_0, k0_pay61 (k0_pay24 d u v) (k0_pay26 f q b) (View.ld W (Rect.unit (s := S4x128x128) ![2, 0, 0] S1x128x128.size inb_S4x128x128_S1x128x128_2_0_0))⟩ ::
  ⟨Rect.unit (s := S4x128x128) ![1, 0, 0] S1x128x128.size inb_S4x128x128_S1x128x128_1_0_0, k0_pay57 (k0_pay24 d u v) (k0_pay26 f q b) (k0_pay54 (k0_pay26 f q b) (k0_pay52 (k0_pay49 (k0_pay24 d u v) (k0_pay26 f q b) (k0_pay46 (k0_pay24 d u v) (k0_pay26 f q b) (View.ld W (Rect.unit (s := S4x128x128) ![1, 0, 0] S1x128x128.size inb_S4x128x128_S1x128x128_1_0_0))))) (k0_pay53 (k0_pay24 d u v)))⟩ ::
  ⟨Rect.unit (s := S4x128x128) ![1, 0, 0] S1x128x128.size inb_S4x128x128_S1x128x128_1_0_0, k0_pay54 (k0_pay26 f q b) (k0_pay52 (k0_pay49 (k0_pay24 d u v) (k0_pay26 f q b) (k0_pay46 (k0_pay24 d u v) (k0_pay26 f q b) (View.ld W (Rect.unit (s := S4x128x128) ![1, 0, 0] S1x128x128.size inb_S4x128x128_S1x128x128_1_0_0))))) (k0_pay53 (k0_pay24 d u v))⟩ ::
  ⟨Rect.unit (s := S4x128x128) ![1, 0, 0] S1x128x128.size inb_S4x128x128_S1x128x128_1_0_0, k0_pay49 (k0_pay24 d u v) (k0_pay26 f q b) (k0_pay46 (k0_pay24 d u v) (k0_pay26 f q b) (View.ld W (Rect.unit (s := S4x128x128) ![1, 0, 0] S1x128x128.size inb_S4x128x128_S1x128x128_1_0_0)))⟩ ::
  ⟨Rect.unit (s := S4x128x128) ![1, 0, 0] S1x128x128.size inb_S4x128x128_S1x128x128_1_0_0, k0_pay46 (k0_pay24 d u v) (k0_pay26 f q b) (View.ld W (Rect.unit (s := S4x128x128) ![1, 0, 0] S1x128x128.size inb_S4x128x128_S1x128x128_1_0_0))⟩ ::
  ⟨Rect.unit (s := S4x128x128) ![0, 0, 0] S1x128x128.size inb_S4x128x128_S1x128x128_0_0_0, k0_pay41 (k0_pay24 d u v) (k0_pay26 f q b) (k0_pay38 (k0_pay24 d u v) (k0_pay26 f q b) (k0_pay34 (k0_pay24 d u v) (k0_pay26 f q b) (k0_pay30 d u v f q b (View.ld W (Rect.unit (s := S4x128x128) ![0, 0, 0] S1x128x128.size inb_S4x128x128_S1x128x128_0_0_0)))))⟩ ::
  ⟨Rect.unit (s := S4x128x128) ![0, 0, 0] S1x128x128.size inb_S4x128x128_S1x128x128_0_0_0, k0_pay38 (k0_pay24 d u v) (k0_pay26 f q b) (k0_pay34 (k0_pay24 d u v) (k0_pay26 f q b) (k0_pay30 d u v f q b (View.ld W (Rect.unit (s := S4x128x128) ![0, 0, 0] S1x128x128.size inb_S4x128x128_S1x128x128_0_0_0))))⟩ ::
  ⟨Rect.unit (s := S4x128x128) ![0, 0, 0] S1x128x128.size inb_S4x128x128_S1x128x128_0_0_0, k0_pay34 (k0_pay24 d u v) (k0_pay26 f q b) (k0_pay30 d u v f q b (View.ld W (Rect.unit (s := S4x128x128) ![0, 0, 0] S1x128x128.size inb_S4x128x128_S1x128x128_0_0_0)))⟩ ::
  ⟨Rect.unit (s := S4x128x128) ![0, 0, 0] S1x128x128.size inb_S4x128x128_S1x128x128_0_0_0, k0_pay30 d u v f q b (View.ld W (Rect.unit (s := S4x128x128) ![0, 0, 0] S1x128x128.size inb_S4x128x128_S1x128x128_0_0_0))⟩ :: L
def storesB : List Store :=
  ⟨Rect.unit (s := S4x128x128) ![3, 0, 0] S1x128x128.size inb_S4x128x128_S1x128x128_3_0_0, k0_pay89 E (k0_pay86 E (k0_pay82 E (k0_pay79 E (View.ld W (Rect.unit (s := S4x128x128) ![3, 0, 0] S1x128x128.size inb_S4x128x128_S1x128x128_3_0_0)))))⟩ ::
  ⟨Rect.unit (s := S4x128x128) ![3, 0, 0] S1x128x128.size inb_S4x128x128_S1x128x128_3_0_0, k0_pay86 E (k0_pay82 E (k0_pay79 E (View.ld W (Rect.unit (s := S4x128x128) ![3, 0, 0] S1x128x128.size inb_S4x128x128_S1x128x128_3_0_0))))⟩ ::
  ⟨Rect.unit (s := S4x128x128) ![3, 0, 0] S1x128x128.size inb_S4x128x128_S1x128x128_3_0_0, k0_pay82 E (k0_pay79 E (View.ld W (Rect.unit (s := S4x128x128) ![3, 0, 0] S1x128x128.size inb_S4x128x128_S1x128x128_3_0_0)))⟩ ::
  ⟨Rect.unit (s := S4x128x128) ![3, 0, 0] S1x128x128.size inb_S4x128x128_S1x128x128_3_0_0, k0_pay79 E (View.ld W (Rect.unit (s := S4x128x128) ![3, 0, 0] S1x128x128.size inb_S4x128x128_S1x128x128_3_0_0))⟩ ::
  ⟨Rect.unit (s := S4x128x128) ![2, 0, 0] S1x128x128.size inb_S4x128x128_S1x128x128_2_0_0, k0_pay75 (k0_pay74 E (k0_pay71 E (k0_pay67 E (k0_pay64 (k0_pay63 E (View.ld W (Rect.unit (s := S4x128x128) ![2, 0, 0] S1x128x128.size inb_S4x128x128_S1x128x128_2_0_0)))))))⟩ ::
  ⟨Rect.unit (s := S4x128x128) ![2, 0, 0] S1x128x128.size inb_S4x128x128_S1x128x128_2_0_0, k0_pay71 E (k0_pay67 E (k0_pay64 (k0_pay63 E (View.ld W (Rect.unit (s := S4x128x128) ![2, 0, 0] S1x128x128.size inb_S4x128x128_S1x128x128_2_0_0)))))⟩ ::
  ⟨Rect.unit (s := S4x128x128) ![2, 0, 0] S1x128x128.size inb_S4x128x128_S1x128x128_2_0_0, k0_pay67 E (k0_pay64 (k0_pay63 E (View.ld W (Rect.unit (s := S4x128x128) ![2, 0, 0] S1x128x128.size inb_S4x128x128_S1x128x128_2_0_0))))⟩ ::
  ⟨Rect.unit (s := S4x128x128) ![2, 0, 0] S1x128x128.size inb_S4x128x128_S1x128x128_2_0_0, k0_pay64 (k0_pay63 E (View.ld W (Rect.unit (s := S4x128x128) ![2, 0, 0] S1x128x128.size inb_S4x128x128_S1x128x128_2_0_0)))⟩ ::
  ⟨Rect.unit (s := S4x128x128) ![1, 0, 0] S1x128x128.size inb_S4x128x128_S1x128x128_1_0_0, k0_pay59 E (k0_pay56 E (k0_pay51 E (k0_pay48 E (View.ld W (Rect.unit (s := S4x128x128) ![1, 0, 0] S1x128x128.size inb_S4x128x128_S1x128x128_1_0_0)))))⟩ ::
  ⟨Rect.unit (s := S4x128x128) ![1, 0, 0] S1x128x128.size inb_S4x128x128_S1x128x128_1_0_0, k0_pay56 E (k0_pay51 E (k0_pay48 E (View.ld W (Rect.unit (s := S4x128x128) ![1, 0, 0] S1x128x128.size inb_S4x128x128_S1x128x128_1_0_0))))⟩ ::
  ⟨Rect.unit (s := S4x128x128) ![1, 0, 0] S1x128x128.size inb_S4x128x128_S1x128x128_1_0_0, k0_pay51 E (k0_pay48 E (View.ld W (Rect.unit (s := S4x128x128) ![1, 0, 0] S1x128x128.size inb_S4x128x128_S1x128x128_1_0_0)))⟩ ::
  ⟨Rect.unit (s := S4x128x128) ![1, 0, 0] S1x128x128.size inb_S4x128x128_S1x128x128_1_0_0, k0_pay48 E (View.ld W (Rect.unit (s := S4x128x128) ![1, 0, 0] S1x128x128.size inb_S4x128x128_S1x128x128_1_0_0))⟩ ::
  ⟨Rect.unit (s := S4x128x128) ![0, 0, 0] S1x128x128.size inb_S4x128x128_S1x128x128_0_0_0, k0_pay44 E (k0_pay40 E (k0_pay37 (k0_pay36 E (k0_pay33 E (View.ld W (Rect.unit (s := S4x128x128) ![0, 0, 0] S1x128x128.size inb_S4x128x128_S1x128x128_0_0_0))))))⟩ ::
  ⟨Rect.unit (s := S4x128x128) ![0, 0, 0] S1x128x128.size inb_S4x128x128_S1x128x128_0_0_0, k0_pay40 E (k0_pay37 (k0_pay36 E (k0_pay33 E (View.ld W (Rect.unit (s := S4x128x128) ![0, 0, 0] S1x128x128.size inb_S4x128x128_S1x128x128_0_0_0)))))⟩ ::
  ⟨Rect.unit (s := S4x128x128) ![0, 0, 0] S1x128x128.size inb_S4x128x128_S1x128x128_0_0_0, k0_pay37 (k0_pay36 E (k0_pay33 E (View.ld W (Rect.unit (s := S4x128x128) ![0, 0, 0] S1x128x128.size inb_S4x128x128_S1x128x128_0_0_0))))⟩ ::
  ⟨Rect.unit (s := S4x128x128) ![0, 0, 0] S1x128x128.size inb_S4x128x128_S1x128x128_0_0_0, k0_pay33 E (View.ld W (Rect.unit (s := S4x128x128) ![0, 0, 0] S1x128x128.size inb_S4x128x128_S1x128x128_0_0_0))⟩ :: L
/-- What the last point stores after them. -/
def masked : List Store :=
  ⟨Rect.unit (s := S4x128x128) ![3, 0, 0] S1x128x128.size inb_S4x128x128_S1x128x128_3_0_0, k0_pay2 (k0_pay87 (k0_pay24 d u v) (k0_pay26 f q b) (k0_pay83 (k0_pay24 d u v) (k0_pay26 f q b) (k0_pay80 (k0_pay24 d u v) (k0_pay26 f q b) (k0_pay77 (k0_pay24 d u v) (k0_pay26 f q b) (View.ld W (Rect.unit (s := S4x128x128) ![3, 0, 0] S1x128x128.size inb_S4x128x128_S1x128x128_3_0_0))))))⟩ :: ⟨Rect.unit (s := S4x128x128) ![2, 0, 0] S1x128x128.size inb_S4x128x128_S1x128x128_2_0_0, k0_pay2 (k0_pay72 (k0_pay24 d u v) (k0_pay26 f q b) (k0_pay69 (k0_pay68 (k0_pay24 d u v) (k0_pay26 f q b) (k0_pay65 (k0_pay24 d u v) (k0_pay26 f q b) (k0_pay61 (k0_pay24 d u v) (k0_pay26 f q b) (View.ld W (Rect.unit (s := S4x128x128) ![2, 0, 0] S1x128x128.size inb_S4x128x128_S1x128x128_2_0_0)))))))⟩ :: ⟨Rect.unit (s := S4x128x128) ![1, 0, 0] S1x128x128.size inb_S4x128x128_S1x128x128_1_0_0, k0_pay2 (k0_pay57 (k0_pay24 d u v) (k0_pay26 f q b) (k0_pay54 (k0_pay26 f q b) (k0_pay52 (k0_pay49 (k0_pay24 d u v) (k0_pay26 f q b) (k0_pay46 (k0_pay24 d u v) (k0_pay26 f q b) (View.ld W (Rect.unit (s := S4x128x128) ![1, 0, 0] S1x128x128.size inb_S4x128x128_S1x128x128_1_0_0))))) (k0_pay53 (k0_pay24 d u v))))⟩ :: ⟨Rect.unit (s := S4x128x128) ![0, 0, 0] S1x128x128.size inb_S4x128x128_S1x128x128_0_0_0, k0_pay2 (k0_pay41 (k0_pay24 d u v) (k0_pay26 f q b) (k0_pay38 (k0_pay24 d u v) (k0_pay26 f q b) (k0_pay34 (k0_pay24 d u v) (k0_pay26 f q b) (k0_pay30 d u v f q b (View.ld W (Rect.unit (s := S4x128x128) ![0, 0, 0] S1x128x128.size inb_S4x128x128_S1x128x128_0_0_0))))))⟩ :: storesW d u v f q b W L
def summed : List Store :=
  ⟨Rect.unit (s := S4x128x128) ![3, 0, 0] S1x128x128.size inb_S4x128x128_S1x128x128_3_0_0, k0_pay3 (k0_pay89 E (k0_pay86 E (k0_pay82 E (k0_pay79 E (View.ld W (Rect.unit (s := S4x128x128) ![3, 0, 0] S1x128x128.size inb_S4x128x128_S1x128x128_3_0_0))))))⟩ :: ⟨Rect.unit (s := S4x128x128) ![2, 0, 0] S1x128x128.size inb_S4x128x128_S1x128x128_2_0_0, k0_pay3 (k0_pay75 (k0_pay74 E (k0_pay71 E (k0_pay67 E (k0_pay64 (k0_pay63 E (View.ld W (Rect.unit (s := S4x128x128) ![2, 0, 0] S1x128x128.size inb_S4x128x128_S1x128x128_2_0_0))))))))⟩ :: ⟨Rect.unit (s := S4x128x128) ![1, 0, 0] S1x128x128.size inb_S4x128x128_S1x128x128_1_0_0, k0_pay3 (k0_pay59 E (k0_pay56 E (k0_pay51 E (k0_pay48 E (View.ld W (Rect.unit (s := S4x128x128) ![1, 0, 0] S1x128x128.size inb_S4x128x128_S1x128x128_1_0_0))))))⟩ :: ⟨Rect.unit (s := S4x128x128) ![0, 0, 0] S1x128x128.size inb_S4x128x128_S1x128x128_0_0_0, k0_pay3 (k0_pay44 E (k0_pay40 E (k0_pay37 (k0_pay36 E (k0_pay33 E (View.ld W (Rect.unit (s := S4x128x128) ![0, 0, 0] S1x128x128.size inb_S4x128x128_S1x128x128_0_0_0)))))))⟩ :: storesB E W L

theorem storesW_at : ∀ g : Fin 4, View.canon (storesW d u v f q b W L) (ix3 g r s) = W (ix3 g r s) + PW (k0_pay24 d u v) (k0_pay26 f q b) g r s
  | 0 => by
    rw [storesW]; simp (disch := decide) only [hit3, miss3]
    exact (weights0 d u v f q b _ _).trans (congrArg (· + _) (ld3 (e := .f32) W 0 _ r s))
  | 1 => by
    rw [storesW]; simp (disch := decide) only [hit3, miss3]
    exact (weights1 _ _ _ _).trans (congrArg (· + _) (ld3 (e := .f32) W 1 _ r s))
  | 2 => by
    rw [storesW]; simp (disch := decide) only [hit3, miss3]
    exact (weights2 _ _ _ _).trans (congrArg (· + _) (ld3 (e := .f32) W 2 _ r s))
  | 3 => by
    rw [storesW]; simp (disch := decide) only [hit3, miss3]
    exact (weights3 _ _ _ _).trans (congrArg (· + _) (ld3 (e := .f32) W 3 _ r s))
theorem storesB_at : ∀ g : Fin 4, View.canon (storesB E W L) (ix3 g r s) = W (ix3 g r s) + PB E g r s
  | 0 => by
    rw [storesB]; simp (disch := decide) only [hit3, miss3]
    exact (bias0 _ _ _).trans (congrArg (· + _) (ld3 (e := .f32) W 0 _ r s))
  | 1 => by
    rw [storesB]; simp (disch := decide) only [hit3, miss3]
    exact (bias1 _ _ _).trans (congrArg (· + _) (ld3 (e := .f32) W 1 _ r s))
  | 2 => by
    rw [storesB]; simp (disch := decide) only [hit3, miss3]
    exact (bias2 _ _ _).trans (congrArg (· + _) (ld3 (e := .f32) W 2 _ r s))
  | 3 => by
    rw [storesB]; simp (disch := decide) only [hit3, miss3]
    exact (bias3 _ _ _).trans (congrArg (· + _) (ld3 (e := .f32) W 3 _ r s))
theorem masked_at : ∀ g : Fin 4, View.canon (masked d u v f q b W L) (ix3 g r s) = if s ≤ r then W (ix3 g r s) + PW (k0_pay24 d u v) (k0_pay26 f q b) g r s else 0
  | 0 => by
    rw [masked]; simp (disch := decide) only [hit3, miss3]
    exact (mask_at _ r s).trans (congrArg (fun z : EReal => if s ≤ r then z else 0)
      ((weights0 d u v f q b _ _).trans (congrArg (· + _) (ld3 (e := .f32) W 0 _ r s))))
  | 1 => by
    rw [masked]; simp (disch := decide) only [hit3, miss3]
    exact (mask_at _ r s).trans (congrArg (fun z : EReal => if s ≤ r then z else 0)
      ((weights1 _ _ _ _).trans (congrArg (· + _) (ld3 (e := .f32) W 1 _ r s))))
  | 2 => by
    rw [masked]; simp (disch := decide) only [hit3, miss3]
    exact (mask_at _ r s).trans (congrArg (fun z : EReal => if s ≤ r then z else 0)
      ((weights2 _ _ _ _).trans (congrArg (· + _) (ld3 (e := .f32) W 2 _ r s))))
  | 3 => by
    rw [masked]; simp (disch := decide) only [hit3, miss3]
    exact (mask_at _ r s).trans (congrArg (fun z : EReal => if s ≤ r then z else 0)
      ((weights3 _ _ _ _).trans (congrArg (· + _) (ld3 (e := .f32) W 3 _ r s))))
theorem summed_at : ∀ g : Fin 4, View.canon (summed E W L) (ix3 g r s) = ∑ k : Fin 128, (W (ix3 g r k) + PB E g r k)
  | 0 => by
    rw [summed]; simp (disch := decide) only [hit3, miss3]
    exact (rowsum_at _ r s).trans (Fin.sum_fin_congr fun k => (bias0 _ _ _).trans (congrArg (· + _) (ld3 (e := .f32) W 0 _ r k)))
  | 1 => by
    rw [summed]; simp (disch := decide) only [hit3, miss3]
    exact (rowsum_at _ r s).trans (Fin.sum_fin_congr fun k => (bias1 _ _ _).trans (congrArg (· + _) (ld3 (e := .f32) W 1 _ r k)))
  | 2 => by
    rw [summed]; simp (disch := decide) only [hit3, miss3]
    exact (rowsum_at _ r s).trans (Fin.sum_fin_congr fun k => (bias2 _ _ _).trans (congrArg (· + _) (ld3 (e := .f32) W 2 _ r k)))
  | 3 => by
    rw [summed]; simp (disch := decide) only [hit3, miss3]
    exact (rowsum_at _ r s).trans (Fin.sum_fin_congr fun k => (bias3 _ _ _).trans (congrArg (· + _) (ld3 (e := .f32) W 3 _ r k)))
end

end Cert.Gates

end
-- ==== Proof.GatesAcc.lean ====
/- What the backward call of the convolution's norm and swish and of the spatial gating leaves in its eight results. -/
module

public import proofs.«01_k».proof.Proof.GatesStores

@[expose] public section

set_option maxRecDepth 16384

noncomputable section

namespace Cert.Gates

open Cert.KernelGatesIdeal Cert.KernelGatesIdeal.Gen Idealize.ShloMosaic Idealize.ShloMosaic.TcCoe Idealize.SL.Sem Cert.LayerNorm
open Idealize.ShloMosaic.Pipeline (Dat)

variable (m : (ℓ : Loc nD τ sig) → Buf (Elt Ideal) ℓ)

/-- The gradient of the gate's preactivation. -/
def dzLo (c : Dev nD) (i : Fin 2048) (j : Fin 512) : EReal :=
  el (V m c main_arg0) i (hi j) * el (V m c main_v70) i j * dgelu (z m c i (lo j))
def dzHi (c : Dev nD) (i : Fin 2048) (j : Fin 512) : EReal := dv m c i j * dgelu (z m c i (hi j))
def dz (c : Dev nD) (i : Fin 2048) (j : Fin 1024) : EReal :=
  if h : j.val < 512 then dzLo m c i ⟨j.val, h⟩ else dzHi m c i ⟨j.val - 512, by omega⟩

/-- One grid point's results. -/
abbrev Outs := Vec Ideal S512x512 .f32 × Vec Ideal S512x1024 .bf16 × Vec Ideal S1x512 .f32 × Vec Ideal S1x512 .f32 × Vec Ideal S1x512 .f32
  × Vec Ideal S1x512 .f32 × Vec Ideal S4x128x128 .f32 × Vec Ideal S4x128x128 .f32

/-- What one grid point makes of the accumulators' contents before it. -/
structure Step (c : Dev nD) (t : Fin cfg0.N) (zCg zCb zVg zVb : S1x512.Idx → EReal) (zW zB : S4x128x128.Idx → EReal) (o : Outs) : Prop where
  dy : ∀ y, o.1 y = dy m c (row t (y 0)) (y 1)
  dz : ∀ y, (o.2.1 y : EReal) = dz m c (row t (y 0)) (y 1)
  cg : ∀ y, o.2.2.1 y = zCg y + part (tCg m c) t y
  cb : ∀ y, o.2.2.2.1 y = zCb y + part (tCb m c) t y
  vg : ∀ y, o.2.2.2.2.1 y = zVg y + part (tVg m c) t y
  vb : ∀ y, o.2.2.2.2.2.1 y = zVb y + part (tVb m c) t y
  w : ¬ t.val % 4 = 3 → ∀ g r s, o.2.2.2.2.2.2.1 (ix3 g r s) = zW (ix3 g r s) + pW m c t (ix3 g r s)
  b : ¬ t.val % 4 = 3 → ∀ g r s, o.2.2.2.2.2.2.2 (ix3 g r s) = zB (ix3 g r s) + pB m c t (ix3 g r s)
  wl : t.val % 4 = 3 → ∀ g r s, o.2.2.2.2.2.2.1 (ix3 g r s) = if s ≤ r then zW (ix3 g r s) + pW m c t (ix3 g r s) else 0
  bl : t.val % 4 = 3 → ∀ g r s, o.2.2.2.2.2.2.2 (ix3 g r s) = ∑ k : Fin 128, (zB (ix3 g r k) + pB m c t (ix3 g r k))

theorem dz_halves (c : Dev nD) (t : Fin cfg0.N) (X : FVec Ideal S512x512 .f32) (hX : X = scr m c t) (inb inb') (y : S512x1024.Idx) :
    (View.canon (Val := Elt Ideal) (s := S512x1024) (e := .bf16) [⟨Rect.unit (s := S512x1024) ![0, 512] S512x512.size inb,
      k0_pay97 (iblk m c 1 t) (k0_pay90 (k0_pay25 (iblk m c 4 t)) X (iblk m c 5 t) (iblk m c 9 t))⟩,
     ⟨Rect.unit (s := S512x1024) ![0, 0] S512x512.size inb', k0_pay96 (ddB m c t) (iblk m c 1 t) (iblk m c 6 t)⟩] y : EReal)
      = dz m c (row t (y 0)) (y 1) := by
  subst hX
  have hy : (y 1).val < 1024 := (y 1).isLt
  by_cases h : (y 1).val < 512
  · refine Eq.trans ?_ (dif_pos h).symm
    refine (Canon.miss (s := S512x1024) (Val := Elt Ideal) (e := .bf16) _ _ _ _ _ y 1 (Or.inl h)).trans ?_
    refine (Canon.hit (s := S512x1024) (Val := Elt Ideal) (e := .bf16) _ _ _ _ _ y (ix2 (y 0) ⟨(y 1).val, h⟩) fun a => match a with
      | 0 => (Nat.zero_add _).symm
      | 1 => (Nat.zero_add _).symm).trans ?_
    exact dzlo_blk m c t _
  · refine Eq.trans ?_ (dif_neg h).symm
    refine (Canon.hit (s := S512x1024) (Val := Elt Ideal) (e := .bf16) _ _ _ _ _ y (ix2 (y 0) ⟨(y 1).val - 512, by omega⟩) ?_).trans ?_
    · intro a
      match a with
      | 0 => exact (Nat.zero_add _).symm
      | 1 => show (y 1).val = 512 + ((y 1).val - 512); omega
    refine (dzhi_blk m c t _ _).trans ?_
    refine congrArg₂ (fun a b : EReal => a * b) (dv_blk m c t _) (congrArg (fun j => dgelu (z m c (row t (y 0)) j)) (Fin.ext ?_))
    rfl

abbrev Z0 (c : Dev nD) (t : Fin cfg0.N) := k0_pay21 (iblk m c 1 t)
abbrev Z1 (c : Dev nD) (t : Fin cfg0.N) := k0_pay22 (iblk m c 1 t)

theorem scr_eq (c : Dev nD) (t : Fin cfg0.N) :
    (View.whole cc0_scratch0).readCov (Val := Elt Ideal) (tiles (ddB m c t) (Z0 m c t) (Z1 m c t) (iblk m c 11 t))
      (Rect.unit (s := S512x512) ![0, 0] S512x512.size inb_S512x512_S512x512_0_0).toLoadRect = scr m c t :=
  (scratch_read _ _ _ _).trans (funext fun y => mixed_blk m c t y)

set_option maxHeartbeats 1600000 in
theorem step_A (c : Dev nD) (t : Fin cfg0.N) (h : t.val % 4 = 0) :
    Step m c t (fun _ => 0) (fun _ => 0) (fun _ => 0) (fun _ => 0) (fun _ => 0) (fun _ => 0) (outsAt0 m c t.val t.isLt) := by
  have h4 : t.val < 4 := t.isLt
  have hs := scr_eq m c t
  have vg : ∀ X : FVec Ideal S512x512 .f32, X = scr m c t → ∀ y, k0_pay91 (F := Ideal) (k0_pay25 (iblk m c 4 t)) X y = 0 + part (tVg m c) t y :=
    fun X hX y => by subst hX; exact (sumVg m c t y).trans (zero_add _).symm
  have vb : ∀ X : FVec Ideal S512x512 .f32, X = scr m c t → ∀ y, k0_pay93 (F := Ideal) X y = 0 + part (tVb m c) t y :=
    fun X hX y => by subst hX; exact (sumVb m c t y).trans (zero_add _).symm
  rw [outsAt0_A m c t h (by omega) h (by omega) h h (by omega) h (by omega) (by omega)]
  frame_open
  simp (disch := decide) only [↓ View.readCov_skip, ↓ View.readCov_cons_toLoadRect, ↓ View.readCov_fill]
  frame_out
  exact ⟨dy_blk m c t, dz_halves m c t _ hs _ _, fun y => (sumCg m c t y).trans (zero_add _).symm, fun y => (sumCb m c t y).trans (zero_add _).symm,
    vg _ hs, vb _ hs,
    fun _ g r s => (storesW_at (ddB m c t) (Z0 m c t) (Z1 m c t) (iblk m c 4 t) (iblk m c 9 t) (iblk m c 10 t) _ _ r s g).trans
      (congrArg₂ (fun a b : EReal => a + b) (by pointwise [k0_pay27]) (pW_blk m c t g r s)),
    fun _ g r s => (storesB_at _ _ _ r s g).trans (congrArg₂ (fun a b : EReal => a + b) (by pointwise [k0_pay28]) (pB_blk m c t g r s)),
    fun h => absurd h (by omega), fun h => absurd h (by omega)⟩

set_option maxHeartbeats 3200000 in
theorem step_B (c : Dev nD) (t : Fin cfg0.N) (h : ¬ t.val % 4 = 0) (o : Outs) (ho : outsAt0 m c (t.val - 1) (Nat.lt_of_le_of_lt (Nat.sub_le _ _) t.isLt) = o) :
    Step m c t o.2.2.1 o.2.2.2.1 o.2.2.2.2.1 o.2.2.2.2.2.1 o.2.2.2.2.2.2.1 o.2.2.2.2.2.2.2 (outsAt0 m c t.val t.isLt) := by
  have h4 : t.val < 4 := t.isLt
  have hs := scr_eq m c t
  have s1 : ∀ z y, k0_pay18 (k0_pay10 (iblk m c 2 t)) (dcP m c t) z y = z y + part (tCg m c) t y := fun z y => by
    rw [← sumCg]; pointwise [k0_pay18, k0_pay17]
  have s2 : ∀ z y, k0_pay20 (dcP m c t) z y = z y + part (tCb m c) t y := fun z y => by
    rw [← sumCb]; pointwise [k0_pay20, k0_pay19]
  have s3 : ∀ X : FVec Ideal S512x512 .f32, X = scr m c t → ∀ z y, k0_pay92 (F := Ideal) (k0_pay25 (iblk m c 4 t)) X z y = z y + part (tVg m c) t y := fun X hX z y => by
    subst hX; rw [← sumVg]; pointwise [k0_pay92, k0_pay91]
  have s4 : ∀ X : FVec Ideal S512x512 .f32, X = scr m c t → ∀ z y, k0_pay94 (F := Ideal) (k0_pay93 (F := Ideal) X) z y = z y + part (tVb m c) t y := fun X hX z y => by
    subst hX; rw [← sumVb]; pointwise [k0_pay94]
  by_cases h3 : t.val % 4 = 3
  · rw [outsAt0_C m c t h (by omega) h (by omega) h h (by omega) h (by omega) h3, ho]
    frame_open
    simp (disch := decide) only [↓ View.readCov_skip, ↓ View.readCov_cons_toLoadRect, ↓ View.readCov_fill]
    frame_out
    exact ⟨dy_blk m c t, dz_halves m c t _ hs _ _, s1 _, s2 _, s3 _ hs _, s4 _ hs _, fun h => absurd h3 h, fun h => absurd h3 h,
      fun _ g r s => (masked_at (ddB m c t) (Z0 m c t) (Z1 m c t) (iblk m c 4 t) (iblk m c 9 t) (iblk m c 10 t) _ [] r s g).trans
        (congrArg (fun z : EReal => if s ≤ r then _ + z else 0) (pW_blk m c t g r s)),
      fun _ g r s => (summed_at _ _ [] r s g).trans (Fin.sum_fin_congr fun k => congrArg (_ + ·) (pB_blk m c t g r k))⟩
  · rw [outsAt0_B m c t h (by omega) h (by omega) h h (by omega) h (by omega) h3, ho]
    frame_open
    simp (disch := decide) only [↓ View.readCov_skip, ↓ View.readCov_cons_toLoadRect, ↓ View.readCov_fill]
    frame_out
    exact ⟨dy_blk m c t, dz_halves m c t _ hs _ _, s1 _, s2 _, s3 _ hs _, s4 _ hs _,
      fun _ g r s => (storesW_at (ddB m c t) (Z0 m c t) (Z1 m c t) (iblk m c 4 t) (iblk m c 9 t) (iblk m c 10 t) _ [] r s g).trans
        (congrArg (_ + ·) (pW_blk m c t g r s)),
      fun _ g r s => (storesB_at _ _ [] r s g).trans (congrArg (_ + ·) (pB_blk m c t g r s)),
      fun h => absurd h h3, fun h => absurd h h3⟩

end Cert.Gates

end
-- ==== Proof.GatesMath.lean ====
/- The equations over finite numbers that join the chain rule's gradients of the gate's activation and of the swish to the closed forms. -/
module

public import proofs.«01_k».proof.Proof.GatesValue

@[expose] public section

noncomputable section

namespace Cert.Gates

open Idealize.ShloMosaic Cert.LayerNorm Cert.RealLift

theorem one_eq : one = ((1 : ℝ) : EReal) := ofBits_one
theorem half_real : IsReal half := ⟨_, by simp [half, Ideal.ofBits, Ideal.ieee, -EReal.coe_mul]; rfl⟩
theorem c_real : IsReal C := ⟨_, by simp [C, Ideal.ofBits, Ideal.ieee, -EReal.coe_mul]; rfl⟩
theorem k_real : IsReal K1 := ⟨_, by simp [K1, Ideal.ofBits, Ideal.ieee, -EReal.coe_mul]; rfl⟩
theorem three_real : IsReal three := ⟨_, by simp [three, Ideal.ofBits, Ideal.ieee, -EReal.coe_mul]; rfl⟩

theorem T_real {x : EReal} (hx : IsReal x) : IsReal (T x) := by
  have h : IsReal (C * (x + K1 * x * x * x)) := c_real.mul (hx.add (((k_real.mul hx).mul hx).mul hx))
  obtain ⟨r, h⟩ := h
  rw [T, h, Ideal.tanh_coe]
  exact IsReal.coe _
/-- The cubic as the reference multiplies it out. -/
theorem T_eq (x : EReal) : Ideal.tanh (C * (x + K1 * (x * x * x))) = T x := by
  rw [T, mul_assoc K1, mul_assoc K1]
theorem gelu_eq (x : EReal) : x * (half * (one + T x)) = gelu x := by
  rw [gelu, mul_left_comm, mul_assoc]
theorem gelu_real {x : EReal} (hx : IsReal x) : IsReal (gelu x) :=
  (half_real.mul hx).mul (IsReal.add ⟨1, one_eq⟩ (T_real hx))

/-- The activation's gradient by the chain rule. -/
theorem dgelu_eq {x g : EReal} (hx : IsReal x) (hg : IsReal g) :
    g * (half * (one + T x)) + C * (half * (x * g) * ((one + T x) * (one - T x)))
      + K1 * (C * (half * (x * g) * ((one + T x) * (one - T x)))) * (three * (x * x)) = g * dgelu x := by
  obtain ⟨t, ht⟩ := T_real hx
  obtain ⟨h, hh⟩ := half_real
  obtain ⟨c, hc⟩ := c_real
  obtain ⟨k, hk⟩ := k_real
  obtain ⟨e, he⟩ := three_real
  obtain ⟨x, rfl⟩ := hx
  obtain ⟨g, rfl⟩ := hg
  rw [dgelu, ht, hh, hc, hk, he, one_eq]
  simp only [← EReal.coe_mul, ← EReal.coe_add, ← EReal.coe_sub]
  exact congrArg _ (by ring)

/-- The norm of a finite row is finite, and so are its reciprocal deviation and the gradient in closed form. -/
theorem rstd_real {n : ℕ} {N e : EReal} {x : Fin n → EReal} (hx : ∀ k, IsReal (x k)) (hN : ∃ r : ℝ, 0 < r ∧ N = (r : EReal))
    (he : ∃ r : ℝ, 0 < r ∧ e = (r : EReal)) : IsReal (rstd N e x) := by
  obtain ⟨a, rfl⟩ := exists_real hx
  obtain ⟨r, hr, rfl⟩ := hN
  obtain ⟨e, he, rfl⟩ := he
  exact ⟨_, rstd_coe r e a hr he⟩
theorem hat_real {n : ℕ} {N e : EReal} {x : Fin n → EReal} (hx : ∀ k, IsReal (x k)) (hN : ∃ r : ℝ, 0 < r ∧ N = (r : EReal))
    (he : ∃ r : ℝ, 0 < r ∧ e = (r : EReal)) (j) : IsReal (hat N e x j) := by
  obtain ⟨a, rfl⟩ := exists_real hx
  obtain ⟨r, hr, rfl⟩ := hN
  obtain ⟨e, he, rfl⟩ := he
  exact ⟨_, hat_coe r e a hr he j⟩
theorem div_real {a N : EReal} (ha : IsReal a) (hN : ∃ r : ℝ, 0 < r ∧ N = (r : EReal)) : IsReal (Ideal.div a N) := by
  obtain ⟨a, rfl⟩ := ha
  obtain ⟨r, hr, rfl⟩ := hN
  exact ⟨_, coe_div a hr.ne'⟩
theorem back_real {n : ℕ} {N r : EReal} {d h : Fin n → EReal} (hr : IsReal r) (hd : ∀ k, IsReal (d k)) (hh : ∀ k, IsReal (h k))
    (hN : ∃ r : ℝ, 0 < r ∧ N = (r : EReal)) (j) : IsReal (back N r d h j) :=
  hr.mul (((hd j).sub (div_real (IsReal.sum hd) hN)).sub ((hh j).mul (div_real (IsReal.sum fun k => (hd k).mul (hh k)) hN)))
theorem N_real : ∃ r : ℝ, 0 < r ∧ N = (r : EReal) := ⟨512, by norm_num, ofBits_512⟩

/-- A host sum at `j` is the sum over any one-to-one listing of the indices that drop to `j`. -/
theorem sum_listed {s t : Shape} {axes : List (Fin s.rank)} (h : s.ReducesTo axes t) (j : t.Idx) {κ : Type} [Fintype κ] (g : κ → s.Idx)
    (hg : Function.Injective g) (hp : ∀ i, h.drop i = j ↔ ∃ k, g k = i) (v : s.Idx → EReal) (init : EReal) :
    Ideal.hostReduceAdd h v init j = init + ∑ k, v (g k) :=
  congrArg (init + ·) (Finset.sum_filter_eq_sum_of_fiber _ g hg hp v)
/-- A sum over the first and the last of four axes. -/
theorem sum_fiber {n0 n1 n2 n3 : ℕ} (h : (⟨4, ![n0, n1, n2, n3]⟩ : Shape).ReducesTo [0, 3] ⟨2, ![n1, n2]⟩) (j : (⟨2, ![n1, n2]⟩ : Shape).Idx)
    (v : (⟨4, ![n0, n1, n2, n3]⟩ : Shape).Idx → EReal) (init : EReal) :
    Ideal.hostReduceAdd h v init j = init + ∑ a : Fin n0, ∑ b : Fin n3, v (ix4 a (j 0) (j 1) b) := by
  have hp (i) : h.drop i = j ↔ ∃ k : Fin n0 × Fin n3, ix4 k.1 (j 0) (j 1) k.2 = i := by
    constructor
    · intro e
      refine ⟨(i 0, i 3), funext fun a => ?_⟩
      match a with
      | ⟨0, _⟩ => rfl
      | ⟨1, _⟩ => exact Fin.ext (congrArg Fin.val (congrFun e 0)).symm
      | ⟨2, _⟩ => exact Fin.ext (congrArg Fin.val (congrFun e 1)).symm
      | ⟨3, _⟩ => rfl
    · rintro ⟨k, rfl⟩
      funext b
      match b with
      | ⟨0, _⟩ => rfl
      | ⟨1, _⟩ => rfl
  exact (sum_listed h j (fun k : Fin n0 × Fin n3 => ix4 k.1 (j 0) (j 1) k.2) (fun _ _ e => Prod.ext (congrFun e 0) (congrFun e 3)) hp v init).trans
    (congrArg (init + ·) (Fintype.sum_prod_type _))

end Cert.Gates
end
-- ==== Proof.GatesRef.lean ====
/- What the reference of the convolution's norm and swish and of the spatial gating computes, stage by stage, in the kernel's terms. -/
module

public import proofs.«01_k».proof.Proof.GatesMath
public import proofs.«01_k».proof.Proof.GatesPoint
public import proofs.«01_k».proof.Proof.Gen.ReferenceGatesIdeal.Read
public import Idealize.ShloMosaic.Lib.TwoAxisContraction
public import Idealize.ShloMosaic.Lib.WordCmp

@[expose] public section

set_option maxRecDepth 16384

noncomputable section

namespace Cert.Gates

open Cert.KernelGatesIdeal Cert.KernelGatesIdeal.Gen Idealize.ShloMosaic Idealize.ShloMosaic.TcCoe Idealize.SL.Sem Cert.LayerNorm Cert.RealLift
open Cert.ReferenceGatesIdeal.Read

/-- The small literal under the root, minus a half and two. -/
abbrev E : EReal := Ideal.ofBits .f32 0x3727C5AC#32
abbrev mh : EReal := Ideal.ofBits .f32 0xBF000000#32
abbrev two : EReal := Ideal.ofBits .f32 0x40000000#32

section Ref
variable (x0 : FVec Ideal S2048x1024 .f32) (x1 : FVec Ideal S2048x512 .f32) (x2 : FVec Ideal S2048x2048 .f32) (x3 x4 x5 x6 : FVec Ideal S1x512 .f32)
  (x7 : FVec Ideal S4x128x128 .f32) (x8 : FVec Ideal S4x128 .f32)

/-- The gate's preactivation; the rows that the two norms take. -/
def ZH (i : Fin 2048) (j : Fin 1024) : EReal := el x2 i ⟨1024 + j.val, by omega⟩
def XV (i : Fin 2048) (j : Fin 512) : EReal := gelu (ZH x2 i (hi j))
def XY (i : Fin 2048) (j : Fin 512) : EReal := x1 (ix2 i j)
/-- The reference's normalised rows and reciprocal deviations of the two norms. -/
abbrev HC : FVec Ideal S2048x512 .f32 := val_main_v88 (F := Ideal) x1
abbrev RC : FVec Ideal S2048x1 .f32 := val_main_v83 (F := Ideal) x1
abbrev HV : FVec Ideal S2048x512 .f32 := val_main_v46 (F := Ideal) x2
abbrev RV : FVec Ideal S2048x1 .f32 := val_main_v41 (F := Ideal) x2

theorem eta (i : S2048x512.Idx) : ix2 (i 0) (i 1) = i := by blk_ext

theorem r0 (i) : val_main_v0 (F := Ideal) x2 i = ZH x2 (i 0) (i 1) := by
  rw [val_main_v0_apply]; exact congrArg x2 (by blk_ext)
theorem r11 (i) : val_main_v11 (F := Ideal) x2 i = T (ZH x2 (i 0) (i 1)) := by
  refine Eq.trans ?_ (T_eq _)
  rw [val_main_v11_apply, val_main_v10_apply, val_main_v8_apply, val_main_v7_apply, val_main_v2_apply, val_main_v1_apply, r0]
  rfl
theorem r20 (i) : val_main_v20 (F := Ideal) x2 i = half * (one + T (ZH x2 (i 0) (i 1))) := by
  rw [val_main_v20_apply, val_main_v18_apply, r11]; rfl
theorem r21 (i) : val_main_v21 (F := Ideal) x2 i = gelu (ZH x2 (i 0) (i 1)) := by
  rw [val_main_v21_apply, r20, r0]; exact gelu_eq _
theorem r22 (i) : val_main_v22 (F := Ideal) x2 i = gelu (ZH x2 (i 0) (lo (i 1))) := by
  rw [val_main_v22_apply, r21]
  exact congrArg (fun j => gelu (ZH x2 (i 0) j)) (Fin.ext rfl)
theorem r23 (i) : val_main_v23 (F := Ideal) x2 i = XV x2 (i 0) (i 1) := by
  rw [val_main_v23_apply, r21]; rfl

theorem r27 (i) : val_main_v27 (F := Ideal) x2 i = mean N (XV x2 (i 0)) := by
  have e (k) : idx_main_v24 (idx_main_v25 i) k 0 = i 0 := congrFun (show idx_main_v24 (idx_main_v25 i) k = ix2 (i 0) k by blk_ext) 0
  rw [val_main_v27_apply, val_main_v25_apply, val_main_v24_apply]
  simp only [r23, e]
  pointwise [val_main_v26, val_main_cst_6, val_main_cst_7]; rfl
theorem r29 (i) : val_main_v29 (F := Ideal) x2 i = XV x2 (i 0) (i 1) - mean N (XV x2 (i 0)) := by
  rw [val_main_v29_apply, val_main_v28_apply, r27, r23]; rfl
theorem r38 (i) : val_main_v38 (F := Ideal) x2 i = XV x2 (i 0) (i 1) - mean N (XV x2 (i 0)) := by
  rw [val_main_v38_apply, val_main_v37_apply, r27, r23]; rfl
theorem r40 (i) : val_main_v40 (F := Ideal) x2 i = var N (XV x2 (i 0)) + E := by
  have e (k) : idx_main_v33 (idx_main_v34 i) k 0 = i 0 := congrFun (show idx_main_v33 (idx_main_v34 i) k = ix2 (i 0) k by blk_ext) 0
  rw [val_main_v40_apply, val_main_v36_apply, val_main_v34_apply, val_main_v33_apply]
  simp only [val_main_v30_apply, r29, e]
  pointwise [val_main_v39, val_main_v35, val_main_cst_9, val_main_cst_10, val_main_cst_11]; rfl
theorem r41 (i) : val_main_v41 (F := Ideal) x2 i = rstd N E (XV x2 (i 0)) := by
  rw [val_main_v41_apply, r40]; rfl
theorem r46 (i) : val_main_v46 (F := Ideal) x2 i = hat N E (XV x2 (i 0)) (i 1) := by
  rw [val_main_v46_apply, val_main_v45_apply, r41, r38]; rfl

theorem r69 (i) : val_main_v69 (F := Ideal) x1 i = mean N (XY x1 (i 0)) := by
  have e (k) : idx_main_v66 (idx_main_v67 i) k = ix2 (i 0) k := by blk_ext
  rw [val_main_v69_apply, val_main_v67_apply, val_main_v66_apply]
  simp only [e]
  pointwise [val_main_v68, val_main_cst_14, val_main_cst_15]; rfl
theorem r71 (i) : val_main_v71 (F := Ideal) x1 i = XY x1 (i 0) (i 1) - mean N (XY x1 (i 0)) := by
  rw [val_main_v71_apply, val_main_v70_apply, r69]; exact congrArg (fun e => x1 e - mean N (XY x1 (i 0))) (eta i).symm
theorem r80 (i) : val_main_v80 (F := Ideal) x1 i = XY x1 (i 0) (i 1) - mean N (XY x1 (i 0)) := by
  rw [val_main_v80_apply, val_main_v79_apply, r69]; exact congrArg (fun e => x1 e - mean N (XY x1 (i 0))) (eta i).symm
theorem r82 (i) : val_main_v82 (F := Ideal) x1 i = var N (XY x1 (i 0)) + E := by
  have e (k) : idx_main_v75 (idx_main_v76 i) k 0 = i 0 := congrFun (show idx_main_v75 (idx_main_v76 i) k = ix2 (i 0) k by blk_ext) 0
  rw [val_main_v82_apply, val_main_v78_apply, val_main_v76_apply, val_main_v75_apply]
  simp only [val_main_v72_apply, r71, e]
  pointwise [val_main_v81, val_main_v77, val_main_cst_17, val_main_cst_18, val_main_cst_19]; rfl
theorem r83 (i) : val_main_v83 (F := Ideal) x1 i = rstd N E (XY x1 (i 0)) := by
  rw [val_main_v83_apply, r82]; rfl
theorem r88 (i) : val_main_v88 (F := Ideal) x1 i = hat N E (XY x1 (i 0)) (i 1) := by
  rw [val_main_v88_apply, val_main_v87_apply, r83, r80]; rfl

/-- The swish. -/
theorem r92 (i) : val_main_v92 (F := Ideal) x1 x3 x4 i = LC (HC x1) x3 x4 (i 0) (i 1) := by
  rw [val_main_v92_apply, val_main_v91_apply, val_main_v90_apply, val_main_v89_apply]
  refine congrArg₂ (fun a b : EReal => a + b) (congrArg₂ (fun a b : EReal => a * b) (congrArg _ (eta i).symm) (congrArg x3 ?_)) (congrArg x4 ?_)
  · blk_ext
  · blk_ext
theorem r93 (i) : val_main_v93_2 (F := Ideal) x1 x3 x4 i = sigmoid (LC (HC x1) x3 x4 (i 0) (i 1)) := by
  rw [val_main_v93_2_apply, val_main_call1_v3_apply, val_main_call1_v1_apply, val_main_call1_v0_apply, r92]; rfl
theorem r96 (i) : val_main_v96 (F := Ideal) x0 i = el x0 (i 0) (lo (i 1)) := by
  rw [val_main_v96_apply]; exact congrArg x0 (by blk_ext)
theorem r97 (i) : val_main_v97 (F := Ideal) x0 i = el x0 (i 0) (hi (i 1)) := by
  rw [val_main_v97_apply]; exact congrArg x0 (by blk_ext)
theorem r100 (h0 : ∀ i, IsReal (x0 i)) (hc : ∀ i j, IsReal (LC (HC x1) x3 x4 i j)) (i) :
    val_main_v100 (F := Ideal) x0 x1 x3 x4 i = DC x0 (HC x1) x3 x4 (i 0) (i 1) := by
  refine Eq.trans ?_ (swish_eq (h0 _) (hc _ _))
  rw [val_main_v100_apply, val_main_call2_v1_apply, val_main_call2_v2_apply, val_main_call2_v0_apply, val_main_v93_1_apply, val_main_call1_v7_apply,
    r92, r93, r96]
  rfl

/-- The gating's cotangent and its rows. -/
theorem r98 (i) : val_main_v98 (F := Ideal) x0 x2 i = DS x0 (ZH x2) (i 0) (i 1) := by
  rw [val_main_v98_apply, r22, r97]; exact mul_comm _ _
theorem r50 (i) : val_main_v50 (F := Ideal) x2 x5 x6 i = VN (HV x2) x5 x6 (i 0) (i 1) := by
  rw [val_main_v50_apply, val_main_v49_apply, val_main_v48_apply, val_main_v47_apply]
  refine congrArg₂ (fun a b : EReal => a + b) (congrArg₂ (fun a b : EReal => a * b) (congrArg _ (eta i).symm) (congrArg x5 ?_)) (congrArg x6 ?_)
  · blk_ext
  · blk_ext

/-- Row `r` of run `q`. -/
def run (q : Fin 16) (r : Fin 128) : Fin 2048 := ⟨q.val * 128 + r.val, by omega⟩

theorem r132 (i) : val_main_v132 (F := Ideal) x0 x2 i = DS x0 (ZH x2) (run (i 0) (i 1)) (cr (i 2) (i 3)) := by
  have h1 : (i 1).val < 128 := (i 1).isLt
  have h2 : (i 2).val < 4 := (i 2).isLt
  have h3 : (i 3).val < 128 := (i 3).isLt
  rw [val_main_v132_apply, r98]
  refine congrArg₂ (DS x0 (ZH x2)) (Fin.ext ?_) (Fin.ext ?_)
  · show ((((i 0).val * 128 + (i 1).val) * 4 + (i 2).val) * 128 + (i 3).val) / 512 = (i 0).val * 128 + (i 1).val; omega
  · show ((((i 0).val * 128 + (i 1).val) * 4 + (i 2).val) * 128 + (i 3).val) % 512 = (i 2).val * 128 + (i 3).val; omega
theorem r51 (i) : val_main_v51 (F := Ideal) x2 x5 x6 i = VN (HV x2) x5 x6 (run (i 0) (i 1)) (cr (i 2) (i 3)) := by
  have h1 : (i 1).val < 128 := (i 1).isLt
  have h2 : (i 2).val < 4 := (i 2).isLt
  have h3 : (i 3).val < 128 := (i 3).isLt
  rw [val_main_v51_apply, r50]
  refine congrArg₂ (VN (HV x2) x5 x6) (Fin.ext ?_) (Fin.ext ?_)
  · show ((((i 0).val * 128 + (i 1).val) * 4 + (i 2).val) * 128 + (i 3).val) / 512 = (i 0).val * 128 + (i 1).val; omega
  · show ((((i 0).val * 128 + (i 1).val) * 4 + (i 2).val) * 128 + (i 3).val) % 512 = (i 2).val * 128 + (i 3).val; omega
theorem r137 (i) : val_main_v137 (F := Ideal) x0 x2 i = DS x0 (ZH x2) (run (i 1) (i 3)) (cr (i 0) (i 2)) := by
  rw [val_main_v137_apply, r132]; rfl

/-- The masked weights. -/
theorem zero_word : Ideal.ofBits .f32 0x00000000#32 = (0 : EReal) := by simp [Ideal.ofBits, Ideal.ieee]
theorem mask (r c : Fin 128) (a b : EReal) :
    Scalar.select (IntOp.cmpi .sle (BitVec.ofNat 32 c.val) (BitVec.ofNat 32 r.val)) a b = if c ≤ r then a else b := by
  rw [WordCmp.cmpi_sle_ofNat (by norm_num; omega) (by norm_num; omega)]
  by_cases h : c ≤ r
  · simp [h, Scalar.select]
  · simp [h, Scalar.select]
theorem r58 (i) (a b : EReal) : Scalar.select (val_main_v58_1 (F := Ideal) i) a b = if i 2 ≤ i 1 then a else b := by
  refine Eq.trans ?_ (mask (i 1) (i 2) a b)
  rw [val_main_v58_1_apply, val_main_v57_apply, val_main_v55_apply, val_main_v53_apply, val_main_v56_apply, val_main_v54_apply,
    val_main_v52_apply, val_main_v52_apply]
theorem r58w (i) : val_main_v58_0 (F := Ideal) x7 i = WM x7 (i 0) (i 1) (i 2) := by
  have e : ix3 (i 0) (i 1) (i 2) = i := by blk_ext
  rw [val_main_v58_0_apply, r58]
  refine Eq.trans ?_ (congrArg (fun z => if i 2 ≤ i 1 then x7 z else 0) e.symm)
  pointwise [val_main_call0_v2, val_main_call0_v0, val_main_cst_13]
  exact if_congr Iff.rfl rfl zero_word
theorem r139 (i) : val_main_v139 (F := Ideal) x0 x2 x7 i = DN x0 (ZH x2) x7 (run (i 1) (i 3)) (cr (i 0) (i 2)) := by
  have h1 : (i 1).val < 16 := (i 1).isLt
  have h3 : (i 3).val < 128 := (i 3).isLt
  have h2 : (i 2).val < 128 := (i 2).isLt
  rw [val_main_v139_apply]
  refine Fin.sum_fin_congr fun k => (mul_comm _ _).trans (congrArg₂ (fun a b : EReal => a * b) ?_ ?_)
  · rw [r58w]
    refine congr (congrArg₂ (WM x7) (Fin.ext ?_) rfl) (Fin.ext ?_)
    · show (i 0).val = ((i 0).val * 128 + (i 2).val) / 128; omega
    · show (i 3).val = ((i 1).val * 128 + (i 3).val) % 128; omega
  · rw [r137]
    refine congrArg (fun r => DS x0 (ZH x2) r (cr (i 0) (i 2))) (Fin.ext ?_)
    show (i 1).val * 128 + k.val = ((i 1).val * 128 + (i 3).val) / 128 * 128 + k.val; omega
theorem r142 (i) : val_main_v142 (F := Ideal) x0 x2 x7 i = DN x0 (ZH x2) x7 (i 0) (i 1) := by
  have h1 : (i 1).val < 512 := (i 1).isLt
  rw [val_main_v142_apply, val_main_v140_apply, r139]
  refine congrArg₂ (DN x0 (ZH x2) x7) (Fin.ext ?_) (Fin.ext ?_)
  · show ((i 0).val * 512 + (i 1).val) / 65536 * 128 + ((i 0).val * 512 + (i 1).val) / 512 % 128 = (i 0).val; omega
  · show ((i 0).val * 512 + (i 1).val) / 128 % 4 * 128 + ((i 0).val * 512 + (i 1).val) % 128 = (i 1).val; omega
end Ref
end Cert.Gates
end
-- ==== Proof.GatesFinal.lean ====
/- The eight results of the backward call of the convolution's norm and swish and of the spatial gating, as whole arrays. -/
module

public import proofs.«01_k».proof.Proof.GatesAcc
public import proofs.«01_k».proof.Proof.GatesRef

@[expose] public section

set_option maxRecDepth 16384

noncomputable section

namespace Cert.Gates

open Cert.KernelGatesIdeal Cert.KernelGatesIdeal.Gen Idealize.ShloMosaic Idealize.ShloMosaic.TcCoe Idealize.SL.Sem Cert.LayerNorm
open Idealize.ShloMosaic.Pipeline (Dat)

variable (m : (ℓ : Loc nD τ sig) → Buf (Elt Ideal) ℓ)

theorem step_out (c : Dev nD) (t : Fin cfg0.N) : (∀ y, (outsAt0 m c t.val t.isLt).1 y = dy m c (row t (y 0)) (y 1))
    ∧ ∀ y, ((outsAt0 m c t.val t.isLt).2.1 y : EReal) = dz m c (row t (y 0)) (y 1) := by
  by_cases h : t.val % 4 = 0
  · exact ⟨(step_A m c t h).dy, (step_A m c t h).dz⟩
  · exact ⟨(step_B m c t h _ rfl).dy, (step_B m c t h _ rfl).dz⟩

theorem final12 (c : Dev nD) : (dats m 0 c).arrAt 12 cfg0.N = fun i => dy m c (i 0) (i 1) := by
  refine (dats m 0 c).arrAt_eq_of_covers 12 _ (by decide +kernel) fun t hf y => ?_
  have e0 : (((cfg0.win 12).blk t).view.emb y) 0 = row t (y 0) := Fin.ext (by blk_simp; simp [idx t, row])
  have e1 : (((cfg0.win 12).blk t).view.emb y) 1 = y 1 := Fin.ext (by blk_simp; simp [idx t])
  blk_simp
  rw [after0_12, (step_out m c t).1]
  exact (congrArg₂ (dy m c) e0 e1).symm
theorem final13 (c : Dev nD) : (dats m 0 c).arrAt 13 cfg0.N = fun i => dz m c (i 0) (i 1) := by
  refine (dats m 0 c).arrAt_eq_of_covers 13 _ (by decide +kernel) fun t hf y => ?_
  have e0 : (((cfg0.win 13).blk t).view.emb y) 0 = row t (y 0) := Fin.ext (by blk_simp; simp [idx t, row])
  have e1 : (((cfg0.win 13).blk t).view.emb y) 1 = y 1 := Fin.ext (by blk_simp; simp [idx t])
  blk_simp
  rw [after0_13]
  exact ((step_out m c t).2 y).trans (congrArg₂ (dz m c) e0 e1).symm

theorem sum_part {s : Shape} (f : s.Idx → Fin 2048 → EReal) (j : s.Idx) : (0 : EReal) + ∑ t : Fin cfg0.N, part f t j = ∑ i : Fin 2048, f j i :=
  (zero_add _).trans (Fin.sum_mul_add_congr (fun _ _ _ => rfl))

theorem final14 (c : Dev nD) : (dats m 0 c).arrAt 14 cfg0.N = fun j => ∑ i : Fin 2048, tCg m c j i := by
  refine (dats m 0 c).arrAt_eq_of_after_last 14 t0_3 (by decide +kernel) _ fun j => ?_
  blk_simp
  rw [after0_14, Pipeline.eq_sum_fin_of_reset_step_apply_last (fun n h => (outsAt0 m c n h).2.2.1) 4 (fun _ => 0) (part (tCg m c))
    (fun t h => (step_A m c t h).cg) (fun t h => (step_B m c t h _ rfl).cg) (le_of_eq N_0) t0_3 rfl j]
  exact sum_part _ j
theorem final15 (c : Dev nD) : (dats m 0 c).arrAt 15 cfg0.N = fun j => ∑ i : Fin 2048, tCb m c j i := by
  refine (dats m 0 c).arrAt_eq_of_after_last 15 t0_3 (by decide +kernel) _ fun j => ?_
  blk_simp
  rw [after0_15, Pipeline.eq_sum_fin_of_reset_step_apply_last (fun n h => (outsAt0 m c n h).2.2.2.1) 4 (fun _ => 0) (part (tCb m c))
    (fun t h => (step_A m c t h).cb) (fun t h => (step_B m c t h _ rfl).cb) (le_of_eq N_0) t0_3 rfl j]
  exact sum_part _ j
theorem final16 (c : Dev nD) : (dats m 0 c).arrAt 16 cfg0.N = fun j => ∑ i : Fin 2048, tVg m c j i := by
  refine (dats m 0 c).arrAt_eq_of_after_last 16 t0_3 (by decide +kernel) _ fun j => ?_
  blk_simp
  rw [after0_16, Pipeline.eq_sum_fin_of_reset_step_apply_last (fun n h => (outsAt0 m c n h).2.2.2.2.1) 4 (fun _ => 0) (part (tVg m c))
    (fun t h => (step_A m c t h).vg) (fun t h => (step_B m c t h _ rfl).vg) (le_of_eq N_0) t0_3 rfl j]
  exact sum_part _ j
theorem final17 (c : Dev nD) : (dats m 0 c).arrAt 17 cfg0.N = fun j => ∑ i : Fin 2048, tVb m c j i := by
  refine (dats m 0 c).arrAt_eq_of_after_last 17 t0_3 (by decide +kernel) _ fun j => ?_
  blk_simp
  rw [after0_17, Pipeline.eq_sum_fin_of_reset_step_apply_last (fun n h => (outsAt0 m c n h).2.2.2.2.2.1) 4 (fun _ => 0) (part (tVb m c))
    (fun t h => (step_A m c t h).vb) (fun t h => (step_B m c t h _ rfl).vb) (le_of_eq N_0) t0_3 rfl j]
  exact sum_part _ j

/-- Four grid points of four runs are the sixteen runs. -/
theorem sum_runs (f : Fin 2048 → EReal) (r : Fin 128) : ∑ t : Fin 4, ∑ p : Fin 4, f (row t (cr p r)) = ∑ q : Fin 16, f (run q r) :=
  Fin.sum_mul_add_congr (L := 16) (S := 4) (n := 4) (f := fun q => f (run q r)) fun t p h => congrArg f (Fin.ext (by simp only [row, cr, run]; omega))

/-- One entry of the weight's gradient from one run, and of the bias's. -/
def fW (c : Dev nD) (g : Fin 4) (r s : Fin 128) (q : Fin 16) : EReal :=
  ∑ d : Fin 128, ds m c (run q r) (cr g d) * vn m c (run q s) (cr g d)

theorem sum_W (c : Dev nD) (g : Fin 4) (r s : Fin 128) :
    0 + pW m c t0_0 (ix3 g r s) + pW m c t0_1 (ix3 g r s) + pW m c t0_2 (ix3 g r s) + pW m c t0_3 (ix3 g r s) = ∑ q : Fin 16, fW m c g r s q := by
  rw [zero_add]
  refine (Fin.sum_univ_four (fun t : Fin 4 => pW m c t (ix3 g r s))).symm.trans ?_
  refine Fin.sum_mul_add_congr (L := 16) (S := 4) (n := 4) (f := fW m c g r s) fun t p h => Fin.sum_fin_congr fun d => ?_
  refine congrArg₂ (fun a b : EReal => a * b) (congrArg (fun i => ds m c i (cr g d)) ?_) (congrArg (fun i => vn m c i (cr g d)) ?_)
  · exact Fin.ext (show t.val * 512 + (p.val * 128 + r.val) = (t.val * 4 + p.val) * 128 + r.val by omega)
  · exact Fin.ext (show t.val * 512 + (p.val * 128 + s.val) = (t.val * 4 + p.val) * 128 + s.val by omega)
theorem sum_B (c : Dev nD) (g : Fin 4) (r s : Fin 128) :
    0 + pB m c t0_0 (ix3 g r s) + pB m c t0_1 (ix3 g r s) + pB m c t0_2 (ix3 g r s) + pB m c t0_3 (ix3 g r s) = ∑ q : Fin 16, ds m c (run q r) (cr g s) := by
  rw [zero_add]
  refine (Fin.sum_univ_four (fun t : Fin 4 => pB m c t (ix3 g r s))).symm.trans ?_
  exact sum_runs (fun i => ds m c i (cr g s)) r

theorem before_W (c : Dev nD) (g : Fin 4) (r s : Fin 128) : (outsAt0 m c t0_2.val t0_2.isLt).2.2.2.2.2.2.1 (ix3 g r s)
    = 0 + pW m c t0_0 (ix3 g r s) + pW m c t0_1 (ix3 g r s) + pW m c t0_2 (ix3 g r s) :=
  ((step_B m c t0_2 (by decide) _ rfl).w (by decide) g r s).trans (congrArg (· + pW m c t0_2 (ix3 g r s))
    (((step_B m c t0_1 (by decide) _ rfl).w (by decide) g r s).trans (congrArg (· + pW m c t0_1 (ix3 g r s))
      ((step_A m c t0_0 (by decide)).w (by decide) g r s))))
theorem before_B (c : Dev nD) (g : Fin 4) (r s : Fin 128) : (outsAt0 m c t0_2.val t0_2.isLt).2.2.2.2.2.2.2 (ix3 g r s)
    = 0 + pB m c t0_0 (ix3 g r s) + pB m c t0_1 (ix3 g r s) + pB m c t0_2 (ix3 g r s) :=
  ((step_B m c t0_2 (by decide) _ rfl).b (by decide) g r s).trans (congrArg (· + pB m c t0_2 (ix3 g r s))
    (((step_B m c t0_1 (by decide) _ rfl).b (by decide) g r s).trans (congrArg (· + pB m c t0_1 (ix3 g r s))
      ((step_A m c t0_0 (by decide)).b (by decide) g r s))))

theorem eta3 (j : S4x128x128.Idx) : ix3 (j 0) (j 1) (j 2) = j := by blk_ext

theorem final18 (c : Dev nD) : (dats m 0 c).arrAt 18 cfg0.N = fun j => if j 2 ≤ j 1 then ∑ q : Fin 16, fW m c (j 0) (j 1) (j 2) q else (0 : EReal) := by
  refine (dats m 0 c).arrAt_eq_of_after_last 18 t0_3 (by decide +kernel) _ fun j => ?_
  blk_simp
  rw [after0_18]
  refine (congrArg _ (eta3 j).symm).trans (((step_B m c t0_3 (by decide) _ rfl).wl rfl (j 0) (j 1) (j 2)).trans ?_)
  refine congrArg (fun z : EReal => if j 2 ≤ j 1 then z else 0) ?_
  exact (congrArg (· + pW m c t0_3 (ix3 (j 0) (j 1) (j 2))) (before_W m c (j 0) (j 1) (j 2))).trans (sum_W m c _ _ _)
theorem final19 (c : Dev nD) : (dats m 0 c).arrAt 19 cfg0.N = fun j => ∑ k : Fin 128, ∑ q : Fin 16, ds m c (run q (j 1)) (cr (j 0) k) := by
  refine (dats m 0 c).arrAt_eq_of_after_last 19 t0_3 (by decide +kernel) _ fun j => ?_
  blk_simp
  rw [after0_19]
  refine (congrArg _ (eta3 j).symm).trans (((step_B m c t0_3 (by decide) _ rfl).bl rfl (j 0) (j 1) (j 2)).trans ?_)
  exact Fin.sum_fin_congr fun k =>
    (congrArg (· + pB m c t0_3 (ix3 (j 0) (j 1) k)) (before_B m c (j 0) (j 1) k)).trans (sum_B m c _ _ _)

end Cert.Gates
end
-- ==== Proof.GatesGrad.lean ====
/- The gradients of the two norms, of the gating's weights and of the activation, as the reference's chain rule leaves them. -/
module

public import proofs.«01_k».proof.Proof.GatesRef
public import Idealize.ShloMosaic.Lib.KernelVsHost

@[expose] public section

set_option maxRecDepth 16384

noncomputable section

namespace Cert.Gates

open Cert.KernelGatesIdeal Cert.KernelGatesIdeal.Gen Idealize.ShloMosaic Idealize.ShloMosaic.TcCoe Idealize.SL.Sem Cert.LayerNorm Cert.RealLift
open Cert.ReferenceGatesIdeal.Read

section Ref
variable (x0 : FVec Ideal S2048x1024 .f32) (x1 : FVec Ideal S2048x512 .f32) (x2 : FVec Ideal S2048x2048 .f32) (x3 x4 x5 x6 : FVec Ideal S1x512 .f32)
  (x7 : FVec Ideal S4x128x128 .f32) (x8 : FVec Ideal S4x128 .f32)

/-- The cotangents of the two normalised rows. -/
def CY (i : Fin 2048) (k : Fin 512) : EReal := DC x0 (HC x1) x3 x4 i k * el x3 0 k
def CV (i : Fin 2048) (k : Fin 512) : EReal := DN x0 (ZH x2) x7 i k * el x5 0 k

theorem r107 (h0 : ∀ i, IsReal (x0 i)) (hc : ∀ i j, IsReal (LC (HC x1) x3 x4 i j)) (i) :
    val_main_v107 (F := Ideal) x0 x1 x3 x4 i = CY x0 x1 x3 x4 (i 0) (i 1) := by
  rw [val_main_v107_apply, r100 x0 x1 x3 x4 h0 hc, val_main_v106_apply]
  exact congrArg (fun e => DC x0 (HC x1) x3 x4 (i 0) (i 1) * x3 e) (by blk_ext)
theorem r149 (i) : val_main_v149 (F := Ideal) x0 x2 x5 x7 i = CV x0 x2 x5 x7 (i 0) (i 1) := by
  rw [val_main_v149_apply, r142, val_main_v148_apply]
  exact congrArg (fun e => DN x0 (ZH x2) x7 (i 0) (i 1) * x5 e) (by blk_ext)

/-- The gradient of the convolution's norm by the chain rule. -/
theorem r131 (h0 : ∀ i, IsReal (x0 i)) (hc : ∀ i j, IsReal (LC (HC x1) x3 x4 i j)) (i) : val_main_v131 (F := Ideal) x0 x1 x3 x4 i
    = chain N E mh two (XY x1 (i 0)) (CY x0 x1 x3 x4 (i 0)) (i 1) := by
  have i1 (i : S2048x1.Idx) (k) : idx_main_v109 (idx_main_v110 i) k 0 = i 0 :=
    congrFun (show idx_main_v109 (idx_main_v110 i) k = ix2 (i 0) k by blk_ext) 0
  have i2 (i : S2048x1.Idx) (k) : idx_main_v115 (idx_main_v116 i) k 0 = i 0 :=
    congrFun (show idx_main_v115 (idx_main_v116 i) k = ix2 (i 0) k by blk_ext) 0
  have i3 (i : S2048x1.Idx) (k) : idx_main_v123 (idx_main_v124 i) k 0 = i 0 :=
    congrFun (show idx_main_v123 (idx_main_v124 i) k = ix2 (i 0) k by blk_ext) 0
  have r7 := r107 x0 x1 x3 x4 h0 hc
  have hv (i) : val_main_v118 (F := Ideal) x0 x1 x3 x4 i = dvar N E mh (XY x1 (i 0)) (CY x0 x1 x3 x4 (i 0)) := by
    rw [val_main_v118_apply, val_main_v113_apply, val_main_v86_apply, val_main_v84_apply, r83, r82, val_main_v110_apply, val_main_v109_apply]
    simp only [val_main_v108_apply, r80, r7, i1]
    pointwise [val_main_v85, val_main_v117, val_main_cst_20, val_main_cst_23, val_main_cst_25]; rfl
  have h12 (i) : val_main_v112 (F := Ideal) x0 x1 x3 x4 i = CY x0 x1 x3 x4 (i 0) (i 1) * rstd N E (XY x1 (i 0)) := by
    rw [val_main_v112_apply, val_main_v111_apply, r83, r7]; rfl
  have h21 (i) : val_main_v121 (F := Ideal) x0 x1 x3 x4 i = dvar N E mh (XY x1 (i 0)) (CY x0 x1 x3 x4 (i 0))
      * (two * (XY x1 (i 0) (i 1) - mean N (XY x1 (i 0)))) := by
    rw [val_main_v121_apply, val_main_v120_apply, val_main_v119_apply, val_main_v74_apply, r71]
    simp only [hv]
    pointwise [val_main_v73, val_main_cst_16, val_main_cst_26]
    exact congrArg (· * _) (Fin.sum_univ_one _)
  rw [val_main_v131_apply, val_main_v125_apply, val_main_v130_apply, val_main_v129_apply, h12, h21]
  simp only [val_main_v128_apply, val_main_v126_apply, val_main_v124_apply, val_main_v123_apply, val_main_v122_apply, val_main_v116_apply, val_main_v115_apply,
    val_main_v114_apply, h12, h21, i2, i3]
  pointwise [val_main_v127, val_main_cst_24, val_main_cst_27, val_main_cst_28, val_main_cst_29]
  exact (congrArg₂ (· + ·) rfl (Fin.sum_univ_one _)).trans rfl
/-- The gradient of the gating's norm by the chain rule. -/
theorem r173 (i) : val_main_v173 (F := Ideal) x0 x2 x5 x7 i = chain N E mh two (XV x2 (i 0)) (CV x0 x2 x5 x7 (i 0)) (i 1) := by
  have i1 (i : S2048x1.Idx) (k) : idx_main_v151 (idx_main_v152 i) k 0 = i 0 :=
    congrFun (show idx_main_v151 (idx_main_v152 i) k = ix2 (i 0) k by blk_ext) 0
  have i2 (i : S2048x1.Idx) (k) : idx_main_v157 (idx_main_v158 i) k 0 = i 0 :=
    congrFun (show idx_main_v157 (idx_main_v158 i) k = ix2 (i 0) k by blk_ext) 0
  have i3 (i : S2048x1.Idx) (k) : idx_main_v165 (idx_main_v166 i) k 0 = i 0 :=
    congrFun (show idx_main_v165 (idx_main_v166 i) k = ix2 (i 0) k by blk_ext) 0
  have hv (i) : val_main_v160 (F := Ideal) x0 x2 x5 x7 i = dvar N E mh (XV x2 (i 0)) (CV x0 x2 x5 x7 (i 0)) := by
    rw [val_main_v160_apply, val_main_v155_apply, val_main_v44_apply, val_main_v42_apply, r41, r40, val_main_v152_apply, val_main_v151_apply]
    simp only [val_main_v150_apply, r38, r149, i1]
    pointwise [val_main_v43, val_main_v159, val_main_cst_12, val_main_cst_34, val_main_cst_36]; rfl
  have h12 (i) : val_main_v154 (F := Ideal) x0 x2 x5 x7 i = CV x0 x2 x5 x7 (i 0) (i 1) * rstd N E (XV x2 (i 0)) := by
    rw [val_main_v154_apply, val_main_v153_apply, r41, r149]; rfl
  have h21 (i) : val_main_v163 (F := Ideal) x0 x2 x5 x7 i = dvar N E mh (XV x2 (i 0)) (CV x0 x2 x5 x7 (i 0))
      * (two * (XV x2 (i 0) (i 1) - mean N (XV x2 (i 0)))) := by
    rw [val_main_v163_apply, val_main_v162_apply, val_main_v161_apply, val_main_v32_apply, r29]
    simp only [hv]
    pointwise [val_main_v31, val_main_cst_8, val_main_cst_37]
    exact congrArg (· * _) (Fin.sum_univ_one _)
  rw [val_main_v173_apply, val_main_v167_apply, val_main_v172_apply, val_main_v171_apply, h12, h21]
  simp only [val_main_v170_apply, val_main_v168_apply, val_main_v166_apply, val_main_v165_apply, val_main_v164_apply, val_main_v158_apply, val_main_v157_apply,
    val_main_v156_apply, h12, h21, i2, i3]
  pointwise [val_main_v169, val_main_cst_35, val_main_cst_38, val_main_cst_39, val_main_cst_40]
  exact (congrArg₂ (· + ·) rfl (Fin.sum_univ_one _)).trans rfl

/-- Both in closed form. -/
theorem r131_eq (h0 : ∀ i, IsReal (x0 i)) (h1 : ∀ i, IsReal (x1 i)) (hc : ∀ i j, IsReal (LC (HC x1) x3 x4 i j)) (hd : ∀ i j, IsReal (CY x0 x1 x3 x4 i j))
    (i : S2048x512.Idx) : val_main_v131 (F := Ideal) x0 x1 x3 x4 i = DY x0 (HC x1) (RC x1) x3 x4 (i 0) (i 1) := by
  refine (r131 x0 x1 x3 x4 h0 hc i).trans ((chain_eq_back (fun k => h1 _) (hd (i 0)) (by rw [N, ofBits_512]; norm_num) (by decide) ofBits_eps ofBits_neg_half ofBits_two _).trans ?_)
  exact congrArg₂ (fun s h => back N s _ h (i 1)) (r83 x1 (ix2 (i 0) 0)).symm (funext fun k => (r88 x1 (ix2 (i 0) k)).symm)
theorem r173_eq (hx : ∀ i j, IsReal (XV x2 i j)) (hd : ∀ i j, IsReal (CV x0 x2 x5 x7 i j))
    (i : S2048x512.Idx) : val_main_v173 (F := Ideal) x0 x2 x5 x7 i = DV x0 (ZH x2) (HV x2) (RV x2) x5 x7 (i 0) (i 1) := by
  refine (r173 x0 x2 x5 x7 i).trans ((chain_eq_back (hx (i 0)) (hd (i 0)) (by rw [N, ofBits_512]; norm_num) (by decide) ofBits_eps ofBits_neg_half ofBits_two _).trans ?_)
  exact congrArg₂ (fun s h => back N s _ h (i 1)) (r41 x2 (ix2 (i 0) 0)).symm (funext fun k => (r46 x2 (ix2 (i 0) k)).symm)

/-- The four sums over rows. -/
theorem r102 (h0 : ∀ i, IsReal (x0 i)) (hc : ∀ i j, IsReal (LC (HC x1) x3 x4 i j)) (i) : val_main_v102 (F := Ideal) x0 x1 x3 x4 i
    = ∑ k : Fin 2048, DC x0 (HC x1) x3 x4 k (i 1) := by
  have e (k) : idx_main_v101 (idx_main_v102 i) k 1 = i 1 := congrFun (show idx_main_v101 (idx_main_v102 i) k = ix2 k (i 1) by blk_ext) 1
  rw [val_main_v102_apply, val_main_v101_apply]
  simp only [r100 x0 x1 x3 x4 h0 hc, e]
  pointwise [val_main_cst_21]; rfl
theorem r105 (h0 : ∀ i, IsReal (x0 i)) (hc : ∀ i j, IsReal (LC (HC x1) x3 x4 i j)) (i) : val_main_v105 (F := Ideal) x0 x1 x3 x4 i
    = ∑ k : Fin 2048, DC x0 (HC x1) x3 x4 k (i 1) * HC x1 (ix2 k (i 1)) := by
  have e (k) : idx_main_v104 (idx_main_v105 i) k = ix2 k (i 1) := by blk_ext
  rw [val_main_v105_apply, val_main_v104_apply]
  simp only [e]
  pointwise [val_main_cst_22]
  refine Fin.sum_fin_congr fun k => (val_main_v103_apply ..).trans ((mul_comm _ _).trans (congrArg (· * _) (r100 x0 x1 x3 x4 h0 hc _)))
theorem r144 (i) : val_main_v144 (F := Ideal) x0 x2 x7 i = ∑ k : Fin 2048, DN x0 (ZH x2) x7 k (i 1) := by
  have e (k) : idx_main_v143 (idx_main_v144 i) k 1 = i 1 := congrFun (show idx_main_v143 (idx_main_v144 i) k = ix2 k (i 1) by blk_ext) 1
  rw [val_main_v144_apply, val_main_v143_apply]
  simp only [r142, e]
  pointwise [val_main_cst_32]; rfl
theorem r147 (i) : val_main_v147 (F := Ideal) x0 x2 x7 i = ∑ k : Fin 2048, DN x0 (ZH x2) x7 k (i 1) * HV x2 (ix2 k (i 1)) := by
  have e (k) : idx_main_v146 (idx_main_v147 i) k = ix2 k (i 1) := by blk_ext
  rw [val_main_v147_apply, val_main_v146_apply]
  simp only [e]
  pointwise [val_main_cst_33]
  refine Fin.sum_fin_congr fun k => (val_main_v145_apply ..).trans ((mul_comm _ _).trans (congrArg (· * _) (r142 ..)))

/-- The gradient of the gating's bias. -/
theorem r191 (i) : val_main_v191 (F := Ideal) x0 x2 i = ∑ k : Fin 128, ∑ q : Fin 16, DS x0 (ZH x2) (run q (i 1)) (cr (i 0) k) := by
  have h133 (j) : val_main_v133 (F := Ideal) x0 x2 j = ∑ q : Fin 16, ∑ k : Fin 128, DS x0 (ZH x2) (run q (j 0)) (cr (j 1) k) := by
    refine (sum_fiber ReferenceGatesIdeal.Gen.reducesTo_S16x128x4x128_S128x4_d0_3 j _ _).trans ?_
    refine (congrArg₂ (· + ·) zero_word (Fin.sum_fin_congr fun q => Fin.sum_fin_congr fun k => r132 ..)).trans (zero_add _)
  have h135 (j) : val_main_v135 (F := Ideal) x0 x2 j = ∑ q : Fin 16, ∑ k : Fin 128, DS x0 (ZH x2) (run q (j 0)) (cr (j 1) k) := by
    refine (sum_fiber ReferenceGatesIdeal.Gen.reducesTo_S1x128x4x1_S128x4_d0_3 j _ _).trans ?_
    refine (congrArg₂ (fun a b : EReal => a + b) zero_word (Fin.sum_univ_one _)).trans ((zero_add _).trans ((Fin.sum_univ_one _).trans ?_))
    refine (val_main_v134_apply ..).trans ((congrArg _ ?_).trans (h133 j))
    have h1 : (j 1).val < 4 := (j 1).isLt
    refine funext fun a => ?_
    match a with
    | ⟨0, _⟩ => exact Fin.ext (show (((0 * 128 + (j 0).val) * 4 + (j 1).val) * 1 + 0) / 4 = (j 0).val by omega)
    | ⟨1, _⟩ => exact Fin.ext (show (((0 * 128 + (j 0).val) * 4 + (j 1).val) * 1 + 0) % 4 = (j 1).val by omega)
  rw [val_main_v191_apply, val_main_v190_apply, val_main_v136_apply, h135, Finset.sum_comm]
  rfl

/-- The gradient of the gating's weights. -/
theorem r138 (i) : val_main_v138 (F := Ideal) x0 x2 x5 x6 i
    = ∑ q : Fin 16, ∑ d : Fin 128, DS x0 (ZH x2) (run q (i 1)) (cr (i 0) d) * VN (HV x2) x5 x6 (run q (i 2)) (cr (i 0) d) := by
  unfold val_main_v138
  generalize ha : val_main_v137 (F := Ideal) x0 x2 = y0
  generalize hb : val_main_v51 (F := Ideal) x2 x5 x6 = y1
  simp only [Host.dotGeneral]
  rw [Ideal.dotGeneral_apply, ValueIdx.sum_contr2 ReferenceGatesIdeal.dot_S4x16x128x128_S16x128x4x128_S4x128x128_12_03_3_1_0_2 16 128 rfl rfl rfl]
  refine Fin.sum_fin_congr fun q => Fin.sum_fin_congr fun d => ?_
  have k0 := ValueIdx.contrEquiv2_symm_val0 ReferenceGatesIdeal.dot_S4x16x128x128_S16x128x4x128_S4x128x128_12_03_3_1_0_2 16 128 rfl rfl rfl (q, d)
  have k1 := ValueIdx.contrEquiv2_symm_val1 ReferenceGatesIdeal.dot_S4x16x128x128_S16x128x4x128_S4x128x128_12_03_3_1_0_2 16 128 rfl rfl rfl (q, d)
  generalize (ValueIdx.contrEquiv2 ReferenceGatesIdeal.dot_S4x16x128x128_S16x128x4x128_S4x128x128_12_03_3_1_0_2 16 128 rfl rfl rfl).symm (q, d) = p at k0 k1
  subst ha hb
  rw [r137, r51]
  refine congrArg₂ (fun a b : EReal => a * b) (congrArg₂ (DS x0 (ZH x2)) (congrArg₂ run ?_ ?_) (congrArg₂ cr ?_ ?_))
    (congrArg₂ (VN (HV x2) x5 x6) (congrArg₂ run ?_ ?_) (congrArg₂ cr ?_ ?_))
  · exact Fin.ext k0
  · exact Fin.ext rfl
  · exact Fin.ext rfl
  · exact Fin.ext k1
  · exact Fin.ext k0
  · exact Fin.ext rfl
  · exact Fin.ext rfl
  · exact Fin.ext k1
theorem r141 (i) : val_main_v141 (F := Ideal) x0 x2 x5 x6 i
    = if i 2 ≤ i 1 then ∑ q : Fin 16, ∑ d : Fin 128, DS x0 (ZH x2) (run q (i 1)) (cr (i 0) d) * VN (HV x2) x5 x6 (run q (i 2)) (cr (i 0) d) else (0 : EReal) := by
  rw [val_main_v141_apply, r58, r138]
  refine if_congr Iff.rfl rfl ?_
  pointwise [val_main_call3_v0, val_main_call3_cst]

/-- The activation's gradient: the two halves of its cotangent, then the chain rule. -/
theorem r176_lo (i : Fin 2048) (j : Fin 512) :
    val_main_v176 (F := Ideal) x0 x2 x5 x6 x7 x8 (ix2 i (lo j)) = el x0 i (hi j) * val_main_v65 (F := Ideal) x2 x5 x6 x7 x8 (ix2 i j) := by
  refine (val_main_v176_apply ..).trans ((congrArg₂ (fun a b : EReal => a + b) (x' := 0) (y' := el x0 i (hi j) * val_main_v65 (F := Ideal) x2 x5 x6 x7 x8 (ix2 i j)) ?_ ?_).trans (zero_add _))
  · refine (pad_apply_of_not_inside _ _ _ _ _ _ _ _ (1 : Fin 2) fun h => ?_).trans zero_word
    have : 512 ≤ j.val := h.1
    omega
  · refine (pad_apply_of_inside _ _ _ _ _ _ _ _ (ix2 i j) fun a => ?_).trans ((val_main_v99_apply ..).trans (congrArg (· * _) (r97 x0 (ix2 i j))))
    match a with
    | ⟨0, _⟩ => show i.val = 0 + i.val * 1; omega
    | ⟨1, _⟩ => show j.val = 0 + j.val * 1; omega
theorem r176_hi (i : Fin 2048) (j : Fin 512) :
    val_main_v176 (F := Ideal) x0 x2 x5 x6 x7 x8 (ix2 i (hi j)) = val_main_v173 (F := Ideal) x0 x2 x5 x7 (ix2 i j) := by
  refine (val_main_v176_apply ..).trans ((congrArg₂ (fun a b : EReal => a + b) (x' := val_main_v173 (F := Ideal) x0 x2 x5 x7 (ix2 i j)) (y' := 0) ?_ ?_).trans (add_zero _))
  · refine pad_apply_of_inside _ _ _ _ _ _ _ _ (ix2 i j) fun a => ?_
    match a with
    | ⟨0, _⟩ => show i.val = 0 + i.val * 1; omega
    | ⟨1, _⟩ => show 512 + j.val = 512 + j.val * 1; omega
  · refine (pad_apply_of_not_inside _ _ _ _ _ _ _ _ (1 : Fin 2) fun h => ?_).trans zero_word
    have : (512 + j.val - 0) / (0 + 1) < 512 := h.2.2
    omega
theorem r189 (i : S2048x1024.Idx) (hz : IsReal (ZH x2 (i 0) (i 1))) (hg : IsReal (val_main_v176 (F := Ideal) x0 x2 x5 x6 x7 x8 i)) :
    (val_main_v189 (F := Ideal) x0 x2 x5 x6 x7 x8 i : EReal) = val_main_v176 (F := Ideal) x0 x2 x5 x6 x7 x8 i * dgelu (ZH x2 (i 0) (i 1)) := by
  refine Eq.trans ?_ (dgelu_eq hz hg)
  rw [val_main_v189_apply, val_main_v188_apply, val_main_v184_apply, val_main_v178_apply, val_main_v187_apply, val_main_v186_apply, val_main_v183_apply,
    val_main_v181_apply, val_main_v180_apply, val_main_v177_apply, r20, r0, val_main_v16_apply, val_main_v13_apply, val_main_v15_apply, r11, val_main_v5_apply,
    val_main_v3_apply, r0]
  rfl
theorem WM_real {w : FVec Ideal S4x128x128 .f32} (h : ∀ i, IsReal (w i)) (g : Fin 4) (r c : Fin 128) : IsReal (WM w g r c) := by
  unfold WM
  split
  · exact h _
  · exact ⟨0, rfl⟩
/-- The gating's mixed rows are finite where its arguments are. -/
theorem r65_real (h2 : ∀ i, IsReal (HV x2 i)) (h5 : ∀ i, IsReal (x5 i)) (h6 : ∀ i, IsReal (x6 i)) (h7 : ∀ i, IsReal (x7 i)) (h8 : ∀ i, IsReal (x8 i)) (i) :
    IsReal (val_main_v65 (F := Ideal) x2 x5 x6 x7 x8 i) := by
  rw [val_main_v65_apply, val_main_v64_apply, val_main_v60_apply, val_main_v59_apply, val_main_v63_apply, val_main_v62_apply, val_main_v61_apply]
  refine IsReal.add (IsReal.sum fun k => IsReal.mul ?_ ?_) (h8 _)
  · rw [r51]; exact ((h2 _).mul (h5 _)).add (h6 _)
  · rw [r58w]
    refine WM_real h7 _ _ _
end Ref
end Cert.Gates
end
-- ==== Proof.GatesClaim.lean ====
/- The backward call of the convolution's norm and swish and of the spatial gating against its reference. -/
module

public import proofs.«01_k».proof.Proof.GatesFinal
public import proofs.«01_k».proof.Proof.GatesGrad
public import proofs.«01_k».proof.Proof.FiniteArray
public import proofs.«01_k».proof.Defs
public import Idealize.ShloMosaic.Lib.Claim

@[expose] public section

set_option maxRecDepth 16384

noncomputable section

namespace Cert.Gates

open Cert.KernelGatesIdeal Cert.KernelGatesIdeal.Gen Idealize.ShloMosaic Idealize.ShloMosaic.TcCoe Idealize.SL.Sem Cert.LayerNorm Cert.RealLift
open Cert.ReferenceGatesIdeal.Read

variable (m : (ℓ : Loc nD τ sig) → Buf (Elt Ideal) ℓ)

instance preFacts : Cert.Pre_finite_gates.Facts := ⟨by decide, by decide, by decide, by decide, by decide, by decide⟩

/-- The arguments in memory: cotangent, convolution's rows, gate's preactivation, scale and shift of the two norms, mixing weights, bias. -/
abbrev a0 (c : Dev nD) : FVec Ideal S2048x1024 .f32 := m (c, Proc.tc.devRef main_arg0)
abbrev a1 (c : Dev nD) : FVec Ideal S2048x512 .f32 := m (c, Proc.tc.devRef main_arg1)
abbrev a2 (c : Dev nD) : FVec Ideal S2048x2048 .f32 := m (c, Proc.tc.devRef main_arg2)
abbrev a3 (c : Dev nD) : FVec Ideal S1x512 .f32 := m (c, Proc.tc.devRef main_arg3)
abbrev a4 (c : Dev nD) : FVec Ideal S1x512 .f32 := m (c, Proc.tc.devRef main_arg4)
abbrev a5 (c : Dev nD) : FVec Ideal S1x512 .f32 := m (c, Proc.tc.devRef main_arg5)
abbrev a6 (c : Dev nD) : FVec Ideal S1x512 .f32 := m (c, Proc.tc.devRef main_arg6)
abbrev a7 (c : Dev nD) : FVec Ideal S4x128x128 .f32 := m (c, Proc.tc.devRef main_arg7)
abbrev a8 (c : Dev nD) : FVec Ideal S4x128 .f32 := m (c, Proc.tc.devRef main_arg8)
/-- The gating's mixed rows. -/
abbrev SV (c : Dev nD) : FVec Ideal S2048x512 .f32 := val_main_v65 (F := Ideal) (a2 m c) (a5 m c) (a6 m c) (a7 m c) (a8 m c)

/-- The host lines before the launch are the reference's forward lines. -/
theorem v13_eq (c : Dev nD) : (V m c main_v13 : FVec Ideal S2048x1 .f32) = RC (a1 m c) := by
  funext i; entry_read; rfl
theorem v17_eq (c : Dev nD) : (V m c main_v17 : FVec Ideal S2048x512 .f32) = HC (a1 m c) := by
  funext i; entry_read; rfl
theorem v84_eq (c : Dev nD) : (V m c main_v84 : FVec Ideal S2048x1 .f32) = RV (a2 m c) := by
  funext i; entry_read; rfl
theorem v88_eq (c : Dev nD) : (V m c main_v88 : FVec Ideal S2048x512 .f32) = HV (a2 m c) := by
  funext i; entry_read; rfl
theorem v70_eq (c : Dev nD) : (V m c main_v70 : FVec Ideal S2048x512 .f32) = SV m c := by
  funext i; entry_read; rfl

theorem z_eq (c : Dev nD) : z m c = ZH (a2 m c) := by
  funext i j; exact congrFun (V_main_arg2 m c) _
theorem dc_eq (c : Dev nD) : dc m c = DC (a0 m c) (HC (a1 m c)) (a3 m c) (a4 m c) := by
  rw [dc, V_main_arg0, V_main_arg3, V_main_arg4, v17_eq]
theorem dy_eq (c : Dev nD) : dy m c = DY (a0 m c) (HC (a1 m c)) (RC (a1 m c)) (a3 m c) (a4 m c) := by
  rw [dy, V_main_arg0, V_main_arg3, V_main_arg4, v17_eq, v13_eq]
theorem ds_eq (c : Dev nD) : ds m c = DS (a0 m c) (ZH (a2 m c)) := by
  rw [ds, V_main_arg0, z_eq]
theorem vn_eq (c : Dev nD) : vn m c = VN (HV (a2 m c)) (a5 m c) (a6 m c) := by
  rw [vn, V_main_arg5, V_main_arg6, v88_eq]
theorem dn_eq (c : Dev nD) : dn m c = DN (a0 m c) (ZH (a2 m c)) (a7 m c) := by
  rw [dn, V_main_arg0, V_main_arg7, z_eq]
theorem dv_eq (c : Dev nD) : dv m c = DV (a0 m c) (ZH (a2 m c)) (HV (a2 m c)) (RV (a2 m c)) (a5 m c) (a7 m c) := by
  rw [dv, V_main_arg0, V_main_arg5, V_main_arg7, z_eq, v88_eq, v84_eq]

section Finite
variable (h : Cert.Pre_KernelGatesIdeal_finite_gates m)
include h

theorem f0 (c : Dev nD) (i) : IsReal (a0 m c i) := isReal_of_finite _ _ (h c).1 i
theorem f1 (c : Dev nD) (i) : IsReal (a1 m c i) := isReal_of_finite _ _ (h c).2.1 i
theorem f2 (c : Dev nD) (i) : IsReal (a2 m c i) := isReal_of_finite _ _ (h c).2.2.1 i
theorem f3 (c : Dev nD) (i) : IsReal (a3 m c i) := isReal_of_finite _ _ (h c).2.2.2.1 i
theorem f4 (c : Dev nD) (i) : IsReal (a4 m c i) := isReal_of_finite _ _ (h c).2.2.2.2.1 i
theorem f5 (c : Dev nD) (i) : IsReal (a5 m c i) := isReal_of_finite _ _ (h c).2.2.2.2.2.1 i
theorem f6 (c : Dev nD) (i) : IsReal (a6 m c i) := isReal_of_finite _ _ (h c).2.2.2.2.2.2.1 i
theorem f7 (c : Dev nD) (i) : IsReal (a7 m c i) := isReal_of_finite _ _ (h c).2.2.2.2.2.2.2.1 i
theorem f8 (c : Dev nD) (i) : IsReal (a8 m c i) := isReal_of_finite _ _ (h c).2.2.2.2.2.2.2.2 i

theorem hc_real (c : Dev nD) (i) : IsReal (HC (a1 m c) i) := by
  rw [HC, r88]; exact hat_real (fun _ => f1 m h c _) N_real ofBits_eps _
theorem xv_real (c : Dev nD) (i j) : IsReal (XV (a2 m c) i j) := gelu_real (f2 m h c _)
theorem hv_real (c : Dev nD) (i) : IsReal (HV (a2 m c) i) := by
  rw [HV, r46]; exact hat_real (xv_real m h c _) N_real ofBits_eps _
theorem rv_real (c : Dev nD) (i) : IsReal (RV (a2 m c) i) := by
  rw [RV, r41]; exact rstd_real (xv_real m h c _) N_real ofBits_eps
theorem lc_real (c : Dev nD) (i j) : IsReal (LC (HC (a1 m c)) (a3 m c) (a4 m c) i j) :=
  ((hc_real m h c _).mul (f3 m h c _)).add (f4 m h c _)
theorem one_real : IsReal one := ⟨1, one_eq⟩
theorem cy_real (c : Dev nD) (i j) : IsReal (CY (a0 m c) (a1 m c) (a3 m c) (a4 m c) i j) :=
  (((f0 m h c _).mul (sigmoid_real _)).mul (IsReal.add ⟨1, one_eq⟩ ((lc_real m h c _ _).mul (IsReal.sub ⟨1, one_eq⟩ (sigmoid_real _))))).mul (f3 m h c _)
theorem dn_real (c : Dev nD) (i j) : IsReal (DN (a0 m c) (ZH (a2 m c)) (a7 m c) i j) :=
  IsReal.sum fun k => (WM_real (f7 m h c) _ _ _).mul ((f0 m h c _).mul (gelu_real (f2 m h c _)))
theorem cv_real (c : Dev nD) (i j) : IsReal (CV (a0 m c) (a2 m c) (a5 m c) (a7 m c) i j) := (dn_real m h c i j).mul (f5 m h c _)

theorem dv_ref (c : Dev nD) (i j) : val_main_v173 (F := Ideal) (a0 m c) (a2 m c) (a5 m c) (a7 m c) (ix2 i j) = dv m c i j :=
  (r173_eq _ _ _ _ (xv_real m h c) (cv_real m h c) _).trans (congrFun (congrFun (dv_eq m c) i) j).symm
theorem dv_real (c : Dev nD) (i j) : IsReal (dv m c i j) := by
  rw [dv_eq]
  exact back_real (rv_real m h c _) (cv_real m h c i) (fun _ => hv_real m h c _) N_real j

theorem res131 (c : Dev nD) : val_main_v131 (F := Ideal) (a0 m c) (a1 m c) (a3 m c) (a4 m c) = (dats m 0 c).arrAt 12 (cfgs 0).N := by
  refine (funext fun i => ?_).trans (final12 m c).symm
  exact (r131_eq _ _ _ _ (f0 m h c) (f1 m h c) (lc_real m h c) (cy_real m h c) i).trans (congrFun (congrFun (dy_eq m c) _) _).symm
theorem res189 (c : Dev nD) : val_main_v189 (F := Ideal) (a0 m c) (a2 m c) (a5 m c) (a6 m c) (a7 m c) (a8 m c) = (dats m 0 c).arrAt 13 (cfgs 0).N := by
  refine (funext fun i => ?_).trans (final13 m c).symm
  have hs (i) : IsReal (SV m c i) := r65_real _ _ _ _ _ (hv_real m h c) (f5 m h c) (f6 m h c) (f7 m h c) (f8 m h c) i
  by_cases hj : (i 1).val < 512
  · have e : i = ix2 (i 0) (lo ⟨(i 1).val, hj⟩) := by blk_ext
    have hv := (congrArg _ e).trans (r176_lo (a0 m c) (a2 m c) (a5 m c) (a6 m c) (a7 m c) (a8 m c) (i 0) ⟨(i 1).val, hj⟩)
    refine ((r189 _ _ _ _ _ _ i (f2 m h c _) (hv ▸ (f0 m h c _).mul (hs _))).trans ?_).trans (dif_pos hj).symm
    refine congrArg₂ (fun a b : EReal => a * dgelu b) (hv.trans ?_) (congrFun (congrFun (z_eq m c) _) _).symm
    exact congrArg₂ (fun a b : EReal => a * b) (congrFun (V_main_arg0 m c) _).symm (congrFun (v70_eq m c) _).symm
  · have e : i = ix2 (i 0) (hi ⟨(i 1).val - 512, by have : (i 1).val < 1024 := (i 1).isLt; omega⟩) := by
      funext a
      match a with
      | ⟨0, _⟩ => rfl
      | ⟨1, _⟩ => exact Fin.ext (show (i 1).val = 512 + ((i 1).val - 512) by omega)
    have hv := ((congrArg _ e).trans (r176_hi (a0 m c) (a2 m c) (a5 m c) (a6 m c) (a7 m c) (a8 m c) (i 0) _)).trans (dv_ref m h c _ _)
    refine ((r189 _ _ _ _ _ _ i (f2 m h c _) (hv ▸ dv_real m h c _ _)).trans ?_).trans (dif_neg hj).symm
    refine congrArg₂ (fun a b : EReal => a * dgelu b) hv ?_
    exact (congrArg (ZH (a2 m c) (i 0)) (congrFun e 1)).trans (congrFun (congrFun (z_eq m c) _) _).symm
theorem res105 (c : Dev nD) : val_main_v105 (F := Ideal) (a0 m c) (a1 m c) (a3 m c) (a4 m c) = (dats m 0 c).arrAt 14 (cfgs 0).N := by
  refine (funext fun i => (r105 _ _ _ _ (f0 m h c) (lc_real m h c) i).trans ?_).trans (final14 m c).symm
  simp only [tCg, dc_eq]
  exact Fin.sum_fin_congr fun k => congrArg (_ * ·) (congrFun (v17_eq m c) _).symm
theorem res102 (c : Dev nD) : val_main_v102 (F := Ideal) (a0 m c) (a1 m c) (a3 m c) (a4 m c) = (dats m 0 c).arrAt 15 (cfgs 0).N := by
  refine (funext fun i => (r102 _ _ _ _ (f0 m h c) (lc_real m h c) i).trans ?_).trans (final15 m c).symm
  simp only [tCb, dc_eq]
end Finite

theorem res147 (c : Dev nD) : val_main_v147 (F := Ideal) (a0 m c) (a2 m c) (a7 m c) = (dats m 0 c).arrAt 16 (cfgs 0).N := by
  refine (funext fun i => (r147 ..).trans ?_).trans (final16 m c).symm
  simp only [tVg, dn_eq]
  exact Fin.sum_fin_congr fun k => congrArg (_ * ·) (congrFun (v88_eq m c) _).symm
theorem res144 (c : Dev nD) : val_main_v144 (F := Ideal) (a0 m c) (a2 m c) (a7 m c) = (dats m 0 c).arrAt 17 (cfgs 0).N := by
  refine (funext fun i => (r144 ..).trans ?_).trans (final17 m c).symm
  simp only [tVb, dn_eq]
theorem res141 (c : Dev nD) : val_main_v141 (F := Ideal) (a0 m c) (a2 m c) (a5 m c) (a6 m c) = (dats m 0 c).arrAt 18 (cfgs 0).N := by
  refine (funext fun i => (r141 ..).trans ?_).trans (final18 m c).symm
  simp only [fW, ds_eq, vn_eq]
theorem res191 (c : Dev nD) : val_main_v191 (F := Ideal) (a0 m c) (a2 m c) = (dats m 0 c).arrAt 19 (cfgs 0).N := by
  refine (funext fun i => (r191 ..).trans ?_).trans (final19 m c).symm
  simp only [ds_eq]

set_option maxHeartbeats 3200000 in
/-- Kernel and reference compute the same eight arrays. -/
theorem algebraic : Cert.algebraic_KernelGatesIdeal_ReferenceGatesIdeal_pre_finite_gates := by
  pair_intro
  · exact Cert.KernelGatesIdeal.Value.run_blocks m g
  · refine (θ_run Cert.ReferenceGatesIdeal.defs _ _).mono (fun r hr c => ?_) (Cert.ReferenceGatesIdeal.Value.run m' g')
    obtain ⟨h0, h1, h2, h3, h4, h5, h6, h7, h8⟩ := hagree c
    have e0 : StableHlo.launchContents m' c (Proc.tc.devRef ReferenceGatesIdeal.main_arg0) = a0 m c := h0
    have e1 : StableHlo.launchContents m' c (Proc.tc.devRef ReferenceGatesIdeal.main_arg1) = a1 m c := h1
    have e2 : StableHlo.launchContents m' c (Proc.tc.devRef ReferenceGatesIdeal.main_arg2) = a2 m c := h2
    have e3 : StableHlo.launchContents m' c (Proc.tc.devRef ReferenceGatesIdeal.main_arg3) = a3 m c := h3
    have e4 : StableHlo.launchContents m' c (Proc.tc.devRef ReferenceGatesIdeal.main_arg4) = a4 m c := h4
    have e5 : StableHlo.launchContents m' c (Proc.tc.devRef ReferenceGatesIdeal.main_arg5) = a5 m c := h5
    have e6 : StableHlo.launchContents m' c (Proc.tc.devRef ReferenceGatesIdeal.main_arg6) = a6 m c := h6
    have e7 : StableHlo.launchContents m' c (Proc.tc.devRef ReferenceGatesIdeal.main_arg7) = a7 m c := h7
    have e8 : StableHlo.launchContents m' c (Proc.tc.devRef ReferenceGatesIdeal.main_arg8) = a8 m c := h8
    obtain ⟨k0, k1, k2, k3, k4, k5, k6, k7, k⟩ := hr c
    refine ⟨k0.trans ?_, k1.trans ?_, k2.trans ?_, k3.trans ?_, k4.trans ?_, k5.trans ?_, k6.trans ?_, k7.trans ?_, k⟩
    · rw [val_main_v131_eq, e0, e1, e3, e4]; exact res131 m hpre c
    · rw [val_main_v189_eq, e0, e2, e5, e6, e7, e8]; exact res189 m hpre c
    · rw [val_main_v105_eq, e0, e1, e3, e4]; exact res105 m hpre c
    · rw [val_main_v102_eq, e0, e1, e3, e4]; exact res102 m hpre c
    · rw [val_main_v147_eq, e0, e2, e7]; exact res147 m c
    · rw [val_main_v144_eq, e0, e2, e7]; exact res144 m c
    · rw [val_main_v141_eq, e0, e2, e5, e6]; exact res141 m c
    · rw [val_main_v191_eq, e0, e2]; exact res191 m c
end Cert.Gates
end
-- ==== Proof.FfnStores.lean ====
/- The stores of one grid point of the channel mixer's backward call: eight runs of 256 rows, each from its own rows. -/
module

public import proofs.«01_k».proof.Proof.Gen.KernelFfnIdeal.Value
public import proofs.«01_k».proof.Proof.LayerNorm
public import proofs.«01_k».proof.Proof.Sigmoid
public import proofs.«01_k».proof.Proof.Canon
public import Idealize.ShloMosaic.Lib.Pipeline.ValueKit
public import Idealize.ShloMosaic.Lib.Pipeline.ReadBack

@[expose] public section

set_option maxRecDepth 16384

noncomputable section

namespace Cert.Ffn

open Cert.KernelFfnIdeal Cert.KernelFfnIdeal.Gen Idealize.ShloMosaic Idealize.ShloMosaic.TcCoe Idealize.SL.Sem Cert.RealLift

/-- One as the program's literal. -/
abbrev one : EReal := Ideal.ofBits .f32 0x3F800000#32

/-- The 256 rows from row `k` on, of a wide array and of a column block. -/
abbrev ldw (x : FVec Ideal S2048x1024 .bf16) (k : ℕ) (inb : ∀ a, ![k, 0] a + ![256, 1024] a ≤ S2048x1024.size a) : FVec Ideal S256x1024 .bf16 :=
  View.ld (Val := Elt Ideal) (e' := .bf16) x (Rect.unit (s := S2048x1024) ![k, 0] ![256, 1024] inb)
abbrev ldo (x : FVec Ideal S2048x1024 .f32) (k : ℕ) (inb : ∀ a, ![k, 0] a + ![256, 1024] a ≤ S2048x1024.size a) : FVec Ideal S256x1024 .f32 :=
  View.ld (Val := Elt Ideal) (e' := .f32) x (Rect.unit (s := S2048x1024) ![k, 0] ![256, 1024] inb)
abbrev ldc (x : FVec Ideal S2048x512 .bf16) (k : ℕ) (inb : ∀ a, ![k, 0] a + ![256, 512] a ≤ S2048x512.size a) : FVec Ideal S256x512 .bf16 :=
  View.ld (Val := Elt Ideal) (e' := .bf16) x (Rect.unit (s := S2048x512) ![k, 0] ![256, 512] inb)

section
variable {n q : ℕ} (d : FVec Ideal ⟨2, ![n, 1024]⟩ .bf16) (w5 : FVec Ideal ⟨2, ![q, 1024]⟩ .bf16) (g u : FVec Ideal ⟨2, ![n, q]⟩ .bf16)
  (w3 w4 : FVec Ideal ⟨2, ![1024, q]⟩ .bf16)

/-- The gradients of the two preactivations of a column block, and the sum that the input's gradient takes of the block's columns. -/
def dh (i : Fin n) (j : Fin q) : EReal := ∑ k : Fin 1024, (d (ix2 i k) : EReal) * (w5 (ix2 j k) : EReal)
def dg (i : Fin n) (j : Fin q) : EReal :=
  dh d w5 i j * (u (ix2 i j) : EReal) * sigmoid (g (ix2 i j)) * (one + (g (ix2 i j) : EReal) * (one - sigmoid (g (ix2 i j))))
def du (i : Fin n) (j : Fin q) : EReal := dh d w5 i j * (g (ix2 i j) : EReal) * sigmoid (g (ix2 i j))
def dx (i : Fin n) (j : Fin 1024) : EReal :=
  ∑ k : Fin q, dg d w5 g u i k * (w3 (ix2 j k) : EReal) + ∑ k : Fin q, du d w5 g i k * (w4 (ix2 j k) : EReal)
end

variable (D : FVec Ideal S2048x1024 .bf16) (w5 : FVec Ideal S512x1024 .bf16) (g u : FVec Ideal S2048x512 .bf16)
  (w3 w4 : FVec Ideal S1024x512 .bf16) (o : FVec Ideal S2048x1024 .f32)

theorem ldw_at (x : FVec Ideal S2048x1024 .bf16) (k : ℕ) (inb) (r : Fin 256) (j : Fin 1024) (i : Fin 2048) (h : i.val = k + r.val) :
    ldw x k inb (ix2 r j) = x (ix2 i j) :=
  View.ld_unit_apply_of (Val := Elt Ideal) (e := .bf16) x _ _ _ _ _ fun a => match a with
    | 0 => h
    | 1 => (Nat.zero_add _).symm
theorem ldo_at (x : FVec Ideal S2048x1024 .f32) (k : ℕ) (inb) (r : Fin 256) (j : Fin 1024) (i : Fin 2048) (h : i.val = k + r.val) :
    ldo x k inb (ix2 r j) = x (ix2 i j) :=
  View.ld_unit_apply_of (Val := Elt Ideal) (e := .f32) x _ _ _ _ _ fun a => match a with
    | 0 => h
    | 1 => (Nat.zero_add _).symm
theorem ldc_at (x : FVec Ideal S2048x512 .bf16) (k : ℕ) (inb) (r : Fin 256) (j : Fin 512) (i : Fin 2048) (h : i.val = k + r.val) :
    ldc x k inb (ix2 r j) = x (ix2 i j) :=
  View.ld_unit_apply_of (Val := Elt Ideal) (e := .bf16) x _ _ _ _ _ fun a => match a with
    | 0 => h
    | 1 => (Nat.zero_add _).symm

section
variable (k : ℕ) (iw : ∀ a, ![k, 0] a + ![256, 1024] a ≤ S2048x1024.size a) (ic : ∀ a, ![k, 0] a + ![256, 512] a ≤ S2048x512.size a)
  (r : Fin 256) (i : Fin 2048) (h : i.val = k + r.val) (j : Fin 512)
include h
theorem dh_at : dh (ldw D k iw) w5 r j = dh D w5 i j :=
  Fin.sum_fin_congr fun l => congrArg (fun a : EReal => a * _) (ldw_at D k iw r l i h)
theorem dg_at : dg (n := 256) (q := 512) (ldw D k iw) w5 (ldc g k ic) (ldc u k ic) r j = dg D w5 g u i j := by
  rw [dg, dg, dh_at D w5 k iw r i h, ldc_at g k ic r j i h, ldc_at u k ic r j i h]
theorem du_at : du (n := 256) (q := 512) (ldw D k iw) w5 (ldc g k ic) r j = du D w5 g i j := by
  rw [du, du, dh_at D w5 k iw r i h, ldc_at g k ic r j i h]
theorem dx_at (j : Fin 1024) : (ldo o k iw (ix2 r j) : EReal) + dx (n := 256) (q := 512) (ldw D k iw) w5 (ldc g k ic) (ldc u k ic) w3 w4 r j = o (ix2 i j) + dx D w5 g u w3 w4 i j := by
  rw [ldo_at o k iw r j i h, dx, dx]
  simp only [dg_at D w5 g u k iw ic r i h, du_at D w5 g k iw ic r i h]
end

theorem placeG (k : ℕ) (ic) (iw) (x : S256x512.Idx) : dg (n := 256) (q := 512) (ldw D k iw) w5 (ldc g k ic) (ldc u k ic) (x 0) (x 1)
    = (fun y : S2048x512.Idx => dg D w5 g u (y 0) (y 1)) ((Rect.unit (s := S2048x512) ![k, 0] ![256, 512] ic).emb x) := by
  have e1 : ((Rect.unit (s := S2048x512) ![k, 0] ![256, 512] ic).emb x) 1 = x 1 := Fin.ext ((ValueKit.rect_emb_unit_val (s := S2048x512) ![k, 0] ![256, 512] ic x 1).trans (Nat.zero_add _))
  exact (dg_at D w5 g u k iw ic (x 0) _ (ValueKit.rect_emb_unit_val (s := S2048x512) ![k, 0] ![256, 512] ic x 0) (x 1)).trans (congrArg (dg D w5 g u _) e1.symm)
theorem placeU (k : ℕ) (ic) (iw) (x : S256x512.Idx) : du (n := 256) (q := 512) (ldw D k iw) w5 (ldc g k ic) (x 0) (x 1)
    = (fun y : S2048x512.Idx => du D w5 g (y 0) (y 1)) ((Rect.unit (s := S2048x512) ![k, 0] ![256, 512] ic).emb x) := by
  have e1 : ((Rect.unit (s := S2048x512) ![k, 0] ![256, 512] ic).emb x) 1 = x 1 := Fin.ext ((ValueKit.rect_emb_unit_val (s := S2048x512) ![k, 0] ![256, 512] ic x 1).trans (Nat.zero_add _))
  exact (du_at D w5 g k iw ic (x 0) _ (ValueKit.rect_emb_unit_val (s := S2048x512) ![k, 0] ![256, 512] ic x 0) (x 1)).trans (congrArg (du D w5 g _) e1.symm)
theorem placeX (k : ℕ) (iw) (ic) (x : S256x1024.Idx) :
    (ldo o k iw (ix2 (x 0) (x 1)) : EReal) + dx (n := 256) (q := 512) (ldw D k iw) w5 (ldc g k ic) (ldc u k ic) w3 w4 (x 0) (x 1)
    = (fun y : S2048x1024.Idx => o y + dx D w5 g u w3 w4 (y 0) (y 1)) ((Rect.unit (s := S2048x1024) ![k, 0] ![256, 1024] iw).emb x) := by
  have e0 := ValueKit.rect_emb_unit_val (s := S2048x1024) ![k, 0] ![256, 1024] iw x 0
  have e1 : ((Rect.unit (s := S2048x1024) ![k, 0] ![256, 1024] iw).emb x) 1 = x 1 := Fin.ext ((ValueKit.rect_emb_unit_val (s := S2048x1024) ![k, 0] ![256, 1024] iw x 1).trans (Nat.zero_add _))
  refine (dx_at D w5 g u w3 w4 o k iw ic (x 0) _ e0 (x 1)).trans ?_
  refine congrArg₂ (fun a b : EReal => a + b) (congrArg o ?_) (congrArg (dx D w5 g u w3 w4 _) e1.symm)
  funext a
  match a with
  | 0 => rfl
  | 1 => exact e1.symm

/-- The eight stores of each of the three, last first. -/
def storesX : List (View.Piece (Elt Ideal) S2048x1024 .f32) :=
  [⟨Rect.unit (s := S2048x1024) ![1792, 0] ![256, 1024] inb_S2048x1024_S256x1024_1792_0, k0_pay75 (F := Ideal) (k0_pay71 (ldw D 1792 inb_S2048x1024_S256x1024_1792_0) w5 (ldc g 1792 inb_S2048x512_S256x512_1792_0) (ldc u 1792 inb_S2048x512_S256x512_1792_0)) (k0_pay72 (ldw D 1792 inb_S2048x1024_S256x1024_1792_0) w5 (ldc g 1792 inb_S2048x512_S256x512_1792_0)) (ldo o 1792 inb_S2048x1024_S256x1024_1792_0) w3 w4⟩,
   ⟨Rect.unit (s := S2048x1024) ![1536, 0] ![256, 1024] inb_S2048x1024_S256x1024_1536_0, k0_pay67 (F := Ideal) (k0_pay64 (ldo o 1536 inb_S2048x1024_S256x1024_1536_0)) (k0_pay65 (k0_pay57 (ldw D 1536 inb_S2048x1024_S256x1024_1536_0) w5) (ldc g 1536 inb_S2048x512_S256x512_1536_0) (ldc u 1536 inb_S2048x512_S256x512_1536_0) w3) (k0_pay66 (k0_pay57 (ldw D 1536 inb_S2048x1024_S256x1024_1536_0) w5) (ldc g 1536 inb_S2048x512_S256x512_1536_0) w4)⟩,
   ⟨Rect.unit (s := S2048x1024) ![1280, 0] ![256, 1024] inb_S2048x1024_S256x1024_1280_0, k0_pay56 (F := Ideal) (k0_pay46 (ldw D 1280 inb_S2048x1024_S256x1024_1280_0) w5) (k0_pay47 (ldc g 1280 inb_S2048x512_S256x512_1280_0)) (k0_pay48 (ldc u 1280 inb_S2048x512_S256x512_1280_0)) (k0_pay49 (ldc g 1280 inb_S2048x512_S256x512_1280_0)) k0_pay50 (ldo o 1280 inb_S2048x1024_S256x1024_1280_0) w3 w4⟩,
   ⟨Rect.unit (s := S2048x1024) ![1024, 0] ![256, 1024] inb_S2048x1024_S256x1024_1024_0, k0_pay45 (F := Ideal) (k0_pay41 (ldw D 1024 inb_S2048x1024_S256x1024_1024_0) w5 (ldc g 1024 inb_S2048x512_S256x512_1024_0) (ldc u 1024 inb_S2048x512_S256x512_1024_0)) (k0_pay42 (ldw D 1024 inb_S2048x1024_S256x1024_1024_0) w5 (ldc g 1024 inb_S2048x512_S256x512_1024_0)) (ldo o 1024 inb_S2048x1024_S256x1024_1024_0) w3 w4⟩,
   ⟨Rect.unit (s := S2048x1024) ![768, 0] ![256, 1024] inb_S2048x1024_S256x1024_768_0, k0_pay37 (F := Ideal) (k0_pay32 (ldw D 768 inb_S2048x1024_S256x1024_768_0) w5 (ldc g 768 inb_S2048x512_S256x512_768_0) (ldc u 768 inb_S2048x512_S256x512_768_0)) (k0_pay33 (ldw D 768 inb_S2048x1024_S256x1024_768_0) w5 (ldc g 768 inb_S2048x512_S256x512_768_0)) (k0_pay36 (ldo o 768 inb_S2048x1024_S256x1024_768_0)) w3 w4⟩,
   ⟨Rect.unit (s := S2048x1024) ![512, 0] ![256, 1024] inb_S2048x1024_S256x1024_512_0, k0_pay28 (F := Ideal) (k0_pay20 (ldw D 512 inb_S2048x1024_S256x1024_512_0) w5) (k0_pay21 (ldc g 512 inb_S2048x512_S256x512_512_0)) (k0_pay22 (ldc u 512 inb_S2048x512_S256x512_512_0)) (ldo o 512 inb_S2048x1024_S256x1024_512_0) w3 w4⟩,
   ⟨Rect.unit (s := S2048x1024) ![256, 0] ![256, 1024] inb_S2048x1024_S256x1024_256_0, k0_pay19 (F := Ideal) (k0_pay10 (ldw D 256 inb_S2048x1024_S256x1024_256_0) w5) (k0_pay11 (ldc g 256 inb_S2048x512_S256x512_256_0)) (k0_pay12 (ldc g 256 inb_S2048x512_S256x512_256_0)) (k0_pay13 (ldw D 256 inb_S2048x1024_S256x1024_256_0) w5 (ldc g 256 inb_S2048x512_S256x512_256_0) (ldc u 256 inb_S2048x512_S256x512_256_0)) (k0_pay14 (ldc g 256 inb_S2048x512_S256x512_256_0)) (Scalar.ofBits .f32 0x3F800000#32) (ldo o 256 inb_S2048x1024_S256x1024_256_0) w3 w4⟩,
   ⟨Rect.unit (s := S2048x1024) ![0, 0] ![256, 1024] inb_S2048x1024_S256x1024_0_0, k0_pay9 (F := Ideal) (k0_pay5 (ldw D 0 inb_S2048x1024_S256x1024_0_0) w5 (ldc g 0 inb_S2048x512_S256x512_0_0) (ldc u 0 inb_S2048x512_S256x512_0_0)) (k0_pay6 (ldw D 0 inb_S2048x1024_S256x1024_0_0) w5 (ldc g 0 inb_S2048x512_S256x512_0_0)) (ldo o 0 inb_S2048x1024_S256x1024_0_0) w3 w4⟩]
def storesG : List (View.Piece (Elt Ideal) S2048x512 .bf16) :=
  [⟨Rect.unit (s := S2048x512) ![1792, 0] ![256, 512] inb_S2048x512_S256x512_1792_0, k0_pay73 (F := Ideal) (ldw D 1792 inb_S2048x1024_S256x1024_1792_0) w5 (ldc g 1792 inb_S2048x512_S256x512_1792_0) (ldc u 1792 inb_S2048x512_S256x512_1792_0)⟩,
   ⟨Rect.unit (s := S2048x512) ![1536, 0] ![256, 512] inb_S2048x512_S256x512_1536_0, k0_pay62 (F := Ideal) (k0_pay57 (ldw D 1536 inb_S2048x1024_S256x1024_1536_0) w5) (ldc g 1536 inb_S2048x512_S256x512_1536_0) (ldc u 1536 inb_S2048x512_S256x512_1536_0)⟩,
   ⟨Rect.unit (s := S2048x512) ![1280, 0] ![256, 512] inb_S2048x512_S256x512_1280_0, k0_pay54 (F := Ideal) (k0_pay46 (ldw D 1280 inb_S2048x1024_S256x1024_1280_0) w5) (k0_pay47 (ldc g 1280 inb_S2048x512_S256x512_1280_0)) (k0_pay48 (ldc u 1280 inb_S2048x512_S256x512_1280_0)) (k0_pay49 (ldc g 1280 inb_S2048x512_S256x512_1280_0)) k0_pay50⟩,
   ⟨Rect.unit (s := S2048x512) ![1024, 0] ![256, 512] inb_S2048x512_S256x512_1024_0, k0_pay43 (F := Ideal) (k0_pay41 (ldw D 1024 inb_S2048x1024_S256x1024_1024_0) w5 (ldc g 1024 inb_S2048x512_S256x512_1024_0) (ldc u 1024 inb_S2048x512_S256x512_1024_0))⟩,
   ⟨Rect.unit (s := S2048x512) ![768, 0] ![256, 512] inb_S2048x512_S256x512_768_0, k0_pay34 (F := Ideal) (ldw D 768 inb_S2048x1024_S256x1024_768_0) w5 (ldc g 768 inb_S2048x512_S256x512_768_0) (ldc u 768 inb_S2048x512_S256x512_768_0)⟩,
   ⟨Rect.unit (s := S2048x512) ![512, 0] ![256, 512] inb_S2048x512_S256x512_512_0, k0_pay26 (F := Ideal) (k0_pay20 (ldw D 512 inb_S2048x1024_S256x1024_512_0) w5) (k0_pay21 (ldc g 512 inb_S2048x512_S256x512_512_0)) (k0_pay22 (ldc u 512 inb_S2048x512_S256x512_512_0))⟩,
   ⟨Rect.unit (s := S2048x512) ![256, 0] ![256, 512] inb_S2048x512_S256x512_256_0, k0_pay17 (F := Ideal) (k0_pay13 (ldw D 256 inb_S2048x1024_S256x1024_256_0) w5 (ldc g 256 inb_S2048x512_S256x512_256_0) (ldc u 256 inb_S2048x512_S256x512_256_0)) (k0_pay14 (ldc g 256 inb_S2048x512_S256x512_256_0)) (Scalar.ofBits .f32 0x3F800000#32)⟩,
   ⟨Rect.unit (s := S2048x512) ![0, 0] ![256, 512] inb_S2048x512_S256x512_0_0, k0_pay7 (F := Ideal) (ldw D 0 inb_S2048x1024_S256x1024_0_0) w5 (ldc g 0 inb_S2048x512_S256x512_0_0) (ldc u 0 inb_S2048x512_S256x512_0_0)⟩]
def storesU : List (View.Piece (Elt Ideal) S2048x512 .bf16) :=
  [⟨Rect.unit (s := S2048x512) ![1792, 0] ![256, 512] inb_S2048x512_S256x512_1792_0, k0_pay74 (F := Ideal) (ldw D 1792 inb_S2048x1024_S256x1024_1792_0) w5 (ldc g 1792 inb_S2048x512_S256x512_1792_0)⟩,
   ⟨Rect.unit (s := S2048x512) ![1536, 0] ![256, 512] inb_S2048x512_S256x512_1536_0, k0_pay63 (F := Ideal) (k0_pay57 (ldw D 1536 inb_S2048x1024_S256x1024_1536_0) w5) (ldc g 1536 inb_S2048x512_S256x512_1536_0)⟩,
   ⟨Rect.unit (s := S2048x512) ![1280, 0] ![256, 512] inb_S2048x512_S256x512_1280_0, k0_pay55 (F := Ideal) (k0_pay46 (ldw D 1280 inb_S2048x1024_S256x1024_1280_0) w5) (k0_pay47 (ldc g 1280 inb_S2048x512_S256x512_1280_0)) (k0_pay49 (ldc g 1280 inb_S2048x512_S256x512_1280_0)) k0_pay50⟩,
   ⟨Rect.unit (s := S2048x512) ![1024, 0] ![256, 512] inb_S2048x512_S256x512_1024_0, k0_pay44 (F := Ideal) (k0_pay42 (ldw D 1024 inb_S2048x1024_S256x1024_1024_0) w5 (ldc g 1024 inb_S2048x512_S256x512_1024_0))⟩,
   ⟨Rect.unit (s := S2048x512) ![768, 0] ![256, 512] inb_S2048x512_S256x512_768_0, k0_pay35 (F := Ideal) (ldw D 768 inb_S2048x1024_S256x1024_768_0) w5 (ldc g 768 inb_S2048x512_S256x512_768_0)⟩,
   ⟨Rect.unit (s := S2048x512) ![512, 0] ![256, 512] inb_S2048x512_S256x512_512_0, k0_pay27 (F := Ideal) (k0_pay20 (ldw D 512 inb_S2048x1024_S256x1024_512_0) w5) (k0_pay21 (ldc g 512 inb_S2048x512_S256x512_512_0))⟩,
   ⟨Rect.unit (s := S2048x512) ![256, 0] ![256, 512] inb_S2048x512_S256x512_256_0, k0_pay18 (F := Ideal) (k0_pay10 (ldw D 256 inb_S2048x1024_S256x1024_256_0) w5) (k0_pay11 (ldc g 256 inb_S2048x512_S256x512_256_0)) (k0_pay12 (ldc g 256 inb_S2048x512_S256x512_256_0))⟩,
   ⟨Rect.unit (s := S2048x512) ![0, 0] ![256, 512] inb_S2048x512_S256x512_0_0, k0_pay8 (F := Ideal) (k0_pay6 (ldw D 0 inb_S2048x1024_S256x1024_0_0) w5 (ldc g 0 inb_S2048x512_S256x512_0_0))⟩]

theorem storesX_at (L : List (View.Piece (Elt Ideal) S2048x1024 .f32)) (y : S2048x1024.Idx) :
    View.canon (storesX D w5 g u w3 w4 o ++ L) y = o y + dx D w5 g u w3 w4 (y 0) (y 1) := by
  have h : View.PiecesOf (Val := Elt Ideal) (s := S2048x1024) (e := .f32) (fun y => o y + dx D w5 g u w3 w4 (y 0) (y 1)) (storesX D w5 g u w3 w4 o) :=
   ⟨fun x => by refine Eq.trans ?_ (placeX D w5 g u w3 w4 o 1792 inb_S2048x1024_S256x1024_1792_0 inb_S2048x512_S256x512_1792_0 x); pointwise [k0_pay75, k0_pay72, k0_pay71, k0_pay70, k0_pay69, k0_pay68, dx, dg, du, dh, sigmoid, zero_sub],
    fun x => by refine Eq.trans ?_ (placeX D w5 g u w3 w4 o 1536 inb_S2048x1024_S256x1024_1536_0 inb_S2048x512_S256x512_1536_0 x); pointwise [k0_pay67, k0_pay66, k0_pay65, k0_pay64, k0_pay61, k0_pay60, k0_pay59, k0_pay58, k0_pay57, dx, dg, du, dh, sigmoid, zero_sub],
    fun x => by refine Eq.trans ?_ (placeX D w5 g u w3 w4 o 1280 inb_S2048x1024_S256x1024_1280_0 inb_S2048x512_S256x512_1280_0 x); pointwise [k0_pay56, k0_pay53, k0_pay52, k0_pay51, k0_pay50, k0_pay49, k0_pay48, k0_pay47, k0_pay46, dx, dg, du, dh, sigmoid, zero_sub],
    fun x => by refine Eq.trans ?_ (placeX D w5 g u w3 w4 o 1024 inb_S2048x1024_S256x1024_1024_0 inb_S2048x512_S256x512_1024_0 x); pointwise [k0_pay45, k0_pay42, k0_pay41, k0_pay40, k0_pay39, k0_pay38, dx, dg, du, dh, sigmoid, zero_sub],
    fun x => by refine Eq.trans ?_ (placeX D w5 g u w3 w4 o 768 inb_S2048x1024_S256x1024_768_0 inb_S2048x512_S256x512_768_0 x); pointwise [k0_pay37, k0_pay36, k0_pay33, k0_pay32, k0_pay31, k0_pay30, k0_pay29, dx, dg, du, dh, sigmoid, zero_sub],
    fun x => by refine Eq.trans ?_ (placeX D w5 g u w3 w4 o 512 inb_S2048x1024_S256x1024_512_0 inb_S2048x512_S256x512_512_0 x); pointwise [k0_pay28, k0_pay25, k0_pay24, k0_pay23, k0_pay22, k0_pay21, k0_pay20, dx, dg, du, dh, sigmoid, zero_sub],
    fun x => by refine Eq.trans ?_ (placeX D w5 g u w3 w4 o 256 inb_S2048x1024_S256x1024_256_0 inb_S2048x512_S256x512_256_0 x); pointwise [k0_pay19, k0_pay16, k0_pay15, k0_pay14, k0_pay13, k0_pay12, k0_pay11, k0_pay10, dx, dg, du, dh, sigmoid, zero_sub],
    fun x => by refine Eq.trans ?_ (placeX D w5 g u w3 w4 o 0 inb_S2048x1024_S256x1024_0_0 inb_S2048x512_S256x512_0_0 x); pointwise [k0_pay9, k0_pay6, k0_pay5, k0_pay4, k0_pay3, k0_pay2, dx, dg, du, dh, sigmoid, zero_sub], trivial⟩
  exact View.canon_append_of_pieces (S := S2048x1024) (Val := Elt Ideal) (e := .f32) (fun y => o y + dx D w5 g u w3 w4 (y 0) (y 1)) L (storesX D w5 g u w3 w4 o) h.mem y
    (View.cover_of_tiled (storesX D w5 g u w3 w4 o) ![256, 1024] rfl y)
theorem storesG_at (y : S2048x512.Idx) : (View.canon (storesG D w5 g u) y : EReal) = dg D w5 g u (y 0) (y 1) := by
  have h : View.PiecesOf (Val := Elt Ideal) (s := S2048x512) (e := .bf16) (fun y => dg D w5 g u (y 0) (y 1)) (storesG D w5 g u) :=
   ⟨fun x => by refine Eq.trans ?_ (placeG D w5 g u 1792 inb_S2048x512_S256x512_1792_0 inb_S2048x1024_S256x1024_1792_0 x); pointwise [k0_pay73, k0_pay71, k0_pay70, k0_pay69, k0_pay68, dg, dh, sigmoid, zero_sub],
    fun x => by refine Eq.trans ?_ (placeG D w5 g u 1536 inb_S2048x512_S256x512_1536_0 inb_S2048x1024_S256x1024_1536_0 x); pointwise [k0_pay62, k0_pay60, k0_pay59, k0_pay58, k0_pay57, dg, dh, sigmoid, zero_sub],
    fun x => by refine Eq.trans ?_ (placeG D w5 g u 1280 inb_S2048x512_S256x512_1280_0 inb_S2048x1024_S256x1024_1280_0 x); pointwise [k0_pay54, k0_pay52, k0_pay51, k0_pay50, k0_pay49, k0_pay48, k0_pay47, k0_pay46, dg, dh, sigmoid, zero_sub],
    fun x => by refine Eq.trans ?_ (placeG D w5 g u 1024 inb_S2048x512_S256x512_1024_0 inb_S2048x1024_S256x1024_1024_0 x); pointwise [k0_pay43, k0_pay41, k0_pay40, k0_pay39, k0_pay38, dg, dh, sigmoid, zero_sub],
    fun x => by refine Eq.trans ?_ (placeG D w5 g u 768 inb_S2048x512_S256x512_768_0 inb_S2048x1024_S256x1024_768_0 x); pointwise [k0_pay34, k0_pay32, k0_pay31, k0_pay30, k0_pay29, dg, dh, sigmoid, zero_sub],
    fun x => by refine Eq.trans ?_ (placeG D w5 g u 512 inb_S2048x512_S256x512_512_0 inb_S2048x1024_S256x1024_512_0 x); pointwise [k0_pay26, k0_pay24, k0_pay23, k0_pay22, k0_pay21, k0_pay20, dg, dh, sigmoid, zero_sub],
    fun x => by refine Eq.trans ?_ (placeG D w5 g u 256 inb_S2048x512_S256x512_256_0 inb_S2048x1024_S256x1024_256_0 x); pointwise [k0_pay17, k0_pay15, k0_pay14, k0_pay13, k0_pay12, k0_pay11, k0_pay10, dg, dh, sigmoid, zero_sub],
    fun x => by refine Eq.trans ?_ (placeG D w5 g u 0 inb_S2048x512_S256x512_0_0 inb_S2048x1024_S256x1024_0_0 x); pointwise [k0_pay7, k0_pay5, k0_pay4, k0_pay3, k0_pay2, dg, dh, sigmoid, zero_sub], trivial⟩
  exact View.canon_apply_of_pieces (S := S2048x512) (Val := Elt Ideal) (e := .bf16) (fun y => dg D w5 g u (y 0) (y 1)) (storesG D w5 g u) h.mem y (View.cover_of_tiled (storesG D w5 g u) ![256, 512] rfl y)
theorem storesU_at (y : S2048x512.Idx) : (View.canon (storesU D w5 g) y : EReal) = du D w5 g (y 0) (y 1) := by
  have h : View.PiecesOf (Val := Elt Ideal) (s := S2048x512) (e := .bf16) (fun y => du D w5 g (y 0) (y 1)) (storesU D w5 g) :=
   ⟨fun x => by refine Eq.trans ?_ (placeU D w5 g 1792 inb_S2048x512_S256x512_1792_0 inb_S2048x1024_S256x1024_1792_0 x); pointwise [k0_pay74, k0_pay72, k0_pay70, k0_pay69, k0_pay68, du, dh, sigmoid, zero_sub],
    fun x => by refine Eq.trans ?_ (placeU D w5 g 1536 inb_S2048x512_S256x512_1536_0 inb_S2048x1024_S256x1024_1536_0 x); pointwise [k0_pay63, k0_pay61, k0_pay59, k0_pay58, k0_pay57, du, dh, sigmoid, zero_sub],
    fun x => by refine Eq.trans ?_ (placeU D w5 g 1280 inb_S2048x512_S256x512_1280_0 inb_S2048x1024_S256x1024_1280_0 x); pointwise [k0_pay55, k0_pay53, k0_pay51, k0_pay50, k0_pay49, k0_pay47, k0_pay46, du, dh, sigmoid, zero_sub],
    fun x => by refine Eq.trans ?_ (placeU D w5 g 1024 inb_S2048x512_S256x512_1024_0 inb_S2048x1024_S256x1024_1024_0 x); pointwise [k0_pay44, k0_pay42, k0_pay40, k0_pay39, k0_pay38, du, dh, sigmoid, zero_sub],
    fun x => by refine Eq.trans ?_ (placeU D w5 g 768 inb_S2048x512_S256x512_768_0 inb_S2048x1024_S256x1024_768_0 x); pointwise [k0_pay35, k0_pay33, k0_pay31, k0_pay30, k0_pay29, du, dh, sigmoid, zero_sub],
    fun x => by refine Eq.trans ?_ (placeU D w5 g 512 inb_S2048x512_S256x512_512_0 inb_S2048x1024_S256x1024_512_0 x); pointwise [k0_pay27, k0_pay25, k0_pay23, k0_pay21, k0_pay20, du, dh, sigmoid, zero_sub],
    fun x => by refine Eq.trans ?_ (placeU D w5 g 256 inb_S2048x512_S256x512_256_0 inb_S2048x1024_S256x1024_256_0 x); pointwise [k0_pay18, k0_pay16, k0_pay12, k0_pay11, k0_pay10, du, dh, sigmoid, zero_sub],
    fun x => by refine Eq.trans ?_ (placeU D w5 g 0 inb_S2048x512_S256x512_0_0 inb_S2048x1024_S256x1024_0_0 x); pointwise [k0_pay8, k0_pay6, k0_pay4, k0_pay3, k0_pay2, du, dh, sigmoid, zero_sub], trivial⟩
  exact View.canon_apply_of_pieces (S := S2048x512) (Val := Elt Ideal) (e := .bf16) (fun y => du D w5 g (y 0) (y 1)) (storesU D w5 g) h.mem y (View.cover_of_tiled (storesU D w5 g) ![256, 512] rfl y)

end Cert.Ffn

end
-- ==== Proof.FfnPoint.lean ====
/- What the channel mixer's backward call computes at one grid point, a block of 512 columns. -/
module

public import proofs.«01_k».proof.Proof.FfnStores
public import Idealize.ShloMosaic.Lib.Claim

@[expose] public section

set_option maxRecDepth 16384

noncomputable section

namespace Cert.Ffn

open Cert.KernelFfnIdeal Cert.KernelFfnIdeal.Gen Idealize.ShloMosaic Idealize.ShloMosaic.TcCoe Idealize.SL.Sem Cert.RealLift
open Idealize.ShloMosaic.Pipeline (Dat)

variable (m : (ℓ : Loc nD τ sig) → Buf (Elt Ideal) ℓ)

/-- The arrays that the region finds: the cotangent, the input, the two preactivations, their product and the three weights. -/
abbrev Dr (c : Dev nD) : FVec Ideal S2048x1024 .bf16 := V m c main_v11
abbrev X (c : Dev nD) : FVec Ideal S2048x1024 .bf16 := V m c main_v12
abbrev G (c : Dev nD) : FVec Ideal S2048x3072 .bf16 := V m c main_v13
abbrev U (c : Dev nD) : FVec Ideal S2048x3072 .bf16 := V m c main_v14
abbrev H (c : Dev nD) : FVec Ideal S2048x3072 .bf16 := V m c main_v17
abbrev Wg (c : Dev nD) : FVec Ideal S1024x3072 .bf16 := V m c main_v18
abbrev Wu (c : Dev nD) : FVec Ideal S1024x3072 .bf16 := V m c main_v19
abbrev Wd (c : Dev nD) : FVec Ideal S3072x1024 .bf16 := V m c main_v20

/-- The gradients of the two preactivations. -/
def Dg (c : Dev nD) (i : Fin 2048) (j : Fin 3072) : EReal := dg (Dr m c) (Wd m c) (G m c) (U m c) i j
def Du (c : Dev nD) (i : Fin 2048) (j : Fin 3072) : EReal := du (Dr m c) (Wd m c) (G m c) i j

theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![t.val, 0] ∧ win0_6.index t = ![0, 0]
    ∧ win0_7.index t = ![0, t.val] ∧ win0_8.index t = ![0, t.val] ∧ win0_9.index t = ![t.val, 0] :=
  (by decide +kernel : ∀ t : Fin grid0.N, _)

/-- Column `k` of grid point `t`'s block of columns. -/
def col (t : Fin cfg0.N) (k : Fin 512) : Fin 3072 := ⟨t.val * 512 + k.val, by have h : t.val < 6 := t.isLt; omega⟩

theorem blk0 (c : Dev nD) (t : Fin cfg0.N) (y) : iblk m c 0 t y = G m c (ix2 (y 0) (col t (y 1))) := by blk_point [iblk, idx t, col]
theorem blk1 (c : Dev nD) (t : Fin cfg0.N) (y) : iblk m c 1 t y = U m c (ix2 (y 0) (col t (y 1))) := by blk_point [iblk, idx t, col]
theorem blk2 (c : Dev nD) (t : Fin cfg0.N) (y) : iblk m c 2 t y = H m c (ix2 (y 0) (col t (y 1))) := by blk_point [iblk, idx t, col]
theorem blk3 (c : Dev nD) (t : Fin cfg0.N) (y) : iblk m c 3 t y = Wg m c (ix2 (y 0) (col t (y 1))) := by blk_point [iblk, idx t, col]
theorem blk4 (c : Dev nD) (t : Fin cfg0.N) (y) : iblk m c 4 t y = Wu m c (ix2 (y 0) (col t (y 1))) := by blk_point [iblk, idx t, col]
theorem blk5 (c : Dev nD) (t : Fin cfg0.N) (y) : iblk m c 5 t y = Wd m c (ix2 (col t (y 0)) (y 1)) := by blk_point [iblk, idx t, col]

/-- The block's gradients are the whole gradients at its columns. -/
theorem dh_blk (c : Dev nD) (t : Fin cfg0.N) (i : Fin 2048) (j : Fin 512) :
    dh (n := 2048) (q := 512) (Dr m c) (iblk m c 5 t) i j = dh (Dr m c) (Wd m c) i (col t j) :=
  Fin.sum_fin_congr fun k => congrArg (fun z : EReal => (Dr m c (ix2 i k) : EReal) * z) (blk5 m c t _)
theorem dg_blk (c : Dev nD) (t : Fin cfg0.N) (i : Fin 2048) (j : Fin 512) :
    dg (n := 2048) (q := 512) (Dr m c) (iblk m c 5 t) (iblk m c 0 t) (iblk m c 1 t) i j = Dg m c i (col t j) := by
  have e0 : iblk m c 0 t (ix2 i j) = G m c (ix2 i (col t j)) := blk0 m c t _
  have e1 : iblk m c 1 t (ix2 i j) = U m c (ix2 i (col t j)) := blk1 m c t _
  unfold Dg dg
  rw [dh_blk, e0, e1]
theorem du_blk (c : Dev nD) (t : Fin cfg0.N) (i : Fin 2048) (j : Fin 512) :
    du (n := 2048) (q := 512) (Dr m c) (iblk m c 5 t) (iblk m c 0 t) i j = Du m c i (col t j) := by
  have e0 : iblk m c 0 t (ix2 i j) = G m c (ix2 i (col t j)) := blk0 m c t _
  unfold Du du
  rw [dh_blk, e0]

/-- What the block adds to the input's gradient. -/
def part (c : Dev nD) (t : Fin cfg0.N) (y : S2048x1024.Idx) : EReal :=
  ∑ k : Fin 512, Dg m c (y 0) (col t k) * (Wg m c (ix2 (y 1) (col t k)) : EReal)
    + ∑ k : Fin 512, Du m c (y 0) (col t k) * (Wu m c (ix2 (y 1) (col t k)) : EReal)

theorem dx_blk (c : Dev nD) (t : Fin cfg0.N) (y : S2048x1024.Idx) :
    dx (n := 2048) (q := 512) (Dr m c) (iblk m c 5 t) (iblk m c 0 t) (iblk m c 1 t) (iblk m c 3 t) (iblk m c 4 t) (y 0) (y 1) = part m c t y :=
  congrArg₂ (fun a b : EReal => a + b)
    (Fin.sum_fin_congr fun k => congrArg₂ (fun a b : EReal => a * b) (dg_blk m c t _ _) (blk3 m c t _))
    (Fin.sum_fin_congr fun k => congrArg₂ (fun a b : EReal => a * b) (du_blk m c t _ _) (blk4 m c t _))

/-- The columns that the two scratch arrays hold when the weights' gradients are formed. -/
theorem scrG (c : Dev nD) (t : Fin cfg0.N) :
    (View.whole cc0_scratch3).readCov (Val := Elt Ideal) (storesG (Dr m c) (iblk m c 5 t) (iblk m c 0 t) (iblk m c 1 t))
      (Rect.unit (s := S2048x512) ![0, 0] ![2048, 512] inb_S2048x512_S2048x512_0_0).toLoadRect = fun y => Dg m c (y 0) (col t (y 1)) := by
  rw [View.readCov_eq_canon']
  funext y
  refine (storesG_at _ _ _ _ _).trans ((dg_blk m c t _ _).trans ?_)
  refine congrArg₂ (fun i j => Dg m c i (col t j)) (Fin.ext ?_) (Fin.ext ?_)
  · exact (Rect.idx_unit_val _ _ _ y 0).trans (Nat.zero_add _)
  · exact (Rect.idx_unit_val _ _ _ y 1).trans (Nat.zero_add _)
theorem scrU (c : Dev nD) (t : Fin cfg0.N) :
    (View.whole cc0_scratch4).readCov (Val := Elt Ideal) (storesU (Dr m c) (iblk m c 5 t) (iblk m c 0 t))
      (Rect.unit (s := S2048x512) ![0, 0] ![2048, 512] inb_S2048x512_S2048x512_0_0).toLoadRect = fun y => Du m c (y 0) (col t (y 1)) := by
  rw [View.readCov_eq_canon']
  funext y
  refine (storesU_at _ _ _ _).trans ((du_blk m c t _ _).trans ?_)
  refine congrArg₂ (fun i j => Du m c i (col t j)) (Fin.ext ?_) (Fin.ext ?_)
  · exact (Rect.idx_unit_val _ _ _ y 0).trans (Nat.zero_add _)
  · exact (Rect.idx_unit_val _ _ _ y 1).trans (Nat.zero_add _)

/-- The three products over the rows. -/
theorem prod76 (x : FVec Ideal S2048x1024 .bf16) (g : FVec Ideal S2048x512 .bf16) (y) :
    (k0_pay76 (F := Ideal) x g y : EReal) = ∑ i : Fin 2048, (x (ix2 i (y 0)) : EReal) * (g (ix2 i (y 1)) : EReal) := by pointwise [k0_pay76]
theorem prod77 (x : FVec Ideal S2048x1024 .bf16) (g : FVec Ideal S2048x512 .bf16) (y) :
    (k0_pay77 (F := Ideal) x g y : EReal) = ∑ i : Fin 2048, (x (ix2 i (y 0)) : EReal) * (g (ix2 i (y 1)) : EReal) := by pointwise [k0_pay77]
theorem prod78 (h : FVec Ideal S2048x512 .bf16) (d : FVec Ideal S2048x1024 .bf16) (y) :
    (k0_pay78 (F := Ideal) h d y : EReal) = ∑ i : Fin 2048, (h (ix2 i (y 0)) : EReal) * (d (ix2 i (y 1)) : EReal) := by pointwise [k0_pay78]

/-- What one grid point makes of the accumulator's contents before it, and of the two arrays kept in the scratch. -/
structure Step (c : Dev nD) (t : Fin cfg0.N) (z : S2048x1024.Idx → EReal)
    (o : Vec Ideal S2048x1024 .f32 × Vec Ideal S1024x512 .bf16 × Vec Ideal S1024x512 .bf16 × Vec Ideal S512x1024 .bf16
      × Vec Ideal S2048x1024 .bf16 × Vec Ideal S2048x1024 .bf16) : Prop where
  x : ∀ y, o.1 y = z y + part m c t y
  g : ∀ y, (o.2.1 y : EReal) = ∑ i : Fin 2048, (X m c (ix2 i (y 0)) : EReal) * Dg m c i (col t (y 1))
  u : ∀ y, (o.2.2.1 y : EReal) = ∑ i : Fin 2048, (X m c (ix2 i (y 0)) : EReal) * Du m c i (col t (y 1))
  d : ∀ y, (o.2.2.2.1 y : EReal) = ∑ i : Fin 2048, (H m c (ix2 i (col t (y 0))) : EReal) * (Dr m c (ix2 i (y 1)) : EReal)
  s : o.2.2.2.2.1 = Dr m c ∧ o.2.2.2.2.2 = X m c

theorem x_of (c : Dev nD) (t : Fin cfg0.N) (o : FVec Ideal S2048x1024 .f32) (L : List (View.Piece (Elt Ideal) S2048x1024 .f32)) (y : S2048x1024.Idx) :
    View.canon (Val := Elt Ideal) (e := .f32) (storesX (Dr m c) (iblk m c 5 t) (iblk m c 0 t) (iblk m c 1 t) (iblk m c 3 t) (iblk m c 4 t) o ++ L) y
      = o y + part m c t y :=
  (storesX_at _ _ _ _ _ _ _ L y).trans (congrArg (o y + ·) (dx_blk m c t y))
theorem g_of (c : Dev nD) (t : Fin cfg0.N) (z : FVec Ideal S2048x512 .bf16) (hz : z = fun y => Dg m c (y 0) (col t (y 1))) (y : S1024x512.Idx) :
    (k0_pay76 (F := Ideal) (X m c) z y : EReal) = ∑ i : Fin 2048, (X m c (ix2 i (y 0)) : EReal) * Dg m c i (col t (y 1)) :=
  (prod76 _ _ y).trans (Fin.sum_fin_congr fun i => congrArg (fun z : EReal => (X m c (ix2 i (y 0)) : EReal) * z) (congrFun hz (ix2 i (y 1))))
theorem u_of (c : Dev nD) (t : Fin cfg0.N) (z : FVec Ideal S2048x512 .bf16) (hz : z = fun y => Du m c (y 0) (col t (y 1))) (y : S1024x512.Idx) :
    (k0_pay77 (F := Ideal) (X m c) z y : EReal) = ∑ i : Fin 2048, (X m c (ix2 i (y 0)) : EReal) * Du m c i (col t (y 1)) :=
  (prod77 _ _ y).trans (Fin.sum_fin_congr fun i => congrArg (fun z : EReal => (X m c (ix2 i (y 0)) : EReal) * z) (congrFun hz (ix2 i (y 1))))
theorem d_of (c : Dev nD) (t : Fin cfg0.N) (y : S512x1024.Idx) :
    (k0_pay78 (F := Ideal) (iblk m c 2 t) (Dr m c) y : EReal) = ∑ i : Fin 2048, (H m c (ix2 i (col t (y 0))) : EReal) * (Dr m c (ix2 i (y 1)) : EReal) :=
  (prod78 _ _ y).trans (Fin.sum_fin_congr fun i => congrArg (fun z : EReal => z * (Dr m c (ix2 i (y 1)) : EReal)) (blk2 m c t _))

end Cert.Ffn

end
-- ==== Proof.FfnAcc.lean ====
/- What each grid point of the channel mixer's backward call leaves behind. -/
module

public import proofs.«01_k».proof.Proof.FfnPoint

@[expose] public section

set_option maxRecDepth 16384

noncomputable section

namespace Cert.Ffn

open Cert.KernelFfnIdeal Cert.KernelFfnIdeal.Gen Idealize.ShloMosaic Idealize.ShloMosaic.TcCoe Idealize.SL.Sem Cert.RealLift
open Idealize.ShloMosaic.Pipeline (Dat)

variable (m : (ℓ : Loc nD τ sig) → Buf (Elt Ideal) ℓ)

/-- One store of a whole array leaves it, and a read of a piece reads its piece. -/
theorem canon_whole (w : FVec Ideal S2048x1024 .bf16) : View.canon (Val := Elt Ideal) (s := S2048x1024) (e := .bf16) [⟨Rect.whole S2048x1024, w⟩] = w :=
  View.canon_cons_unit_zero (Val := Elt Ideal) (S := S2048x1024) (e := .bf16) (off := fun _ => 0) rfl (fun _ => le_of_eq (Nat.zero_add _)) w []
theorem read_whole (v : View sig .tc .vmem S2048x1024 .bf16) (w : FVec Ideal S2048x1024 .bf16) (B : Rect S2048x1024) :
    v.readCov (Val := Elt Ideal) [⟨Rect.whole S2048x1024, w⟩] B.toLoadRect = View.ld (Val := Elt Ideal) (e' := .bf16) w B := by
  rw [View.readCov_eq_canon', canon_whole]

theorem ld_whole (w : FVec Ideal S2048x1024 .bf16) :
    (View.ld (Val := Elt Ideal) (e' := .bf16) w (Rect.unit (s := S2048x1024) ![0, 0] ![2048, 1024] inb_S2048x1024_S2048x1024_0_0) : FVec Ideal S2048x1024 .bf16) = w :=
  View.ld_unit_zero (S := S2048x1024) (Val := Elt Ideal) (e := .bf16) (off := ![0, 0]) (funext fun a => by match a with | 0 => rfl | 1 => rfl) inb_S2048x1024_S2048x1024_0_0 w

/-- The weights' gradients as formed where the scratch has just been filled. -/
theorem g_first (c : Dev nD) (t : Fin cfg0.N) (z : FVec Ideal S2048x512 .bf16) (hz : z = fun y => Dg m c (y 0) (col t (y 1))) (y : S1024x512.Idx) :
    (k0_pay76 (F := Ideal) (View.ld (Val := Elt Ideal) (e' := .bf16) (X m c) (Rect.unit (s := S2048x1024) ![0, 0] ![2048, 1024] inb_S2048x1024_S2048x1024_0_0)) z y : EReal)
      = ∑ i : Fin 2048, (X m c (ix2 i (y 0)) : EReal) * Dg m c i (col t (y 1)) :=
  (congrArg (fun w : FVec Ideal S2048x1024 .bf16 => (k0_pay76 (F := Ideal) w z y : EReal)) (ld_whole (X m c))).trans (g_of m c t z hz y)
theorem u_first (c : Dev nD) (t : Fin cfg0.N) (z : FVec Ideal S2048x512 .bf16) (hz : z = fun y => Du m c (y 0) (col t (y 1))) (y : S1024x512.Idx) :
    (k0_pay77 (F := Ideal) (View.ld (Val := Elt Ideal) (e' := .bf16) (X m c) (Rect.unit (s := S2048x1024) ![0, 0] ![2048, 1024] inb_S2048x1024_S2048x1024_0_0)) z y : EReal)
      = ∑ i : Fin 2048, (X m c (ix2 i (y 0)) : EReal) * Du m c i (col t (y 1)) :=
  (congrArg (fun w : FVec Ideal S2048x1024 .bf16 => (k0_pay77 (F := Ideal) w z y : EReal)) (ld_whole (X m c))).trans (u_of m c t z hz y)
theorem d_first (c : Dev nD) (t : Fin cfg0.N) (y : S512x1024.Idx) :
    (k0_pay78 (F := Ideal) (iblk m c 2 t) (View.ld (Val := Elt Ideal) (e' := .bf16) (Dr m c) (Rect.unit (s := S2048x1024) ![0, 0] ![2048, 1024] inb_S2048x1024_S2048x1024_0_0)) y : EReal)
      = ∑ i : Fin 2048, (H m c (ix2 i (col t (y 0))) : EReal) * (Dr m c (ix2 i (y 1)) : EReal) :=
  (congrArg (fun w : FVec Ideal S2048x1024 .bf16 => (k0_pay78 (F := Ideal) (iblk m c 2 t) w y : EReal)) (ld_whole (Dr m c))).trans (d_of m c t y)

set_option maxHeartbeats 3200000 in
theorem step_A (c : Dev nD) (t : Fin cfg0.N) (h : t.val % 6 = 0) : Step m c t (fun _ => 0) (outsAt0 m c t.val t.isLt) := by
  rw [outsAt0_A m c t h]
  frame_open
  simp (disch := decide) only [↓ View.readCov_skip, ↓ View.readCov_cons_toLoadRect, ↓ View.readCov_fill]
  frame_out
  simp only [ReadAs.apply_same, View.read_whole, read_whole, canon_whole]
  refine ⟨?_, ?_, ?_, ?_, ?_, ?_⟩
  · exact fun y => (x_of m c t (k0_pay1 (F := Ideal)) _ y).trans (congrArg (fun z : EReal => z + part m c t y) (by pointwise [k0_pay1]))
  · exact g_first m c t _ (scrG m c t)
  · exact u_first m c t _ (scrU m c t)
  · exact d_first m c t
  · rfl
  · rfl

set_option maxHeartbeats 1600000 in
theorem step_B (c : Dev nD) (t : Fin cfg0.N) (h : ¬ t.val % 6 = 0) (o : _) (ho : outsAt0 m c (t.val - 1) (Nat.lt_of_le_of_lt (Nat.sub_le _ _) t.isLt) = o)
    (hs : o.2.2.2.2.1 = Dr m c ∧ o.2.2.2.2.2 = X m c) : Step m c t o.1 (outsAt0 m c t.val t.isLt) := by
  rw [outsAt0_B m c t h, ho, hs.1, hs.2]
  frame_open
  simp (disch := decide) only [↓ View.readCov_skip, ↓ View.readCov_cons_toLoadRect, ↓ View.readCov_fill]
  frame_out
  simp only [read_unread_whole]
  refine ⟨?_, ?_, ?_, ?_, ?_, ?_⟩
  · exact x_of m c t _ []
  · exact g_of m c t _ (scrG m c t)
  · exact u_of m c t _ (scrU m c t)
  · exact d_of m c t
  · rfl
  · rfl

/-- Every grid point leaves the cotangent and the input in the scratch, and its own blocks in the results. -/
theorem kept (c : Dev nD) : ∀ (n : ℕ) (hn : n < cfg0.N), (outsAt0 m c n hn).2.2.2.2.1 = Dr m c ∧ (outsAt0 m c n hn).2.2.2.2.2 = X m c
  | 0, hn => (step_A m c ⟨0, hn⟩ rfl).s
  | n + 1, hn => by
    by_cases h : (n + 1) % 6 = 0
    · exact (step_A m c ⟨n + 1, hn⟩ h).s
    · exact (step_B m c ⟨n + 1, hn⟩ h _ rfl (kept c n (Nat.lt_of_succ_lt hn))).s

theorem step_next (c : Dev nD) (t : Fin cfg0.N) (h : ¬ t.val % 6 = 0) :
    Step m c t (outsAt0 m c (t.val - 1) (Nat.lt_of_le_of_lt (Nat.sub_le _ _) t.isLt)).1 (outsAt0 m c t.val t.isLt) :=
  step_B m c t h _ rfl (kept m c _ _)

theorem step_any (c : Dev nD) (t : Fin cfg0.N) : ∃ z, Step m c t z (outsAt0 m c t.val t.isLt) := by
  by_cases h : t.val % 6 = 0
  · exact ⟨_, step_A m c t h⟩
  · exact ⟨_, step_next m c t h⟩

end Cert.Ffn

end
-- ==== Proof.FfnFinal.lean ====
/- What the channel mixer's backward call leaves in its four results. -/
module

public import proofs.«01_k».proof.Proof.FfnAcc

@[expose] public section

set_option maxRecDepth 16384

noncomputable section

namespace Cert.Ffn

open Cert.KernelFfnIdeal Cert.KernelFfnIdeal.Gen Idealize.ShloMosaic Idealize.ShloMosaic.TcCoe Idealize.SL.Sem Cert.RealLift
open Idealize.ShloMosaic.Pipeline (Dat)

variable (m : (ℓ : Loc nD τ sig) → Buf (Elt Ideal) ℓ)

/-- The input's gradient, summed over the blocks of columns. -/
def DX (c : Dev nD) (y : S2048x1024.Idx) : EReal :=
  ∑ j : Fin 3072, Dg m c (y 0) j * (Wg m c (ix2 (y 1) j) : EReal) + ∑ j : Fin 3072, Du m c (y 0) j * (Wu m c (ix2 (y 1) j) : EReal)

theorem sum_blocks (f : Fin 3072 → EReal) : ∑ t : Fin cfg0.N, ∑ k : Fin 512, f (col t k) = ∑ j : Fin 3072, f j :=
  Fin.sum_mul_add_congr (L := 3072) (S := 6) (n := 512) (f := f) (F := fun t k => f (col t k)) fun _ _ _ => rfl
theorem sum_part (c : Dev nD) (y : S2048x1024.Idx) : (0 : EReal) + ∑ t : Fin cfg0.N, part m c t y = DX m c y :=
  (zero_add _).trans (Finset.sum_add_distrib.trans (congrArg₂ (fun a b : EReal => a + b)
    (sum_blocks fun j => Dg m c (y 0) j * (Wg m c (ix2 (y 1) j) : EReal)) (sum_blocks fun j => Du m c (y 0) j * (Wu m c (ix2 (y 1) j) : EReal))))

theorem final6 (c : Dev nD) : (dats m 0 c).arrAt 6 cfg0.N = DX m c := by
  refine (dats m 0 c).arrAt_eq_of_after_last 6 t0_5 (by decide +kernel) _ fun j => ?_
  blk_simp
  rw [after0_6, Pipeline.eq_sum_fin_of_reset_step_apply_last (fun n h => (outsAt0 m c n h).1) 6 (fun _ => 0) (part m c)
    (fun t h => (step_A m c t h).x) (fun t h => (step_next m c t h).x) (le_of_eq N_0) t0_5 rfl j]
  exact sum_part m c j
theorem final7 (c : Dev nD) : (dats m 0 c).arrAt 7 cfg0.N = fun y => ∑ i : Fin 2048, (X m c (ix2 i (y 0)) : EReal) * Dg m c i (y 1) := by
  refine (dats m 0 c).arrAt_eq_of_covers 7 _ (by decide +kernel) fun t hf y => ?_
  have e0 : (((cfg0.win 7).blk t).view.emb y) 0 = y 0 := Fin.ext (by blk_simp; simp [idx t, col])
  have e1 : (((cfg0.win 7).blk t).view.emb y) 1 = col t (y 1) := Fin.ext (by blk_simp; simp [idx t, col])
  obtain ⟨z, s⟩ := step_any m c t
  blk_simp
  rw [after0_7]
  refine (s.g y).trans ?_
  rw [e0, e1]
theorem final8 (c : Dev nD) : (dats m 0 c).arrAt 8 cfg0.N = fun y => ∑ i : Fin 2048, (X m c (ix2 i (y 0)) : EReal) * Du m c i (y 1) := by
  refine (dats m 0 c).arrAt_eq_of_covers 8 _ (by decide +kernel) fun t hf y => ?_
  have e0 : (((cfg0.win 8).blk t).view.emb y) 0 = y 0 := Fin.ext (by blk_simp; simp [idx t, col])
  have e1 : (((cfg0.win 8).blk t).view.emb y) 1 = col t (y 1) := Fin.ext (by blk_simp; simp [idx t, col])
  obtain ⟨z, s⟩ := step_any m c t
  blk_simp
  rw [after0_8]
  refine (s.u y).trans ?_
  rw [e0, e1]
theorem final9 (c : Dev nD) : (dats m 0 c).arrAt 9 cfg0.N = fun y => ∑ i : Fin 2048, (H m c (ix2 i (y 0)) : EReal) * (Dr m c (ix2 i (y 1)) : EReal) := by
  refine (dats m 0 c).arrAt_eq_of_covers 9 _ (by decide +kernel) fun t hf y => ?_
  have e0 : (((cfg0.win 9).blk t).view.emb y) 0 = col t (y 0) := Fin.ext (by blk_simp; simp [idx t, col])
  have e1 : (((cfg0.win 9).blk t).view.emb y) 1 = y 1 := Fin.ext (by blk_simp; simp [idx t, col])
  obtain ⟨z, s⟩ := step_any m c t
  blk_simp
  rw [after0_9]
  refine (s.d y).trans ?_
  rw [e0, e1]

end Cert.Ffn

end
-- ==== Proof.FfnMath.lean ====
/- The channel mixer's columns, padded shard by shard: eight shards of 352 columns, each filled up to 384 with zero columns. -/
module

public import proofs.«01_k».proof.Proof.Sigmoid
public import Idealize.ShloMosaic.Lib.KernelVsHost
public import Idealize.ShloMosaic.Lib.Pipeline.ValueKit
public import Idealize.ShloMosaic.Lib.Pipeline.ReadBack
public import proofs.«01_k».proof.Proof.LayerNorm

@[expose] public section

set_option maxRecDepth 16384

noncomputable section

namespace Cert.Ffn

open Idealize.ShloMosaic Idealize.ShloMosaic.TcCoe Idealize.SL.Sem Cert.RealLift

/-- The column that a padded column stands for. -/
def org (j : Fin 3072) (h : j.val % 384 < 352) : Fin 2816 := ⟨j.val / 384 * 352 + j.val % 384, by omega⟩
/-- Where a column stands among the padded ones. -/
def put (j : Fin 2816) : Fin 3072 := ⟨j.val / 352 * 384 + j.val % 352, by omega⟩

/-- A row's values, padded. -/
def padded (f : Fin 2816 → EReal) (j : Fin 3072) : EReal := if h : j.val % 384 < 352 then f (org j h) else 0

theorem padded_pos (f : Fin 2816 → EReal) (j : Fin 3072) (h : j.val % 384 < 352) : padded f j = f (org j h) := dif_pos h
theorem padded_neg (f : Fin 2816 → EReal) (j : Fin 3072) (h : ¬ j.val % 384 < 352) : padded f j = 0 := dif_neg h
/-- What a map that keeps zero makes of padded values, and their sum. -/
theorem padded_map {g : Fin 2816 → EReal} {F : Fin 3072 → EReal} (h1 : ∀ j h, F j = g (org j h)) (h0 : ∀ j : Fin 3072, ¬ j.val % 384 < 352 → F j = 0)
    (j : Fin 3072) : F j = padded g j := by
  by_cases h : j.val % 384 < 352
  · exact (h1 j h).trans (padded_pos g j h).symm
  · exact (h0 j h).trans (padded_neg g j h).symm
theorem padded_sum (f : Fin 2816 → EReal) : ∑ j : Fin 3072, padded f j = ∑ j : Fin 2816, f j := by
  refine (Finset.sum_of_injOn put ?_ (fun _ _ => Finset.mem_coe.mpr (Finset.mem_univ _)) ?_ ?_).symm
  · intro a _ b _ h
    have h' : a.val / 352 * 384 + a.val % 352 = b.val / 352 * 384 + b.val % 352 := congrArg Fin.val h
    exact Fin.ext (by omega)
  · intro j _ hj
    refine padded_neg f j fun h => hj ⟨org j h, Finset.mem_coe.mpr (Finset.mem_univ _), Fin.ext ?_⟩
    show (j.val / 384 * 352 + j.val % 384) / 352 * 384 + (j.val / 384 * 352 + j.val % 384) % 352 = j.val
    omega
  · intro j _
    have h : (put j).val % 384 < 352 := by show (j.val / 352 * 384 + j.val % 352) % 384 < 352; omega
    refine ((padded_pos f _ h).trans (congrArg f (Fin.ext ?_))).symm
    show (j.val / 352 * 384 + j.val % 352) / 384 * 352 + (j.val / 352 * 384 + j.val % 352) % 384 = j.val
    omega

/-- The host's padding of the columns of a matrix, and of its rows. -/
abbrev Sc : Shape := ⟨2, ![1024, 2816]⟩
abbrev Sc3 : Shape := ⟨3, ![1024, 8, 352]⟩
abbrev Tc3 : Shape := ⟨3, ![1024, 8, 384]⟩
abbrev Tc : Shape := ⟨2, ![1024, 3072]⟩
abbrev Sr : Shape := ⟨2, ![2816, 1024]⟩
abbrev Sr3 : Shape := ⟨3, ![8, 352, 1024]⟩
abbrev Tr3 : Shape := ⟨3, ![8, 384, 1024]⟩
abbrev Tr : Shape := ⟨2, ![3072, 1024]⟩

theorem pad_word : FloatOps.sitofp (F := Ideal) .f32 (0#32 : BitVec 32) = (0 : EReal) := by
  simp [FloatOps.sitofp]

theorem cols_at (x : Sc.Idx → EReal) {u : Shape} (v : u.Idx → EReal) (h1) (h2) (h3) (hu : 0 < u.numel) (hv : v (Shape.Idx.first hu) = 0) (y : Tc.Idx) :
    shapeCast Tc (pad Tc3 ![0, 0, 0] ![0, 0, 32] ![0, 0, 0] (shapeCast Sc3 x h1) v h2 hu) h3 y = padded (fun j => x (ix2 (y 0) j)) (y 1) := by
  have b0 : (y 0).val < 1024 := (y 0).isLt
  have b1 : (y 1).val < 3072 := (y 1).isLt
  refine (shapeCast_apply _ h3 y (ix3 (y 0) (⟨(y 1).val / 384, by omega⟩ : Fin 8) (⟨(y 1).val % 384, by omega⟩ : Fin 384)) ?_).trans ?_
  · rewrite [Shape.rowMajor_val_three, Shape.rowMajor_val_two]
    show ((y 0).val * 8 + (y 1).val / 384) * 384 + (y 1).val % 384 = (y 0).val * 3072 + (y 1).val
    omega
  by_cases h : (y 1).val % 384 < 352
  · refine (pad_apply_of_inside _ _ _ _ _ h2 hu _ (ix3 (y 0) (⟨(y 1).val / 384, by omega⟩ : Fin 8) (⟨(y 1).val % 384, h⟩ : Fin 352)) fun a => ?_).trans ?_
    · match a with
      | ⟨0, _⟩ => show (y 0).val = 0 + (y 0).val * 1; omega
      | ⟨1, _⟩ => show (y 1).val / 384 = 0 + (y 1).val / 384 * 1; omega
      | ⟨2, _⟩ => show (y 1).val % 384 = 0 + (y 1).val % 384 * 1; omega
    refine (shapeCast_apply _ h1 _ (ix2 (y 0) (org (y 1) h)) ?_).trans (padded_pos (fun j => x (ix2 (y 0) j)) _ h).symm
    rewrite [Shape.rowMajor_val_three, Shape.rowMajor_val_two]
    show (y 0).val * 2816 + ((y 1).val / 384 * 352 + (y 1).val % 384) = ((y 0).val * 8 + (y 1).val / 384) * 352 + (y 1).val % 384
    omega
  · refine (pad_apply_of_not_inside _ _ _ _ _ h2 hu _ (2 : Fin 3) fun hh => ?_).trans (hv.trans (padded_neg _ _ h).symm)
    have q : ((y 1).val % 384 - 0) / (0 + 1) < 352 := hh.2.2
    omega

theorem rows_at (x : Sr.Idx → EReal) {u : Shape} (v : u.Idx → EReal) (h1) (h2) (h3) (hu : 0 < u.numel) (hv : v (Shape.Idx.first hu) = 0) (y : Tr.Idx) :
    shapeCast Tr (pad Tr3 ![0, 0, 0] ![0, 32, 0] ![0, 0, 0] (shapeCast Sr3 x h1) v h2 hu) h3 y = padded (fun j => x (ix2 j (y 1))) (y 0) := by
  have b0 : (y 0).val < 3072 := (y 0).isLt
  have b1 : (y 1).val < 1024 := (y 1).isLt
  refine (shapeCast_apply _ h3 y (ix3 (⟨(y 0).val / 384, by omega⟩ : Fin 8) (⟨(y 0).val % 384, by omega⟩ : Fin 384) (y 1)) ?_).trans ?_
  · rewrite [Shape.rowMajor_val_three, Shape.rowMajor_val_two]
    show ((y 0).val / 384 * 384 + (y 0).val % 384) * 1024 + (y 1).val = (y 0).val * 1024 + (y 1).val
    omega
  by_cases h : (y 0).val % 384 < 352
  · refine (pad_apply_of_inside _ _ _ _ _ h2 hu _ (ix3 (⟨(y 0).val / 384, by omega⟩ : Fin 8) (⟨(y 0).val % 384, h⟩ : Fin 352) (y 1)) fun a => ?_).trans ?_
    · match a with
      | ⟨0, _⟩ => show (y 0).val / 384 = 0 + (y 0).val / 384 * 1; omega
      | ⟨1, _⟩ => show (y 0).val % 384 = 0 + (y 0).val % 384 * 1; omega
      | ⟨2, _⟩ => show (y 1).val = 0 + (y 1).val * 1; omega
    refine (shapeCast_apply _ h1 _ (ix2 (org (y 0) h) (y 1)) ?_).trans (padded_pos (fun j => x (ix2 j (y 1))) _ h).symm
    rewrite [Shape.rowMajor_val_three, Shape.rowMajor_val_two]
    show ((y 0).val / 384 * 352 + (y 0).val % 384) * 1024 + (y 1).val = ((y 0).val / 384 * 352 + (y 0).val % 384) * 1024 + (y 1).val
    rfl
  · refine (pad_apply_of_not_inside _ _ _ _ _ h2 hu _ (1 : Fin 3) fun hh => ?_).trans (hv.trans (padded_neg _ _ h).symm)
    have q : ((y 0).val % 384 - 0) / (0 + 1) < 352 := hh.2.2
    omega

end Cert.Ffn

end
-- ==== Proof.FfnRef.lean ====
/- What the channel mixer's reference computes, entry by entry. -/
module

public import proofs.«01_k».proof.Proof.FfnMath
public import proofs.«01_k».proof.Proof.Gen.ReferenceFfnIdeal.Read

@[expose] public section

set_option maxRecDepth 16384

noncomputable section

namespace Cert.Ffn

open Cert.ReferenceFfnIdeal Idealize.ShloMosaic Idealize.ShloMosaic.TcCoe Idealize.SL.Sem Cert.RealLift
open Cert.ReferenceFfnIdeal.Read

section
variable (x0 x1 : FVec Ideal S2048x1024 .f32) (x2 x3 : FVec Ideal S1024x2816 .f32) (x4 : FVec Ideal S2816x1024 .f32)

/-- The two preactivations, the swish of the first times the second, the product's cotangent, and the gradients of the two preactivations. -/
def pg (w : FVec Ideal S1024x2816 .f32) (i : Fin 2048) (j : Fin 2816) : EReal := ∑ k : Fin 1024, x1 (ix2 i k) * w (ix2 k j)
def ph (i : Fin 2048) (j : Fin 2816) : EReal := pg x1 x2 i j * sigmoid (pg x1 x2 i j) * pg x1 x3 i j
def pd (i : Fin 2048) (j : Fin 2816) : EReal := ∑ k : Fin 1024, x0 (ix2 i k) * x4 (ix2 j k)
def qg (i : Fin 2048) (j : Fin 2816) : EReal :=
  pd x0 x4 i j * pg x1 x3 i j * sigmoid (pg x1 x2 i j)
    * (Ideal.ofBits .f32 0x3F800000#32 + pg x1 x2 i j * (Ideal.ofBits .f32 0x3F800000#32 - sigmoid (pg x1 x2 i j)))
def qu (i : Fin 2048) (j : Fin 2816) : EReal := pd x0 x4 i j * pg x1 x2 i j * sigmoid (pg x1 x2 i j)

theorem r0 (i) : val_main_v0 (F := Ideal) x1 x2 i = pg x1 x2 (i 0) (i 1) := by
  rw [val_main_v0_apply]
  exact Fin.sum_fin_congr fun k => congrArg₂ (fun a b : EReal => a * b) (congrArg x1 (by blk_ext)) (congrArg x2 (by blk_ext))
theorem r2 (i) : val_main_v2 (F := Ideal) x1 x3 i = pg x1 x3 (i 0) (i 1) := by
  rw [val_main_v2_apply]
  exact Fin.sum_fin_congr fun k => congrArg₂ (fun a b : EReal => a * b) (congrArg x1 (by blk_ext)) (congrArg x3 (by blk_ext))
theorem r7 (i) : val_main_v7 (F := Ideal) x0 x4 i = pd x0 x4 (i 0) (i 1) := by
  rw [val_main_v7_apply]
  exact Fin.sum_fin_congr fun k => congrArg₂ (fun a b : EReal => a * b) (congrArg x0 (by blk_ext)) (congrArg x4 (by blk_ext))
theorem r1 (i) : val_main_v1_2 (F := Ideal) x1 x2 i = sigmoid (pg x1 x2 (i 0) (i 1)) := by
  rw [val_main_v1_2_apply, val_main_call0_v3_apply, val_main_call0_v1_apply, val_main_call0_v0_apply, r0]; rfl
theorem r3 (i) : val_main_v3 (F := Ideal) x1 x2 x3 i = ph x1 x2 x3 (i 0) (i 1) := by
  rw [val_main_v3_apply, val_main_v1_0_apply, r0, r1, r2]; rfl
theorem r8 (i) : val_main_v8 (F := Ideal) x0 x1 x2 x4 i = qu x0 x1 x2 x4 (i 0) (i 1) := by
  rw [val_main_v8_apply, val_main_v1_0_apply, r0, r1, r7]
  exact (mul_comm _ _).trans (mul_assoc _ _ _).symm

section Finite
variable (h0 : ∀ i, IsReal (x0 i)) (h1 : ∀ i, IsReal (x1 i)) (h2 : ∀ i, IsReal (x2 i)) (h3 : ∀ i, IsReal (x3 i)) (h4 : ∀ i, IsReal (x4 i))
include h0 h1 h2 h3 h4

theorem r13 (i) : val_main_v13 (F := Ideal) x0 x1 x2 x3 x4 i = qg x0 x1 x2 x3 x4 (i 0) (i 1) := by
  have hu : IsReal (pg x1 x3 (i 0) (i 1)) := IsReal.sum fun k => (h1 _).mul (h3 _)
  have hd : IsReal (pd x0 x4 (i 0) (i 1)) := IsReal.sum fun k => (h0 _).mul (h4 _)
  refine Eq.trans ?_ (swish_eq (hd.mul hu) (IsReal.sum fun k => (h1 _).mul (h2 _)))
  rw [val_main_v13_apply, val_main_call1_v1_apply, val_main_call1_v2_apply, val_main_call1_v0_apply, val_main_v1_1_apply, val_main_call0_v7_apply,
    val_main_v9_apply, r0, r1, r2, r7]
  rfl

/-- The input's gradient. -/
theorem r17 (i) : val_main_v17 (F := Ideal) x0 x1 x2 x3 x4 i
    = ∑ j : Fin 2816, qg x0 x1 x2 x3 x4 (i 0) j * x2 (ix2 (i 1) j) + ∑ j : Fin 2816, qu x0 x1 x2 x4 (i 0) j * x3 (ix2 (i 1) j) := by
  rw [val_main_v17_apply, val_main_v12_apply, val_main_v16_apply]
  refine (add_comm _ _).trans (congrArg₂ (fun a b : EReal => a + b) ?_ ?_)
  · exact Fin.sum_fin_congr fun k => congrArg₂ (fun a b : EReal => a * b) (r13 x0 x1 x2 x3 x4 h0 h1 h2 h3 h4 _) (congrArg x2 (by blk_ext))
  · exact Fin.sum_fin_congr fun k => congrArg₂ (fun a b : EReal => a * b) (r8 x0 x1 x2 x4 _) (congrArg x3 (by blk_ext))
/-- The gate's weight gradient, padded. -/
theorem r21 (i) : (val_main_v21 (F := Ideal) x0 x1 x2 x3 x4 i : EReal)
    = padded (fun j => ∑ k : Fin 2048, x1 (ix2 k (i 0)) * qg x0 x1 x2 x3 x4 k j) (i 1) := by
  refine (cols_at (val_main_v15 (F := Ideal) x0 x1 x2 x3 x4) (val_main_call2_v0 (F := Ideal)) _ Gen.pads_S1024x8x352_S1024x8x384_000_000_0320 _ _ pad_word i).trans ?_
  refine congrArg (fun f => padded f (i 1)) (funext fun j => ?_)
  rw [val_main_v15_apply, val_main_v14_apply]
  exact Fin.sum_fin_congr fun k =>
    (congrArg₂ (fun a b : EReal => a * b) (r13 x0 x1 x2 x3 x4 h0 h1 h2 h3 h4 _) (congrArg x1 (by blk_ext))).trans (mul_comm _ _)
end Finite

/-- The other factor's weight gradient and the last weight's, padded. -/
theorem r25 (i) : (val_main_v25 (F := Ideal) x0 x1 x2 x4 i : EReal)
    = padded (fun j => ∑ k : Fin 2048, x1 (ix2 k (i 0)) * qu x0 x1 x2 x4 k j) (i 1) := by
  refine (cols_at (val_main_v11 (F := Ideal) x0 x1 x2 x4) (val_main_call3_v0 (F := Ideal)) _ Gen.pads_S1024x8x352_S1024x8x384_000_000_0320 _ _ pad_word i).trans ?_
  refine congrArg (fun f => padded f (i 1)) (funext fun j => ?_)
  rw [val_main_v11_apply, val_main_v10_apply]
  exact Fin.sum_fin_congr fun k => (congrArg₂ (fun a b : EReal => a * b) (r8 x0 x1 x2 x4 _) (congrArg x1 (by blk_ext))).trans (mul_comm _ _)
theorem r29 (i) : (val_main_v29 (F := Ideal) x0 x1 x2 x3 i : EReal)
    = padded (fun j => ∑ k : Fin 2048, ph x1 x2 x3 k j * x0 (ix2 k (i 1))) (i 0) := by
  refine (rows_at (val_main_v6 (F := Ideal) x0 x1 x2 x3) (val_main_call4_v0 (F := Ideal)) _ Gen.pads_S8x352x1024_S8x384x1024_000_0320_000 _ _ pad_word i).trans ?_
  refine congrArg (fun f => padded f (i 0)) (funext fun j => ?_)
  rw [val_main_v6_apply, val_main_v5_apply]
  exact Fin.sum_fin_congr fun k => (congrArg₂ (fun a b : EReal => a * b) (congrArg x0 (by blk_ext)) (r3 x1 x2 x3 _)).trans (mul_comm _ _)
end

end Cert.Ffn

end
-- ==== Proof.FfnHost.lean ====
/- The arrays that the channel mixer's backward call finds, in the arguments' terms. -/
module

public import proofs.«01_k».proof.Proof.FfnPoint
public import proofs.«01_k».proof.Proof.FfnRef

@[expose] public section

set_option maxRecDepth 16384

noncomputable section

namespace Cert.Ffn

open Cert.KernelFfnIdeal Cert.KernelFfnIdeal.Gen Idealize.ShloMosaic Idealize.ShloMosaic.TcCoe Idealize.SL.Sem Cert.RealLift

variable (m : (ℓ : Loc nD τ sig) → Buf (Elt Ideal) ℓ)

/-- The arguments in memory: the cotangent, the input and the three weights. -/
abbrev a0 (c : Dev nD) : FVec Ideal S2048x1024 .f32 := m (c, Proc.tc.devRef main_arg0)
abbrev a1 (c : Dev nD) : FVec Ideal S2048x1024 .f32 := m (c, Proc.tc.devRef main_arg1)
abbrev a2 (c : Dev nD) : FVec Ideal S1024x2816 .f32 := m (c, Proc.tc.devRef main_arg2)
abbrev a3 (c : Dev nD) : FVec Ideal S1024x2816 .f32 := m (c, Proc.tc.devRef main_arg3)
abbrev a4 (c : Dev nD) : FVec Ideal S2816x1024 .f32 := m (c, Proc.tc.devRef main_arg4)

theorem dr_at (c : Dev nD) (i) : (Dr m c i : EReal) = a0 m c i := by unfold Dr; entry_read; rfl
theorem x_at (c : Dev nD) (i) : (X m c i : EReal) = a1 m c i := by unfold X; entry_read; rfl
theorem wg_at (c : Dev nD) (i) : (Wg m c i : EReal) = padded (fun j => a2 m c (ix2 (i 0) j)) (i 1) := by
  unfold Wg
  entry_read
  exact cols_at (a2 m c) _ shapeCasts_S1024x2816_S1024x8x352 pads_S1024x8x352_S1024x8x384_000_000_0320 shapeCasts_S1024x8x384_S1024x3072 h_S_ pad_word i
theorem wu_at (c : Dev nD) (i) : (Wu m c i : EReal) = padded (fun j => a3 m c (ix2 (i 0) j)) (i 1) := by
  unfold Wu
  entry_read
  exact cols_at (a3 m c) _ shapeCasts_S1024x2816_S1024x8x352 pads_S1024x8x352_S1024x8x384_000_000_0320 shapeCasts_S1024x8x384_S1024x3072 h_S_ pad_word i
theorem wd_at (c : Dev nD) (i) : (Wd m c i : EReal) = padded (fun j => a4 m c (ix2 j (i 1))) (i 0) := by
  unfold Wd
  entry_read
  exact rows_at (a4 m c) _ shapeCasts_S2816x1024_S8x352x1024 pads_S8x352x1024_S8x384x1024_000_0320_000 shapeCasts_S8x384x1024_S3072x1024 h_S_ pad_word i

/-- The preactivations are products with the padded weights. -/
theorem prod_at (x : FVec Ideal S2048x1024 .f32) (w : FVec Ideal S1024x3072 .f32) (i : S2048x3072.Idx) :
    Host.dotGeneral (F := Ideal) dot_S2048x1024_S1024x3072_S2048x3072_1_0_0_1_n_n none x w i = ∑ k : Fin 1024, x (ix2 (i 0) k) * w (ix2 k (i 1)) := by
  pointwise
/-- A weight with its columns padded, as the host pads them. -/
def wide (w : FVec Ideal S1024x2816 .f32) : FVec Ideal S1024x3072 .f32 :=
  shapeCast S1024x3072 (pad S1024x8x384 ![0, 0, 0] ![0, 0, 32] ![0, 0, 0] (shapeCast S1024x8x352 w shapeCasts_S1024x2816_S1024x8x352)
    (sitofp (F := Ideal) .f32 (constantI S_ 32 0#32)) pads_S1024x8x352_S1024x8x384_000_000_0320 h_S_) shapeCasts_S1024x8x384_S1024x3072
theorem wide_at (w : FVec Ideal S1024x2816 .f32) (i) : wide w i = padded (fun j => w (ix2 (i 0) j)) (i 1) :=
  cols_at w _ shapeCasts_S1024x2816_S1024x8x352 pads_S1024x8x352_S1024x8x384_000_000_0320 shapeCasts_S1024x8x384_S1024x3072 h_S_ pad_word i

/-- A product with a weight's padded columns, and the swish of one times another. -/
def preact (x : FVec Ideal S2048x1024 .f32) (w : FVec Ideal S1024x2816 .f32) : FVec Ideal S2048x3072 .f32 :=
  Host.dotGeneral (F := Ideal) dot_S2048x1024_S1024x3072_S2048x3072_1_0_0_1_n_n none x (wide w)
theorem g_dot (c : Dev nD) (i) : (G m c i : EReal) = preact (a1 m c) (a2 m c) i := by
  unfold G; entry_read; rfl
theorem u_dot (c : Dev nD) (i) : (U m c i : EReal) = preact (a1 m c) (a3 m c) i := by
  unfold U; entry_read; rfl
theorem h_at (c : Dev nD) (i) : (H m c i : EReal)
    = preact (a1 m c) (a2 m c) i * sigmoid (preact (a1 m c) (a2 m c) i) * preact (a1 m c) (a3 m c) i := by
  unfold H; entry_read; rfl

/-- A product with padded columns is padded. -/
theorem prod_padded (x : FVec Ideal S2048x1024 .f32) (w : FVec Ideal S1024x3072 .f32) (w' : FVec Ideal S1024x2816 .f32)
    (hw : ∀ i, w i = padded (fun j => w' (ix2 (i 0) j)) (i 1)) (i : Fin 2048) (j : Fin 3072) :
    ∑ k : Fin 1024, x (ix2 i k) * w (ix2 k j) = padded (pg x w' i) j := by
  refine padded_map (F := fun j => ∑ k : Fin 1024, x (ix2 i k) * w (ix2 k j)) (fun j h => ?_) (fun j h => ?_) j
  · exact Fin.sum_fin_congr fun k => congrArg (fun z : EReal => x (ix2 i k) * z) ((hw _).trans (padded_pos _ j h))
  · exact (Fin.sum_fin_congr fun k => (congrArg (fun z : EReal => x (ix2 i k) * z) ((hw _).trans (padded_neg _ j h))).trans (mul_zero _)).trans
      Finset.sum_const_zero

theorem g_at (c : Dev nD) (i : Fin 2048) (j : Fin 3072) : (G m c (ix2 i j) : EReal) = padded (pg (a1 m c) (a2 m c) i) j :=
  (g_dot m c _).trans ((prod_at _ _ _).trans (prod_padded _ _ _ (wide_at _) i j))
theorem u_at (c : Dev nD) (i : Fin 2048) (j : Fin 3072) : (U m c (ix2 i j) : EReal) = padded (pg (a1 m c) (a3 m c) i) j :=
  (u_dot m c _).trans ((prod_at _ _ _).trans (prod_padded _ _ _ (wide_at _) i j))
theorem ph_at (c : Dev nD) (i : Fin 2048) (j : Fin 3072) : (H m c (ix2 i j) : EReal) = padded (ph (a1 m c) (a2 m c) (a3 m c) i) j := by
  refine (h_at m c _).trans ?_
  rw [← g_dot, ← u_dot, g_at, u_at]
  refine padded_map (F := fun j => padded (pg (a1 m c) (a2 m c) i) j * sigmoid (padded (pg (a1 m c) (a2 m c) i) j) * padded (pg (a1 m c) (a3 m c) i) j)
    (fun j h => ?_) (fun j h => ?_) j
  · simp only [padded_pos _ j h]; rfl
  · simp only [padded_neg _ j h, mul_zero]

/-- The product's cotangent and the gradients of the two preactivations, padded. -/
theorem hid_at (c : Dev nD) (i : Fin 2048) (j : Fin 3072) : dh (Dr m c) (Wd m c) i j = padded (pd (a0 m c) (a4 m c) i) j := by
  refine padded_map (fun j h => ?_) (fun j h => ?_) j
  · exact Fin.sum_fin_congr fun k => congrArg₂ (fun a b : EReal => a * b) (dr_at m c _) ((wd_at m c _).trans (padded_pos _ j h))
  · exact (Fin.sum_fin_congr fun k => (congrArg (fun z : EReal => (Dr m c (ix2 i k) : EReal) * z) ((wd_at m c _).trans (padded_neg _ j h))).trans
      (mul_zero _)).trans Finset.sum_const_zero
theorem Dg_at (c : Dev nD) (i : Fin 2048) (j : Fin 3072) : Dg m c i j = padded (qg (a0 m c) (a1 m c) (a2 m c) (a3 m c) (a4 m c) i) j := by
  refine padded_map (fun j h => ?_) (fun j h => ?_) j
  · rw [Dg, dg, hid_at, g_at, u_at]; simp only [padded_pos _ j h]; rfl
  · rw [Dg, dg, hid_at, g_at, u_at]; simp only [padded_neg _ j h, zero_mul]
theorem Du_at (c : Dev nD) (i : Fin 2048) (j : Fin 3072) : Du m c i j = padded (qu (a0 m c) (a1 m c) (a2 m c) (a4 m c) i) j := by
  refine padded_map (fun j h => ?_) (fun j h => ?_) j
  · rw [Du, du, hid_at, g_at]; simp only [padded_pos _ j h]; rfl
  · rw [Du, du, hid_at, g_at]; simp only [padded_neg _ j h, zero_mul]

/-- A sum over the padded columns is the sum over the columns. -/
theorem sum_cols (f : Fin 3072 → EReal) (f' : Fin 2816 → EReal) (w : FVec Ideal S1024x3072 .bf16) (w' : FVec Ideal S1024x2816 .f32) (k : Fin 1024)
    (hf : ∀ j, f j = padded f' j) (hw : ∀ i, (w i : EReal) = padded (fun j => w' (ix2 (i 0) j)) (i 1)) :
    ∑ j : Fin 3072, f j * (w (ix2 k j) : EReal) = ∑ j : Fin 2816, f' j * w' (ix2 k j) := by
  refine (Fin.sum_fin_congr fun j => ?_).trans (padded_sum fun j => f' j * w' (ix2 k j))
  refine padded_map (F := fun j => f j * (w (ix2 k j) : EReal)) (fun j h => ?_) (fun j h => ?_) j
  · exact congrArg₂ (fun a b : EReal => a * b) ((hf j).trans (padded_pos _ j h)) ((hw _).trans (padded_pos _ j h))
  · exact (congrArg (fun z : EReal => z * (w (ix2 k j) : EReal)) ((hf j).trans (padded_neg _ j h))).trans (zero_mul _)
/-- A sum over the rows, column by column, is padded when one factor is. -/
theorem sum_rows (f : Fin 2048 → EReal) (g : Fin 2048 → Fin 3072 → EReal) (g' : Fin 2048 → Fin 2816 → EReal) (hg : ∀ i j, g i j = padded (g' i) j)
    (j : Fin 3072) : ∑ i : Fin 2048, f i * g i j = padded (fun j => ∑ i : Fin 2048, f i * g' i j) j := by
  refine padded_map (F := fun j => ∑ i : Fin 2048, f i * g i j) (fun j h => ?_) (fun j h => ?_) j
  · exact Fin.sum_fin_congr fun i => congrArg (fun z : EReal => f i * z) ((hg i j).trans (padded_pos _ j h))
  · exact (Fin.sum_fin_congr fun i => (congrArg (fun z : EReal => f i * z) ((hg i j).trans (padded_neg _ j h))).trans (mul_zero _)).trans
      Finset.sum_const_zero

end Cert.Ffn

end
-- ==== Proof.FfnClaim.lean ====
/- The channel mixer's backward call against its reference. -/
module

public import proofs.«01_k».proof.Proof.FfnFinal
public import proofs.«01_k».proof.Proof.FfnHost
public import proofs.«01_k».proof.Proof.FiniteArray
public import proofs.«01_k».proof.Defs
public import Idealize.ShloMosaic.Lib.Claim

@[expose] public section

set_option maxRecDepth 16384

noncomputable section

namespace Cert.Ffn

open Cert.KernelFfnIdeal Cert.KernelFfnIdeal.Gen Idealize.ShloMosaic Idealize.ShloMosaic.TcCoe Idealize.SL.Sem Cert.RealLift
open Cert.ReferenceFfnIdeal.Read

variable (m : (ℓ : Loc nD τ sig) → Buf (Elt Ideal) ℓ)

instance preFacts : Cert.Pre_finite_ffn.Facts := ⟨by decide, by decide, by decide⟩

/-- A column's sum of products with the input, where one factor's columns are padded. -/
theorem input_cols (c : Dev nD) (f : Fin 2048 → Fin 3072 → EReal) (f' : Fin 2048 → Fin 2816 → EReal) (hf : ∀ i j, f i j = padded (f' i) j)
    (y : S1024x3072.Idx) : ∑ i : Fin 2048, (X m c (ix2 i (y 0)) : EReal) * f i (y 1)
      = padded (fun j => ∑ k : Fin 2048, a1 m c (ix2 k (y 0)) * f' k j) (y 1) :=
  (sum_rows (fun i => (X m c (ix2 i (y 0)) : EReal)) f f' hf (y 1)).trans
    (congrArg (fun F => padded F (y 1)) (funext fun _ => Fin.sum_fin_congr fun _ => congrArg (fun z : EReal => z * _) (x_at m c _)))

theorem last9 (c : Dev nD) (y : S3072x1024.Idx) : ∑ i : Fin 2048, (H m c (ix2 i (y 0)) : EReal) * (Dr m c (ix2 i (y 1)) : EReal)
    = padded (fun j => ∑ k : Fin 2048, ph (a1 m c) (a2 m c) (a3 m c) k j * a0 m c (ix2 k (y 1))) (y 0) := by
  refine (Fin.sum_fin_congr fun i => (mul_comm _ _).trans (congrArg (fun z : EReal => z * (H m c (ix2 i (y 0)) : EReal)) (dr_at m c _))).trans ?_
  refine (sum_rows (fun i => a0 m c (ix2 i (y 1))) (fun i j => (H m c (ix2 i j) : EReal)) _ (ph_at m c) (y 0)).trans ?_
  exact congrArg (fun F => padded F (y 0)) (funext fun _ => Fin.sum_fin_congr fun _ => mul_comm _ _)

section Finite
variable (h : Cert.Pre_KernelFfnIdeal_finite_ffn m)
include h

theorem f0 (c : Dev nD) (i) : IsReal (a0 m c i) := isReal_of_finite _ _ (h c).1 i
theorem f1 (c : Dev nD) (i) : IsReal (a1 m c i) := isReal_of_finite _ _ (h c).2.1 i
theorem f2 (c : Dev nD) (i) : IsReal (a2 m c i) := isReal_of_finite _ _ (h c).2.2.1 i
theorem f3 (c : Dev nD) (i) : IsReal (a3 m c i) := isReal_of_finite _ _ (h c).2.2.2.1 i
theorem f4 (c : Dev nD) (i) : IsReal (a4 m c i) := isReal_of_finite _ _ (h c).2.2.2.2 i

theorem res17 (c : Dev nD) : val_main_v17 (F := Ideal) (a0 m c) (a1 m c) (a2 m c) (a3 m c) (a4 m c) = (dats m 0 c).arrAt 6 (cfgs 0).N := by
  funext i
  refine (r17 _ _ _ _ _ (f0 m h c) (f1 m h c) (f2 m h c) (f3 m h c) (f4 m h c) i).trans (Eq.trans ?_ (congrFun (final6 m c) i).symm)
  exact congrArg₂ (fun a b : EReal => a + b)
    (sum_cols (fun j => Dg m c (i 0) j) _ (Wg m c) (a2 m c) (i 1) (Dg_at m c (i 0)) (wg_at m c)).symm
    (sum_cols (fun j => Du m c (i 0) j) _ (Wu m c) (a3 m c) (i 1) (Du_at m c (i 0)) (wu_at m c)).symm
theorem res21 (c : Dev nD) : val_main_v21 (F := Ideal) (a0 m c) (a1 m c) (a2 m c) (a3 m c) (a4 m c) = (dats m 0 c).arrAt 7 (cfgs 0).N := by
  funext i
  exact (r21 _ _ _ _ _ (f0 m h c) (f1 m h c) (f2 m h c) (f3 m h c) (f4 m h c) i).trans
    ((input_cols m c (Dg m c) _ (Dg_at m c) i).symm.trans (congrFun (final7 m c) i).symm)
end Finite

theorem res25 (c : Dev nD) : val_main_v25 (F := Ideal) (a0 m c) (a1 m c) (a2 m c) (a4 m c) = (dats m 0 c).arrAt 8 (cfgs 0).N := by
  funext i
  exact (r25 _ _ _ _ i).trans ((input_cols m c (Du m c) _ (Du_at m c) i).symm.trans (congrFun (final8 m c) i).symm)
theorem res29 (c : Dev nD) : val_main_v29 (F := Ideal) (a0 m c) (a1 m c) (a2 m c) (a3 m c) = (dats m 0 c).arrAt 9 (cfgs 0).N := by
  funext i
  exact (r29 _ _ _ _ i).trans ((last9 m c i).symm.trans (congrFun (final9 m c) i).symm)

/-- Over the reals the call and the derivative of the forward lines return the same four arrays. -/
theorem algebraic : Cert.algebraic_KernelFfnIdeal_ReferenceFfnIdeal_pre_finite_ffn := by
  pair_intro
  · exact Cert.KernelFfnIdeal.Value.run_blocks m g
  · refine (θ_run Cert.ReferenceFfnIdeal.defs _ _).mono (fun r hr c => ?_) (Cert.ReferenceFfnIdeal.Value.run m' g')
    obtain ⟨h0, h1, h2, h3, h4⟩ := hagree c
    obtain ⟨k0, k1, k2, k3, k⟩ := hr c
    refine ⟨k0.trans ?_, k1.trans ?_, k2.trans ?_, k3.trans ?_, k⟩
    · refine (val_main_v17_eq (F := Ideal) _ _ _ _ _).trans ?_
      rw [h0, h1, h2, h3, h4]; exact res17 m hpre c
    · refine (val_main_v21_eq (F := Ideal) _ _ _ _ _).trans ?_
      rw [h0, h1, h2, h3, h4]; exact res21 m hpre c
    · refine (val_main_v25_eq (F := Ideal) _ _ _ _).trans ?_
      rw [h0, h1, h2, h4]; exact res25 m c
    · refine (val_main_v29_eq (F := Ideal) _ _ _ _).trans ?_
      rw [h0, h1, h2, h3]; exact res29 m c

end Cert.Ffn

end
-- ==== Proof.lean ====
/- The claims of this certificate, assembled from the generated frames and the value modules. -/
module

public import proofs.«01_k».proof.Defs
public import proofs.«01_k».proof.Proof.Gen.KernelMix.Frame
public import proofs.«01_k».proof.Proof.Gen.KernelMixIdeal.Frame
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Gen.KernelAttn.Frame
public import proofs.«01_k».proof.Proof.Gen.KernelAttnIdeal.Frame
public import proofs.«01_k».proof.Proof.Gen.KernelAttnIdeal.Value
public import proofs.«01_k».proof.Proof.Gen.ReferenceAttnIdeal.Run
public import proofs.«01_k».proof.Proof.Gen.ReferenceAttnIdeal.Read
public import proofs.«01_k».proof.Proof.Gen.KernelPle.Frame
public import proofs.«01_k».proof.Proof.Gen.KernelPleIdeal.Frame
public import proofs.«01_k».proof.Proof.Gen.KernelPleIdeal.Value
public import proofs.«01_k».proof.Proof.Gen.ReferencePleIdeal.Run
public import proofs.«01_k».proof.Proof.Gen.ReferencePleIdeal.Read
public import proofs.«01_k».proof.Proof.Gen.KernelGates.Frame
public import proofs.«01_k».proof.Proof.Gen.KernelGatesIdeal.Frame
public import proofs.«01_k».proof.Proof.Gen.KernelGatesIdeal.Value
public import proofs.«01_k».proof.Proof.Gen.ReferenceGatesIdeal.Run
public import proofs.«01_k».proof.Proof.Gen.ReferenceGatesIdeal.Read
public import proofs.«01_k».proof.Proof.Gen.KernelFfn.Frame
public import proofs.«01_k».proof.Proof.Gen.KernelFfnIdeal.Frame
public import proofs.«01_k».proof.Proof.Gen.KernelFfnIdeal.Value
public import proofs.«01_k».proof.Proof.Gen.ReferenceFfnIdeal.Run
public import proofs.«01_k».proof.Proof.Gen.ReferenceFfnIdeal.Read
public import proofs.«01_k».proof.Proof.Gen.KernelPool.Frame
public import proofs.«01_k».proof.Proof.Gen.KernelPoolIdeal.Frame
public import proofs.«01_k».proof.Proof.Gen.ReferencePoolIdeal.Run
public import proofs.«01_k».proof.Proof.Gen.KernelConv.Frame
public import proofs.«01_k».proof.Proof.Gen.KernelConvIdeal.Frame
public import proofs.«01_k».proof.Proof.Gen.ReferenceConvIdeal.Run
public import proofs.«01_k».proof.Proof.MixClaim
public import proofs.«01_k».proof.Proof.AttnClaim
public import proofs.«01_k».proof.Proof.PleClaim
public import proofs.«01_k».proof.Proof.GatesClaim
public import proofs.«01_k».proof.Proof.FfnClaim

@[expose] public section

noncomputable section

namespace Cert.Proof

open Idealize.ShloMosaic Idealize.SL.Sem

theorem mix_reference : Cert.quiescent_ReferenceMixIdeal :=
  fun m g _ => (θ_run Cert.ReferenceMixIdeal.defs _ _).mono
    (fun r h => ⟨fun c => (h c).2.2.2.2.2, sem_eq_zero_of_no_sems (by decide) r.2⟩) (Cert.ReferenceMixIdeal.Value.run m g)

theorem attn_reference : Cert.quiescent_ReferenceAttnIdeal :=
  fun m g _ => (θ_run Cert.ReferenceAttnIdeal.defs _ _).mono
    (fun r h => ⟨fun c => (h c).2.2.2, sem_eq_zero_of_no_sems (by decide) r.2⟩) (Cert.ReferenceAttnIdeal.Value.run m g)

theorem ple_reference : Cert.quiescent_ReferencePleIdeal :=
  fun m g _ => (θ_run Cert.ReferencePleIdeal.defs _ _).mono
    (fun r h => ⟨fun c => (h c).2.2.2.2.2.2.2, sem_eq_zero_of_no_sems (by decide) r.2⟩) (Cert.ReferencePleIdeal.Value.run m g)

theorem gates_reference : Cert.quiescent_ReferenceGatesIdeal :=
  fun m g _ => (θ_run Cert.ReferenceGatesIdeal.defs _ _).mono
    (fun r h => ⟨fun c => (h c).2.2.2.2.2.2.2.2, sem_eq_zero_of_no_sems (by decide) r.2⟩) (Cert.ReferenceGatesIdeal.Value.run m g)

theorem ffn_reference : Cert.quiescent_ReferenceFfnIdeal :=
  fun m g _ => (θ_run Cert.ReferenceFfnIdeal.defs _ _).mono
    (fun r h => ⟨fun c => (h c).2.2.2.2, sem_eq_zero_of_no_sems (by decide) r.2⟩) (Cert.ReferenceFfnIdeal.Value.run m g)

theorem pool_reference : Cert.quiescent_ReferencePoolIdeal :=
  fun m g _ => (θ_run Cert.ReferencePoolIdeal.defs _ _).mono
    (fun r h => ⟨fun c => (h c).2.2.2, sem_eq_zero_of_no_sems (by decide) r.2⟩) (Cert.ReferencePoolIdeal.Value.run m g)

theorem conv_reference : Cert.quiescent_ReferenceConvIdeal :=
  fun m g _ => (θ_run Cert.ReferenceConvIdeal.defs _ _).mono
    (fun r h => ⟨fun c => (h c).2.2.2, sem_eq_zero_of_no_sems (by decide) r.2⟩) (Cert.ReferenceConvIdeal.Value.run m g)

theorem claim : Cert.Claim :=
  ⟨Cert.KernelMix.Gen.facts, Cert.KernelMixIdeal.Gen.facts, Cert.ReferenceMixIdeal.Gen.facts,
    Cert.KernelAttn.Gen.facts, Cert.KernelAttnIdeal.Gen.facts, Cert.ReferenceAttnIdeal.Gen.facts,
    Cert.KernelPle.Gen.facts, Cert.KernelPleIdeal.Gen.facts, Cert.ReferencePleIdeal.Gen.facts,
    Cert.KernelGates.Gen.facts, Cert.KernelGatesIdeal.Gen.facts, Cert.ReferenceGatesIdeal.Gen.facts,
    Cert.KernelFfn.Gen.facts, Cert.KernelFfnIdeal.Gen.facts, Cert.ReferenceFfnIdeal.Gen.facts,
    Cert.KernelPool.Gen.facts, Cert.KernelPoolIdeal.Gen.facts, Cert.ReferencePoolIdeal.Gen.facts,
    Cert.KernelConv.Gen.facts, Cert.KernelConvIdeal.Gen.facts, Cert.ReferenceConvIdeal.Gen.facts,
    Cert.Mix.preFacts, Cert.Attn.preFacts, Cert.Ple.preFacts, Cert.Gates.preFacts, Cert.Ffn.preFacts,
    fun m ρ _ => Cert.KernelMix.Gen.frame m ρ, fun m ρ _ => Cert.KernelMixIdeal.Gen.frame m ρ, fun m ρ _ => Cert.KernelMixIdeal.Gen.frame m ρ, mix_reference, fun m ρ _ => mix_reference m ρ trivial,
    fun m ρ _ => Cert.KernelAttn.Gen.frame m ρ, fun m ρ _ => Cert.KernelAttnIdeal.Gen.frame m ρ, fun m ρ _ => Cert.KernelAttnIdeal.Gen.frame m ρ, attn_reference, fun m ρ _ => attn_reference m ρ trivial,
    fun m ρ _ => Cert.KernelPle.Gen.frame m ρ, fun m ρ _ => Cert.KernelPleIdeal.Gen.frame m ρ, fun m ρ _ => Cert.KernelPleIdeal.Gen.frame m ρ, ple_reference, fun m ρ _ => ple_reference m ρ trivial,
    fun m ρ _ => Cert.KernelGates.Gen.frame m ρ, fun m ρ _ => Cert.KernelGatesIdeal.Gen.frame m ρ, fun m ρ _ => Cert.KernelGatesIdeal.Gen.frame m ρ, gates_reference, fun m ρ _ => gates_reference m ρ trivial,
    fun m ρ _ => Cert.KernelFfn.Gen.frame m ρ, fun m ρ _ => Cert.KernelFfnIdeal.Gen.frame m ρ, fun m ρ _ => Cert.KernelFfnIdeal.Gen.frame m ρ, ffn_reference, fun m ρ _ => ffn_reference m ρ trivial,
    fun m ρ _ => Cert.KernelPool.Gen.frame m ρ, fun m ρ _ => Cert.KernelPoolIdeal.Gen.frame m ρ, pool_reference,
    fun m ρ _ => Cert.KernelConv.Gen.frame m ρ, fun m ρ _ => Cert.KernelConvIdeal.Gen.frame m ρ, conv_reference,
    trivial, Cert.Mix.algebraic,
    trivial, Cert.Attn.algebraic,
    trivial, Cert.Ple.algebraic,
    trivial, Cert.Gates.algebraic,
    trivial, Cert.Ffn.algebraic,
    trivial,
    trivial⟩

end Cert.Proof

end
